-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Calls (m : (ℓ : Loc Cert.Calls.nD Cert.Calls.τ Cert.Calls.sig) → Buf (Elt Bits) ℓ) : Prop :=
  True

def Pre_CallsIdeal (m : (ℓ : Loc Cert.CallsIdeal.nD Cert.CallsIdeal.τ Cert.CallsIdeal.sig) → Buf (Elt Ideal) ℓ) : Prop :=
  True

def Pre_LinearIdeal (m : (ℓ : Loc Cert.LinearIdeal.nD Cert.LinearIdeal.τ Cert.LinearIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Calls [hCalls : Cert.Calls.Facts] : Prop :=
  ∀ (m : (ℓ : Loc Cert.Calls.nD Cert.Calls.τ Cert.Calls.sig) → Buf (Elt Bits) ℓ) (g : Dev Cert.Calls.nD → PrngReg), Pre_Calls m →
    θ_run (Cert.Calls.defs (F := Bits)) (onTc (τ := Cert.Calls.τ) (Cert.Calls.main (F := Bits))) ⟨m, fun _ => 0, g⟩ (fun r => (∀ c : Dev Cert.Calls.nD,
      r.2.mem ((c.tc : Thread Cert.Calls.nD Cert.Calls.τ).loc Cert.Calls.main_arg0) = m ((c.tc : Thread Cert.Calls.nD Cert.Calls.τ).loc Cert.Calls.main_arg0)
      ∧ r.2.mem ((c.tc : Thread Cert.Calls.nD Cert.Calls.τ).loc Cert.Calls.main_arg1) = m ((c.tc : Thread Cert.Calls.nD Cert.Calls.τ).loc Cert.Calls.main_arg1)
      ∧ r.2.mem ((c.tc : Thread Cert.Calls.nD Cert.Calls.τ).loc Cert.Calls.main_arg2) = m ((c.tc : Thread Cert.Calls.nD Cert.Calls.τ).loc Cert.Calls.main_arg2)
      ∧ r.2.mem ((c.tc : Thread Cert.Calls.nD Cert.Calls.τ).loc Cert.Calls.main_arg3) = m ((c.tc : Thread Cert.Calls.nD Cert.Calls.τ).loc Cert.Calls.main_arg3)
      ∧ r.2.mem ((c.tc : Thread Cert.Calls.nD Cert.Calls.τ).loc Cert.Calls.main_arg4) = m ((c.tc : Thread Cert.Calls.nD Cert.Calls.τ).loc Cert.Calls.main_arg4)
      ∧ r.2.mem ((c.tc : Thread Cert.Calls.nD Cert.Calls.τ).loc Cert.Calls.main_arg5) = m ((c.tc : Thread Cert.Calls.nD Cert.Calls.τ).loc Cert.Calls.main_arg5)
      ∧ r.2.mem ((c.tc : Thread Cert.Calls.nD Cert.Calls.τ).loc Cert.Calls.main_arg6) = m ((c.tc : Thread Cert.Calls.nD Cert.Calls.τ).loc Cert.Calls.main_arg6)
      ∧ r.2.mem ((c.tc : Thread Cert.Calls.nD Cert.Calls.τ).loc Cert.Calls.main_arg7) = m ((c.tc : Thread Cert.Calls.nD Cert.Calls.τ).loc Cert.Calls.main_arg7)
      ∧ r.2.mem ((c.tc : Thread Cert.Calls.nD Cert.Calls.τ).loc Cert.Calls.main_arg8) = m ((c.tc : Thread Cert.Calls.nD Cert.Calls.τ).loc Cert.Calls.main_arg8)
      ∧ r.2.mem ((c.tc : Thread Cert.Calls.nD Cert.Calls.τ).loc Cert.Calls.main_arg9) = m ((c.tc : Thread Cert.Calls.nD Cert.Calls.τ).loc Cert.Calls.main_arg9)
      ∧ r.2.mem ((c.tc : Thread Cert.Calls.nD Cert.Calls.τ).loc Cert.Calls.main_arg10) = m ((c.tc : Thread Cert.Calls.nD Cert.Calls.τ).loc Cert.Calls.main_arg10))
      ∧ r.2.sem = fun _ => 0)

def quiescent_CallsIdeal [hCallsIdeal : Cert.CallsIdeal.Facts] : Prop :=
  ∀ (m : (ℓ : Loc Cert.CallsIdeal.nD Cert.CallsIdeal.τ Cert.CallsIdeal.sig) → Buf (Elt Ideal) ℓ) (g : Dev Cert.CallsIdeal.nD → PrngReg), Pre_CallsIdeal m →
    θ_run (Cert.CallsIdeal.defs (F := Ideal)) (onTc (τ := Cert.CallsIdeal.τ) (Cert.CallsIdeal.main (F := Ideal))) ⟨m, fun _ => 0, g⟩ (fun r => (∀ c : Dev Cert.CallsIdeal.nD,
      r.2.mem ((c.tc : Thread Cert.CallsIdeal.nD Cert.CallsIdeal.τ).loc Cert.CallsIdeal.main_arg0) = m ((c.tc : Thread Cert.CallsIdeal.nD Cert.CallsIdeal.τ).loc Cert.CallsIdeal.main_arg0)
      ∧ r.2.mem ((c.tc : Thread Cert.CallsIdeal.nD Cert.CallsIdeal.τ).loc Cert.CallsIdeal.main_arg1) = m ((c.tc : Thread Cert.CallsIdeal.nD Cert.CallsIdeal.τ).loc Cert.CallsIdeal.main_arg1)
      ∧ r.2.mem ((c.tc : Thread Cert.CallsIdeal.nD Cert.CallsIdeal.τ).loc Cert.CallsIdeal.main_arg2) = m ((c.tc : Thread Cert.CallsIdeal.nD Cert.CallsIdeal.τ).loc Cert.CallsIdeal.main_arg2)
      ∧ r.2.mem ((c.tc : Thread Cert.CallsIdeal.nD Cert.CallsIdeal.τ).loc Cert.CallsIdeal.main_arg3) = m ((c.tc : Thread Cert.CallsIdeal.nD Cert.CallsIdeal.τ).loc Cert.CallsIdeal.main_arg3)
      ∧ r.2.mem ((c.tc : Thread Cert.CallsIdeal.nD Cert.CallsIdeal.τ).loc Cert.CallsIdeal.main_arg4) = m ((c.tc : Thread Cert.CallsIdeal.nD Cert.CallsIdeal.τ).loc Cert.CallsIdeal.main_arg4)
      ∧ r.2.mem ((c.tc : Thread Cert.CallsIdeal.nD Cert.CallsIdeal.τ).loc Cert.CallsIdeal.main_arg5) = m ((c.tc : Thread Cert.CallsIdeal.nD Cert.CallsIdeal.τ).loc Cert.CallsIdeal.main_arg5)
      ∧ r.2.mem ((c.tc : Thread Cert.CallsIdeal.nD Cert.CallsIdeal.τ).loc Cert.CallsIdeal.main_arg6) = m ((c.tc : Thread Cert.CallsIdeal.nD Cert.CallsIdeal.τ).loc Cert.CallsIdeal.main_arg6)
      ∧ r.2.mem ((c.tc : Thread Cert.CallsIdeal.nD Cert.CallsIdeal.τ).loc Cert.CallsIdeal.main_arg7) = m ((c.tc : Thread Cert.CallsIdeal.nD Cert.CallsIdeal.τ).loc Cert.CallsIdeal.main_arg7)
      ∧ r.2.mem ((c.tc : Thread Cert.CallsIdeal.nD Cert.CallsIdeal.τ).loc Cert.CallsIdeal.main_arg8) = m ((c.tc : Thread Cert.CallsIdeal.nD Cert.CallsIdeal.τ).loc Cert.CallsIdeal.main_arg8)
      ∧ r.2.mem ((c.tc : Thread Cert.CallsIdeal.nD Cert.CallsIdeal.τ).loc Cert.CallsIdeal.main_arg9) = m ((c.tc : Thread Cert.CallsIdeal.nD Cert.CallsIdeal.τ).loc Cert.CallsIdeal.main_arg9)
      ∧ r.2.mem ((c.tc : Thread Cert.CallsIdeal.nD Cert.CallsIdeal.τ).loc Cert.CallsIdeal.main_arg10) = m ((c.tc : Thread Cert.CallsIdeal.nD Cert.CallsIdeal.τ).loc Cert.CallsIdeal.main_arg10))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
      ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3)
      ∧ r.2.mem ((c.tc : Thread Cert.LinearIdeal.nD Cert.LinearIdeal.τ).loc Cert.LinearIdeal.main_arg4) = m ((c.tc : Thread Cert.LinearIdeal.nD Cert.LinearIdeal.τ).loc Cert.LinearIdeal.main_arg4)
      ∧ r.2.mem ((c.tc : Thread Cert.LinearIdeal.nD Cert.LinearIdeal.τ).loc Cert.LinearIdeal.main_arg5) = m ((c.tc : Thread Cert.LinearIdeal.nD Cert.LinearIdeal.τ).loc Cert.LinearIdeal.main_arg5)
      ∧ r.2.mem ((c.tc : Thread Cert.LinearIdeal.nD Cert.LinearIdeal.τ).loc Cert.LinearIdeal.main_arg6) = m ((c.tc : Thread Cert.LinearIdeal.nD Cert.LinearIdeal.τ).loc Cert.LinearIdeal.main_arg6)
      ∧ r.2.mem ((c.tc : Thread Cert.LinearIdeal.nD Cert.LinearIdeal.τ).loc Cert.LinearIdeal.main_arg7) = m ((c.tc : Thread Cert.LinearIdeal.nD Cert.LinearIdeal.τ).loc Cert.LinearIdeal.main_arg7)
      ∧ r.2.mem ((c.tc : Thread Cert.LinearIdeal.nD Cert.LinearIdeal.τ).loc Cert.LinearIdeal.main_arg8) = m ((c.tc : Thread Cert.LinearIdeal.nD Cert.LinearIdeal.τ).loc Cert.LinearIdeal.main_arg8)
      ∧ r.2.mem ((c.tc : Thread Cert.LinearIdeal.nD Cert.LinearIdeal.τ).loc Cert.LinearIdeal.main_arg9) = m ((c.tc : Thread Cert.LinearIdeal.nD Cert.LinearIdeal.τ).loc Cert.LinearIdeal.main_arg9)
      ∧ r.2.mem ((c.tc : Thread Cert.LinearIdeal.nD Cert.LinearIdeal.τ).loc Cert.LinearIdeal.main_arg10) = m ((c.tc : Thread Cert.LinearIdeal.nD Cert.LinearIdeal.τ).loc Cert.LinearIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v755)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v755) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v755) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Calls_CallsIdeal : Prop :=
  True

def algebraic_CallsIdeal_LinearIdeal [hCallsIdeal : Cert.CallsIdeal.Facts] [hLinearIdeal : Cert.LinearIdeal.Facts] : Prop :=
  ∀ (m : (ℓ : Loc Cert.CallsIdeal.nD Cert.CallsIdeal.τ Cert.CallsIdeal.sig) → Buf (Elt Ideal) ℓ) (g : Dev Cert.CallsIdeal.nD → PrngReg)
    (m' : (ℓ : Loc Cert.LinearIdeal.nD Cert.LinearIdeal.τ Cert.LinearIdeal.sig) → Buf (Elt Ideal) ℓ) (g' : Dev Cert.LinearIdeal.nD → PrngReg), Pre_CallsIdeal m →
    (∀ c : Dev Cert.CallsIdeal.nD,
      m' ((c.tc : Thread Cert.LinearIdeal.nD Cert.LinearIdeal.τ).loc Cert.LinearIdeal.main_arg0) = m ((c.tc : Thread Cert.CallsIdeal.nD Cert.CallsIdeal.τ).loc Cert.CallsIdeal.main_arg0)
      ∧ m' ((c.tc : Thread Cert.LinearIdeal.nD Cert.LinearIdeal.τ).loc Cert.LinearIdeal.main_arg1) = m ((c.tc : Thread Cert.CallsIdeal.nD Cert.CallsIdeal.τ).loc Cert.CallsIdeal.main_arg1)
      ∧ m' ((c.tc : Thread Cert.LinearIdeal.nD Cert.LinearIdeal.τ).loc Cert.LinearIdeal.main_arg2) = m ((c.tc : Thread Cert.CallsIdeal.nD Cert.CallsIdeal.τ).loc Cert.CallsIdeal.main_arg2)
      ∧ m' ((c.tc : Thread Cert.LinearIdeal.nD Cert.LinearIdeal.τ).loc Cert.LinearIdeal.main_arg3) = m ((c.tc : Thread Cert.CallsIdeal.nD Cert.CallsIdeal.τ).loc Cert.CallsIdeal.main_arg3)
      ∧ m' ((c.tc : Thread Cert.LinearIdeal.nD Cert.LinearIdeal.τ).loc Cert.LinearIdeal.main_arg4) = m ((c.tc : Thread Cert.CallsIdeal.nD Cert.CallsIdeal.τ).loc Cert.CallsIdeal.main_arg4)
      ∧ m' ((c.tc : Thread Cert.LinearIdeal.nD Cert.LinearIdeal.τ).loc Cert.LinearIdeal.main_arg5) = m ((c.tc : Thread Cert.CallsIdeal.nD Cert.CallsIdeal.τ).loc Cert.CallsIdeal.main_arg5)
      ∧ m' ((c.tc : Thread Cert.LinearIdeal.nD Cert.LinearIdeal.τ).loc Cert.LinearIdeal.main_arg6) = m ((c.tc : Thread Cert.CallsIdeal.nD Cert.CallsIdeal.τ).loc Cert.CallsIdeal.main_arg6)
      ∧ m' ((c.tc : Thread Cert.LinearIdeal.nD Cert.LinearIdeal.τ).loc Cert.LinearIdeal.main_arg7) = m ((c.tc : Thread Cert.CallsIdeal.nD Cert.CallsIdeal.τ).loc Cert.CallsIdeal.main_arg7)
      ∧ m' ((c.tc : Thread Cert.LinearIdeal.nD Cert.LinearIdeal.τ).loc Cert.LinearIdeal.main_arg8) = m ((c.tc : Thread Cert.CallsIdeal.nD Cert.CallsIdeal.τ).loc Cert.CallsIdeal.main_arg8)
      ∧ m' ((c.tc : Thread Cert.LinearIdeal.nD Cert.LinearIdeal.τ).loc Cert.LinearIdeal.main_arg9) = m ((c.tc : Thread Cert.CallsIdeal.nD Cert.CallsIdeal.τ).loc Cert.CallsIdeal.main_arg9)
      ∧ m' ((c.tc : Thread Cert.LinearIdeal.nD Cert.LinearIdeal.τ).loc Cert.LinearIdeal.main_arg10) = m ((c.tc : Thread Cert.CallsIdeal.nD Cert.CallsIdeal.τ).loc Cert.CallsIdeal.main_arg10)) →
    ∃ (v0 : (c : Dev Cert.CallsIdeal.nD) → Buf (Elt Ideal) ((c.tc : Thread Cert.CallsIdeal.nD Cert.CallsIdeal.τ).loc Cert.CallsIdeal.main_v11)) (v1 : (c : Dev Cert.CallsIdeal.nD) → Buf (Elt Ideal) ((c.tc : Thread Cert.CallsIdeal.nD Cert.CallsIdeal.τ).loc Cert.CallsIdeal.main_v12)) (v2 : (c : Dev Cert.CallsIdeal.nD) → Buf (Elt Ideal) ((c.tc : Thread Cert.CallsIdeal.nD Cert.CallsIdeal.τ).loc Cert.CallsIdeal.main_v13)) (v3 : (c : Dev Cert.CallsIdeal.nD) → Buf (Elt Ideal) ((c.tc : Thread Cert.CallsIdeal.nD Cert.CallsIdeal.τ).loc Cert.CallsIdeal.main_v14)),
      θ_run (Cert.CallsIdeal.defs (F := Ideal)) (onTc (τ := Cert.CallsIdeal.τ) (Cert.CallsIdeal.main (F := Ideal))) ⟨m, fun _ => 0, g⟩ (fun r => ∀ c : Dev Cert.CallsIdeal.nD,
          r.2.mem ((c.tc : Thread Cert.CallsIdeal.nD Cert.CallsIdeal.τ).loc Cert.CallsIdeal.main_v11) = v0 c
          ∧ r.2.mem ((c.tc : Thread Cert.CallsIdeal.nD Cert.CallsIdeal.τ).loc Cert.CallsIdeal.main_v12) = v1 c
          ∧ r.2.mem ((c.tc : Thread Cert.CallsIdeal.nD Cert.CallsIdeal.τ).loc Cert.CallsIdeal.main_v13) = v2 c
          ∧ r.2.mem ((c.tc : Thread Cert.CallsIdeal.nD Cert.CallsIdeal.τ).loc Cert.CallsIdeal.main_v14) = v3 c
          ∧ r.2.mem ((c.tc : Thread Cert.CallsIdeal.nD Cert.CallsIdeal.τ).loc Cert.CallsIdeal.main_arg0) = m ((c.tc : Thread Cert.CallsIdeal.nD Cert.CallsIdeal.τ).loc Cert.CallsIdeal.main_arg0)
          ∧ r.2.mem ((c.tc : Thread Cert.CallsIdeal.nD Cert.CallsIdeal.τ).loc Cert.CallsIdeal.main_arg1) = m ((c.tc : Thread Cert.CallsIdeal.nD Cert.CallsIdeal.τ).loc Cert.CallsIdeal.main_arg1)
          ∧ r.2.mem ((c.tc : Thread Cert.CallsIdeal.nD Cert.CallsIdeal.τ).loc Cert.CallsIdeal.main_arg2) = m ((c.tc : Thread Cert.CallsIdeal.nD Cert.CallsIdeal.τ).loc Cert.CallsIdeal.main_arg2)
          ∧ r.2.mem ((c.tc : Thread Cert.CallsIdeal.nD Cert.CallsIdeal.τ).loc Cert.CallsIdeal.main_arg3) = m ((c.tc : Thread Cert.CallsIdeal.nD Cert.CallsIdeal.τ).loc Cert.CallsIdeal.main_arg3)
          ∧ r.2.mem ((c.tc : Thread Cert.CallsIdeal.nD Cert.CallsIdeal.τ).loc Cert.CallsIdeal.main_arg4) = m ((c.tc : Thread Cert.CallsIdeal.nD Cert.CallsIdeal.τ).loc Cert.CallsIdeal.main_arg4)
          ∧ r.2.mem ((c.tc : Thread Cert.CallsIdeal.nD Cert.CallsIdeal.τ).loc Cert.CallsIdeal.main_arg5) = m ((c.tc : Thread Cert.CallsIdeal.nD Cert.CallsIdeal.τ).loc Cert.CallsIdeal.main_arg5)
          ∧ r.2.mem ((c.tc : Thread Cert.CallsIdeal.nD Cert.CallsIdeal.τ).loc Cert.CallsIdeal.main_arg6) = m ((c.tc : Thread Cert.CallsIdeal.nD Cert.CallsIdeal.τ).loc Cert.CallsIdeal.main_arg6)
          ∧ r.2.mem ((c.tc : Thread Cert.CallsIdeal.nD Cert.CallsIdeal.τ).loc Cert.CallsIdeal.main_arg7) = m ((c.tc : Thread Cert.CallsIdeal.nD Cert.CallsIdeal.τ).loc Cert.CallsIdeal.main_arg7)
          ∧ r.2.mem ((c.tc : Thread Cert.CallsIdeal.nD Cert.CallsIdeal.τ).loc Cert.CallsIdeal.main_arg8) = m ((c.tc : Thread Cert.CallsIdeal.nD Cert.CallsIdeal.τ).loc Cert.CallsIdeal.main_arg8)
          ∧ r.2.mem ((c.tc : Thread Cert.CallsIdeal.nD Cert.CallsIdeal.τ).loc Cert.CallsIdeal.main_arg9) = m ((c.tc : Thread Cert.CallsIdeal.nD Cert.CallsIdeal.τ).loc Cert.CallsIdeal.main_arg9)
          ∧ r.2.mem ((c.tc : Thread Cert.CallsIdeal.nD Cert.CallsIdeal.τ).loc Cert.CallsIdeal.main_arg10) = m ((c.tc : Thread Cert.CallsIdeal.nD Cert.CallsIdeal.τ).loc Cert.CallsIdeal.main_arg10))
      ∧ θ_run (Cert.LinearIdeal.defs (F := Ideal)) (onTc (τ := Cert.LinearIdeal.τ) (Cert.LinearIdeal.main (F := Ideal))) ⟨m', fun _ => 0, g'⟩ (fun r => ∀ c : Dev Cert.LinearIdeal.nD,
          r.2.mem ((c.tc : Thread Cert.LinearIdeal.nD Cert.LinearIdeal.τ).loc Cert.LinearIdeal.main_v2) = v0 c
          ∧ r.2.mem ((c.tc : Thread Cert.LinearIdeal.nD Cert.LinearIdeal.τ).loc Cert.LinearIdeal.main_v5) = v1 c
          ∧ r.2.mem ((c.tc : Thread Cert.LinearIdeal.nD Cert.LinearIdeal.τ).loc Cert.LinearIdeal.main_v8) = v2 c
          ∧ r.2.mem ((c.tc : Thread Cert.LinearIdeal.nD Cert.LinearIdeal.τ).loc Cert.LinearIdeal.main_v11) = v3 c
          ∧ r.2.mem ((c.tc : Thread Cert.LinearIdeal.nD Cert.LinearIdeal.τ).loc Cert.LinearIdeal.main_arg0) = m' ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m' ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m' ((c.tc : Thread Cert.LinearIdeal.nD Cert.LinearIdeal.τ).loc Cert.LinearIdeal.main_arg2)
          ∧ r.2.mem ((c.tc : Thread Cert.LinearIdeal.nD Cert.LinearIdeal.τ).loc Cert.LinearIdeal.main_arg3) = m' ((c.tc : Thread Cert.LinearIdeal.nD Cert.LinearIdeal.τ).loc Cert.LinearIdeal.main_arg3)
          ∧ r.2.mem ((c.tc : Thread Cert.LinearIdeal.nD Cert.LinearIdeal.τ).loc Cert.LinearIdeal.main_arg4) = m' ((c.tc : Thread Cert.LinearIdeal.nD Cert.LinearIdeal.τ).loc Cert.LinearIdeal.main_arg4)
          ∧ r.2.mem ((c.tc : Thread Cert.LinearIdeal.nD Cert.LinearIdeal.τ).loc Cert.LinearIdeal.main_arg5) = m' ((c.tc : Thread Cert.LinearIdeal.nD Cert.LinearIdeal.τ).loc Cert.LinearIdeal.main_arg5)
          ∧ r.2.mem ((c.tc : Thread Cert.LinearIdeal.nD Cert.LinearIdeal.τ).loc Cert.LinearIdeal.main_arg6) = m' ((c.tc : Thread Cert.LinearIdeal.nD Cert.LinearIdeal.τ).loc Cert.LinearIdeal.main_arg6)
          ∧ r.2.mem ((c.tc : Thread Cert.LinearIdeal.nD Cert.LinearIdeal.τ).loc Cert.LinearIdeal.main_arg7) = m' ((c.tc : Thread Cert.LinearIdeal.nD Cert.LinearIdeal.τ).loc Cert.LinearIdeal.main_arg7)
          ∧ r.2.mem ((c.tc : Thread Cert.LinearIdeal.nD Cert.LinearIdeal.τ).loc Cert.LinearIdeal.main_arg8) = m' ((c.tc : Thread Cert.LinearIdeal.nD Cert.LinearIdeal.τ).loc Cert.LinearIdeal.main_arg8)
          ∧ r.2.mem ((c.tc : Thread Cert.LinearIdeal.nD Cert.LinearIdeal.τ).loc Cert.LinearIdeal.main_arg9) = m' ((c.tc : Thread Cert.LinearIdeal.nD Cert.LinearIdeal.τ).loc Cert.LinearIdeal.main_arg9)
          ∧ r.2.mem ((c.tc : Thread Cert.LinearIdeal.nD Cert.LinearIdeal.τ).loc Cert.LinearIdeal.main_arg10) = m' ((c.tc : Thread Cert.LinearIdeal.nD Cert.LinearIdeal.τ).loc Cert.LinearIdeal.main_arg10))

def Claim : Prop :=
  ∃ (hKernel : Cert.Kernel.Facts) (hKernelIdeal : Cert.KernelIdeal.Facts) (hReferenceIdeal : Cert.ReferenceIdeal.Facts) (hCalls : Cert.Calls.Facts) (hCallsIdeal : Cert.CallsIdeal.Facts) (hLinearIdeal : Cert.LinearIdeal.Facts),
    quiescent_Kernel (hKernel := hKernel)
    ∧ quiescent_KernelIdeal (hKernelIdeal := hKernelIdeal)
    ∧ quiescent_ReferenceIdeal (hReferenceIdeal := hReferenceIdeal)
    ∧ quiescent_Calls (hCalls := hCalls)
    ∧ quiescent_CallsIdeal (hCallsIdeal := hCallsIdeal)
    ∧ quiescent_LinearIdeal (hLinearIdeal := hLinearIdeal)
    ∧ preserves_Kernel_KernelIdeal
    ∧ algebraic_KernelIdeal_ReferenceIdeal (hKernelIdeal := hKernelIdeal) (hReferenceIdeal := hReferenceIdeal)
    ∧ preserves_Calls_CallsIdeal
    ∧ algebraic_CallsIdeal_LinearIdeal (hCallsIdeal := hCallsIdeal) (hLinearIdeal := hLinearIdeal)
-- ==== Kernel.lean ====
abbrev S2x5440x256 : Shape := ⟨3, ![2, 5440, 256]⟩
abbrev S2x5440x4x2 : Shape := ⟨4, ![2, 5440, 4, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S4x2 : Shape := ⟨2, ![4, 2]⟩
abbrev S10880x256 : Shape := ⟨2, ![10880, 256]⟩
abbrev S1x256 : Shape := ⟨2, ![1, 256]⟩
abbrev S2176x256 : Shape := ⟨2, ![2176, 256]⟩
abbrev S2x5440x8x32 : Shape := ⟨4, ![2, 5440, 8, 32]⟩
abbrev S2x5440x8x4x4x2 : Shape := ⟨6, ![2, 5440, 8, 4, 4, 2]⟩
abbrev S1x128 : Shape := ⟨2, ![1, 128]⟩
abbrev S10880x128 : Shape := ⟨2, ![10880, 128]⟩
abbrev S2176x128 : Shape := ⟨2, ![2176, 128]⟩
abbrev S2x5440x8x16 : Shape := ⟨4, ![2, 5440, 8, 16]⟩
abbrev S2x5440x1x4x1x2 : Shape := ⟨6, ![2, 5440, 1, 4, 1, 2]⟩
abbrev S1x1x1x4x1x2 : Shape := ⟨6, ![1, 1, 1, 4, 1, 2]⟩
abbrev S_ : Shape := ⟨0, ![]⟩
abbrev S2x5440x8 : Shape := ⟨3, ![2, 5440, 8]⟩
abbrev S2x5440x8x1 : Shape := ⟨4, ![2, 5440, 8, 1]⟩
abbrev S2x5440x8x4x4 : Shape := ⟨5, ![2, 5440, 8, 4, 4]⟩
abbrev S2x4096x8x32 : Shape := ⟨4, ![2, 4096, 8, 32]⟩
abbrev S2x64x64x8x32 : Shape := ⟨5, ![2, 64, 64, 8, 32]⟩
abbrev S2x5440x8x1x4x2 : Shape := ⟨6, ![2, 5440, 8, 1, 4, 2]⟩
abbrev S2x5440x8x4x2 : Shape := ⟨5, ![2, 5440, 8, 4, 2]⟩
abbrev S2x5440x8x4x1 : Shape := ⟨5, ![2, 5440, 8, 4, 1]⟩
abbrev S2x5440x8x4 : Shape := ⟨4, ![2, 5440, 8, 4]⟩
abbrev S2x8x64x64x32 : Shape := ⟨5, ![2, 8, 64, 64, 32]⟩
abbrev S16x4096x32 : Shape := ⟨3, ![16, 4096, 32]⟩
abbrev S2x8x5440x4 : Shape := ⟨4, ![2, 8, 5440, 4]⟩
abbrev S16x21760 : Shape := ⟨2, ![16, 21760]⟩
abbrev S16x21760x1 : Shape := ⟨3, ![16, 21760, 1]⟩
abbrev S16x21760x32 : Shape := ⟨3, ![16, 21760, 32]⟩
abbrev S16x21760x32x1 : Shape := ⟨4, ![16, 21760, 32, 1]⟩
abbrev S1 : Shape := ⟨1, ![1]⟩
abbrev S1x1x1x1 : Shape := ⟨4, ![1, 1, 1, 1]⟩
abbrev S2x8x5440x4x32 : Shape := ⟨5, ![2, 8, 5440, 4, 32]⟩
abbrev S2x5440x8x4x32 : Shape := ⟨5, ![2, 5440, 8, 4, 32]⟩
abbrev S2x5440x8x1x4 : Shape := ⟨5, ![2, 5440, 8, 1, 4]⟩
abbrev S2x1024x8x32 : Shape := ⟨4, ![2, 1024, 8, 32]⟩
abbrev S2x32x32x8x32 : Shape := ⟨5, ![2, 32, 32, 8, 32]⟩
abbrev S2x8x32x32x32 : Shape := ⟨5, ![2, 8, 32, 32, 32]⟩
abbrev S16x1024x32 : Shape := ⟨3, ![16, 1024, 32]⟩
abbrev S2x256x8x32 : Shape := ⟨4, ![2, 256, 8, 32]⟩
abbrev S2x16x16x8x32 : Shape := ⟨5, ![2, 16, 16, 8, 32]⟩
abbrev S2x8x16x16x32 : Shape := ⟨5, ![2, 8, 16, 16, 32]⟩
abbrev S16x256x32 : Shape := ⟨3, ![16, 256, 32]⟩
abbrev S2x64x8x32 : Shape := ⟨4, ![2, 64, 8, 32]⟩
abbrev S2x8x8x8x32 : Shape := ⟨5, ![2, 8, 8, 8, 32]⟩
abbrev S16x64x32 : Shape := ⟨3, ![16, 64, 32]⟩

abbrev nBuf : Space → Nat
  | .hbm => 1463
  | .vmem => 24
  | .smem => 0
  | _ => 0

abbrev hbmTy0_0 (i : Nat) : BufTy := match i % 128 with
  | 0 => ⟨S2x5440x256, .f32⟩
  | 1 => ⟨S2x5440x4x2, .f32⟩
  | 2 => ⟨S2x5440x256, .f32⟩
  | 3 => ⟨S256x256, .f32⟩
  | 4 => ⟨S256, .f32⟩
  | 5 => ⟨S256x128, .f32⟩
  | 6 => ⟨S128, .f32⟩
  | 7 => ⟨S256x256, .f32⟩
  | 8 => ⟨S256, .f32⟩
  | 9 => ⟨S256x256, .f32⟩
  | 10 => ⟨S256, .f32⟩
  | 11 => ⟨S4x2, .f32⟩
  | 12 => ⟨S10880x256, .f32⟩
  | 13 => ⟨S10880x256, .f32⟩
  | 14 => ⟨S1x256, .f32⟩
  | 15 => ⟨S10880x256, .f32⟩
  | 16 => ⟨S2x5440x8x32, .f32⟩
  | 17 => ⟨S1x256, .f32⟩
  | 18 => ⟨S10880x256, .f32⟩
  | 19 => ⟨S2x5440x8x4x4x2, .f32⟩
  | 20 => ⟨S1x128, .f32⟩
  | 21 => ⟨S10880x128, .f32⟩
  | 22 => ⟨S2x5440x8x16, .f32⟩
  | 23 => ⟨S2x5440x1x4x1x2, .f32⟩
  | 24 => ⟨S1x1x1x4x1x2, .f32⟩
  | 25 => ⟨S2x5440x8x4x4x2, .f32⟩
  | 26 => ⟨S2x5440x8x4x4x2, .f32⟩
  | 27 => ⟨S2x5440x8x4x4x2, .f32⟩
  | 28 => ⟨S2x5440x8x4x4x2, .f32⟩
  | 29 => ⟨S_, .f32⟩
  | 30 => ⟨S2x5440x8, .f32⟩
  | 31 => ⟨S2x5440x8x1, .f32⟩
  | 32 => ⟨S2x5440x8x16, .f32⟩
  | 33 => ⟨S2x5440x8x16, .f32⟩
  | 34 => ⟨S2x5440x8x16, .f32⟩
  | 35 => ⟨S_, .f32⟩
  | 36 => ⟨S2x5440x8, .f32⟩
  | 37 => ⟨S2x5440x8x1, .f32⟩
  | 38 => ⟨S2x5440x8x16, .f32⟩
  | 39 => ⟨S2x5440x8x16, .f32⟩
  | 40 => ⟨S2x5440x8x4x4, .f32⟩
  | 41 => ⟨S_, .f32⟩
  | 42 => ⟨S2x5440x8x32, .f32⟩
  | 43 => ⟨S2x4096x8x32, .f32⟩
  | 44 => ⟨S2x64x64x8x32, .f32⟩
  | 45 => ⟨S2x5440x8x1x4x2, .f32⟩
  | 46 => ⟨S2x5440x8x4x2, .f32⟩
  | 47 => ⟨S2x5440x8x4x1, .f32⟩
  | 48 => ⟨S2x5440x8x4, .f32⟩
  | 49 => ⟨S_, .f32⟩
  | 50 => ⟨S2x5440x8x4, .f32⟩
  | 51 => ⟨S2x5440x8x4, .f32⟩
  | 52 => ⟨S_, .f32⟩
  | 53 => ⟨S2x5440x8x4, .f32⟩
  | 54 => ⟨S2x5440x8x4, .f32⟩
  | 55 => ⟨S2x5440x8x4x1, .f32⟩
  | 56 => ⟨S2x5440x8x4, .f32⟩
  | 57 => ⟨S_, .f32⟩
  | 58 => ⟨S2x5440x8x4, .f32⟩
  | 59 => ⟨S2x5440x8x4, .f32⟩
  | 60 => ⟨S_, .f32⟩
  | 61 => ⟨S2x5440x8x4, .f32⟩
  | 62 => ⟨S2x5440x8x4, .f32⟩
  | 63 => ⟨S2x5440x8x4, .f32⟩
  | 64 => ⟨S2x5440x8x4, .f32⟩
  | 65 => ⟨S2x5440x8x4, .f32⟩
  | 66 => ⟨S2x5440x8x4, .f32⟩
  | 67 => ⟨S_, .f32⟩
  | 68 => ⟨S2x5440x8x4, .f32⟩
  | 69 => ⟨S2x5440x8x4, .f32⟩
  | 70 => ⟨S_, .f32⟩
  | 71 => ⟨S2x5440x8x4, .f32⟩
  | 72 => ⟨S2x5440x8x4, .f32⟩
  | 73 => ⟨S2x5440x8x4, .i32⟩
  | 74 => ⟨S2x5440x8x4, .i32⟩
  | 75 => ⟨S_, .i32⟩
  | 76 => ⟨S2x5440x8x4, .i32⟩
  | 77 => ⟨S2x5440x8x4, .i32⟩
  | 78 => ⟨S_, .i32⟩
  | 79 => ⟨S2x5440x8x4, .i32⟩
  | 80 => ⟨S2x5440x8x4, .i32⟩
  | 81 => ⟨S2x8x64x64x32, .f32⟩
  | 82 => ⟨S16x4096x32, .f32⟩
  | 83 => ⟨S_, .i32⟩
  | 84 => ⟨S2x5440x8x4, .i32⟩
  | 85 => ⟨S2x5440x8x4, .i1⟩
  | 86 => ⟨S_, .i32⟩
  | 87 => ⟨S2x5440x8x4, .i32⟩
  | 88 => ⟨S2x5440x8x4, .i1⟩
  | 89 => ⟨S2x5440x8x4, .i1⟩
  | 90 => ⟨S_, .i32⟩
  | 91 => ⟨S2x5440x8x4, .i32⟩
  | 92 => ⟨S2x5440x8x4, .i1⟩
  | 93 => ⟨S2x5440x8x4, .i1⟩
  | 94 => ⟨S_, .i32⟩
  | 95 => ⟨S2x5440x8x4, .i32⟩
  | 96 => ⟨S2x5440x8x4, .i1⟩
  | 97 => ⟨S2x5440x8x4, .i1⟩
  | 98 => ⟨S_, .i32⟩
  | 99 => ⟨S_, .i32⟩
  | 100 => ⟨S_, .i32⟩
  | 101 => ⟨S2x5440x8x4, .i32⟩
  | 102 => ⟨S2x5440x8x4, .i32⟩
  | 103 => ⟨S_, .i32⟩
  | 104 => ⟨S2x5440x8x4, .i32⟩
  | 105 => ⟨S2x5440x8x4, .i32⟩
  | 106 => ⟨S_, .i32⟩
  | 107 => ⟨S_, .i32⟩
  | 108 => ⟨S_, .i32⟩
  | 109 => ⟨S2x5440x8x4, .i32⟩
  | 110 => ⟨S2x5440x8x4, .i32⟩
  | 111 => ⟨S_, .i32⟩
  | 112 => ⟨S2x5440x8x4, .i32⟩
  | 113 => ⟨S2x5440x8x4, .i32⟩
  | 114 => ⟨S_, .i32⟩
  | 115 => ⟨S2x5440x8x4, .i32⟩
  | 116 => ⟨S2x5440x8x4, .i32⟩
  | 117 => ⟨S2x5440x8x4, .i32⟩
  | 118 => ⟨S2x8x5440x4, .i32⟩
  | 119 => ⟨S16x21760, .i32⟩
  | 120 => ⟨S16x21760x1, .i32⟩
  | 121 => ⟨S16x21760x32, .i32⟩
  | 122 => ⟨S_, .i32⟩
  | 123 => ⟨S16x21760x32, .i32⟩
  | 124 => ⟨S16x21760x32, .i1⟩
  | 125 => ⟨S_, .i32⟩
  | 126 => ⟨S16x21760x32, .i32⟩
  | 127 => ⟨S16x21760x32, .i32⟩
  | _ => ⟨S2x5440x256, .f32⟩

abbrev hbmTy0_1 (i : Nat) : BufTy := match i % 128 with
  | 0 => ⟨S16x21760x32, .i32⟩
  | 1 => ⟨S16x21760x32x1, .i32⟩
  | 2 => ⟨S1, .i32⟩
  | 3 => ⟨S_, .i32⟩
  | 4 => ⟨S16x21760x32x1, .i32⟩
  | 5 => ⟨S16x21760x32x1, .i1⟩
  | 6 => ⟨S1x1x1x1, .i32⟩
  | 7 => ⟨S16x21760x32x1, .i32⟩
  | 8 => ⟨S16x21760x32x1, .i1⟩
  | 9 => ⟨S16x21760x32x1, .i1⟩
  | 10 => ⟨S_, .i1⟩
  | 11 => ⟨S16x21760x32, .i1⟩
  | 12 => ⟨S16x21760x32, .f32⟩
  | 13 => ⟨S_, .f32⟩
  | 14 => ⟨S16x21760x32, .f32⟩
  | 15 => ⟨S16x21760x32, .f32⟩
  | 16 => ⟨S2x8x5440x4x32, .f32⟩
  | 17 => ⟨S2x5440x8x4x32, .f32⟩
  | 18 => ⟨S2x5440x8x4, .f32⟩
  | 19 => ⟨S2x5440x8x4x1, .f32⟩
  | 20 => ⟨S2x5440x8x4x32, .f32⟩
  | 21 => ⟨S2x5440x8x4x32, .f32⟩
  | 22 => ⟨S_, .i32⟩
  | 23 => ⟨S2x5440x8x4, .i32⟩
  | 24 => ⟨S2x5440x8x4, .i1⟩
  | 25 => ⟨S_, .i32⟩
  | 26 => ⟨S2x5440x8x4, .i32⟩
  | 27 => ⟨S2x5440x8x4, .i1⟩
  | 28 => ⟨S2x5440x8x4, .i1⟩
  | 29 => ⟨S_, .i32⟩
  | 30 => ⟨S2x5440x8x4, .i32⟩
  | 31 => ⟨S2x5440x8x4, .i1⟩
  | 32 => ⟨S2x5440x8x4, .i1⟩
  | 33 => ⟨S_, .i32⟩
  | 34 => ⟨S2x5440x8x4, .i32⟩
  | 35 => ⟨S2x5440x8x4, .i1⟩
  | 36 => ⟨S2x5440x8x4, .i1⟩
  | 37 => ⟨S_, .i32⟩
  | 38 => ⟨S_, .i32⟩
  | 39 => ⟨S_, .i32⟩
  | 40 => ⟨S2x5440x8x4, .i32⟩
  | 41 => ⟨S2x5440x8x4, .i32⟩
  | 42 => ⟨S_, .i32⟩
  | 43 => ⟨S2x5440x8x4, .i32⟩
  | 44 => ⟨S2x5440x8x4, .i32⟩
  | 45 => ⟨S_, .i32⟩
  | 46 => ⟨S_, .i32⟩
  | 47 => ⟨S_, .i32⟩
  | 48 => ⟨S2x5440x8x4, .i32⟩
  | 49 => ⟨S2x5440x8x4, .i32⟩
  | 50 => ⟨S_, .i32⟩
  | 51 => ⟨S2x5440x8x4, .i32⟩
  | 52 => ⟨S2x5440x8x4, .i32⟩
  | 53 => ⟨S_, .i32⟩
  | 54 => ⟨S2x5440x8x4, .i32⟩
  | 55 => ⟨S2x5440x8x4, .i32⟩
  | 56 => ⟨S2x5440x8x4, .i32⟩
  | 57 => ⟨S2x8x5440x4, .i32⟩
  | 58 => ⟨S16x21760, .i32⟩
  | 59 => ⟨S16x21760x1, .i32⟩
  | 60 => ⟨S16x21760x32, .i32⟩
  | 61 => ⟨S_, .i32⟩
  | 62 => ⟨S16x21760x32, .i32⟩
  | 63 => ⟨S16x21760x32, .i1⟩
  | 64 => ⟨S_, .i32⟩
  | 65 => ⟨S16x21760x32, .i32⟩
  | 66 => ⟨S16x21760x32, .i32⟩
  | 67 => ⟨S16x21760x32, .i32⟩
  | 68 => ⟨S16x21760x32x1, .i32⟩
  | 69 => ⟨S1, .i32⟩
  | 70 => ⟨S_, .i32⟩
  | 71 => ⟨S16x21760x32x1, .i32⟩
  | 72 => ⟨S16x21760x32x1, .i1⟩
  | 73 => ⟨S1x1x1x1, .i32⟩
  | 74 => ⟨S16x21760x32x1, .i32⟩
  | 75 => ⟨S16x21760x32x1, .i1⟩
  | 76 => ⟨S16x21760x32x1, .i1⟩
  | 77 => ⟨S_, .i1⟩
  | 78 => ⟨S16x21760x32, .i1⟩
  | 79 => ⟨S16x21760x32, .f32⟩
  | 80 => ⟨S_, .f32⟩
  | 81 => ⟨S16x21760x32, .f32⟩
  | 82 => ⟨S16x21760x32, .f32⟩
  | 83 => ⟨S2x8x5440x4x32, .f32⟩
  | 84 => ⟨S2x5440x8x4x32, .f32⟩
  | 85 => ⟨S2x5440x8x4, .f32⟩
  | 86 => ⟨S2x5440x8x4x1, .f32⟩
  | 87 => ⟨S2x5440x8x4x32, .f32⟩
  | 88 => ⟨S2x5440x8x4x32, .f32⟩
  | 89 => ⟨S_, .i32⟩
  | 90 => ⟨S2x5440x8x4, .i32⟩
  | 91 => ⟨S2x5440x8x4, .i1⟩
  | 92 => ⟨S_, .i32⟩
  | 93 => ⟨S2x5440x8x4, .i32⟩
  | 94 => ⟨S2x5440x8x4, .i1⟩
  | 95 => ⟨S2x5440x8x4, .i1⟩
  | 96 => ⟨S_, .i32⟩
  | 97 => ⟨S2x5440x8x4, .i32⟩
  | 98 => ⟨S2x5440x8x4, .i1⟩
  | 99 => ⟨S2x5440x8x4, .i1⟩
  | 100 => ⟨S_, .i32⟩
  | 101 => ⟨S2x5440x8x4, .i32⟩
  | 102 => ⟨S2x5440x8x4, .i1⟩
  | 103 => ⟨S2x5440x8x4, .i1⟩
  | 104 => ⟨S_, .i32⟩
  | 105 => ⟨S_, .i32⟩
  | 106 => ⟨S_, .i32⟩
  | 107 => ⟨S2x5440x8x4, .i32⟩
  | 108 => ⟨S2x5440x8x4, .i32⟩
  | 109 => ⟨S_, .i32⟩
  | 110 => ⟨S2x5440x8x4, .i32⟩
  | 111 => ⟨S2x5440x8x4, .i32⟩
  | 112 => ⟨S_, .i32⟩
  | 113 => ⟨S_, .i32⟩
  | 114 => ⟨S_, .i32⟩
  | 115 => ⟨S2x5440x8x4, .i32⟩
  | 116 => ⟨S2x5440x8x4, .i32⟩
  | 117 => ⟨S_, .i32⟩
  | 118 => ⟨S2x5440x8x4, .i32⟩
  | 119 => ⟨S2x5440x8x4, .i32⟩
  | 120 => ⟨S_, .i32⟩
  | 121 => ⟨S2x5440x8x4, .i32⟩
  | 122 => ⟨S2x5440x8x4, .i32⟩
  | 123 => ⟨S2x5440x8x4, .i32⟩
  | 124 => ⟨S2x8x5440x4, .i32⟩
  | 125 => ⟨S16x21760, .i32⟩
  | 126 => ⟨S16x21760x1, .i32⟩
  | 127 => ⟨S16x21760x32, .i32⟩
  | _ => ⟨S2x5440x256, .f32⟩

abbrev hbmTy0_2 (i : Nat) : BufTy := match i % 128 with
  | 0 => ⟨S_, .i32⟩
  | 1 => ⟨S16x21760x32, .i32⟩
  | 2 => ⟨S16x21760x32, .i1⟩
  | 3 => ⟨S_, .i32⟩
  | 4 => ⟨S16x21760x32, .i32⟩
  | 5 => ⟨S16x21760x32, .i32⟩
  | 6 => ⟨S16x21760x32, .i32⟩
  | 7 => ⟨S16x21760x32x1, .i32⟩
  | 8 => ⟨S1, .i32⟩
  | 9 => ⟨S_, .i32⟩
  | 10 => ⟨S16x21760x32x1, .i32⟩
  | 11 => ⟨S16x21760x32x1, .i1⟩
  | 12 => ⟨S1x1x1x1, .i32⟩
  | 13 => ⟨S16x21760x32x1, .i32⟩
  | 14 => ⟨S16x21760x32x1, .i1⟩
  | 15 => ⟨S16x21760x32x1, .i1⟩
  | 16 => ⟨S_, .i1⟩
  | 17 => ⟨S16x21760x32, .i1⟩
  | 18 => ⟨S16x21760x32, .f32⟩
  | 19 => ⟨S_, .f32⟩
  | 20 => ⟨S16x21760x32, .f32⟩
  | 21 => ⟨S16x21760x32, .f32⟩
  | 22 => ⟨S2x8x5440x4x32, .f32⟩
  | 23 => ⟨S2x5440x8x4x32, .f32⟩
  | 24 => ⟨S2x5440x8x4, .f32⟩
  | 25 => ⟨S2x5440x8x4x1, .f32⟩
  | 26 => ⟨S2x5440x8x4x32, .f32⟩
  | 27 => ⟨S2x5440x8x4x32, .f32⟩
  | 28 => ⟨S_, .i32⟩
  | 29 => ⟨S2x5440x8x4, .i32⟩
  | 30 => ⟨S2x5440x8x4, .i1⟩
  | 31 => ⟨S_, .i32⟩
  | 32 => ⟨S2x5440x8x4, .i32⟩
  | 33 => ⟨S2x5440x8x4, .i1⟩
  | 34 => ⟨S2x5440x8x4, .i1⟩
  | 35 => ⟨S_, .i32⟩
  | 36 => ⟨S2x5440x8x4, .i32⟩
  | 37 => ⟨S2x5440x8x4, .i1⟩
  | 38 => ⟨S2x5440x8x4, .i1⟩
  | 39 => ⟨S_, .i32⟩
  | 40 => ⟨S2x5440x8x4, .i32⟩
  | 41 => ⟨S2x5440x8x4, .i1⟩
  | 42 => ⟨S2x5440x8x4, .i1⟩
  | 43 => ⟨S_, .i32⟩
  | 44 => ⟨S_, .i32⟩
  | 45 => ⟨S_, .i32⟩
  | 46 => ⟨S2x5440x8x4, .i32⟩
  | 47 => ⟨S2x5440x8x4, .i32⟩
  | 48 => ⟨S_, .i32⟩
  | 49 => ⟨S2x5440x8x4, .i32⟩
  | 50 => ⟨S2x5440x8x4, .i32⟩
  | 51 => ⟨S_, .i32⟩
  | 52 => ⟨S_, .i32⟩
  | 53 => ⟨S_, .i32⟩
  | 54 => ⟨S2x5440x8x4, .i32⟩
  | 55 => ⟨S2x5440x8x4, .i32⟩
  | 56 => ⟨S_, .i32⟩
  | 57 => ⟨S2x5440x8x4, .i32⟩
  | 58 => ⟨S2x5440x8x4, .i32⟩
  | 59 => ⟨S_, .i32⟩
  | 60 => ⟨S2x5440x8x4, .i32⟩
  | 61 => ⟨S2x5440x8x4, .i32⟩
  | 62 => ⟨S2x5440x8x4, .i32⟩
  | 63 => ⟨S2x8x5440x4, .i32⟩
  | 64 => ⟨S16x21760, .i32⟩
  | 65 => ⟨S16x21760x1, .i32⟩
  | 66 => ⟨S16x21760x32, .i32⟩
  | 67 => ⟨S_, .i32⟩
  | 68 => ⟨S16x21760x32, .i32⟩
  | 69 => ⟨S16x21760x32, .i1⟩
  | 70 => ⟨S_, .i32⟩
  | 71 => ⟨S16x21760x32, .i32⟩
  | 72 => ⟨S16x21760x32, .i32⟩
  | 73 => ⟨S16x21760x32, .i32⟩
  | 74 => ⟨S16x21760x32x1, .i32⟩
  | 75 => ⟨S1, .i32⟩
  | 76 => ⟨S_, .i32⟩
  | 77 => ⟨S16x21760x32x1, .i32⟩
  | 78 => ⟨S16x21760x32x1, .i1⟩
  | 79 => ⟨S1x1x1x1, .i32⟩
  | 80 => ⟨S16x21760x32x1, .i32⟩
  | 81 => ⟨S16x21760x32x1, .i1⟩
  | 82 => ⟨S16x21760x32x1, .i1⟩
  | 83 => ⟨S_, .i1⟩
  | 84 => ⟨S16x21760x32, .i1⟩
  | 85 => ⟨S16x21760x32, .f32⟩
  | 86 => ⟨S_, .f32⟩
  | 87 => ⟨S16x21760x32, .f32⟩
  | 88 => ⟨S16x21760x32, .f32⟩
  | 89 => ⟨S2x8x5440x4x32, .f32⟩
  | 90 => ⟨S2x5440x8x4x32, .f32⟩
  | 91 => ⟨S2x5440x8x4, .f32⟩
  | 92 => ⟨S2x5440x8x4x1, .f32⟩
  | 93 => ⟨S2x5440x8x4x32, .f32⟩
  | 94 => ⟨S2x5440x8x4x32, .f32⟩
  | 95 => ⟨S2x5440x8x4, .f32⟩
  | 96 => ⟨S2x5440x8x4x1, .f32⟩
  | 97 => ⟨S2x5440x8x4x32, .f32⟩
  | 98 => ⟨S2x5440x8x4x32, .f32⟩
  | 99 => ⟨S2x5440x8x4, .f32⟩
  | 100 => ⟨S2x5440x8x4x1, .f32⟩
  | 101 => ⟨S2x5440x8x4x32, .f32⟩
  | 102 => ⟨S2x5440x8x4x32, .f32⟩
  | 103 => ⟨S2x5440x8x4x32, .f32⟩
  | 104 => ⟨S2x5440x8x4, .f32⟩
  | 105 => ⟨S2x5440x8x4x1, .f32⟩
  | 106 => ⟨S2x5440x8x4x32, .f32⟩
  | 107 => ⟨S2x5440x8x4x32, .f32⟩
  | 108 => ⟨S2x5440x8x4x32, .f32⟩
  | 109 => ⟨S2x5440x8x4, .f32⟩
  | 110 => ⟨S2x5440x8x4x1, .f32⟩
  | 111 => ⟨S2x5440x8x4x32, .f32⟩
  | 112 => ⟨S2x5440x8x4x32, .f32⟩
  | 113 => ⟨S2x5440x8x4x32, .f32⟩
  | 114 => ⟨S_, .f32⟩
  | 115 => ⟨S2x5440x8x4, .f32⟩
  | 116 => ⟨S2x5440x8x4, .i1⟩
  | 117 => ⟨S_, .f32⟩
  | 118 => ⟨S2x5440x8x4, .f32⟩
  | 119 => ⟨S2x5440x8x4, .i1⟩
  | 120 => ⟨S2x5440x8x4, .i1⟩
  | 121 => ⟨S_, .f32⟩
  | 122 => ⟨S2x5440x8x4, .f32⟩
  | 123 => ⟨S2x5440x8x4, .i1⟩
  | 124 => ⟨S2x5440x8x4, .i1⟩
  | 125 => ⟨S_, .f32⟩
  | 126 => ⟨S2x5440x8x4, .f32⟩
  | 127 => ⟨S2x5440x8x4, .i1⟩
  | _ => ⟨S2x5440x256, .f32⟩

abbrev hbmTy0_3 (i : Nat) : BufTy := match i % 128 with
  | 0 => ⟨S2x5440x8x4, .i1⟩
  | 1 => ⟨S2x5440x8x4, .f32⟩
  | 2 => ⟨S2x5440x8x4x1, .f32⟩
  | 3 => ⟨S2x5440x8x4x32, .f32⟩
  | 4 => ⟨S2x5440x8x4x32, .f32⟩
  | 5 => ⟨S2x5440x8x1x4, .f32⟩
  | 6 => ⟨S2x5440x8x4, .f32⟩
  | 7 => ⟨S2x5440x8x4x1, .f32⟩
  | 8 => ⟨S2x5440x8x4x32, .f32⟩
  | 9 => ⟨S2x5440x8x4x32, .f32⟩
  | 10 => ⟨S_, .f32⟩
  | 11 => ⟨S2x5440x8x32, .f32⟩
  | 12 => ⟨S2x5440x8x32, .f32⟩
  | 13 => ⟨S2x1024x8x32, .f32⟩
  | 14 => ⟨S2x32x32x8x32, .f32⟩
  | 15 => ⟨S2x5440x8x1x4x2, .f32⟩
  | 16 => ⟨S2x5440x8x4x2, .f32⟩
  | 17 => ⟨S2x5440x8x4x1, .f32⟩
  | 18 => ⟨S2x5440x8x4, .f32⟩
  | 19 => ⟨S_, .f32⟩
  | 20 => ⟨S2x5440x8x4, .f32⟩
  | 21 => ⟨S2x5440x8x4, .f32⟩
  | 22 => ⟨S_, .f32⟩
  | 23 => ⟨S2x5440x8x4, .f32⟩
  | 24 => ⟨S2x5440x8x4, .f32⟩
  | 25 => ⟨S2x5440x8x4x1, .f32⟩
  | 26 => ⟨S2x5440x8x4, .f32⟩
  | 27 => ⟨S_, .f32⟩
  | 28 => ⟨S2x5440x8x4, .f32⟩
  | 29 => ⟨S2x5440x8x4, .f32⟩
  | 30 => ⟨S_, .f32⟩
  | 31 => ⟨S2x5440x8x4, .f32⟩
  | 32 => ⟨S2x5440x8x4, .f32⟩
  | 33 => ⟨S2x5440x8x4, .f32⟩
  | 34 => ⟨S2x5440x8x4, .f32⟩
  | 35 => ⟨S2x5440x8x4, .f32⟩
  | 36 => ⟨S2x5440x8x4, .f32⟩
  | 37 => ⟨S_, .f32⟩
  | 38 => ⟨S2x5440x8x4, .f32⟩
  | 39 => ⟨S2x5440x8x4, .f32⟩
  | 40 => ⟨S_, .f32⟩
  | 41 => ⟨S2x5440x8x4, .f32⟩
  | 42 => ⟨S2x5440x8x4, .f32⟩
  | 43 => ⟨S2x5440x8x4, .i32⟩
  | 44 => ⟨S2x5440x8x4, .i32⟩
  | 45 => ⟨S_, .i32⟩
  | 46 => ⟨S2x5440x8x4, .i32⟩
  | 47 => ⟨S2x5440x8x4, .i32⟩
  | 48 => ⟨S_, .i32⟩
  | 49 => ⟨S2x5440x8x4, .i32⟩
  | 50 => ⟨S2x5440x8x4, .i32⟩
  | 51 => ⟨S2x8x32x32x32, .f32⟩
  | 52 => ⟨S16x1024x32, .f32⟩
  | 53 => ⟨S_, .i32⟩
  | 54 => ⟨S2x5440x8x4, .i32⟩
  | 55 => ⟨S2x5440x8x4, .i1⟩
  | 56 => ⟨S_, .i32⟩
  | 57 => ⟨S2x5440x8x4, .i32⟩
  | 58 => ⟨S2x5440x8x4, .i1⟩
  | 59 => ⟨S2x5440x8x4, .i1⟩
  | 60 => ⟨S_, .i32⟩
  | 61 => ⟨S2x5440x8x4, .i32⟩
  | 62 => ⟨S2x5440x8x4, .i1⟩
  | 63 => ⟨S2x5440x8x4, .i1⟩
  | 64 => ⟨S_, .i32⟩
  | 65 => ⟨S2x5440x8x4, .i32⟩
  | 66 => ⟨S2x5440x8x4, .i1⟩
  | 67 => ⟨S2x5440x8x4, .i1⟩
  | 68 => ⟨S_, .i32⟩
  | 69 => ⟨S_, .i32⟩
  | 70 => ⟨S_, .i32⟩
  | 71 => ⟨S2x5440x8x4, .i32⟩
  | 72 => ⟨S2x5440x8x4, .i32⟩
  | 73 => ⟨S_, .i32⟩
  | 74 => ⟨S2x5440x8x4, .i32⟩
  | 75 => ⟨S2x5440x8x4, .i32⟩
  | 76 => ⟨S_, .i32⟩
  | 77 => ⟨S_, .i32⟩
  | 78 => ⟨S_, .i32⟩
  | 79 => ⟨S2x5440x8x4, .i32⟩
  | 80 => ⟨S2x5440x8x4, .i32⟩
  | 81 => ⟨S_, .i32⟩
  | 82 => ⟨S2x5440x8x4, .i32⟩
  | 83 => ⟨S2x5440x8x4, .i32⟩
  | 84 => ⟨S_, .i32⟩
  | 85 => ⟨S2x5440x8x4, .i32⟩
  | 86 => ⟨S2x5440x8x4, .i32⟩
  | 87 => ⟨S2x5440x8x4, .i32⟩
  | 88 => ⟨S2x8x5440x4, .i32⟩
  | 89 => ⟨S16x21760, .i32⟩
  | 90 => ⟨S16x21760x1, .i32⟩
  | 91 => ⟨S16x21760x32, .i32⟩
  | 92 => ⟨S_, .i32⟩
  | 93 => ⟨S16x21760x32, .i32⟩
  | 94 => ⟨S16x21760x32, .i1⟩
  | 95 => ⟨S_, .i32⟩
  | 96 => ⟨S16x21760x32, .i32⟩
  | 97 => ⟨S16x21760x32, .i32⟩
  | 98 => ⟨S16x21760x32, .i32⟩
  | 99 => ⟨S16x21760x32x1, .i32⟩
  | 100 => ⟨S1, .i32⟩
  | 101 => ⟨S_, .i32⟩
  | 102 => ⟨S16x21760x32x1, .i32⟩
  | 103 => ⟨S16x21760x32x1, .i1⟩
  | 104 => ⟨S1x1x1x1, .i32⟩
  | 105 => ⟨S16x21760x32x1, .i32⟩
  | 106 => ⟨S16x21760x32x1, .i1⟩
  | 107 => ⟨S16x21760x32x1, .i1⟩
  | 108 => ⟨S_, .i1⟩
  | 109 => ⟨S16x21760x32, .i1⟩
  | 110 => ⟨S16x21760x32, .f32⟩
  | 111 => ⟨S_, .f32⟩
  | 112 => ⟨S16x21760x32, .f32⟩
  | 113 => ⟨S16x21760x32, .f32⟩
  | 114 => ⟨S2x8x5440x4x32, .f32⟩
  | 115 => ⟨S2x5440x8x4x32, .f32⟩
  | 116 => ⟨S2x5440x8x4, .f32⟩
  | 117 => ⟨S2x5440x8x4x1, .f32⟩
  | 118 => ⟨S2x5440x8x4x32, .f32⟩
  | 119 => ⟨S2x5440x8x4x32, .f32⟩
  | 120 => ⟨S_, .i32⟩
  | 121 => ⟨S2x5440x8x4, .i32⟩
  | 122 => ⟨S2x5440x8x4, .i1⟩
  | 123 => ⟨S_, .i32⟩
  | 124 => ⟨S2x5440x8x4, .i32⟩
  | 125 => ⟨S2x5440x8x4, .i1⟩
  | 126 => ⟨S2x5440x8x4, .i1⟩
  | 127 => ⟨S_, .i32⟩
  | _ => ⟨S2x5440x256, .f32⟩

abbrev hbmTy0_4 (i : Nat) : BufTy := match i % 128 with
  | 0 => ⟨S2x5440x8x4, .i32⟩
  | 1 => ⟨S2x5440x8x4, .i1⟩
  | 2 => ⟨S2x5440x8x4, .i1⟩
  | 3 => ⟨S_, .i32⟩
  | 4 => ⟨S2x5440x8x4, .i32⟩
  | 5 => ⟨S2x5440x8x4, .i1⟩
  | 6 => ⟨S2x5440x8x4, .i1⟩
  | 7 => ⟨S_, .i32⟩
  | 8 => ⟨S_, .i32⟩
  | 9 => ⟨S_, .i32⟩
  | 10 => ⟨S2x5440x8x4, .i32⟩
  | 11 => ⟨S2x5440x8x4, .i32⟩
  | 12 => ⟨S_, .i32⟩
  | 13 => ⟨S2x5440x8x4, .i32⟩
  | 14 => ⟨S2x5440x8x4, .i32⟩
  | 15 => ⟨S_, .i32⟩
  | 16 => ⟨S_, .i32⟩
  | 17 => ⟨S_, .i32⟩
  | 18 => ⟨S2x5440x8x4, .i32⟩
  | 19 => ⟨S2x5440x8x4, .i32⟩
  | 20 => ⟨S_, .i32⟩
  | 21 => ⟨S2x5440x8x4, .i32⟩
  | 22 => ⟨S2x5440x8x4, .i32⟩
  | 23 => ⟨S_, .i32⟩
  | 24 => ⟨S2x5440x8x4, .i32⟩
  | 25 => ⟨S2x5440x8x4, .i32⟩
  | 26 => ⟨S2x5440x8x4, .i32⟩
  | 27 => ⟨S2x8x5440x4, .i32⟩
  | 28 => ⟨S16x21760, .i32⟩
  | 29 => ⟨S16x21760x1, .i32⟩
  | 30 => ⟨S16x21760x32, .i32⟩
  | 31 => ⟨S_, .i32⟩
  | 32 => ⟨S16x21760x32, .i32⟩
  | 33 => ⟨S16x21760x32, .i1⟩
  | 34 => ⟨S_, .i32⟩
  | 35 => ⟨S16x21760x32, .i32⟩
  | 36 => ⟨S16x21760x32, .i32⟩
  | 37 => ⟨S16x21760x32, .i32⟩
  | 38 => ⟨S16x21760x32x1, .i32⟩
  | 39 => ⟨S1, .i32⟩
  | 40 => ⟨S_, .i32⟩
  | 41 => ⟨S16x21760x32x1, .i32⟩
  | 42 => ⟨S16x21760x32x1, .i1⟩
  | 43 => ⟨S1x1x1x1, .i32⟩
  | 44 => ⟨S16x21760x32x1, .i32⟩
  | 45 => ⟨S16x21760x32x1, .i1⟩
  | 46 => ⟨S16x21760x32x1, .i1⟩
  | 47 => ⟨S_, .i1⟩
  | 48 => ⟨S16x21760x32, .i1⟩
  | 49 => ⟨S16x21760x32, .f32⟩
  | 50 => ⟨S_, .f32⟩
  | 51 => ⟨S16x21760x32, .f32⟩
  | 52 => ⟨S16x21760x32, .f32⟩
  | 53 => ⟨S2x8x5440x4x32, .f32⟩
  | 54 => ⟨S2x5440x8x4x32, .f32⟩
  | 55 => ⟨S2x5440x8x4, .f32⟩
  | 56 => ⟨S2x5440x8x4x1, .f32⟩
  | 57 => ⟨S2x5440x8x4x32, .f32⟩
  | 58 => ⟨S2x5440x8x4x32, .f32⟩
  | 59 => ⟨S_, .i32⟩
  | 60 => ⟨S2x5440x8x4, .i32⟩
  | 61 => ⟨S2x5440x8x4, .i1⟩
  | 62 => ⟨S_, .i32⟩
  | 63 => ⟨S2x5440x8x4, .i32⟩
  | 64 => ⟨S2x5440x8x4, .i1⟩
  | 65 => ⟨S2x5440x8x4, .i1⟩
  | 66 => ⟨S_, .i32⟩
  | 67 => ⟨S2x5440x8x4, .i32⟩
  | 68 => ⟨S2x5440x8x4, .i1⟩
  | 69 => ⟨S2x5440x8x4, .i1⟩
  | 70 => ⟨S_, .i32⟩
  | 71 => ⟨S2x5440x8x4, .i32⟩
  | 72 => ⟨S2x5440x8x4, .i1⟩
  | 73 => ⟨S2x5440x8x4, .i1⟩
  | 74 => ⟨S_, .i32⟩
  | 75 => ⟨S_, .i32⟩
  | 76 => ⟨S_, .i32⟩
  | 77 => ⟨S2x5440x8x4, .i32⟩
  | 78 => ⟨S2x5440x8x4, .i32⟩
  | 79 => ⟨S_, .i32⟩
  | 80 => ⟨S2x5440x8x4, .i32⟩
  | 81 => ⟨S2x5440x8x4, .i32⟩
  | 82 => ⟨S_, .i32⟩
  | 83 => ⟨S_, .i32⟩
  | 84 => ⟨S_, .i32⟩
  | 85 => ⟨S2x5440x8x4, .i32⟩
  | 86 => ⟨S2x5440x8x4, .i32⟩
  | 87 => ⟨S_, .i32⟩
  | 88 => ⟨S2x5440x8x4, .i32⟩
  | 89 => ⟨S2x5440x8x4, .i32⟩
  | 90 => ⟨S_, .i32⟩
  | 91 => ⟨S2x5440x8x4, .i32⟩
  | 92 => ⟨S2x5440x8x4, .i32⟩
  | 93 => ⟨S2x5440x8x4, .i32⟩
  | 94 => ⟨S2x8x5440x4, .i32⟩
  | 95 => ⟨S16x21760, .i32⟩
  | 96 => ⟨S16x21760x1, .i32⟩
  | 97 => ⟨S16x21760x32, .i32⟩
  | 98 => ⟨S_, .i32⟩
  | 99 => ⟨S16x21760x32, .i32⟩
  | 100 => ⟨S16x21760x32, .i1⟩
  | 101 => ⟨S_, .i32⟩
  | 102 => ⟨S16x21760x32, .i32⟩
  | 103 => ⟨S16x21760x32, .i32⟩
  | 104 => ⟨S16x21760x32, .i32⟩
  | 105 => ⟨S16x21760x32x1, .i32⟩
  | 106 => ⟨S1, .i32⟩
  | 107 => ⟨S_, .i32⟩
  | 108 => ⟨S16x21760x32x1, .i32⟩
  | 109 => ⟨S16x21760x32x1, .i1⟩
  | 110 => ⟨S1x1x1x1, .i32⟩
  | 111 => ⟨S16x21760x32x1, .i32⟩
  | 112 => ⟨S16x21760x32x1, .i1⟩
  | 113 => ⟨S16x21760x32x1, .i1⟩
  | 114 => ⟨S_, .i1⟩
  | 115 => ⟨S16x21760x32, .i1⟩
  | 116 => ⟨S16x21760x32, .f32⟩
  | 117 => ⟨S_, .f32⟩
  | 118 => ⟨S16x21760x32, .f32⟩
  | 119 => ⟨S16x21760x32, .f32⟩
  | 120 => ⟨S2x8x5440x4x32, .f32⟩
  | 121 => ⟨S2x5440x8x4x32, .f32⟩
  | 122 => ⟨S2x5440x8x4, .f32⟩
  | 123 => ⟨S2x5440x8x4x1, .f32⟩
  | 124 => ⟨S2x5440x8x4x32, .f32⟩
  | 125 => ⟨S2x5440x8x4x32, .f32⟩
  | 126 => ⟨S_, .i32⟩
  | 127 => ⟨S2x5440x8x4, .i32⟩
  | _ => ⟨S2x5440x256, .f32⟩

abbrev hbmTy0_5 (i : Nat) : BufTy := match i % 128 with
  | 0 => ⟨S2x5440x8x4, .i1⟩
  | 1 => ⟨S_, .i32⟩
  | 2 => ⟨S2x5440x8x4, .i32⟩
  | 3 => ⟨S2x5440x8x4, .i1⟩
  | 4 => ⟨S2x5440x8x4, .i1⟩
  | 5 => ⟨S_, .i32⟩
  | 6 => ⟨S2x5440x8x4, .i32⟩
  | 7 => ⟨S2x5440x8x4, .i1⟩
  | 8 => ⟨S2x5440x8x4, .i1⟩
  | 9 => ⟨S_, .i32⟩
  | 10 => ⟨S2x5440x8x4, .i32⟩
  | 11 => ⟨S2x5440x8x4, .i1⟩
  | 12 => ⟨S2x5440x8x4, .i1⟩
  | 13 => ⟨S_, .i32⟩
  | 14 => ⟨S_, .i32⟩
  | 15 => ⟨S_, .i32⟩
  | 16 => ⟨S2x5440x8x4, .i32⟩
  | 17 => ⟨S2x5440x8x4, .i32⟩
  | 18 => ⟨S_, .i32⟩
  | 19 => ⟨S2x5440x8x4, .i32⟩
  | 20 => ⟨S2x5440x8x4, .i32⟩
  | 21 => ⟨S_, .i32⟩
  | 22 => ⟨S_, .i32⟩
  | 23 => ⟨S_, .i32⟩
  | 24 => ⟨S2x5440x8x4, .i32⟩
  | 25 => ⟨S2x5440x8x4, .i32⟩
  | 26 => ⟨S_, .i32⟩
  | 27 => ⟨S2x5440x8x4, .i32⟩
  | 28 => ⟨S2x5440x8x4, .i32⟩
  | 29 => ⟨S_, .i32⟩
  | 30 => ⟨S2x5440x8x4, .i32⟩
  | 31 => ⟨S2x5440x8x4, .i32⟩
  | 32 => ⟨S2x5440x8x4, .i32⟩
  | 33 => ⟨S2x8x5440x4, .i32⟩
  | 34 => ⟨S16x21760, .i32⟩
  | 35 => ⟨S16x21760x1, .i32⟩
  | 36 => ⟨S16x21760x32, .i32⟩
  | 37 => ⟨S_, .i32⟩
  | 38 => ⟨S16x21760x32, .i32⟩
  | 39 => ⟨S16x21760x32, .i1⟩
  | 40 => ⟨S_, .i32⟩
  | 41 => ⟨S16x21760x32, .i32⟩
  | 42 => ⟨S16x21760x32, .i32⟩
  | 43 => ⟨S16x21760x32, .i32⟩
  | 44 => ⟨S16x21760x32x1, .i32⟩
  | 45 => ⟨S1, .i32⟩
  | 46 => ⟨S_, .i32⟩
  | 47 => ⟨S16x21760x32x1, .i32⟩
  | 48 => ⟨S16x21760x32x1, .i1⟩
  | 49 => ⟨S1x1x1x1, .i32⟩
  | 50 => ⟨S16x21760x32x1, .i32⟩
  | 51 => ⟨S16x21760x32x1, .i1⟩
  | 52 => ⟨S16x21760x32x1, .i1⟩
  | 53 => ⟨S_, .i1⟩
  | 54 => ⟨S16x21760x32, .i1⟩
  | 55 => ⟨S16x21760x32, .f32⟩
  | 56 => ⟨S_, .f32⟩
  | 57 => ⟨S16x21760x32, .f32⟩
  | 58 => ⟨S16x21760x32, .f32⟩
  | 59 => ⟨S2x8x5440x4x32, .f32⟩
  | 60 => ⟨S2x5440x8x4x32, .f32⟩
  | 61 => ⟨S2x5440x8x4, .f32⟩
  | 62 => ⟨S2x5440x8x4x1, .f32⟩
  | 63 => ⟨S2x5440x8x4x32, .f32⟩
  | 64 => ⟨S2x5440x8x4x32, .f32⟩
  | 65 => ⟨S2x5440x8x4, .f32⟩
  | 66 => ⟨S2x5440x8x4x1, .f32⟩
  | 67 => ⟨S2x5440x8x4x32, .f32⟩
  | 68 => ⟨S2x5440x8x4x32, .f32⟩
  | 69 => ⟨S2x5440x8x4, .f32⟩
  | 70 => ⟨S2x5440x8x4x1, .f32⟩
  | 71 => ⟨S2x5440x8x4x32, .f32⟩
  | 72 => ⟨S2x5440x8x4x32, .f32⟩
  | 73 => ⟨S2x5440x8x4x32, .f32⟩
  | 74 => ⟨S2x5440x8x4, .f32⟩
  | 75 => ⟨S2x5440x8x4x1, .f32⟩
  | 76 => ⟨S2x5440x8x4x32, .f32⟩
  | 77 => ⟨S2x5440x8x4x32, .f32⟩
  | 78 => ⟨S2x5440x8x4x32, .f32⟩
  | 79 => ⟨S2x5440x8x4, .f32⟩
  | 80 => ⟨S2x5440x8x4x1, .f32⟩
  | 81 => ⟨S2x5440x8x4x32, .f32⟩
  | 82 => ⟨S2x5440x8x4x32, .f32⟩
  | 83 => ⟨S2x5440x8x4x32, .f32⟩
  | 84 => ⟨S_, .f32⟩
  | 85 => ⟨S2x5440x8x4, .f32⟩
  | 86 => ⟨S2x5440x8x4, .i1⟩
  | 87 => ⟨S_, .f32⟩
  | 88 => ⟨S2x5440x8x4, .f32⟩
  | 89 => ⟨S2x5440x8x4, .i1⟩
  | 90 => ⟨S2x5440x8x4, .i1⟩
  | 91 => ⟨S_, .f32⟩
  | 92 => ⟨S2x5440x8x4, .f32⟩
  | 93 => ⟨S2x5440x8x4, .i1⟩
  | 94 => ⟨S2x5440x8x4, .i1⟩
  | 95 => ⟨S_, .f32⟩
  | 96 => ⟨S2x5440x8x4, .f32⟩
  | 97 => ⟨S2x5440x8x4, .i1⟩
  | 98 => ⟨S2x5440x8x4, .i1⟩
  | 99 => ⟨S2x5440x8x4, .f32⟩
  | 100 => ⟨S2x5440x8x4x1, .f32⟩
  | 101 => ⟨S2x5440x8x4x32, .f32⟩
  | 102 => ⟨S2x5440x8x4x32, .f32⟩
  | 103 => ⟨S2x5440x8x1x4, .f32⟩
  | 104 => ⟨S2x5440x8x4, .f32⟩
  | 105 => ⟨S2x5440x8x4x1, .f32⟩
  | 106 => ⟨S2x5440x8x4x32, .f32⟩
  | 107 => ⟨S2x5440x8x4x32, .f32⟩
  | 108 => ⟨S_, .f32⟩
  | 109 => ⟨S2x5440x8x32, .f32⟩
  | 110 => ⟨S2x5440x8x32, .f32⟩
  | 111 => ⟨S2x256x8x32, .f32⟩
  | 112 => ⟨S2x16x16x8x32, .f32⟩
  | 113 => ⟨S2x5440x8x1x4x2, .f32⟩
  | 114 => ⟨S2x5440x8x4x2, .f32⟩
  | 115 => ⟨S2x5440x8x4x1, .f32⟩
  | 116 => ⟨S2x5440x8x4, .f32⟩
  | 117 => ⟨S_, .f32⟩
  | 118 => ⟨S2x5440x8x4, .f32⟩
  | 119 => ⟨S2x5440x8x4, .f32⟩
  | 120 => ⟨S_, .f32⟩
  | 121 => ⟨S2x5440x8x4, .f32⟩
  | 122 => ⟨S2x5440x8x4, .f32⟩
  | 123 => ⟨S2x5440x8x4x1, .f32⟩
  | 124 => ⟨S2x5440x8x4, .f32⟩
  | 125 => ⟨S_, .f32⟩
  | 126 => ⟨S2x5440x8x4, .f32⟩
  | 127 => ⟨S2x5440x8x4, .f32⟩
  | _ => ⟨S2x5440x256, .f32⟩

abbrev hbmTy0_6 (i : Nat) : BufTy := match i % 128 with
  | 0 => ⟨S_, .f32⟩
  | 1 => ⟨S2x5440x8x4, .f32⟩
  | 2 => ⟨S2x5440x8x4, .f32⟩
  | 3 => ⟨S2x5440x8x4, .f32⟩
  | 4 => ⟨S2x5440x8x4, .f32⟩
  | 5 => ⟨S2x5440x8x4, .f32⟩
  | 6 => ⟨S2x5440x8x4, .f32⟩
  | 7 => ⟨S_, .f32⟩
  | 8 => ⟨S2x5440x8x4, .f32⟩
  | 9 => ⟨S2x5440x8x4, .f32⟩
  | 10 => ⟨S_, .f32⟩
  | 11 => ⟨S2x5440x8x4, .f32⟩
  | 12 => ⟨S2x5440x8x4, .f32⟩
  | 13 => ⟨S2x5440x8x4, .i32⟩
  | 14 => ⟨S2x5440x8x4, .i32⟩
  | 15 => ⟨S_, .i32⟩
  | 16 => ⟨S2x5440x8x4, .i32⟩
  | 17 => ⟨S2x5440x8x4, .i32⟩
  | 18 => ⟨S_, .i32⟩
  | 19 => ⟨S2x5440x8x4, .i32⟩
  | 20 => ⟨S2x5440x8x4, .i32⟩
  | 21 => ⟨S2x8x16x16x32, .f32⟩
  | 22 => ⟨S16x256x32, .f32⟩
  | 23 => ⟨S_, .i32⟩
  | 24 => ⟨S2x5440x8x4, .i32⟩
  | 25 => ⟨S2x5440x8x4, .i1⟩
  | 26 => ⟨S_, .i32⟩
  | 27 => ⟨S2x5440x8x4, .i32⟩
  | 28 => ⟨S2x5440x8x4, .i1⟩
  | 29 => ⟨S2x5440x8x4, .i1⟩
  | 30 => ⟨S_, .i32⟩
  | 31 => ⟨S2x5440x8x4, .i32⟩
  | 32 => ⟨S2x5440x8x4, .i1⟩
  | 33 => ⟨S2x5440x8x4, .i1⟩
  | 34 => ⟨S_, .i32⟩
  | 35 => ⟨S2x5440x8x4, .i32⟩
  | 36 => ⟨S2x5440x8x4, .i1⟩
  | 37 => ⟨S2x5440x8x4, .i1⟩
  | 38 => ⟨S_, .i32⟩
  | 39 => ⟨S_, .i32⟩
  | 40 => ⟨S_, .i32⟩
  | 41 => ⟨S2x5440x8x4, .i32⟩
  | 42 => ⟨S2x5440x8x4, .i32⟩
  | 43 => ⟨S_, .i32⟩
  | 44 => ⟨S2x5440x8x4, .i32⟩
  | 45 => ⟨S2x5440x8x4, .i32⟩
  | 46 => ⟨S_, .i32⟩
  | 47 => ⟨S_, .i32⟩
  | 48 => ⟨S_, .i32⟩
  | 49 => ⟨S2x5440x8x4, .i32⟩
  | 50 => ⟨S2x5440x8x4, .i32⟩
  | 51 => ⟨S_, .i32⟩
  | 52 => ⟨S2x5440x8x4, .i32⟩
  | 53 => ⟨S2x5440x8x4, .i32⟩
  | 54 => ⟨S_, .i32⟩
  | 55 => ⟨S2x5440x8x4, .i32⟩
  | 56 => ⟨S2x5440x8x4, .i32⟩
  | 57 => ⟨S2x5440x8x4, .i32⟩
  | 58 => ⟨S2x8x5440x4, .i32⟩
  | 59 => ⟨S16x21760, .i32⟩
  | 60 => ⟨S16x21760x1, .i32⟩
  | 61 => ⟨S16x21760x32, .i32⟩
  | 62 => ⟨S_, .i32⟩
  | 63 => ⟨S16x21760x32, .i32⟩
  | 64 => ⟨S16x21760x32, .i1⟩
  | 65 => ⟨S_, .i32⟩
  | 66 => ⟨S16x21760x32, .i32⟩
  | 67 => ⟨S16x21760x32, .i32⟩
  | 68 => ⟨S16x21760x32, .i32⟩
  | 69 => ⟨S16x21760x32x1, .i32⟩
  | 70 => ⟨S1, .i32⟩
  | 71 => ⟨S_, .i32⟩
  | 72 => ⟨S16x21760x32x1, .i32⟩
  | 73 => ⟨S16x21760x32x1, .i1⟩
  | 74 => ⟨S1x1x1x1, .i32⟩
  | 75 => ⟨S16x21760x32x1, .i32⟩
  | 76 => ⟨S16x21760x32x1, .i1⟩
  | 77 => ⟨S16x21760x32x1, .i1⟩
  | 78 => ⟨S_, .i1⟩
  | 79 => ⟨S16x21760x32, .i1⟩
  | 80 => ⟨S16x21760x32, .f32⟩
  | 81 => ⟨S_, .f32⟩
  | 82 => ⟨S16x21760x32, .f32⟩
  | 83 => ⟨S16x21760x32, .f32⟩
  | 84 => ⟨S2x8x5440x4x32, .f32⟩
  | 85 => ⟨S2x5440x8x4x32, .f32⟩
  | 86 => ⟨S2x5440x8x4, .f32⟩
  | 87 => ⟨S2x5440x8x4x1, .f32⟩
  | 88 => ⟨S2x5440x8x4x32, .f32⟩
  | 89 => ⟨S2x5440x8x4x32, .f32⟩
  | 90 => ⟨S_, .i32⟩
  | 91 => ⟨S2x5440x8x4, .i32⟩
  | 92 => ⟨S2x5440x8x4, .i1⟩
  | 93 => ⟨S_, .i32⟩
  | 94 => ⟨S2x5440x8x4, .i32⟩
  | 95 => ⟨S2x5440x8x4, .i1⟩
  | 96 => ⟨S2x5440x8x4, .i1⟩
  | 97 => ⟨S_, .i32⟩
  | 98 => ⟨S2x5440x8x4, .i32⟩
  | 99 => ⟨S2x5440x8x4, .i1⟩
  | 100 => ⟨S2x5440x8x4, .i1⟩
  | 101 => ⟨S_, .i32⟩
  | 102 => ⟨S2x5440x8x4, .i32⟩
  | 103 => ⟨S2x5440x8x4, .i1⟩
  | 104 => ⟨S2x5440x8x4, .i1⟩
  | 105 => ⟨S_, .i32⟩
  | 106 => ⟨S_, .i32⟩
  | 107 => ⟨S_, .i32⟩
  | 108 => ⟨S2x5440x8x4, .i32⟩
  | 109 => ⟨S2x5440x8x4, .i32⟩
  | 110 => ⟨S_, .i32⟩
  | 111 => ⟨S2x5440x8x4, .i32⟩
  | 112 => ⟨S2x5440x8x4, .i32⟩
  | 113 => ⟨S_, .i32⟩
  | 114 => ⟨S_, .i32⟩
  | 115 => ⟨S_, .i32⟩
  | 116 => ⟨S2x5440x8x4, .i32⟩
  | 117 => ⟨S2x5440x8x4, .i32⟩
  | 118 => ⟨S_, .i32⟩
  | 119 => ⟨S2x5440x8x4, .i32⟩
  | 120 => ⟨S2x5440x8x4, .i32⟩
  | 121 => ⟨S_, .i32⟩
  | 122 => ⟨S2x5440x8x4, .i32⟩
  | 123 => ⟨S2x5440x8x4, .i32⟩
  | 124 => ⟨S2x5440x8x4, .i32⟩
  | 125 => ⟨S2x8x5440x4, .i32⟩
  | 126 => ⟨S16x21760, .i32⟩
  | 127 => ⟨S16x21760x1, .i32⟩
  | _ => ⟨S2x5440x256, .f32⟩

abbrev hbmTy0_7 (i : Nat) : BufTy := match i % 128 with
  | 0 => ⟨S16x21760x32, .i32⟩
  | 1 => ⟨S_, .i32⟩
  | 2 => ⟨S16x21760x32, .i32⟩
  | 3 => ⟨S16x21760x32, .i1⟩
  | 4 => ⟨S_, .i32⟩
  | 5 => ⟨S16x21760x32, .i32⟩
  | 6 => ⟨S16x21760x32, .i32⟩
  | 7 => ⟨S16x21760x32, .i32⟩
  | 8 => ⟨S16x21760x32x1, .i32⟩
  | 9 => ⟨S1, .i32⟩
  | 10 => ⟨S_, .i32⟩
  | 11 => ⟨S16x21760x32x1, .i32⟩
  | 12 => ⟨S16x21760x32x1, .i1⟩
  | 13 => ⟨S1x1x1x1, .i32⟩
  | 14 => ⟨S16x21760x32x1, .i32⟩
  | 15 => ⟨S16x21760x32x1, .i1⟩
  | 16 => ⟨S16x21760x32x1, .i1⟩
  | 17 => ⟨S_, .i1⟩
  | 18 => ⟨S16x21760x32, .i1⟩
  | 19 => ⟨S16x21760x32, .f32⟩
  | 20 => ⟨S_, .f32⟩
  | 21 => ⟨S16x21760x32, .f32⟩
  | 22 => ⟨S16x21760x32, .f32⟩
  | 23 => ⟨S2x8x5440x4x32, .f32⟩
  | 24 => ⟨S2x5440x8x4x32, .f32⟩
  | 25 => ⟨S2x5440x8x4, .f32⟩
  | 26 => ⟨S2x5440x8x4x1, .f32⟩
  | 27 => ⟨S2x5440x8x4x32, .f32⟩
  | 28 => ⟨S2x5440x8x4x32, .f32⟩
  | 29 => ⟨S_, .i32⟩
  | 30 => ⟨S2x5440x8x4, .i32⟩
  | 31 => ⟨S2x5440x8x4, .i1⟩
  | 32 => ⟨S_, .i32⟩
  | 33 => ⟨S2x5440x8x4, .i32⟩
  | 34 => ⟨S2x5440x8x4, .i1⟩
  | 35 => ⟨S2x5440x8x4, .i1⟩
  | 36 => ⟨S_, .i32⟩
  | 37 => ⟨S2x5440x8x4, .i32⟩
  | 38 => ⟨S2x5440x8x4, .i1⟩
  | 39 => ⟨S2x5440x8x4, .i1⟩
  | 40 => ⟨S_, .i32⟩
  | 41 => ⟨S2x5440x8x4, .i32⟩
  | 42 => ⟨S2x5440x8x4, .i1⟩
  | 43 => ⟨S2x5440x8x4, .i1⟩
  | 44 => ⟨S_, .i32⟩
  | 45 => ⟨S_, .i32⟩
  | 46 => ⟨S_, .i32⟩
  | 47 => ⟨S2x5440x8x4, .i32⟩
  | 48 => ⟨S2x5440x8x4, .i32⟩
  | 49 => ⟨S_, .i32⟩
  | 50 => ⟨S2x5440x8x4, .i32⟩
  | 51 => ⟨S2x5440x8x4, .i32⟩
  | 52 => ⟨S_, .i32⟩
  | 53 => ⟨S_, .i32⟩
  | 54 => ⟨S_, .i32⟩
  | 55 => ⟨S2x5440x8x4, .i32⟩
  | 56 => ⟨S2x5440x8x4, .i32⟩
  | 57 => ⟨S_, .i32⟩
  | 58 => ⟨S2x5440x8x4, .i32⟩
  | 59 => ⟨S2x5440x8x4, .i32⟩
  | 60 => ⟨S_, .i32⟩
  | 61 => ⟨S2x5440x8x4, .i32⟩
  | 62 => ⟨S2x5440x8x4, .i32⟩
  | 63 => ⟨S2x5440x8x4, .i32⟩
  | 64 => ⟨S2x8x5440x4, .i32⟩
  | 65 => ⟨S16x21760, .i32⟩
  | 66 => ⟨S16x21760x1, .i32⟩
  | 67 => ⟨S16x21760x32, .i32⟩
  | 68 => ⟨S_, .i32⟩
  | 69 => ⟨S16x21760x32, .i32⟩
  | 70 => ⟨S16x21760x32, .i1⟩
  | 71 => ⟨S_, .i32⟩
  | 72 => ⟨S16x21760x32, .i32⟩
  | 73 => ⟨S16x21760x32, .i32⟩
  | 74 => ⟨S16x21760x32, .i32⟩
  | 75 => ⟨S16x21760x32x1, .i32⟩
  | 76 => ⟨S1, .i32⟩
  | 77 => ⟨S_, .i32⟩
  | 78 => ⟨S16x21760x32x1, .i32⟩
  | 79 => ⟨S16x21760x32x1, .i1⟩
  | 80 => ⟨S1x1x1x1, .i32⟩
  | 81 => ⟨S16x21760x32x1, .i32⟩
  | 82 => ⟨S16x21760x32x1, .i1⟩
  | 83 => ⟨S16x21760x32x1, .i1⟩
  | 84 => ⟨S_, .i1⟩
  | 85 => ⟨S16x21760x32, .i1⟩
  | 86 => ⟨S16x21760x32, .f32⟩
  | 87 => ⟨S_, .f32⟩
  | 88 => ⟨S16x21760x32, .f32⟩
  | 89 => ⟨S16x21760x32, .f32⟩
  | 90 => ⟨S2x8x5440x4x32, .f32⟩
  | 91 => ⟨S2x5440x8x4x32, .f32⟩
  | 92 => ⟨S2x5440x8x4, .f32⟩
  | 93 => ⟨S2x5440x8x4x1, .f32⟩
  | 94 => ⟨S2x5440x8x4x32, .f32⟩
  | 95 => ⟨S2x5440x8x4x32, .f32⟩
  | 96 => ⟨S_, .i32⟩
  | 97 => ⟨S2x5440x8x4, .i32⟩
  | 98 => ⟨S2x5440x8x4, .i1⟩
  | 99 => ⟨S_, .i32⟩
  | 100 => ⟨S2x5440x8x4, .i32⟩
  | 101 => ⟨S2x5440x8x4, .i1⟩
  | 102 => ⟨S2x5440x8x4, .i1⟩
  | 103 => ⟨S_, .i32⟩
  | 104 => ⟨S2x5440x8x4, .i32⟩
  | 105 => ⟨S2x5440x8x4, .i1⟩
  | 106 => ⟨S2x5440x8x4, .i1⟩
  | 107 => ⟨S_, .i32⟩
  | 108 => ⟨S2x5440x8x4, .i32⟩
  | 109 => ⟨S2x5440x8x4, .i1⟩
  | 110 => ⟨S2x5440x8x4, .i1⟩
  | 111 => ⟨S_, .i32⟩
  | 112 => ⟨S_, .i32⟩
  | 113 => ⟨S_, .i32⟩
  | 114 => ⟨S2x5440x8x4, .i32⟩
  | 115 => ⟨S2x5440x8x4, .i32⟩
  | 116 => ⟨S_, .i32⟩
  | 117 => ⟨S2x5440x8x4, .i32⟩
  | 118 => ⟨S2x5440x8x4, .i32⟩
  | 119 => ⟨S_, .i32⟩
  | 120 => ⟨S_, .i32⟩
  | 121 => ⟨S_, .i32⟩
  | 122 => ⟨S2x5440x8x4, .i32⟩
  | 123 => ⟨S2x5440x8x4, .i32⟩
  | 124 => ⟨S_, .i32⟩
  | 125 => ⟨S2x5440x8x4, .i32⟩
  | 126 => ⟨S2x5440x8x4, .i32⟩
  | 127 => ⟨S_, .i32⟩
  | _ => ⟨S2x5440x256, .f32⟩

abbrev hbmTy0_8 (i : Nat) : BufTy := match i % 128 with
  | 0 => ⟨S2x5440x8x4, .i32⟩
  | 1 => ⟨S2x5440x8x4, .i32⟩
  | 2 => ⟨S2x5440x8x4, .i32⟩
  | 3 => ⟨S2x8x5440x4, .i32⟩
  | 4 => ⟨S16x21760, .i32⟩
  | 5 => ⟨S16x21760x1, .i32⟩
  | 6 => ⟨S16x21760x32, .i32⟩
  | 7 => ⟨S_, .i32⟩
  | 8 => ⟨S16x21760x32, .i32⟩
  | 9 => ⟨S16x21760x32, .i1⟩
  | 10 => ⟨S_, .i32⟩
  | 11 => ⟨S16x21760x32, .i32⟩
  | 12 => ⟨S16x21760x32, .i32⟩
  | 13 => ⟨S16x21760x32, .i32⟩
  | 14 => ⟨S16x21760x32x1, .i32⟩
  | 15 => ⟨S1, .i32⟩
  | 16 => ⟨S_, .i32⟩
  | 17 => ⟨S16x21760x32x1, .i32⟩
  | 18 => ⟨S16x21760x32x1, .i1⟩
  | 19 => ⟨S1x1x1x1, .i32⟩
  | 20 => ⟨S16x21760x32x1, .i32⟩
  | 21 => ⟨S16x21760x32x1, .i1⟩
  | 22 => ⟨S16x21760x32x1, .i1⟩
  | 23 => ⟨S_, .i1⟩
  | 24 => ⟨S16x21760x32, .i1⟩
  | 25 => ⟨S16x21760x32, .f32⟩
  | 26 => ⟨S_, .f32⟩
  | 27 => ⟨S16x21760x32, .f32⟩
  | 28 => ⟨S16x21760x32, .f32⟩
  | 29 => ⟨S2x8x5440x4x32, .f32⟩
  | 30 => ⟨S2x5440x8x4x32, .f32⟩
  | 31 => ⟨S2x5440x8x4, .f32⟩
  | 32 => ⟨S2x5440x8x4x1, .f32⟩
  | 33 => ⟨S2x5440x8x4x32, .f32⟩
  | 34 => ⟨S2x5440x8x4x32, .f32⟩
  | 35 => ⟨S2x5440x8x4, .f32⟩
  | 36 => ⟨S2x5440x8x4x1, .f32⟩
  | 37 => ⟨S2x5440x8x4x32, .f32⟩
  | 38 => ⟨S2x5440x8x4x32, .f32⟩
  | 39 => ⟨S2x5440x8x4, .f32⟩
  | 40 => ⟨S2x5440x8x4x1, .f32⟩
  | 41 => ⟨S2x5440x8x4x32, .f32⟩
  | 42 => ⟨S2x5440x8x4x32, .f32⟩
  | 43 => ⟨S2x5440x8x4x32, .f32⟩
  | 44 => ⟨S2x5440x8x4, .f32⟩
  | 45 => ⟨S2x5440x8x4x1, .f32⟩
  | 46 => ⟨S2x5440x8x4x32, .f32⟩
  | 47 => ⟨S2x5440x8x4x32, .f32⟩
  | 48 => ⟨S2x5440x8x4x32, .f32⟩
  | 49 => ⟨S2x5440x8x4, .f32⟩
  | 50 => ⟨S2x5440x8x4x1, .f32⟩
  | 51 => ⟨S2x5440x8x4x32, .f32⟩
  | 52 => ⟨S2x5440x8x4x32, .f32⟩
  | 53 => ⟨S2x5440x8x4x32, .f32⟩
  | 54 => ⟨S_, .f32⟩
  | 55 => ⟨S2x5440x8x4, .f32⟩
  | 56 => ⟨S2x5440x8x4, .i1⟩
  | 57 => ⟨S_, .f32⟩
  | 58 => ⟨S2x5440x8x4, .f32⟩
  | 59 => ⟨S2x5440x8x4, .i1⟩
  | 60 => ⟨S2x5440x8x4, .i1⟩
  | 61 => ⟨S_, .f32⟩
  | 62 => ⟨S2x5440x8x4, .f32⟩
  | 63 => ⟨S2x5440x8x4, .i1⟩
  | 64 => ⟨S2x5440x8x4, .i1⟩
  | 65 => ⟨S_, .f32⟩
  | 66 => ⟨S2x5440x8x4, .f32⟩
  | 67 => ⟨S2x5440x8x4, .i1⟩
  | 68 => ⟨S2x5440x8x4, .i1⟩
  | 69 => ⟨S2x5440x8x4, .f32⟩
  | 70 => ⟨S2x5440x8x4x1, .f32⟩
  | 71 => ⟨S2x5440x8x4x32, .f32⟩
  | 72 => ⟨S2x5440x8x4x32, .f32⟩
  | 73 => ⟨S2x5440x8x1x4, .f32⟩
  | 74 => ⟨S2x5440x8x4, .f32⟩
  | 75 => ⟨S2x5440x8x4x1, .f32⟩
  | 76 => ⟨S2x5440x8x4x32, .f32⟩
  | 77 => ⟨S2x5440x8x4x32, .f32⟩
  | 78 => ⟨S_, .f32⟩
  | 79 => ⟨S2x5440x8x32, .f32⟩
  | 80 => ⟨S2x5440x8x32, .f32⟩
  | 81 => ⟨S2x64x8x32, .f32⟩
  | 82 => ⟨S2x8x8x8x32, .f32⟩
  | 83 => ⟨S2x5440x8x1x4x2, .f32⟩
  | 84 => ⟨S2x5440x8x4x2, .f32⟩
  | 85 => ⟨S2x5440x8x4x1, .f32⟩
  | 86 => ⟨S2x5440x8x4, .f32⟩
  | 87 => ⟨S_, .f32⟩
  | 88 => ⟨S2x5440x8x4, .f32⟩
  | 89 => ⟨S2x5440x8x4, .f32⟩
  | 90 => ⟨S_, .f32⟩
  | 91 => ⟨S2x5440x8x4, .f32⟩
  | 92 => ⟨S2x5440x8x4, .f32⟩
  | 93 => ⟨S2x5440x8x4x1, .f32⟩
  | 94 => ⟨S2x5440x8x4, .f32⟩
  | 95 => ⟨S_, .f32⟩
  | 96 => ⟨S2x5440x8x4, .f32⟩
  | 97 => ⟨S2x5440x8x4, .f32⟩
  | 98 => ⟨S_, .f32⟩
  | 99 => ⟨S2x5440x8x4, .f32⟩
  | 100 => ⟨S2x5440x8x4, .f32⟩
  | 101 => ⟨S2x5440x8x4, .f32⟩
  | 102 => ⟨S2x5440x8x4, .f32⟩
  | 103 => ⟨S2x5440x8x4, .f32⟩
  | 104 => ⟨S2x5440x8x4, .f32⟩
  | 105 => ⟨S_, .f32⟩
  | 106 => ⟨S2x5440x8x4, .f32⟩
  | 107 => ⟨S2x5440x8x4, .f32⟩
  | 108 => ⟨S_, .f32⟩
  | 109 => ⟨S2x5440x8x4, .f32⟩
  | 110 => ⟨S2x5440x8x4, .f32⟩
  | 111 => ⟨S2x5440x8x4, .i32⟩
  | 112 => ⟨S2x5440x8x4, .i32⟩
  | 113 => ⟨S_, .i32⟩
  | 114 => ⟨S2x5440x8x4, .i32⟩
  | 115 => ⟨S2x5440x8x4, .i32⟩
  | 116 => ⟨S_, .i32⟩
  | 117 => ⟨S2x5440x8x4, .i32⟩
  | 118 => ⟨S2x5440x8x4, .i32⟩
  | 119 => ⟨S2x8x8x8x32, .f32⟩
  | 120 => ⟨S16x64x32, .f32⟩
  | 121 => ⟨S_, .i32⟩
  | 122 => ⟨S2x5440x8x4, .i32⟩
  | 123 => ⟨S2x5440x8x4, .i1⟩
  | 124 => ⟨S_, .i32⟩
  | 125 => ⟨S2x5440x8x4, .i32⟩
  | 126 => ⟨S2x5440x8x4, .i1⟩
  | 127 => ⟨S2x5440x8x4, .i1⟩
  | _ => ⟨S2x5440x256, .f32⟩

abbrev hbmTy0_9 (i : Nat) : BufTy := match i % 128 with
  | 0 => ⟨S_, .i32⟩
  | 1 => ⟨S2x5440x8x4, .i32⟩
  | 2 => ⟨S2x5440x8x4, .i1⟩
  | 3 => ⟨S2x5440x8x4, .i1⟩
  | 4 => ⟨S_, .i32⟩
  | 5 => ⟨S2x5440x8x4, .i32⟩
  | 6 => ⟨S2x5440x8x4, .i1⟩
  | 7 => ⟨S2x5440x8x4, .i1⟩
  | 8 => ⟨S_, .i32⟩
  | 9 => ⟨S_, .i32⟩
  | 10 => ⟨S_, .i32⟩
  | 11 => ⟨S2x5440x8x4, .i32⟩
  | 12 => ⟨S2x5440x8x4, .i32⟩
  | 13 => ⟨S_, .i32⟩
  | 14 => ⟨S2x5440x8x4, .i32⟩
  | 15 => ⟨S2x5440x8x4, .i32⟩
  | 16 => ⟨S_, .i32⟩
  | 17 => ⟨S_, .i32⟩
  | 18 => ⟨S_, .i32⟩
  | 19 => ⟨S2x5440x8x4, .i32⟩
  | 20 => ⟨S2x5440x8x4, .i32⟩
  | 21 => ⟨S_, .i32⟩
  | 22 => ⟨S2x5440x8x4, .i32⟩
  | 23 => ⟨S2x5440x8x4, .i32⟩
  | 24 => ⟨S_, .i32⟩
  | 25 => ⟨S2x5440x8x4, .i32⟩
  | 26 => ⟨S2x5440x8x4, .i32⟩
  | 27 => ⟨S2x5440x8x4, .i32⟩
  | 28 => ⟨S2x8x5440x4, .i32⟩
  | 29 => ⟨S16x21760, .i32⟩
  | 30 => ⟨S16x21760x1, .i32⟩
  | 31 => ⟨S16x21760x32, .i32⟩
  | 32 => ⟨S_, .i32⟩
  | 33 => ⟨S16x21760x32, .i32⟩
  | 34 => ⟨S16x21760x32, .i1⟩
  | 35 => ⟨S_, .i32⟩
  | 36 => ⟨S16x21760x32, .i32⟩
  | 37 => ⟨S16x21760x32, .i32⟩
  | 38 => ⟨S16x21760x32, .i32⟩
  | 39 => ⟨S16x21760x32x1, .i32⟩
  | 40 => ⟨S1, .i32⟩
  | 41 => ⟨S_, .i32⟩
  | 42 => ⟨S16x21760x32x1, .i32⟩
  | 43 => ⟨S16x21760x32x1, .i1⟩
  | 44 => ⟨S1x1x1x1, .i32⟩
  | 45 => ⟨S16x21760x32x1, .i32⟩
  | 46 => ⟨S16x21760x32x1, .i1⟩
  | 47 => ⟨S16x21760x32x1, .i1⟩
  | 48 => ⟨S_, .i1⟩
  | 49 => ⟨S16x21760x32, .i1⟩
  | 50 => ⟨S16x21760x32, .f32⟩
  | 51 => ⟨S_, .f32⟩
  | 52 => ⟨S16x21760x32, .f32⟩
  | 53 => ⟨S16x21760x32, .f32⟩
  | 54 => ⟨S2x8x5440x4x32, .f32⟩
  | 55 => ⟨S2x5440x8x4x32, .f32⟩
  | 56 => ⟨S2x5440x8x4, .f32⟩
  | 57 => ⟨S2x5440x8x4x1, .f32⟩
  | 58 => ⟨S2x5440x8x4x32, .f32⟩
  | 59 => ⟨S2x5440x8x4x32, .f32⟩
  | 60 => ⟨S_, .i32⟩
  | 61 => ⟨S2x5440x8x4, .i32⟩
  | 62 => ⟨S2x5440x8x4, .i1⟩
  | 63 => ⟨S_, .i32⟩
  | 64 => ⟨S2x5440x8x4, .i32⟩
  | 65 => ⟨S2x5440x8x4, .i1⟩
  | 66 => ⟨S2x5440x8x4, .i1⟩
  | 67 => ⟨S_, .i32⟩
  | 68 => ⟨S2x5440x8x4, .i32⟩
  | 69 => ⟨S2x5440x8x4, .i1⟩
  | 70 => ⟨S2x5440x8x4, .i1⟩
  | 71 => ⟨S_, .i32⟩
  | 72 => ⟨S2x5440x8x4, .i32⟩
  | 73 => ⟨S2x5440x8x4, .i1⟩
  | 74 => ⟨S2x5440x8x4, .i1⟩
  | 75 => ⟨S_, .i32⟩
  | 76 => ⟨S_, .i32⟩
  | 77 => ⟨S_, .i32⟩
  | 78 => ⟨S2x5440x8x4, .i32⟩
  | 79 => ⟨S2x5440x8x4, .i32⟩
  | 80 => ⟨S_, .i32⟩
  | 81 => ⟨S2x5440x8x4, .i32⟩
  | 82 => ⟨S2x5440x8x4, .i32⟩
  | 83 => ⟨S_, .i32⟩
  | 84 => ⟨S_, .i32⟩
  | 85 => ⟨S_, .i32⟩
  | 86 => ⟨S2x5440x8x4, .i32⟩
  | 87 => ⟨S2x5440x8x4, .i32⟩
  | 88 => ⟨S_, .i32⟩
  | 89 => ⟨S2x5440x8x4, .i32⟩
  | 90 => ⟨S2x5440x8x4, .i32⟩
  | 91 => ⟨S_, .i32⟩
  | 92 => ⟨S2x5440x8x4, .i32⟩
  | 93 => ⟨S2x5440x8x4, .i32⟩
  | 94 => ⟨S2x5440x8x4, .i32⟩
  | 95 => ⟨S2x8x5440x4, .i32⟩
  | 96 => ⟨S16x21760, .i32⟩
  | 97 => ⟨S16x21760x1, .i32⟩
  | 98 => ⟨S16x21760x32, .i32⟩
  | 99 => ⟨S_, .i32⟩
  | 100 => ⟨S16x21760x32, .i32⟩
  | 101 => ⟨S16x21760x32, .i1⟩
  | 102 => ⟨S_, .i32⟩
  | 103 => ⟨S16x21760x32, .i32⟩
  | 104 => ⟨S16x21760x32, .i32⟩
  | 105 => ⟨S16x21760x32, .i32⟩
  | 106 => ⟨S16x21760x32x1, .i32⟩
  | 107 => ⟨S1, .i32⟩
  | 108 => ⟨S_, .i32⟩
  | 109 => ⟨S16x21760x32x1, .i32⟩
  | 110 => ⟨S16x21760x32x1, .i1⟩
  | 111 => ⟨S1x1x1x1, .i32⟩
  | 112 => ⟨S16x21760x32x1, .i32⟩
  | 113 => ⟨S16x21760x32x1, .i1⟩
  | 114 => ⟨S16x21760x32x1, .i1⟩
  | 115 => ⟨S_, .i1⟩
  | 116 => ⟨S16x21760x32, .i1⟩
  | 117 => ⟨S16x21760x32, .f32⟩
  | 118 => ⟨S_, .f32⟩
  | 119 => ⟨S16x21760x32, .f32⟩
  | 120 => ⟨S16x21760x32, .f32⟩
  | 121 => ⟨S2x8x5440x4x32, .f32⟩
  | 122 => ⟨S2x5440x8x4x32, .f32⟩
  | 123 => ⟨S2x5440x8x4, .f32⟩
  | 124 => ⟨S2x5440x8x4x1, .f32⟩
  | 125 => ⟨S2x5440x8x4x32, .f32⟩
  | 126 => ⟨S2x5440x8x4x32, .f32⟩
  | 127 => ⟨S_, .i32⟩
  | _ => ⟨S2x5440x256, .f32⟩

abbrev hbmTy0_10 (i : Nat) : BufTy := match i % 128 with
  | 0 => ⟨S2x5440x8x4, .i32⟩
  | 1 => ⟨S2x5440x8x4, .i1⟩
  | 2 => ⟨S_, .i32⟩
  | 3 => ⟨S2x5440x8x4, .i32⟩
  | 4 => ⟨S2x5440x8x4, .i1⟩
  | 5 => ⟨S2x5440x8x4, .i1⟩
  | 6 => ⟨S_, .i32⟩
  | 7 => ⟨S2x5440x8x4, .i32⟩
  | 8 => ⟨S2x5440x8x4, .i1⟩
  | 9 => ⟨S2x5440x8x4, .i1⟩
  | 10 => ⟨S_, .i32⟩
  | 11 => ⟨S2x5440x8x4, .i32⟩
  | 12 => ⟨S2x5440x8x4, .i1⟩
  | 13 => ⟨S2x5440x8x4, .i1⟩
  | 14 => ⟨S_, .i32⟩
  | 15 => ⟨S_, .i32⟩
  | 16 => ⟨S_, .i32⟩
  | 17 => ⟨S2x5440x8x4, .i32⟩
  | 18 => ⟨S2x5440x8x4, .i32⟩
  | 19 => ⟨S_, .i32⟩
  | 20 => ⟨S2x5440x8x4, .i32⟩
  | 21 => ⟨S2x5440x8x4, .i32⟩
  | 22 => ⟨S_, .i32⟩
  | 23 => ⟨S_, .i32⟩
  | 24 => ⟨S_, .i32⟩
  | 25 => ⟨S2x5440x8x4, .i32⟩
  | 26 => ⟨S2x5440x8x4, .i32⟩
  | 27 => ⟨S_, .i32⟩
  | 28 => ⟨S2x5440x8x4, .i32⟩
  | 29 => ⟨S2x5440x8x4, .i32⟩
  | 30 => ⟨S_, .i32⟩
  | 31 => ⟨S2x5440x8x4, .i32⟩
  | 32 => ⟨S2x5440x8x4, .i32⟩
  | 33 => ⟨S2x5440x8x4, .i32⟩
  | 34 => ⟨S2x8x5440x4, .i32⟩
  | 35 => ⟨S16x21760, .i32⟩
  | 36 => ⟨S16x21760x1, .i32⟩
  | 37 => ⟨S16x21760x32, .i32⟩
  | 38 => ⟨S_, .i32⟩
  | 39 => ⟨S16x21760x32, .i32⟩
  | 40 => ⟨S16x21760x32, .i1⟩
  | 41 => ⟨S_, .i32⟩
  | 42 => ⟨S16x21760x32, .i32⟩
  | 43 => ⟨S16x21760x32, .i32⟩
  | 44 => ⟨S16x21760x32, .i32⟩
  | 45 => ⟨S16x21760x32x1, .i32⟩
  | 46 => ⟨S1, .i32⟩
  | 47 => ⟨S_, .i32⟩
  | 48 => ⟨S16x21760x32x1, .i32⟩
  | 49 => ⟨S16x21760x32x1, .i1⟩
  | 50 => ⟨S1x1x1x1, .i32⟩
  | 51 => ⟨S16x21760x32x1, .i32⟩
  | 52 => ⟨S16x21760x32x1, .i1⟩
  | 53 => ⟨S16x21760x32x1, .i1⟩
  | 54 => ⟨S_, .i1⟩
  | 55 => ⟨S16x21760x32, .i1⟩
  | 56 => ⟨S16x21760x32, .f32⟩
  | 57 => ⟨S_, .f32⟩
  | 58 => ⟨S16x21760x32, .f32⟩
  | 59 => ⟨S16x21760x32, .f32⟩
  | 60 => ⟨S2x8x5440x4x32, .f32⟩
  | 61 => ⟨S2x5440x8x4x32, .f32⟩
  | 62 => ⟨S2x5440x8x4, .f32⟩
  | 63 => ⟨S2x5440x8x4x1, .f32⟩
  | 64 => ⟨S2x5440x8x4x32, .f32⟩
  | 65 => ⟨S2x5440x8x4x32, .f32⟩
  | 66 => ⟨S_, .i32⟩
  | 67 => ⟨S2x5440x8x4, .i32⟩
  | 68 => ⟨S2x5440x8x4, .i1⟩
  | 69 => ⟨S_, .i32⟩
  | 70 => ⟨S2x5440x8x4, .i32⟩
  | 71 => ⟨S2x5440x8x4, .i1⟩
  | 72 => ⟨S2x5440x8x4, .i1⟩
  | 73 => ⟨S_, .i32⟩
  | 74 => ⟨S2x5440x8x4, .i32⟩
  | 75 => ⟨S2x5440x8x4, .i1⟩
  | 76 => ⟨S2x5440x8x4, .i1⟩
  | 77 => ⟨S_, .i32⟩
  | 78 => ⟨S2x5440x8x4, .i32⟩
  | 79 => ⟨S2x5440x8x4, .i1⟩
  | 80 => ⟨S2x5440x8x4, .i1⟩
  | 81 => ⟨S_, .i32⟩
  | 82 => ⟨S_, .i32⟩
  | 83 => ⟨S_, .i32⟩
  | 84 => ⟨S2x5440x8x4, .i32⟩
  | 85 => ⟨S2x5440x8x4, .i32⟩
  | 86 => ⟨S_, .i32⟩
  | 87 => ⟨S2x5440x8x4, .i32⟩
  | 88 => ⟨S2x5440x8x4, .i32⟩
  | 89 => ⟨S_, .i32⟩
  | 90 => ⟨S_, .i32⟩
  | 91 => ⟨S_, .i32⟩
  | 92 => ⟨S2x5440x8x4, .i32⟩
  | 93 => ⟨S2x5440x8x4, .i32⟩
  | 94 => ⟨S_, .i32⟩
  | 95 => ⟨S2x5440x8x4, .i32⟩
  | 96 => ⟨S2x5440x8x4, .i32⟩
  | 97 => ⟨S_, .i32⟩
  | 98 => ⟨S2x5440x8x4, .i32⟩
  | 99 => ⟨S2x5440x8x4, .i32⟩
  | 100 => ⟨S2x5440x8x4, .i32⟩
  | 101 => ⟨S2x8x5440x4, .i32⟩
  | 102 => ⟨S16x21760, .i32⟩
  | 103 => ⟨S16x21760x1, .i32⟩
  | 104 => ⟨S16x21760x32, .i32⟩
  | 105 => ⟨S_, .i32⟩
  | 106 => ⟨S16x21760x32, .i32⟩
  | 107 => ⟨S16x21760x32, .i1⟩
  | 108 => ⟨S_, .i32⟩
  | 109 => ⟨S16x21760x32, .i32⟩
  | 110 => ⟨S16x21760x32, .i32⟩
  | 111 => ⟨S16x21760x32, .i32⟩
  | 112 => ⟨S16x21760x32x1, .i32⟩
  | 113 => ⟨S1, .i32⟩
  | 114 => ⟨S_, .i32⟩
  | 115 => ⟨S16x21760x32x1, .i32⟩
  | 116 => ⟨S16x21760x32x1, .i1⟩
  | 117 => ⟨S1x1x1x1, .i32⟩
  | 118 => ⟨S16x21760x32x1, .i32⟩
  | 119 => ⟨S16x21760x32x1, .i1⟩
  | 120 => ⟨S16x21760x32x1, .i1⟩
  | 121 => ⟨S_, .i1⟩
  | 122 => ⟨S16x21760x32, .i1⟩
  | 123 => ⟨S16x21760x32, .f32⟩
  | 124 => ⟨S_, .f32⟩
  | 125 => ⟨S16x21760x32, .f32⟩
  | 126 => ⟨S16x21760x32, .f32⟩
  | 127 => ⟨S2x8x5440x4x32, .f32⟩
  | _ => ⟨S2x5440x256, .f32⟩

abbrev hbmTy0_11 (i : Nat) : BufTy := match i % 128 with
  | 0 => ⟨S2x5440x8x4x32, .f32⟩
  | 1 => ⟨S2x5440x8x4, .f32⟩
  | 2 => ⟨S2x5440x8x4x1, .f32⟩
  | 3 => ⟨S2x5440x8x4x32, .f32⟩
  | 4 => ⟨S2x5440x8x4x32, .f32⟩
  | 5 => ⟨S2x5440x8x4, .f32⟩
  | 6 => ⟨S2x5440x8x4x1, .f32⟩
  | 7 => ⟨S2x5440x8x4x32, .f32⟩
  | 8 => ⟨S2x5440x8x4x32, .f32⟩
  | 9 => ⟨S2x5440x8x4, .f32⟩
  | 10 => ⟨S2x5440x8x4x1, .f32⟩
  | 11 => ⟨S2x5440x8x4x32, .f32⟩
  | 12 => ⟨S2x5440x8x4x32, .f32⟩
  | 13 => ⟨S2x5440x8x4x32, .f32⟩
  | 14 => ⟨S2x5440x8x4, .f32⟩
  | 15 => ⟨S2x5440x8x4x1, .f32⟩
  | 16 => ⟨S2x5440x8x4x32, .f32⟩
  | 17 => ⟨S2x5440x8x4x32, .f32⟩
  | 18 => ⟨S2x5440x8x4x32, .f32⟩
  | 19 => ⟨S2x5440x8x4, .f32⟩
  | 20 => ⟨S2x5440x8x4x1, .f32⟩
  | 21 => ⟨S2x5440x8x4x32, .f32⟩
  | 22 => ⟨S2x5440x8x4x32, .f32⟩
  | 23 => ⟨S2x5440x8x4x32, .f32⟩
  | 24 => ⟨S_, .f32⟩
  | 25 => ⟨S2x5440x8x4, .f32⟩
  | 26 => ⟨S2x5440x8x4, .i1⟩
  | 27 => ⟨S_, .f32⟩
  | 28 => ⟨S2x5440x8x4, .f32⟩
  | 29 => ⟨S2x5440x8x4, .i1⟩
  | 30 => ⟨S2x5440x8x4, .i1⟩
  | 31 => ⟨S_, .f32⟩
  | 32 => ⟨S2x5440x8x4, .f32⟩
  | 33 => ⟨S2x5440x8x4, .i1⟩
  | 34 => ⟨S2x5440x8x4, .i1⟩
  | 35 => ⟨S_, .f32⟩
  | 36 => ⟨S2x5440x8x4, .f32⟩
  | 37 => ⟨S2x5440x8x4, .i1⟩
  | 38 => ⟨S2x5440x8x4, .i1⟩
  | 39 => ⟨S2x5440x8x4, .f32⟩
  | 40 => ⟨S2x5440x8x4x1, .f32⟩
  | 41 => ⟨S2x5440x8x4x32, .f32⟩
  | 42 => ⟨S2x5440x8x4x32, .f32⟩
  | 43 => ⟨S2x5440x8x1x4, .f32⟩
  | 44 => ⟨S2x5440x8x4, .f32⟩
  | 45 => ⟨S2x5440x8x4x1, .f32⟩
  | 46 => ⟨S2x5440x8x4x32, .f32⟩
  | 47 => ⟨S2x5440x8x4x32, .f32⟩
  | 48 => ⟨S_, .f32⟩
  | 49 => ⟨S2x5440x8x32, .f32⟩
  | 50 => ⟨S2x5440x8x32, .f32⟩
  | 51 => ⟨S10880x256, .f32⟩
  | 52 => ⟨S1x256, .f32⟩
  | 53 => ⟨S10880x256, .f32⟩
  | 54 => ⟨S2x5440x256, .f32⟩
  | _ => ⟨S2x5440x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S2x5440x256, .f32⟩

abbrev bufTy : (tb : Table) → Fin (tcTables nBuf tb) → BufTy
  | .hbm, ⟨i, _⟩ => hbmTy i
  | .local _ .vmem, ⟨0, _⟩ => ⟨S2176x256, .f32⟩
  | .local _ .vmem, ⟨1, _⟩ => ⟨S2176x256, .f32⟩
  | .local _ .vmem, ⟨2, _⟩ => ⟨S256x256, .f32⟩
  | .local _ .vmem, ⟨3, _⟩ => ⟨S1x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | .local _ .vmem, ⟨7, _⟩ => ⟨S2176x256, .f32⟩
  | .local _ .vmem, ⟨8, _⟩ => ⟨S256x256, .f32⟩
  | .local _ .vmem, ⟨9, _⟩ => ⟨S1x256, .f32⟩
  | .local _ .vmem, ⟨10, _⟩ => ⟨S2176x256, .f32⟩
  | .local _ .vmem, ⟨11, _⟩ => ⟨S2176x256, .f32⟩
  | .local _ .vmem, ⟨12, _⟩ => ⟨S2176x256, .f32⟩
  | .local _ .vmem, ⟨13, _⟩ => ⟨S2176x256, .f32⟩
  | .local _ .vmem, ⟨14, _⟩ => ⟨S256x128, .f32⟩
  | .local _ .vmem, ⟨15, _⟩ => ⟨S1x128, .f32⟩
  | .local _ .vmem, ⟨16, _⟩ => ⟨S2176x128, .f32⟩
  | .local _ .vmem, ⟨17, _⟩ => ⟨S2176x128, .f32⟩
  | .local _ .vmem, ⟨18, _⟩ => ⟨S2176x256, .f32⟩
  | .local _ .vmem, ⟨19, _⟩ => ⟨S2176x256, .f32⟩
  | .local _ .vmem, ⟨20, _⟩ => ⟨S256x256, .f32⟩
  | .local _ .vmem, ⟨21, _⟩ => ⟨S1x256, .f32⟩
  | .local _ .vmem, ⟨22, _⟩ => ⟨S2176x256, .f32⟩
  | .local _ .vmem, ⟨23, _⟩ => ⟨S2176x256, .f32⟩
  | _, _ => ⟨S2x5440x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_14 : Ref sig .tc := ⟨.hbm, 98, rfl⟩
abbrev main_c_15 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_v71 : Ref sig .tc := ⟨.hbm, 105, rfl⟩
abbrev main_c_16 : Ref sig .tc := ⟨.hbm, 106, rfl⟩
abbrev main_c_17 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_v72 : Ref sig .tc := ⟨.hbm, 113, rfl⟩
abbrev main_c_18 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_call2_c : Ref sig .tc := ⟨.hbm, 122, rfl⟩
abbrev main_call2_v0 : Ref sig .tc := ⟨.hbm, 123, rfl⟩
abbrev main_call2_v1 : Ref sig .tc := ⟨.hbm, 124, rfl⟩
abbrev main_call2_c_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_c_1 : Ref sig .tc := ⟨.hbm, 130, rfl⟩
abbrev main_call2_c_2 : Ref sig .tc := ⟨.hbm, 131, rfl⟩
abbrev main_call2_v6 : Ref sig .tc := ⟨.hbm, 132, rfl⟩
abbrev main_call2_v7 : Ref sig .tc := ⟨.hbm, 133, rfl⟩
abbrev main_call2_v8 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_c_3 : Ref sig .tc := ⟨.hbm, 138, rfl⟩
abbrev main_call2_v12 : Ref sig .tc := ⟨.hbm, 139, rfl⟩
abbrev main_call2_v13 : Ref sig .tc := ⟨.hbm, 140, rfl⟩
abbrev main_call2_cst : Ref sig .tc := ⟨.hbm, 141, rfl⟩
abbrev main_call2_v14 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_c_19 : Ref sig .tc := ⟨.hbm, 150, rfl⟩
abbrev main_v87 : Ref sig .tc := ⟨.hbm, 151, rfl⟩
abbrev main_v88 : Ref sig .tc := ⟨.hbm, 152, rfl⟩
abbrev main_c_20 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_c_21 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_c_22 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_c_23 : Ref sig .tc := ⟨.hbm, 165, rfl⟩
abbrev main_c_24 : Ref sig .tc := ⟨.hbm, 166, rfl⟩
abbrev main_call3_v0 : Ref sig .tc := ⟨.hbm, 167, rfl⟩
abbrev main_call3_v1 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_v98 : Ref sig .tc := ⟨.hbm, 172, rfl⟩
abbrev main_c_25 : Ref sig .tc := ⟨.hbm, 173, rfl⟩
abbrev main_c_26 : Ref sig .tc := ⟨.hbm, 174, rfl⟩
abbrev main_call4_v0 : Ref sig .tc := ⟨.hbm, 175, rfl⟩
abbrev main_call4_v1 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_v99 : Ref sig .tc := ⟨.hbm, 180, rfl⟩
abbrev main_c_27 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_call5_c : Ref sig .tc := ⟨.hbm, 189, rfl⟩
abbrev main_call5_v0 : Ref sig .tc := ⟨.hbm, 190, rfl⟩
abbrev main_call5_v1 : Ref sig .tc := ⟨.hbm, 191, rfl⟩
abbrev main_call5_c_0 : Ref sig .tc := ⟨.hbm, 192, rfl⟩
abbrev main_call5_v2 : Ref sig .tc := ⟨.hbm, 193, rfl⟩
abbrev main_call5_v3 : Ref sig .tc := ⟨.hbm, 194, rfl⟩
abbrev main_call5_v4 : Ref sig .tc := ⟨.hbm, 195, rfl⟩
abbrev main_call5_v5 : Ref sig .tc := ⟨.hbm, 196, rfl⟩
abbrev main_call5_c_1 : Ref sig .tc := ⟨.hbm, 197, rfl⟩
abbrev main_call5_c_2 : Ref sig .tc := ⟨.hbm, 198, rfl⟩
abbrev main_call5_v6 : Ref sig .tc := ⟨.hbm, 199, rfl⟩
abbrev main_call5_v7 : Ref sig .tc := ⟨.hbm, 200, rfl⟩
abbrev main_call5_v8 : Ref sig .tc := ⟨.hbm, 201, rfl⟩
abbrev main_call5_v9 : Ref sig .tc := ⟨.hbm, 202, rfl⟩
abbrev main_call5_v10 : Ref sig .tc := ⟨.hbm, 203, rfl⟩
abbrev main_call5_v11 : Ref sig .tc := ⟨.hbm, 204, rfl⟩
abbrev main_call5_c_3 : Ref sig .tc := ⟨.hbm, 205, rfl⟩
abbrev main_call5_v12 : Ref sig .tc := ⟨.hbm, 206, rfl⟩
abbrev main_call5_v13 : Ref sig .tc := ⟨.hbm, 207, rfl⟩
abbrev main_call5_cst : Ref sig .tc := ⟨.hbm, 208, rfl⟩
abbrev main_call5_v14 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_c_28 : Ref sig .tc := ⟨.hbm, 217, rfl⟩
abbrev main_v114 : Ref sig .tc := ⟨.hbm, 218, rfl⟩
abbrev main_v115 : Ref sig .tc := ⟨.hbm, 219, rfl⟩
abbrev main_c_29 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_c_30 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_c_31 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_c_32 : Ref sig .tc := ⟨.hbm, 232, rfl⟩
abbrev main_c_33 : Ref sig .tc := ⟨.hbm, 233, rfl⟩
abbrev main_call6_v0 : Ref sig .tc := ⟨.hbm, 234, rfl⟩
abbrev main_call6_v1 : Ref sig .tc := ⟨.hbm, 235, rfl⟩
abbrev main_call6_v2 : Ref sig .tc := ⟨.hbm, 236, rfl⟩
abbrev main_call6_v3 : Ref sig .tc := ⟨.hbm, 237, rfl⟩
abbrev main_call6_v4 : Ref sig .tc := ⟨.hbm, 238, rfl⟩
abbrev main_v125 : Ref sig .tc := ⟨.hbm, 239, rfl⟩
abbrev main_c_34 : Ref sig .tc := ⟨.hbm, 240, rfl⟩
abbrev main_c_35 : Ref sig .tc := ⟨.hbm, 241, rfl⟩
abbrev main_call7_v0 : Ref sig .tc := ⟨.hbm, 242, rfl⟩
abbrev main_call7_v1 : Ref sig .tc := ⟨.hbm, 243, rfl⟩
abbrev main_call7_v2 : Ref sig .tc := ⟨.hbm, 244, rfl⟩
abbrev main_call7_v3 : Ref sig .tc := ⟨.hbm, 245, rfl⟩
abbrev main_call7_v4 : Ref sig .tc := ⟨.hbm, 246, rfl⟩
abbrev main_v126 : Ref sig .tc := ⟨.hbm, 247, rfl⟩
abbrev main_c_36 : Ref sig .tc := ⟨.hbm, 248, rfl⟩
abbrev main_v127 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_v133 : Ref sig .tc := ⟨.hbm, 255, rfl⟩
abbrev main_call8_c : Ref sig .tc := ⟨.hbm, 256, rfl⟩
abbrev main_call8_v0 : Ref sig .tc := ⟨.hbm, 257, rfl⟩
abbrev main_call8_v1 : Ref sig .tc := ⟨.hbm, 258, rfl⟩
abbrev main_call8_c_0 : Ref sig .tc := ⟨.hbm, 259, rfl⟩
abbrev main_call8_v2 : Ref sig .tc := ⟨.hbm, 260, rfl⟩
abbrev main_call8_v3 : Ref sig .tc := ⟨.hbm, 261, rfl⟩
abbrev main_call8_v4 : Ref sig .tc := ⟨.hbm, 262, rfl⟩
abbrev main_call8_v5 : Ref sig .tc := ⟨.hbm, 263, rfl⟩
abbrev main_call8_c_1 : Ref sig .tc := ⟨.hbm, 264, rfl⟩
abbrev main_call8_c_2 : Ref sig .tc := ⟨.hbm, 265, rfl⟩
abbrev main_call8_v6 : Ref sig .tc := ⟨.hbm, 266, rfl⟩
abbrev main_call8_v7 : Ref sig .tc := ⟨.hbm, 267, rfl⟩
abbrev main_call8_v8 : Ref sig .tc := ⟨.hbm, 268, rfl⟩
abbrev main_call8_v9 : Ref sig .tc := ⟨.hbm, 269, rfl⟩
abbrev main_call8_v10 : Ref sig .tc := ⟨.hbm, 270, rfl⟩
abbrev main_call8_v11 : Ref sig .tc := ⟨.hbm, 271, rfl⟩
abbrev main_call8_c_3 : Ref sig .tc := ⟨.hbm, 272, rfl⟩
abbrev main_call8_v12 : Ref sig .tc := ⟨.hbm, 273, rfl⟩
abbrev main_call8_v13 : Ref sig .tc := ⟨.hbm, 274, rfl⟩
abbrev main_call8_cst : Ref sig .tc := ⟨.hbm, 275, rfl⟩
abbrev main_call8_v14 : Ref sig .tc := ⟨.hbm, 276, rfl⟩
abbrev main_v134 : Ref sig .tc := ⟨.hbm, 277, rfl⟩
abbrev main_v135 : Ref sig .tc := ⟨.hbm, 278, rfl⟩
abbrev main_v136 : Ref sig .tc := ⟨.hbm, 279, rfl⟩
abbrev main_v137 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_c_37 : Ref sig .tc := ⟨.hbm, 284, rfl⟩
abbrev main_v141 : Ref sig .tc := ⟨.hbm, 285, rfl⟩
abbrev main_v142 : Ref sig .tc := ⟨.hbm, 286, rfl⟩
abbrev main_c_38 : Ref sig .tc := ⟨.hbm, 287, rfl⟩
abbrev main_v143 : Ref sig .tc := ⟨.hbm, 288, rfl⟩
abbrev main_v144 : Ref sig .tc := ⟨.hbm, 289, rfl⟩
abbrev main_v145 : Ref sig .tc := ⟨.hbm, 290, rfl⟩
abbrev main_c_39 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_c_40 : Ref sig .tc := ⟨.hbm, 295, rfl⟩
abbrev main_v149 : Ref sig .tc := ⟨.hbm, 296, rfl⟩
abbrev main_v150 : Ref sig .tc := ⟨.hbm, 297, rfl⟩
abbrev main_v151 : Ref sig .tc := ⟨.hbm, 298, rfl⟩
abbrev main_c_41 : Ref sig .tc := ⟨.hbm, 299, rfl⟩
abbrev main_c_42 : Ref sig .tc := ⟨.hbm, 300, rfl⟩
abbrev main_call9_v0 : Ref sig .tc := ⟨.hbm, 301, rfl⟩
abbrev main_call9_v1 : Ref sig .tc := ⟨.hbm, 302, rfl⟩
abbrev main_call9_v2 : Ref sig .tc := ⟨.hbm, 303, rfl⟩
abbrev main_call9_v3 : Ref sig .tc := ⟨.hbm, 304, rfl⟩
abbrev main_call9_v4 : Ref sig .tc := ⟨.hbm, 305, rfl⟩
abbrev main_v152 : Ref sig .tc := ⟨.hbm, 306, rfl⟩
abbrev main_c_43 : Ref sig .tc := ⟨.hbm, 307, rfl⟩
abbrev main_c_44 : Ref sig .tc := ⟨.hbm, 308, rfl⟩
abbrev main_call10_v0 : Ref sig .tc := ⟨.hbm, 309, rfl⟩
abbrev main_call10_v1 : Ref sig .tc := ⟨.hbm, 310, rfl⟩
abbrev main_call10_v2 : Ref sig .tc := ⟨.hbm, 311, rfl⟩
abbrev main_call10_v3 : Ref sig .tc := ⟨.hbm, 312, rfl⟩
abbrev main_call10_v4 : Ref sig .tc := ⟨.hbm, 313, rfl⟩
abbrev main_v153 : Ref sig .tc := ⟨.hbm, 314, rfl⟩
abbrev main_c_45 : Ref sig .tc := ⟨.hbm, 315, rfl⟩
abbrev main_v154 : Ref sig .tc := ⟨.hbm, 316, rfl⟩
abbrev main_v155 : Ref sig .tc := ⟨.hbm, 317, rfl⟩
abbrev main_v156 : Ref sig .tc := ⟨.hbm, 318, rfl⟩
abbrev main_v157 : Ref sig .tc := ⟨.hbm, 319, rfl⟩
abbrev main_v158 : Ref sig .tc := ⟨.hbm, 320, rfl⟩
abbrev main_v159 : Ref sig .tc := ⟨.hbm, 321, rfl⟩
abbrev main_v160 : Ref sig .tc := ⟨.hbm, 322, rfl⟩
abbrev main_call11_c : Ref sig .tc := ⟨.hbm, 323, rfl⟩
abbrev main_call11_v0 : Ref sig .tc := ⟨.hbm, 324, rfl⟩
abbrev main_call11_v1 : Ref sig .tc := ⟨.hbm, 325, rfl⟩
abbrev main_call11_c_0 : Ref sig .tc := ⟨.hbm, 326, rfl⟩
abbrev main_call11_v2 : Ref sig .tc := ⟨.hbm, 327, rfl⟩
abbrev main_call11_v3 : Ref sig .tc := ⟨.hbm, 328, rfl⟩
abbrev main_call11_v4 : Ref sig .tc := ⟨.hbm, 329, rfl⟩
abbrev main_call11_v5 : Ref sig .tc := ⟨.hbm, 330, rfl⟩
abbrev main_call11_c_1 : Ref sig .tc := ⟨.hbm, 331, rfl⟩
abbrev main_call11_c_2 : Ref sig .tc := ⟨.hbm, 332, rfl⟩
abbrev main_call11_v6 : Ref sig .tc := ⟨.hbm, 333, rfl⟩
abbrev main_call11_v7 : Ref sig .tc := ⟨.hbm, 334, rfl⟩
abbrev main_call11_v8 : Ref sig .tc := ⟨.hbm, 335, rfl⟩
abbrev main_call11_v9 : Ref sig .tc := ⟨.hbm, 336, rfl⟩
abbrev main_call11_v10 : Ref sig .tc := ⟨.hbm, 337, rfl⟩
abbrev main_call11_v11 : Ref sig .tc := ⟨.hbm, 338, rfl⟩
abbrev main_call11_c_3 : Ref sig .tc := ⟨.hbm, 339, rfl⟩
abbrev main_call11_v12 : Ref sig .tc := ⟨.hbm, 340, rfl⟩
abbrev main_call11_v13 : Ref sig .tc := ⟨.hbm, 341, rfl⟩
abbrev main_call11_cst : Ref sig .tc := ⟨.hbm, 342, rfl⟩
abbrev main_call11_v14 : Ref sig .tc := ⟨.hbm, 343, rfl⟩
abbrev main_v161 : Ref sig .tc := ⟨.hbm, 344, rfl⟩
abbrev main_v162 : Ref sig .tc := ⟨.hbm, 345, rfl⟩
abbrev main_v163 : Ref sig .tc := ⟨.hbm, 346, rfl⟩
abbrev main_v164 : Ref sig .tc := ⟨.hbm, 347, rfl⟩
abbrev main_v165 : Ref sig .tc := ⟨.hbm, 348, rfl⟩
abbrev main_v166 : Ref sig .tc := ⟨.hbm, 349, rfl⟩
abbrev main_v167 : Ref sig .tc := ⟨.hbm, 350, rfl⟩
abbrev main_v168 : Ref sig .tc := ⟨.hbm, 351, rfl⟩
abbrev main_v169 : Ref sig .tc := ⟨.hbm, 352, rfl⟩
abbrev main_v170 : Ref sig .tc := ⟨.hbm, 353, rfl⟩
abbrev main_v171 : Ref sig .tc := ⟨.hbm, 354, rfl⟩
abbrev main_v172 : Ref sig .tc := ⟨.hbm, 355, rfl⟩
abbrev main_v173 : Ref sig .tc := ⟨.hbm, 356, rfl⟩
abbrev main_v174 : Ref sig .tc := ⟨.hbm, 357, rfl⟩
abbrev main_v175 : Ref sig .tc := ⟨.hbm, 358, rfl⟩
abbrev main_v176 : Ref sig .tc := ⟨.hbm, 359, rfl⟩
abbrev main_v177 : Ref sig .tc := ⟨.hbm, 360, rfl⟩
abbrev main_v178 : Ref sig .tc := ⟨.hbm, 361, rfl⟩
abbrev main_v179 : Ref sig .tc := ⟨.hbm, 362, rfl⟩
abbrev main_v180 : Ref sig .tc := ⟨.hbm, 363, rfl⟩
abbrev main_v181 : Ref sig .tc := ⟨.hbm, 364, rfl⟩
abbrev main_v182 : Ref sig .tc := ⟨.hbm, 365, rfl⟩
abbrev main_v183 : Ref sig .tc := ⟨.hbm, 366, rfl⟩
abbrev main_v184 : Ref sig .tc := ⟨.hbm, 367, rfl⟩
abbrev main_v185 : Ref sig .tc := ⟨.hbm, 368, rfl⟩
abbrev main_v186 : Ref sig .tc := ⟨.hbm, 369, rfl⟩
abbrev main_cst_46 : Ref sig .tc := ⟨.hbm, 370, rfl⟩
abbrev main_v187 : Ref sig .tc := ⟨.hbm, 371, rfl⟩
abbrev main_v188 : Ref sig .tc := ⟨.hbm, 372, rfl⟩
abbrev main_cst_47 : Ref sig .tc := ⟨.hbm, 373, rfl⟩
abbrev main_v189 : Ref sig .tc := ⟨.hbm, 374, rfl⟩
abbrev main_v190 : Ref sig .tc := ⟨.hbm, 375, rfl⟩
abbrev main_v191 : Ref sig .tc := ⟨.hbm, 376, rfl⟩
abbrev main_cst_48 : Ref sig .tc := ⟨.hbm, 377, rfl⟩
abbrev main_v192 : Ref sig .tc := ⟨.hbm, 378, rfl⟩
abbrev main_v193 : Ref sig .tc := ⟨.hbm, 379, rfl⟩
abbrev main_v194 : Ref sig .tc := ⟨.hbm, 380, rfl⟩
abbrev main_cst_49 : Ref sig .tc := ⟨.hbm, 381, rfl⟩
abbrev main_v195 : Ref sig .tc := ⟨.hbm, 382, rfl⟩
abbrev main_v196 : Ref sig .tc := ⟨.hbm, 383, rfl⟩
abbrev main_v197 : Ref sig .tc := ⟨.hbm, 384, rfl⟩
abbrev main_v198 : Ref sig .tc := ⟨.hbm, 385, rfl⟩
abbrev main_v199 : Ref sig .tc := ⟨.hbm, 386, rfl⟩
abbrev main_v200 : Ref sig .tc := ⟨.hbm, 387, rfl⟩
abbrev main_v201 : Ref sig .tc := ⟨.hbm, 388, rfl⟩
abbrev main_v202 : Ref sig .tc := ⟨.hbm, 389, rfl⟩
abbrev main_v203 : Ref sig .tc := ⟨.hbm, 390, rfl⟩
abbrev main_v204 : Ref sig .tc := ⟨.hbm, 391, rfl⟩
abbrev main_v205 : Ref sig .tc := ⟨.hbm, 392, rfl⟩
abbrev main_v206 : Ref sig .tc := ⟨.hbm, 393, rfl⟩
abbrev main_cst_50 : Ref sig .tc := ⟨.hbm, 394, rfl⟩
abbrev main_v207 : Ref sig .tc := ⟨.hbm, 395, rfl⟩
abbrev main_v208 : Ref sig .tc := ⟨.hbm, 396, rfl⟩
abbrev main_v209 : Ref sig .tc := ⟨.hbm, 397, rfl⟩
abbrev main_v210 : Ref sig .tc := ⟨.hbm, 398, rfl⟩
abbrev main_v211 : Ref sig .tc := ⟨.hbm, 399, rfl⟩
abbrev main_v212 : Ref sig .tc := ⟨.hbm, 400, rfl⟩
abbrev main_v213 : Ref sig .tc := ⟨.hbm, 401, rfl⟩
abbrev main_v214 : Ref sig .tc := ⟨.hbm, 402, rfl⟩
abbrev main_cst_51 : Ref sig .tc := ⟨.hbm, 403, rfl⟩
abbrev main_v215 : Ref sig .tc := ⟨.hbm, 404, rfl⟩
abbrev main_v216 : Ref sig .tc := ⟨.hbm, 405, rfl⟩
abbrev main_cst_52 : Ref sig .tc := ⟨.hbm, 406, rfl⟩
abbrev main_v217 : Ref sig .tc := ⟨.hbm, 407, rfl⟩
abbrev main_v218 : Ref sig .tc := ⟨.hbm, 408, rfl⟩
abbrev main_v219 : Ref sig .tc := ⟨.hbm, 409, rfl⟩
abbrev main_v220 : Ref sig .tc := ⟨.hbm, 410, rfl⟩
abbrev main_cst_53 : Ref sig .tc := ⟨.hbm, 411, rfl⟩
abbrev main_v221 : Ref sig .tc := ⟨.hbm, 412, rfl⟩
abbrev main_v222 : Ref sig .tc := ⟨.hbm, 413, rfl⟩
abbrev main_cst_54 : Ref sig .tc := ⟨.hbm, 414, rfl⟩
abbrev main_v223 : Ref sig .tc := ⟨.hbm, 415, rfl⟩
abbrev main_v224 : Ref sig .tc := ⟨.hbm, 416, rfl⟩
abbrev main_v225 : Ref sig .tc := ⟨.hbm, 417, rfl⟩
abbrev main_v226 : Ref sig .tc := ⟨.hbm, 418, rfl⟩
abbrev main_v227 : Ref sig .tc := ⟨.hbm, 419, rfl⟩
abbrev main_v228 : Ref sig .tc := ⟨.hbm, 420, rfl⟩
abbrev main_cst_55 : Ref sig .tc := ⟨.hbm, 421, rfl⟩
abbrev main_v229 : Ref sig .tc := ⟨.hbm, 422, rfl⟩
abbrev main_v230 : Ref sig .tc := ⟨.hbm, 423, rfl⟩
abbrev main_cst_56 : Ref sig .tc := ⟨.hbm, 424, rfl⟩
abbrev main_v231 : Ref sig .tc := ⟨.hbm, 425, rfl⟩
abbrev main_v232 : Ref sig .tc := ⟨.hbm, 426, rfl⟩
abbrev main_v233 : Ref sig .tc := ⟨.hbm, 427, rfl⟩
abbrev main_v234 : Ref sig .tc := ⟨.hbm, 428, rfl⟩
abbrev main_c_57 : Ref sig .tc := ⟨.hbm, 429, rfl⟩
abbrev main_v235 : Ref sig .tc := ⟨.hbm, 430, rfl⟩
abbrev main_v236 : Ref sig .tc := ⟨.hbm, 431, rfl⟩
abbrev main_c_58 : Ref sig .tc := ⟨.hbm, 432, rfl⟩
abbrev main_v237 : Ref sig .tc := ⟨.hbm, 433, rfl⟩
abbrev main_v238 : Ref sig .tc := ⟨.hbm, 434, rfl⟩
abbrev main_v239 : Ref sig .tc := ⟨.hbm, 435, rfl⟩
abbrev main_v240 : Ref sig .tc := ⟨.hbm, 436, rfl⟩
abbrev main_c_59 : Ref sig .tc := ⟨.hbm, 437, rfl⟩
abbrev main_v241 : Ref sig .tc := ⟨.hbm, 438, rfl⟩
abbrev main_v242 : Ref sig .tc := ⟨.hbm, 439, rfl⟩
abbrev main_c_60 : Ref sig .tc := ⟨.hbm, 440, rfl⟩
abbrev main_v243 : Ref sig .tc := ⟨.hbm, 441, rfl⟩
abbrev main_v244 : Ref sig .tc := ⟨.hbm, 442, rfl⟩
abbrev main_v245 : Ref sig .tc := ⟨.hbm, 443, rfl⟩
abbrev main_c_61 : Ref sig .tc := ⟨.hbm, 444, rfl⟩
abbrev main_v246 : Ref sig .tc := ⟨.hbm, 445, rfl⟩
abbrev main_v247 : Ref sig .tc := ⟨.hbm, 446, rfl⟩
abbrev main_v248 : Ref sig .tc := ⟨.hbm, 447, rfl⟩
abbrev main_c_62 : Ref sig .tc := ⟨.hbm, 448, rfl⟩
abbrev main_v249 : Ref sig .tc := ⟨.hbm, 449, rfl⟩
abbrev main_v250 : Ref sig .tc := ⟨.hbm, 450, rfl⟩
abbrev main_v251 : Ref sig .tc := ⟨.hbm, 451, rfl⟩
abbrev main_c_63 : Ref sig .tc := ⟨.hbm, 452, rfl⟩
abbrev main_c_64 : Ref sig .tc := ⟨.hbm, 453, rfl⟩
abbrev main_call12_v0 : Ref sig .tc := ⟨.hbm, 454, rfl⟩
abbrev main_call12_v1 : Ref sig .tc := ⟨.hbm, 455, rfl⟩
abbrev main_call12_v2 : Ref sig .tc := ⟨.hbm, 456, rfl⟩
abbrev main_call12_v3 : Ref sig .tc := ⟨.hbm, 457, rfl⟩
abbrev main_call12_v4 : Ref sig .tc := ⟨.hbm, 458, rfl⟩
abbrev main_v252 : Ref sig .tc := ⟨.hbm, 459, rfl⟩
abbrev main_c_65 : Ref sig .tc := ⟨.hbm, 460, rfl⟩
abbrev main_c_66 : Ref sig .tc := ⟨.hbm, 461, rfl⟩
abbrev main_call13_v0 : Ref sig .tc := ⟨.hbm, 462, rfl⟩
abbrev main_call13_v1 : Ref sig .tc := ⟨.hbm, 463, rfl⟩
abbrev main_call13_v2 : Ref sig .tc := ⟨.hbm, 464, rfl⟩
abbrev main_call13_v3 : Ref sig .tc := ⟨.hbm, 465, rfl⟩
abbrev main_call13_v4 : Ref sig .tc := ⟨.hbm, 466, rfl⟩
abbrev main_v253 : Ref sig .tc := ⟨.hbm, 467, rfl⟩
abbrev main_c_67 : Ref sig .tc := ⟨.hbm, 468, rfl⟩
abbrev main_v254 : Ref sig .tc := ⟨.hbm, 469, rfl⟩
abbrev main_v255 : Ref sig .tc := ⟨.hbm, 470, rfl⟩
abbrev main_v256 : Ref sig .tc := ⟨.hbm, 471, rfl⟩
abbrev main_v257 : Ref sig .tc := ⟨.hbm, 472, rfl⟩
abbrev main_v258 : Ref sig .tc := ⟨.hbm, 473, rfl⟩
abbrev main_v259 : Ref sig .tc := ⟨.hbm, 474, rfl⟩
abbrev main_v260 : Ref sig .tc := ⟨.hbm, 475, rfl⟩
abbrev main_call14_c : Ref sig .tc := ⟨.hbm, 476, rfl⟩
abbrev main_call14_v0 : Ref sig .tc := ⟨.hbm, 477, rfl⟩
abbrev main_call14_v1 : Ref sig .tc := ⟨.hbm, 478, rfl⟩
abbrev main_call14_c_0 : Ref sig .tc := ⟨.hbm, 479, rfl⟩
abbrev main_call14_v2 : Ref sig .tc := ⟨.hbm, 480, rfl⟩
abbrev main_call14_v3 : Ref sig .tc := ⟨.hbm, 481, rfl⟩
abbrev main_call14_v4 : Ref sig .tc := ⟨.hbm, 482, rfl⟩
abbrev main_call14_v5 : Ref sig .tc := ⟨.hbm, 483, rfl⟩
abbrev main_call14_c_1 : Ref sig .tc := ⟨.hbm, 484, rfl⟩
abbrev main_call14_c_2 : Ref sig .tc := ⟨.hbm, 485, rfl⟩
abbrev main_call14_v6 : Ref sig .tc := ⟨.hbm, 486, rfl⟩
abbrev main_call14_v7 : Ref sig .tc := ⟨.hbm, 487, rfl⟩
abbrev main_call14_v8 : Ref sig .tc := ⟨.hbm, 488, rfl⟩
abbrev main_call14_v9 : Ref sig .tc := ⟨.hbm, 489, rfl⟩
abbrev main_call14_v10 : Ref sig .tc := ⟨.hbm, 490, rfl⟩
abbrev main_call14_v11 : Ref sig .tc := ⟨.hbm, 491, rfl⟩
abbrev main_call14_c_3 : Ref sig .tc := ⟨.hbm, 492, rfl⟩
abbrev main_call14_v12 : Ref sig .tc := ⟨.hbm, 493, rfl⟩
abbrev main_call14_v13 : Ref sig .tc := ⟨.hbm, 494, rfl⟩
abbrev main_call14_cst : Ref sig .tc := ⟨.hbm, 495, rfl⟩
abbrev main_call14_v14 : Ref sig .tc := ⟨.hbm, 496, rfl⟩
abbrev main_v261 : Ref sig .tc := ⟨.hbm, 497, rfl⟩
abbrev main_v262 : Ref sig .tc := ⟨.hbm, 498, rfl⟩
abbrev main_v263 : Ref sig .tc := ⟨.hbm, 499, rfl⟩
abbrev main_v264 : Ref sig .tc := ⟨.hbm, 500, rfl⟩
abbrev main_v265 : Ref sig .tc := ⟨.hbm, 501, rfl⟩
abbrev main_v266 : Ref sig .tc := ⟨.hbm, 502, rfl⟩
abbrev main_v267 : Ref sig .tc := ⟨.hbm, 503, rfl⟩
abbrev main_c_68 : Ref sig .tc := ⟨.hbm, 504, rfl⟩
abbrev main_v268 : Ref sig .tc := ⟨.hbm, 505, rfl⟩
abbrev main_v269 : Ref sig .tc := ⟨.hbm, 506, rfl⟩
abbrev main_c_69 : Ref sig .tc := ⟨.hbm, 507, rfl⟩
abbrev main_v270 : Ref sig .tc := ⟨.hbm, 508, rfl⟩
abbrev main_v271 : Ref sig .tc := ⟨.hbm, 509, rfl⟩
abbrev main_v272 : Ref sig .tc := ⟨.hbm, 510, rfl⟩
abbrev main_c_70 : Ref sig .tc := ⟨.hbm, 511, rfl⟩
abbrev main_v273 : Ref sig .tc := ⟨.hbm, 512, rfl⟩
abbrev main_v274 : Ref sig .tc := ⟨.hbm, 513, rfl⟩
abbrev main_v275 : Ref sig .tc := ⟨.hbm, 514, rfl⟩
abbrev main_c_71 : Ref sig .tc := ⟨.hbm, 515, rfl⟩
abbrev main_v276 : Ref sig .tc := ⟨.hbm, 516, rfl⟩
abbrev main_v277 : Ref sig .tc := ⟨.hbm, 517, rfl⟩
abbrev main_v278 : Ref sig .tc := ⟨.hbm, 518, rfl⟩
abbrev main_c_72 : Ref sig .tc := ⟨.hbm, 519, rfl⟩
abbrev main_c_73 : Ref sig .tc := ⟨.hbm, 520, rfl⟩
abbrev main_call15_v0 : Ref sig .tc := ⟨.hbm, 521, rfl⟩
abbrev main_call15_v1 : Ref sig .tc := ⟨.hbm, 522, rfl⟩
abbrev main_call15_v2 : Ref sig .tc := ⟨.hbm, 523, rfl⟩
abbrev main_call15_v3 : Ref sig .tc := ⟨.hbm, 524, rfl⟩
abbrev main_call15_v4 : Ref sig .tc := ⟨.hbm, 525, rfl⟩
abbrev main_v279 : Ref sig .tc := ⟨.hbm, 526, rfl⟩
abbrev main_c_74 : Ref sig .tc := ⟨.hbm, 527, rfl⟩
abbrev main_c_75 : Ref sig .tc := ⟨.hbm, 528, rfl⟩
abbrev main_call16_v0 : Ref sig .tc := ⟨.hbm, 529, rfl⟩
abbrev main_call16_v1 : Ref sig .tc := ⟨.hbm, 530, rfl⟩
abbrev main_call16_v2 : Ref sig .tc := ⟨.hbm, 531, rfl⟩
abbrev main_call16_v3 : Ref sig .tc := ⟨.hbm, 532, rfl⟩
abbrev main_call16_v4 : Ref sig .tc := ⟨.hbm, 533, rfl⟩
abbrev main_v280 : Ref sig .tc := ⟨.hbm, 534, rfl⟩
abbrev main_c_76 : Ref sig .tc := ⟨.hbm, 535, rfl⟩
abbrev main_v281 : Ref sig .tc := ⟨.hbm, 536, rfl⟩
abbrev main_v282 : Ref sig .tc := ⟨.hbm, 537, rfl⟩
abbrev main_v283 : Ref sig .tc := ⟨.hbm, 538, rfl⟩
abbrev main_v284 : Ref sig .tc := ⟨.hbm, 539, rfl⟩
abbrev main_v285 : Ref sig .tc := ⟨.hbm, 540, rfl⟩
abbrev main_v286 : Ref sig .tc := ⟨.hbm, 541, rfl⟩
abbrev main_v287 : Ref sig .tc := ⟨.hbm, 542, rfl⟩
abbrev main_call17_c : Ref sig .tc := ⟨.hbm, 543, rfl⟩
abbrev main_call17_v0 : Ref sig .tc := ⟨.hbm, 544, rfl⟩
abbrev main_call17_v1 : Ref sig .tc := ⟨.hbm, 545, rfl⟩
abbrev main_call17_c_0 : Ref sig .tc := ⟨.hbm, 546, rfl⟩
abbrev main_call17_v2 : Ref sig .tc := ⟨.hbm, 547, rfl⟩
abbrev main_call17_v3 : Ref sig .tc := ⟨.hbm, 548, rfl⟩
abbrev main_call17_v4 : Ref sig .tc := ⟨.hbm, 549, rfl⟩
abbrev main_call17_v5 : Ref sig .tc := ⟨.hbm, 550, rfl⟩
abbrev main_call17_c_1 : Ref sig .tc := ⟨.hbm, 551, rfl⟩
abbrev main_call17_c_2 : Ref sig .tc := ⟨.hbm, 552, rfl⟩
abbrev main_call17_v6 : Ref sig .tc := ⟨.hbm, 553, rfl⟩
abbrev main_call17_v7 : Ref sig .tc := ⟨.hbm, 554, rfl⟩
abbrev main_call17_v8 : Ref sig .tc := ⟨.hbm, 555, rfl⟩
abbrev main_call17_v9 : Ref sig .tc := ⟨.hbm, 556, rfl⟩
abbrev main_call17_v10 : Ref sig .tc := ⟨.hbm, 557, rfl⟩
abbrev main_call17_v11 : Ref sig .tc := ⟨.hbm, 558, rfl⟩
abbrev main_call17_c_3 : Ref sig .tc := ⟨.hbm, 559, rfl⟩
abbrev main_call17_v12 : Ref sig .tc := ⟨.hbm, 560, rfl⟩
abbrev main_call17_v13 : Ref sig .tc := ⟨.hbm, 561, rfl⟩
abbrev main_call17_cst : Ref sig .tc := ⟨.hbm, 562, rfl⟩
abbrev main_call17_v14 : Ref sig .tc := ⟨.hbm, 563, rfl⟩
abbrev main_v288 : Ref sig .tc := ⟨.hbm, 564, rfl⟩
abbrev main_v289 : Ref sig .tc := ⟨.hbm, 565, rfl⟩
abbrev main_v290 : Ref sig .tc := ⟨.hbm, 566, rfl⟩
abbrev main_v291 : Ref sig .tc := ⟨.hbm, 567, rfl⟩
abbrev main_v292 : Ref sig .tc := ⟨.hbm, 568, rfl⟩
abbrev main_v293 : Ref sig .tc := ⟨.hbm, 569, rfl⟩
abbrev main_v294 : Ref sig .tc := ⟨.hbm, 570, rfl⟩
abbrev main_c_77 : Ref sig .tc := ⟨.hbm, 571, rfl⟩
abbrev main_v295 : Ref sig .tc := ⟨.hbm, 572, rfl⟩
abbrev main_v296 : Ref sig .tc := ⟨.hbm, 573, rfl⟩
abbrev main_c_78 : Ref sig .tc := ⟨.hbm, 574, rfl⟩
abbrev main_v297 : Ref sig .tc := ⟨.hbm, 575, rfl⟩
abbrev main_v298 : Ref sig .tc := ⟨.hbm, 576, rfl⟩
abbrev main_v299 : Ref sig .tc := ⟨.hbm, 577, rfl⟩
abbrev main_c_79 : Ref sig .tc := ⟨.hbm, 578, rfl⟩
abbrev main_v300 : Ref sig .tc := ⟨.hbm, 579, rfl⟩
abbrev main_v301 : Ref sig .tc := ⟨.hbm, 580, rfl⟩
abbrev main_v302 : Ref sig .tc := ⟨.hbm, 581, rfl⟩
abbrev main_c_80 : Ref sig .tc := ⟨.hbm, 582, rfl⟩
abbrev main_v303 : Ref sig .tc := ⟨.hbm, 583, rfl⟩
abbrev main_v304 : Ref sig .tc := ⟨.hbm, 584, rfl⟩
abbrev main_v305 : Ref sig .tc := ⟨.hbm, 585, rfl⟩
abbrev main_c_81 : Ref sig .tc := ⟨.hbm, 586, rfl⟩
abbrev main_c_82 : Ref sig .tc := ⟨.hbm, 587, rfl⟩
abbrev main_call18_v0 : Ref sig .tc := ⟨.hbm, 588, rfl⟩
abbrev main_call18_v1 : Ref sig .tc := ⟨.hbm, 589, rfl⟩
abbrev main_call18_v2 : Ref sig .tc := ⟨.hbm, 590, rfl⟩
abbrev main_call18_v3 : Ref sig .tc := ⟨.hbm, 591, rfl⟩
abbrev main_call18_v4 : Ref sig .tc := ⟨.hbm, 592, rfl⟩
abbrev main_v306 : Ref sig .tc := ⟨.hbm, 593, rfl⟩
abbrev main_c_83 : Ref sig .tc := ⟨.hbm, 594, rfl⟩
abbrev main_c_84 : Ref sig .tc := ⟨.hbm, 595, rfl⟩
abbrev main_call19_v0 : Ref sig .tc := ⟨.hbm, 596, rfl⟩
abbrev main_call19_v1 : Ref sig .tc := ⟨.hbm, 597, rfl⟩
abbrev main_call19_v2 : Ref sig .tc := ⟨.hbm, 598, rfl⟩
abbrev main_call19_v3 : Ref sig .tc := ⟨.hbm, 599, rfl⟩
abbrev main_call19_v4 : Ref sig .tc := ⟨.hbm, 600, rfl⟩
abbrev main_v307 : Ref sig .tc := ⟨.hbm, 601, rfl⟩
abbrev main_c_85 : Ref sig .tc := ⟨.hbm, 602, rfl⟩
abbrev main_v308 : Ref sig .tc := ⟨.hbm, 603, rfl⟩
abbrev main_v309 : Ref sig .tc := ⟨.hbm, 604, rfl⟩
abbrev main_v310 : Ref sig .tc := ⟨.hbm, 605, rfl⟩
abbrev main_v311 : Ref sig .tc := ⟨.hbm, 606, rfl⟩
abbrev main_v312 : Ref sig .tc := ⟨.hbm, 607, rfl⟩
abbrev main_v313 : Ref sig .tc := ⟨.hbm, 608, rfl⟩
abbrev main_v314 : Ref sig .tc := ⟨.hbm, 609, rfl⟩
abbrev main_call20_c : Ref sig .tc := ⟨.hbm, 610, rfl⟩
abbrev main_call20_v0 : Ref sig .tc := ⟨.hbm, 611, rfl⟩
abbrev main_call20_v1 : Ref sig .tc := ⟨.hbm, 612, rfl⟩
abbrev main_call20_c_0 : Ref sig .tc := ⟨.hbm, 613, rfl⟩
abbrev main_call20_v2 : Ref sig .tc := ⟨.hbm, 614, rfl⟩
abbrev main_call20_v3 : Ref sig .tc := ⟨.hbm, 615, rfl⟩
abbrev main_call20_v4 : Ref sig .tc := ⟨.hbm, 616, rfl⟩
abbrev main_call20_v5 : Ref sig .tc := ⟨.hbm, 617, rfl⟩
abbrev main_call20_c_1 : Ref sig .tc := ⟨.hbm, 618, rfl⟩
abbrev main_call20_c_2 : Ref sig .tc := ⟨.hbm, 619, rfl⟩
abbrev main_call20_v6 : Ref sig .tc := ⟨.hbm, 620, rfl⟩
abbrev main_call20_v7 : Ref sig .tc := ⟨.hbm, 621, rfl⟩
abbrev main_call20_v8 : Ref sig .tc := ⟨.hbm, 622, rfl⟩
abbrev main_call20_v9 : Ref sig .tc := ⟨.hbm, 623, rfl⟩
abbrev main_call20_v10 : Ref sig .tc := ⟨.hbm, 624, rfl⟩
abbrev main_call20_v11 : Ref sig .tc := ⟨.hbm, 625, rfl⟩
abbrev main_call20_c_3 : Ref sig .tc := ⟨.hbm, 626, rfl⟩
abbrev main_call20_v12 : Ref sig .tc := ⟨.hbm, 627, rfl⟩
abbrev main_call20_v13 : Ref sig .tc := ⟨.hbm, 628, rfl⟩
abbrev main_call20_cst : Ref sig .tc := ⟨.hbm, 629, rfl⟩
abbrev main_call20_v14 : Ref sig .tc := ⟨.hbm, 630, rfl⟩
abbrev main_v315 : Ref sig .tc := ⟨.hbm, 631, rfl⟩
abbrev main_v316 : Ref sig .tc := ⟨.hbm, 632, rfl⟩
abbrev main_v317 : Ref sig .tc := ⟨.hbm, 633, rfl⟩
abbrev main_v318 : Ref sig .tc := ⟨.hbm, 634, rfl⟩
abbrev main_v319 : Ref sig .tc := ⟨.hbm, 635, rfl⟩
abbrev main_v320 : Ref sig .tc := ⟨.hbm, 636, rfl⟩
abbrev main_v321 : Ref sig .tc := ⟨.hbm, 637, rfl⟩
abbrev main_c_86 : Ref sig .tc := ⟨.hbm, 638, rfl⟩
abbrev main_v322 : Ref sig .tc := ⟨.hbm, 639, rfl⟩
abbrev main_v323 : Ref sig .tc := ⟨.hbm, 640, rfl⟩
abbrev main_c_87 : Ref sig .tc := ⟨.hbm, 641, rfl⟩
abbrev main_v324 : Ref sig .tc := ⟨.hbm, 642, rfl⟩
abbrev main_v325 : Ref sig .tc := ⟨.hbm, 643, rfl⟩
abbrev main_v326 : Ref sig .tc := ⟨.hbm, 644, rfl⟩
abbrev main_c_88 : Ref sig .tc := ⟨.hbm, 645, rfl⟩
abbrev main_v327 : Ref sig .tc := ⟨.hbm, 646, rfl⟩
abbrev main_v328 : Ref sig .tc := ⟨.hbm, 647, rfl⟩
abbrev main_v329 : Ref sig .tc := ⟨.hbm, 648, rfl⟩
abbrev main_c_89 : Ref sig .tc := ⟨.hbm, 649, rfl⟩
abbrev main_v330 : Ref sig .tc := ⟨.hbm, 650, rfl⟩
abbrev main_v331 : Ref sig .tc := ⟨.hbm, 651, rfl⟩
abbrev main_v332 : Ref sig .tc := ⟨.hbm, 652, rfl⟩
abbrev main_c_90 : Ref sig .tc := ⟨.hbm, 653, rfl⟩
abbrev main_c_91 : Ref sig .tc := ⟨.hbm, 654, rfl⟩
abbrev main_call21_v0 : Ref sig .tc := ⟨.hbm, 655, rfl⟩
abbrev main_call21_v1 : Ref sig .tc := ⟨.hbm, 656, rfl⟩
abbrev main_call21_v2 : Ref sig .tc := ⟨.hbm, 657, rfl⟩
abbrev main_call21_v3 : Ref sig .tc := ⟨.hbm, 658, rfl⟩
abbrev main_call21_v4 : Ref sig .tc := ⟨.hbm, 659, rfl⟩
abbrev main_v333 : Ref sig .tc := ⟨.hbm, 660, rfl⟩
abbrev main_c_92 : Ref sig .tc := ⟨.hbm, 661, rfl⟩
abbrev main_c_93 : Ref sig .tc := ⟨.hbm, 662, rfl⟩
abbrev main_call22_v0 : Ref sig .tc := ⟨.hbm, 663, rfl⟩
abbrev main_call22_v1 : Ref sig .tc := ⟨.hbm, 664, rfl⟩
abbrev main_call22_v2 : Ref sig .tc := ⟨.hbm, 665, rfl⟩
abbrev main_call22_v3 : Ref sig .tc := ⟨.hbm, 666, rfl⟩
abbrev main_call22_v4 : Ref sig .tc := ⟨.hbm, 667, rfl⟩
abbrev main_v334 : Ref sig .tc := ⟨.hbm, 668, rfl⟩
abbrev main_c_94 : Ref sig .tc := ⟨.hbm, 669, rfl⟩
abbrev main_v335 : Ref sig .tc := ⟨.hbm, 670, rfl⟩
abbrev main_v336 : Ref sig .tc := ⟨.hbm, 671, rfl⟩
abbrev main_v337 : Ref sig .tc := ⟨.hbm, 672, rfl⟩
abbrev main_v338 : Ref sig .tc := ⟨.hbm, 673, rfl⟩
abbrev main_v339 : Ref sig .tc := ⟨.hbm, 674, rfl⟩
abbrev main_v340 : Ref sig .tc := ⟨.hbm, 675, rfl⟩
abbrev main_v341 : Ref sig .tc := ⟨.hbm, 676, rfl⟩
abbrev main_call23_c : Ref sig .tc := ⟨.hbm, 677, rfl⟩
abbrev main_call23_v0 : Ref sig .tc := ⟨.hbm, 678, rfl⟩
abbrev main_call23_v1 : Ref sig .tc := ⟨.hbm, 679, rfl⟩
abbrev main_call23_c_0 : Ref sig .tc := ⟨.hbm, 680, rfl⟩
abbrev main_call23_v2 : Ref sig .tc := ⟨.hbm, 681, rfl⟩
abbrev main_call23_v3 : Ref sig .tc := ⟨.hbm, 682, rfl⟩
abbrev main_call23_v4 : Ref sig .tc := ⟨.hbm, 683, rfl⟩
abbrev main_call23_v5 : Ref sig .tc := ⟨.hbm, 684, rfl⟩
abbrev main_call23_c_1 : Ref sig .tc := ⟨.hbm, 685, rfl⟩
abbrev main_call23_c_2 : Ref sig .tc := ⟨.hbm, 686, rfl⟩
abbrev main_call23_v6 : Ref sig .tc := ⟨.hbm, 687, rfl⟩
abbrev main_call23_v7 : Ref sig .tc := ⟨.hbm, 688, rfl⟩
abbrev main_call23_v8 : Ref sig .tc := ⟨.hbm, 689, rfl⟩
abbrev main_call23_v9 : Ref sig .tc := ⟨.hbm, 690, rfl⟩
abbrev main_call23_v10 : Ref sig .tc := ⟨.hbm, 691, rfl⟩
abbrev main_call23_v11 : Ref sig .tc := ⟨.hbm, 692, rfl⟩
abbrev main_call23_c_3 : Ref sig .tc := ⟨.hbm, 693, rfl⟩
abbrev main_call23_v12 : Ref sig .tc := ⟨.hbm, 694, rfl⟩
abbrev main_call23_v13 : Ref sig .tc := ⟨.hbm, 695, rfl⟩
abbrev main_call23_cst : Ref sig .tc := ⟨.hbm, 696, rfl⟩
abbrev main_call23_v14 : Ref sig .tc := ⟨.hbm, 697, rfl⟩
abbrev main_v342 : Ref sig .tc := ⟨.hbm, 698, rfl⟩
abbrev main_v343 : Ref sig .tc := ⟨.hbm, 699, rfl⟩
abbrev main_v344 : Ref sig .tc := ⟨.hbm, 700, rfl⟩
abbrev main_v345 : Ref sig .tc := ⟨.hbm, 701, rfl⟩
abbrev main_v346 : Ref sig .tc := ⟨.hbm, 702, rfl⟩
abbrev main_v347 : Ref sig .tc := ⟨.hbm, 703, rfl⟩
abbrev main_v348 : Ref sig .tc := ⟨.hbm, 704, rfl⟩
abbrev main_v349 : Ref sig .tc := ⟨.hbm, 705, rfl⟩
abbrev main_v350 : Ref sig .tc := ⟨.hbm, 706, rfl⟩
abbrev main_v351 : Ref sig .tc := ⟨.hbm, 707, rfl⟩
abbrev main_v352 : Ref sig .tc := ⟨.hbm, 708, rfl⟩
abbrev main_v353 : Ref sig .tc := ⟨.hbm, 709, rfl⟩
abbrev main_v354 : Ref sig .tc := ⟨.hbm, 710, rfl⟩
abbrev main_v355 : Ref sig .tc := ⟨.hbm, 711, rfl⟩
abbrev main_v356 : Ref sig .tc := ⟨.hbm, 712, rfl⟩
abbrev main_v357 : Ref sig .tc := ⟨.hbm, 713, rfl⟩
abbrev main_v358 : Ref sig .tc := ⟨.hbm, 714, rfl⟩
abbrev main_v359 : Ref sig .tc := ⟨.hbm, 715, rfl⟩
abbrev main_v360 : Ref sig .tc := ⟨.hbm, 716, rfl⟩
abbrev main_v361 : Ref sig .tc := ⟨.hbm, 717, rfl⟩
abbrev main_v362 : Ref sig .tc := ⟨.hbm, 718, rfl⟩
abbrev main_v363 : Ref sig .tc := ⟨.hbm, 719, rfl⟩
abbrev main_v364 : Ref sig .tc := ⟨.hbm, 720, rfl⟩
abbrev main_v365 : Ref sig .tc := ⟨.hbm, 721, rfl⟩
abbrev main_v366 : Ref sig .tc := ⟨.hbm, 722, rfl⟩
abbrev main_v367 : Ref sig .tc := ⟨.hbm, 723, rfl⟩
abbrev main_cst_95 : Ref sig .tc := ⟨.hbm, 724, rfl⟩
abbrev main_v368 : Ref sig .tc := ⟨.hbm, 725, rfl⟩
abbrev main_v369 : Ref sig .tc := ⟨.hbm, 726, rfl⟩
abbrev main_cst_96 : Ref sig .tc := ⟨.hbm, 727, rfl⟩
abbrev main_v370 : Ref sig .tc := ⟨.hbm, 728, rfl⟩
abbrev main_v371 : Ref sig .tc := ⟨.hbm, 729, rfl⟩
abbrev main_v372 : Ref sig .tc := ⟨.hbm, 730, rfl⟩
abbrev main_cst_97 : Ref sig .tc := ⟨.hbm, 731, rfl⟩
abbrev main_v373 : Ref sig .tc := ⟨.hbm, 732, rfl⟩
abbrev main_v374 : Ref sig .tc := ⟨.hbm, 733, rfl⟩
abbrev main_v375 : Ref sig .tc := ⟨.hbm, 734, rfl⟩
abbrev main_cst_98 : Ref sig .tc := ⟨.hbm, 735, rfl⟩
abbrev main_v376 : Ref sig .tc := ⟨.hbm, 736, rfl⟩
abbrev main_v377 : Ref sig .tc := ⟨.hbm, 737, rfl⟩
abbrev main_v378 : Ref sig .tc := ⟨.hbm, 738, rfl⟩
abbrev main_v379 : Ref sig .tc := ⟨.hbm, 739, rfl⟩
abbrev main_v380 : Ref sig .tc := ⟨.hbm, 740, rfl⟩
abbrev main_v381 : Ref sig .tc := ⟨.hbm, 741, rfl⟩
abbrev main_v382 : Ref sig .tc := ⟨.hbm, 742, rfl⟩
abbrev main_v383 : Ref sig .tc := ⟨.hbm, 743, rfl⟩
abbrev main_v384 : Ref sig .tc := ⟨.hbm, 744, rfl⟩
abbrev main_v385 : Ref sig .tc := ⟨.hbm, 745, rfl⟩
abbrev main_v386 : Ref sig .tc := ⟨.hbm, 746, rfl⟩
abbrev main_v387 : Ref sig .tc := ⟨.hbm, 747, rfl⟩
abbrev main_cst_99 : Ref sig .tc := ⟨.hbm, 748, rfl⟩
abbrev main_v388 : Ref sig .tc := ⟨.hbm, 749, rfl⟩
abbrev main_v389 : Ref sig .tc := ⟨.hbm, 750, rfl⟩
abbrev main_v390 : Ref sig .tc := ⟨.hbm, 751, rfl⟩
abbrev main_v391 : Ref sig .tc := ⟨.hbm, 752, rfl⟩
abbrev main_v392 : Ref sig .tc := ⟨.hbm, 753, rfl⟩
abbrev main_v393 : Ref sig .tc := ⟨.hbm, 754, rfl⟩
abbrev main_v394 : Ref sig .tc := ⟨.hbm, 755, rfl⟩
abbrev main_v395 : Ref sig .tc := ⟨.hbm, 756, rfl⟩
abbrev main_cst_100 : Ref sig .tc := ⟨.hbm, 757, rfl⟩
abbrev main_v396 : Ref sig .tc := ⟨.hbm, 758, rfl⟩
abbrev main_v397 : Ref sig .tc := ⟨.hbm, 759, rfl⟩
abbrev main_cst_101 : Ref sig .tc := ⟨.hbm, 760, rfl⟩
abbrev main_v398 : Ref sig .tc := ⟨.hbm, 761, rfl⟩
abbrev main_v399 : Ref sig .tc := ⟨.hbm, 762, rfl⟩
abbrev main_v400 : Ref sig .tc := ⟨.hbm, 763, rfl⟩
abbrev main_v401 : Ref sig .tc := ⟨.hbm, 764, rfl⟩
abbrev main_cst_102 : Ref sig .tc := ⟨.hbm, 765, rfl⟩
abbrev main_v402 : Ref sig .tc := ⟨.hbm, 766, rfl⟩
abbrev main_v403 : Ref sig .tc := ⟨.hbm, 767, rfl⟩
abbrev main_cst_103 : Ref sig .tc := ⟨.hbm, 768, rfl⟩
abbrev main_v404 : Ref sig .tc := ⟨.hbm, 769, rfl⟩
abbrev main_v405 : Ref sig .tc := ⟨.hbm, 770, rfl⟩
abbrev main_v406 : Ref sig .tc := ⟨.hbm, 771, rfl⟩
abbrev main_v407 : Ref sig .tc := ⟨.hbm, 772, rfl⟩
abbrev main_v408 : Ref sig .tc := ⟨.hbm, 773, rfl⟩
abbrev main_v409 : Ref sig .tc := ⟨.hbm, 774, rfl⟩
abbrev main_cst_104 : Ref sig .tc := ⟨.hbm, 775, rfl⟩
abbrev main_v410 : Ref sig .tc := ⟨.hbm, 776, rfl⟩
abbrev main_v411 : Ref sig .tc := ⟨.hbm, 777, rfl⟩
abbrev main_cst_105 : Ref sig .tc := ⟨.hbm, 778, rfl⟩
abbrev main_v412 : Ref sig .tc := ⟨.hbm, 779, rfl⟩
abbrev main_v413 : Ref sig .tc := ⟨.hbm, 780, rfl⟩
abbrev main_v414 : Ref sig .tc := ⟨.hbm, 781, rfl⟩
abbrev main_v415 : Ref sig .tc := ⟨.hbm, 782, rfl⟩
abbrev main_c_106 : Ref sig .tc := ⟨.hbm, 783, rfl⟩
abbrev main_v416 : Ref sig .tc := ⟨.hbm, 784, rfl⟩
abbrev main_v417 : Ref sig .tc := ⟨.hbm, 785, rfl⟩
abbrev main_c_107 : Ref sig .tc := ⟨.hbm, 786, rfl⟩
abbrev main_v418 : Ref sig .tc := ⟨.hbm, 787, rfl⟩
abbrev main_v419 : Ref sig .tc := ⟨.hbm, 788, rfl⟩
abbrev main_v420 : Ref sig .tc := ⟨.hbm, 789, rfl⟩
abbrev main_v421 : Ref sig .tc := ⟨.hbm, 790, rfl⟩
abbrev main_c_108 : Ref sig .tc := ⟨.hbm, 791, rfl⟩
abbrev main_v422 : Ref sig .tc := ⟨.hbm, 792, rfl⟩
abbrev main_v423 : Ref sig .tc := ⟨.hbm, 793, rfl⟩
abbrev main_c_109 : Ref sig .tc := ⟨.hbm, 794, rfl⟩
abbrev main_v424 : Ref sig .tc := ⟨.hbm, 795, rfl⟩
abbrev main_v425 : Ref sig .tc := ⟨.hbm, 796, rfl⟩
abbrev main_v426 : Ref sig .tc := ⟨.hbm, 797, rfl⟩
abbrev main_c_110 : Ref sig .tc := ⟨.hbm, 798, rfl⟩
abbrev main_v427 : Ref sig .tc := ⟨.hbm, 799, rfl⟩
abbrev main_v428 : Ref sig .tc := ⟨.hbm, 800, rfl⟩
abbrev main_v429 : Ref sig .tc := ⟨.hbm, 801, rfl⟩
abbrev main_c_111 : Ref sig .tc := ⟨.hbm, 802, rfl⟩
abbrev main_v430 : Ref sig .tc := ⟨.hbm, 803, rfl⟩
abbrev main_v431 : Ref sig .tc := ⟨.hbm, 804, rfl⟩
abbrev main_v432 : Ref sig .tc := ⟨.hbm, 805, rfl⟩
abbrev main_c_112 : Ref sig .tc := ⟨.hbm, 806, rfl⟩
abbrev main_c_113 : Ref sig .tc := ⟨.hbm, 807, rfl⟩
abbrev main_call24_v0 : Ref sig .tc := ⟨.hbm, 808, rfl⟩
abbrev main_call24_v1 : Ref sig .tc := ⟨.hbm, 809, rfl⟩
abbrev main_call24_v2 : Ref sig .tc := ⟨.hbm, 810, rfl⟩
abbrev main_call24_v3 : Ref sig .tc := ⟨.hbm, 811, rfl⟩
abbrev main_call24_v4 : Ref sig .tc := ⟨.hbm, 812, rfl⟩
abbrev main_v433 : Ref sig .tc := ⟨.hbm, 813, rfl⟩
abbrev main_c_114 : Ref sig .tc := ⟨.hbm, 814, rfl⟩
abbrev main_c_115 : Ref sig .tc := ⟨.hbm, 815, rfl⟩
abbrev main_call25_v0 : Ref sig .tc := ⟨.hbm, 816, rfl⟩
abbrev main_call25_v1 : Ref sig .tc := ⟨.hbm, 817, rfl⟩
abbrev main_call25_v2 : Ref sig .tc := ⟨.hbm, 818, rfl⟩
abbrev main_call25_v3 : Ref sig .tc := ⟨.hbm, 819, rfl⟩
abbrev main_call25_v4 : Ref sig .tc := ⟨.hbm, 820, rfl⟩
abbrev main_v434 : Ref sig .tc := ⟨.hbm, 821, rfl⟩
abbrev main_c_116 : Ref sig .tc := ⟨.hbm, 822, rfl⟩
abbrev main_v435 : Ref sig .tc := ⟨.hbm, 823, rfl⟩
abbrev main_v436 : Ref sig .tc := ⟨.hbm, 824, rfl⟩
abbrev main_v437 : Ref sig .tc := ⟨.hbm, 825, rfl⟩
abbrev main_v438 : Ref sig .tc := ⟨.hbm, 826, rfl⟩
abbrev main_v439 : Ref sig .tc := ⟨.hbm, 827, rfl⟩
abbrev main_v440 : Ref sig .tc := ⟨.hbm, 828, rfl⟩
abbrev main_v441 : Ref sig .tc := ⟨.hbm, 829, rfl⟩
abbrev main_call26_c : Ref sig .tc := ⟨.hbm, 830, rfl⟩
abbrev main_call26_v0 : Ref sig .tc := ⟨.hbm, 831, rfl⟩
abbrev main_call26_v1 : Ref sig .tc := ⟨.hbm, 832, rfl⟩
abbrev main_call26_c_0 : Ref sig .tc := ⟨.hbm, 833, rfl⟩
abbrev main_call26_v2 : Ref sig .tc := ⟨.hbm, 834, rfl⟩
abbrev main_call26_v3 : Ref sig .tc := ⟨.hbm, 835, rfl⟩
abbrev main_call26_v4 : Ref sig .tc := ⟨.hbm, 836, rfl⟩
abbrev main_call26_v5 : Ref sig .tc := ⟨.hbm, 837, rfl⟩
abbrev main_call26_c_1 : Ref sig .tc := ⟨.hbm, 838, rfl⟩
abbrev main_call26_c_2 : Ref sig .tc := ⟨.hbm, 839, rfl⟩
abbrev main_call26_v6 : Ref sig .tc := ⟨.hbm, 840, rfl⟩
abbrev main_call26_v7 : Ref sig .tc := ⟨.hbm, 841, rfl⟩
abbrev main_call26_v8 : Ref sig .tc := ⟨.hbm, 842, rfl⟩
abbrev main_call26_v9 : Ref sig .tc := ⟨.hbm, 843, rfl⟩
abbrev main_call26_v10 : Ref sig .tc := ⟨.hbm, 844, rfl⟩
abbrev main_call26_v11 : Ref sig .tc := ⟨.hbm, 845, rfl⟩
abbrev main_call26_c_3 : Ref sig .tc := ⟨.hbm, 846, rfl⟩
abbrev main_call26_v12 : Ref sig .tc := ⟨.hbm, 847, rfl⟩
abbrev main_call26_v13 : Ref sig .tc := ⟨.hbm, 848, rfl⟩
abbrev main_call26_cst : Ref sig .tc := ⟨.hbm, 849, rfl⟩
abbrev main_call26_v14 : Ref sig .tc := ⟨.hbm, 850, rfl⟩
abbrev main_v442 : Ref sig .tc := ⟨.hbm, 851, rfl⟩
abbrev main_v443 : Ref sig .tc := ⟨.hbm, 852, rfl⟩
abbrev main_v444 : Ref sig .tc := ⟨.hbm, 853, rfl⟩
abbrev main_v445 : Ref sig .tc := ⟨.hbm, 854, rfl⟩
abbrev main_v446 : Ref sig .tc := ⟨.hbm, 855, rfl⟩
abbrev main_v447 : Ref sig .tc := ⟨.hbm, 856, rfl⟩
abbrev main_v448 : Ref sig .tc := ⟨.hbm, 857, rfl⟩
abbrev main_c_117 : Ref sig .tc := ⟨.hbm, 858, rfl⟩
abbrev main_v449 : Ref sig .tc := ⟨.hbm, 859, rfl⟩
abbrev main_v450 : Ref sig .tc := ⟨.hbm, 860, rfl⟩
abbrev main_c_118 : Ref sig .tc := ⟨.hbm, 861, rfl⟩
abbrev main_v451 : Ref sig .tc := ⟨.hbm, 862, rfl⟩
abbrev main_v452 : Ref sig .tc := ⟨.hbm, 863, rfl⟩
abbrev main_v453 : Ref sig .tc := ⟨.hbm, 864, rfl⟩
abbrev main_c_119 : Ref sig .tc := ⟨.hbm, 865, rfl⟩
abbrev main_v454 : Ref sig .tc := ⟨.hbm, 866, rfl⟩
abbrev main_v455 : Ref sig .tc := ⟨.hbm, 867, rfl⟩
abbrev main_v456 : Ref sig .tc := ⟨.hbm, 868, rfl⟩
abbrev main_c_120 : Ref sig .tc := ⟨.hbm, 869, rfl⟩
abbrev main_v457 : Ref sig .tc := ⟨.hbm, 870, rfl⟩
abbrev main_v458 : Ref sig .tc := ⟨.hbm, 871, rfl⟩
abbrev main_v459 : Ref sig .tc := ⟨.hbm, 872, rfl⟩
abbrev main_c_121 : Ref sig .tc := ⟨.hbm, 873, rfl⟩
abbrev main_c_122 : Ref sig .tc := ⟨.hbm, 874, rfl⟩
abbrev main_call27_v0 : Ref sig .tc := ⟨.hbm, 875, rfl⟩
abbrev main_call27_v1 : Ref sig .tc := ⟨.hbm, 876, rfl⟩
abbrev main_call27_v2 : Ref sig .tc := ⟨.hbm, 877, rfl⟩
abbrev main_call27_v3 : Ref sig .tc := ⟨.hbm, 878, rfl⟩
abbrev main_call27_v4 : Ref sig .tc := ⟨.hbm, 879, rfl⟩
abbrev main_v460 : Ref sig .tc := ⟨.hbm, 880, rfl⟩
abbrev main_c_123 : Ref sig .tc := ⟨.hbm, 881, rfl⟩
abbrev main_c_124 : Ref sig .tc := ⟨.hbm, 882, rfl⟩
abbrev main_call28_v0 : Ref sig .tc := ⟨.hbm, 883, rfl⟩
abbrev main_call28_v1 : Ref sig .tc := ⟨.hbm, 884, rfl⟩
abbrev main_call28_v2 : Ref sig .tc := ⟨.hbm, 885, rfl⟩
abbrev main_call28_v3 : Ref sig .tc := ⟨.hbm, 886, rfl⟩
abbrev main_call28_v4 : Ref sig .tc := ⟨.hbm, 887, rfl⟩
abbrev main_v461 : Ref sig .tc := ⟨.hbm, 888, rfl⟩
abbrev main_c_125 : Ref sig .tc := ⟨.hbm, 889, rfl⟩
abbrev main_v462 : Ref sig .tc := ⟨.hbm, 890, rfl⟩
abbrev main_v463 : Ref sig .tc := ⟨.hbm, 891, rfl⟩
abbrev main_v464 : Ref sig .tc := ⟨.hbm, 892, rfl⟩
abbrev main_v465 : Ref sig .tc := ⟨.hbm, 893, rfl⟩
abbrev main_v466 : Ref sig .tc := ⟨.hbm, 894, rfl⟩
abbrev main_v467 : Ref sig .tc := ⟨.hbm, 895, rfl⟩
abbrev main_v468 : Ref sig .tc := ⟨.hbm, 896, rfl⟩
abbrev main_call29_c : Ref sig .tc := ⟨.hbm, 897, rfl⟩
abbrev main_call29_v0 : Ref sig .tc := ⟨.hbm, 898, rfl⟩
abbrev main_call29_v1 : Ref sig .tc := ⟨.hbm, 899, rfl⟩
abbrev main_call29_c_0 : Ref sig .tc := ⟨.hbm, 900, rfl⟩
abbrev main_call29_v2 : Ref sig .tc := ⟨.hbm, 901, rfl⟩
abbrev main_call29_v3 : Ref sig .tc := ⟨.hbm, 902, rfl⟩
abbrev main_call29_v4 : Ref sig .tc := ⟨.hbm, 903, rfl⟩
abbrev main_call29_v5 : Ref sig .tc := ⟨.hbm, 904, rfl⟩
abbrev main_call29_c_1 : Ref sig .tc := ⟨.hbm, 905, rfl⟩
abbrev main_call29_c_2 : Ref sig .tc := ⟨.hbm, 906, rfl⟩
abbrev main_call29_v6 : Ref sig .tc := ⟨.hbm, 907, rfl⟩
abbrev main_call29_v7 : Ref sig .tc := ⟨.hbm, 908, rfl⟩
abbrev main_call29_v8 : Ref sig .tc := ⟨.hbm, 909, rfl⟩
abbrev main_call29_v9 : Ref sig .tc := ⟨.hbm, 910, rfl⟩
abbrev main_call29_v10 : Ref sig .tc := ⟨.hbm, 911, rfl⟩
abbrev main_call29_v11 : Ref sig .tc := ⟨.hbm, 912, rfl⟩
abbrev main_call29_c_3 : Ref sig .tc := ⟨.hbm, 913, rfl⟩
abbrev main_call29_v12 : Ref sig .tc := ⟨.hbm, 914, rfl⟩
abbrev main_call29_v13 : Ref sig .tc := ⟨.hbm, 915, rfl⟩
abbrev main_call29_cst : Ref sig .tc := ⟨.hbm, 916, rfl⟩
abbrev main_call29_v14 : Ref sig .tc := ⟨.hbm, 917, rfl⟩
abbrev main_v469 : Ref sig .tc := ⟨.hbm, 918, rfl⟩
abbrev main_v470 : Ref sig .tc := ⟨.hbm, 919, rfl⟩
abbrev main_v471 : Ref sig .tc := ⟨.hbm, 920, rfl⟩
abbrev main_v472 : Ref sig .tc := ⟨.hbm, 921, rfl⟩
abbrev main_v473 : Ref sig .tc := ⟨.hbm, 922, rfl⟩
abbrev main_v474 : Ref sig .tc := ⟨.hbm, 923, rfl⟩
abbrev main_v475 : Ref sig .tc := ⟨.hbm, 924, rfl⟩
abbrev main_c_126 : Ref sig .tc := ⟨.hbm, 925, rfl⟩
abbrev main_v476 : Ref sig .tc := ⟨.hbm, 926, rfl⟩
abbrev main_v477 : Ref sig .tc := ⟨.hbm, 927, rfl⟩
abbrev main_c_127 : Ref sig .tc := ⟨.hbm, 928, rfl⟩
abbrev main_v478 : Ref sig .tc := ⟨.hbm, 929, rfl⟩
abbrev main_v479 : Ref sig .tc := ⟨.hbm, 930, rfl⟩
abbrev main_v480 : Ref sig .tc := ⟨.hbm, 931, rfl⟩
abbrev main_c_128 : Ref sig .tc := ⟨.hbm, 932, rfl⟩
abbrev main_v481 : Ref sig .tc := ⟨.hbm, 933, rfl⟩
abbrev main_v482 : Ref sig .tc := ⟨.hbm, 934, rfl⟩
abbrev main_v483 : Ref sig .tc := ⟨.hbm, 935, rfl⟩
abbrev main_c_129 : Ref sig .tc := ⟨.hbm, 936, rfl⟩
abbrev main_v484 : Ref sig .tc := ⟨.hbm, 937, rfl⟩
abbrev main_v485 : Ref sig .tc := ⟨.hbm, 938, rfl⟩
abbrev main_v486 : Ref sig .tc := ⟨.hbm, 939, rfl⟩
abbrev main_c_130 : Ref sig .tc := ⟨.hbm, 940, rfl⟩
abbrev main_c_131 : Ref sig .tc := ⟨.hbm, 941, rfl⟩
abbrev main_call30_v0 : Ref sig .tc := ⟨.hbm, 942, rfl⟩
abbrev main_call30_v1 : Ref sig .tc := ⟨.hbm, 943, rfl⟩
abbrev main_call30_v2 : Ref sig .tc := ⟨.hbm, 944, rfl⟩
abbrev main_call30_v3 : Ref sig .tc := ⟨.hbm, 945, rfl⟩
abbrev main_call30_v4 : Ref sig .tc := ⟨.hbm, 946, rfl⟩
abbrev main_v487 : Ref sig .tc := ⟨.hbm, 947, rfl⟩
abbrev main_c_132 : Ref sig .tc := ⟨.hbm, 948, rfl⟩
abbrev main_c_133 : Ref sig .tc := ⟨.hbm, 949, rfl⟩
abbrev main_call31_v0 : Ref sig .tc := ⟨.hbm, 950, rfl⟩
abbrev main_call31_v1 : Ref sig .tc := ⟨.hbm, 951, rfl⟩
abbrev main_call31_v2 : Ref sig .tc := ⟨.hbm, 952, rfl⟩
abbrev main_call31_v3 : Ref sig .tc := ⟨.hbm, 953, rfl⟩
abbrev main_call31_v4 : Ref sig .tc := ⟨.hbm, 954, rfl⟩
abbrev main_v488 : Ref sig .tc := ⟨.hbm, 955, rfl⟩
abbrev main_c_134 : Ref sig .tc := ⟨.hbm, 956, rfl⟩
abbrev main_v489 : Ref sig .tc := ⟨.hbm, 957, rfl⟩
abbrev main_v490 : Ref sig .tc := ⟨.hbm, 958, rfl⟩
abbrev main_v491 : Ref sig .tc := ⟨.hbm, 959, rfl⟩
abbrev main_v492 : Ref sig .tc := ⟨.hbm, 960, rfl⟩
abbrev main_v493 : Ref sig .tc := ⟨.hbm, 961, rfl⟩
abbrev main_v494 : Ref sig .tc := ⟨.hbm, 962, rfl⟩
abbrev main_v495 : Ref sig .tc := ⟨.hbm, 963, rfl⟩
abbrev main_call32_c : Ref sig .tc := ⟨.hbm, 964, rfl⟩
abbrev main_call32_v0 : Ref sig .tc := ⟨.hbm, 965, rfl⟩
abbrev main_call32_v1 : Ref sig .tc := ⟨.hbm, 966, rfl⟩
abbrev main_call32_c_0 : Ref sig .tc := ⟨.hbm, 967, rfl⟩
abbrev main_call32_v2 : Ref sig .tc := ⟨.hbm, 968, rfl⟩
abbrev main_call32_v3 : Ref sig .tc := ⟨.hbm, 969, rfl⟩
abbrev main_call32_v4 : Ref sig .tc := ⟨.hbm, 970, rfl⟩
abbrev main_call32_v5 : Ref sig .tc := ⟨.hbm, 971, rfl⟩
abbrev main_call32_c_1 : Ref sig .tc := ⟨.hbm, 972, rfl⟩
abbrev main_call32_c_2 : Ref sig .tc := ⟨.hbm, 973, rfl⟩
abbrev main_call32_v6 : Ref sig .tc := ⟨.hbm, 974, rfl⟩
abbrev main_call32_v7 : Ref sig .tc := ⟨.hbm, 975, rfl⟩
abbrev main_call32_v8 : Ref sig .tc := ⟨.hbm, 976, rfl⟩
abbrev main_call32_v9 : Ref sig .tc := ⟨.hbm, 977, rfl⟩
abbrev main_call32_v10 : Ref sig .tc := ⟨.hbm, 978, rfl⟩
abbrev main_call32_v11 : Ref sig .tc := ⟨.hbm, 979, rfl⟩
abbrev main_call32_c_3 : Ref sig .tc := ⟨.hbm, 980, rfl⟩
abbrev main_call32_v12 : Ref sig .tc := ⟨.hbm, 981, rfl⟩
abbrev main_call32_v13 : Ref sig .tc := ⟨.hbm, 982, rfl⟩
abbrev main_call32_cst : Ref sig .tc := ⟨.hbm, 983, rfl⟩
abbrev main_call32_v14 : Ref sig .tc := ⟨.hbm, 984, rfl⟩
abbrev main_v496 : Ref sig .tc := ⟨.hbm, 985, rfl⟩
abbrev main_v497 : Ref sig .tc := ⟨.hbm, 986, rfl⟩
abbrev main_v498 : Ref sig .tc := ⟨.hbm, 987, rfl⟩
abbrev main_v499 : Ref sig .tc := ⟨.hbm, 988, rfl⟩
abbrev main_v500 : Ref sig .tc := ⟨.hbm, 989, rfl⟩
abbrev main_v501 : Ref sig .tc := ⟨.hbm, 990, rfl⟩
abbrev main_v502 : Ref sig .tc := ⟨.hbm, 991, rfl⟩
abbrev main_c_135 : Ref sig .tc := ⟨.hbm, 992, rfl⟩
abbrev main_v503 : Ref sig .tc := ⟨.hbm, 993, rfl⟩
abbrev main_v504 : Ref sig .tc := ⟨.hbm, 994, rfl⟩
abbrev main_c_136 : Ref sig .tc := ⟨.hbm, 995, rfl⟩
abbrev main_v505 : Ref sig .tc := ⟨.hbm, 996, rfl⟩
abbrev main_v506 : Ref sig .tc := ⟨.hbm, 997, rfl⟩
abbrev main_v507 : Ref sig .tc := ⟨.hbm, 998, rfl⟩
abbrev main_c_137 : Ref sig .tc := ⟨.hbm, 999, rfl⟩
abbrev main_v508 : Ref sig .tc := ⟨.hbm, 1000, rfl⟩
abbrev main_v509 : Ref sig .tc := ⟨.hbm, 1001, rfl⟩
abbrev main_v510 : Ref sig .tc := ⟨.hbm, 1002, rfl⟩
abbrev main_c_138 : Ref sig .tc := ⟨.hbm, 1003, rfl⟩
abbrev main_v511 : Ref sig .tc := ⟨.hbm, 1004, rfl⟩
abbrev main_v512 : Ref sig .tc := ⟨.hbm, 1005, rfl⟩
abbrev main_v513 : Ref sig .tc := ⟨.hbm, 1006, rfl⟩
abbrev main_c_139 : Ref sig .tc := ⟨.hbm, 1007, rfl⟩
abbrev main_c_140 : Ref sig .tc := ⟨.hbm, 1008, rfl⟩
abbrev main_call33_v0 : Ref sig .tc := ⟨.hbm, 1009, rfl⟩
abbrev main_call33_v1 : Ref sig .tc := ⟨.hbm, 1010, rfl⟩
abbrev main_call33_v2 : Ref sig .tc := ⟨.hbm, 1011, rfl⟩
abbrev main_call33_v3 : Ref sig .tc := ⟨.hbm, 1012, rfl⟩
abbrev main_call33_v4 : Ref sig .tc := ⟨.hbm, 1013, rfl⟩
abbrev main_v514 : Ref sig .tc := ⟨.hbm, 1014, rfl⟩
abbrev main_c_141 : Ref sig .tc := ⟨.hbm, 1015, rfl⟩
abbrev main_c_142 : Ref sig .tc := ⟨.hbm, 1016, rfl⟩
abbrev main_call34_v0 : Ref sig .tc := ⟨.hbm, 1017, rfl⟩
abbrev main_call34_v1 : Ref sig .tc := ⟨.hbm, 1018, rfl⟩
abbrev main_call34_v2 : Ref sig .tc := ⟨.hbm, 1019, rfl⟩
abbrev main_call34_v3 : Ref sig .tc := ⟨.hbm, 1020, rfl⟩
abbrev main_call34_v4 : Ref sig .tc := ⟨.hbm, 1021, rfl⟩
abbrev main_v515 : Ref sig .tc := ⟨.hbm, 1022, rfl⟩
abbrev main_c_143 : Ref sig .tc := ⟨.hbm, 1023, rfl⟩
abbrev main_v516 : Ref sig .tc := ⟨.hbm, 1024, rfl⟩
abbrev main_v517 : Ref sig .tc := ⟨.hbm, 1025, rfl⟩
abbrev main_v518 : Ref sig .tc := ⟨.hbm, 1026, rfl⟩
abbrev main_v519 : Ref sig .tc := ⟨.hbm, 1027, rfl⟩
abbrev main_v520 : Ref sig .tc := ⟨.hbm, 1028, rfl⟩
abbrev main_v521 : Ref sig .tc := ⟨.hbm, 1029, rfl⟩
abbrev main_v522 : Ref sig .tc := ⟨.hbm, 1030, rfl⟩
abbrev main_call35_c : Ref sig .tc := ⟨.hbm, 1031, rfl⟩
abbrev main_call35_v0 : Ref sig .tc := ⟨.hbm, 1032, rfl⟩
abbrev main_call35_v1 : Ref sig .tc := ⟨.hbm, 1033, rfl⟩
abbrev main_call35_c_0 : Ref sig .tc := ⟨.hbm, 1034, rfl⟩
abbrev main_call35_v2 : Ref sig .tc := ⟨.hbm, 1035, rfl⟩
abbrev main_call35_v3 : Ref sig .tc := ⟨.hbm, 1036, rfl⟩
abbrev main_call35_v4 : Ref sig .tc := ⟨.hbm, 1037, rfl⟩
abbrev main_call35_v5 : Ref sig .tc := ⟨.hbm, 1038, rfl⟩
abbrev main_call35_c_1 : Ref sig .tc := ⟨.hbm, 1039, rfl⟩
abbrev main_call35_c_2 : Ref sig .tc := ⟨.hbm, 1040, rfl⟩
abbrev main_call35_v6 : Ref sig .tc := ⟨.hbm, 1041, rfl⟩
abbrev main_call35_v7 : Ref sig .tc := ⟨.hbm, 1042, rfl⟩
abbrev main_call35_v8 : Ref sig .tc := ⟨.hbm, 1043, rfl⟩
abbrev main_call35_v9 : Ref sig .tc := ⟨.hbm, 1044, rfl⟩
abbrev main_call35_v10 : Ref sig .tc := ⟨.hbm, 1045, rfl⟩
abbrev main_call35_v11 : Ref sig .tc := ⟨.hbm, 1046, rfl⟩
abbrev main_call35_c_3 : Ref sig .tc := ⟨.hbm, 1047, rfl⟩
abbrev main_call35_v12 : Ref sig .tc := ⟨.hbm, 1048, rfl⟩
abbrev main_call35_v13 : Ref sig .tc := ⟨.hbm, 1049, rfl⟩
abbrev main_call35_cst : Ref sig .tc := ⟨.hbm, 1050, rfl⟩
abbrev main_call35_v14 : Ref sig .tc := ⟨.hbm, 1051, rfl⟩
abbrev main_v523 : Ref sig .tc := ⟨.hbm, 1052, rfl⟩
abbrev main_v524 : Ref sig .tc := ⟨.hbm, 1053, rfl⟩
abbrev main_v525 : Ref sig .tc := ⟨.hbm, 1054, rfl⟩
abbrev main_v526 : Ref sig .tc := ⟨.hbm, 1055, rfl⟩
abbrev main_v527 : Ref sig .tc := ⟨.hbm, 1056, rfl⟩
abbrev main_v528 : Ref sig .tc := ⟨.hbm, 1057, rfl⟩
abbrev main_v529 : Ref sig .tc := ⟨.hbm, 1058, rfl⟩
abbrev main_v530 : Ref sig .tc := ⟨.hbm, 1059, rfl⟩
abbrev main_v531 : Ref sig .tc := ⟨.hbm, 1060, rfl⟩
abbrev main_v532 : Ref sig .tc := ⟨.hbm, 1061, rfl⟩
abbrev main_v533 : Ref sig .tc := ⟨.hbm, 1062, rfl⟩
abbrev main_v534 : Ref sig .tc := ⟨.hbm, 1063, rfl⟩
abbrev main_v535 : Ref sig .tc := ⟨.hbm, 1064, rfl⟩
abbrev main_v536 : Ref sig .tc := ⟨.hbm, 1065, rfl⟩
abbrev main_v537 : Ref sig .tc := ⟨.hbm, 1066, rfl⟩
abbrev main_v538 : Ref sig .tc := ⟨.hbm, 1067, rfl⟩
abbrev main_v539 : Ref sig .tc := ⟨.hbm, 1068, rfl⟩
abbrev main_v540 : Ref sig .tc := ⟨.hbm, 1069, rfl⟩
abbrev main_v541 : Ref sig .tc := ⟨.hbm, 1070, rfl⟩
abbrev main_v542 : Ref sig .tc := ⟨.hbm, 1071, rfl⟩
abbrev main_v543 : Ref sig .tc := ⟨.hbm, 1072, rfl⟩
abbrev main_v544 : Ref sig .tc := ⟨.hbm, 1073, rfl⟩
abbrev main_v545 : Ref sig .tc := ⟨.hbm, 1074, rfl⟩
abbrev main_v546 : Ref sig .tc := ⟨.hbm, 1075, rfl⟩
abbrev main_v547 : Ref sig .tc := ⟨.hbm, 1076, rfl⟩
abbrev main_v548 : Ref sig .tc := ⟨.hbm, 1077, rfl⟩
abbrev main_cst_144 : Ref sig .tc := ⟨.hbm, 1078, rfl⟩
abbrev main_v549 : Ref sig .tc := ⟨.hbm, 1079, rfl⟩
abbrev main_v550 : Ref sig .tc := ⟨.hbm, 1080, rfl⟩
abbrev main_cst_145 : Ref sig .tc := ⟨.hbm, 1081, rfl⟩
abbrev main_v551 : Ref sig .tc := ⟨.hbm, 1082, rfl⟩
abbrev main_v552 : Ref sig .tc := ⟨.hbm, 1083, rfl⟩
abbrev main_v553 : Ref sig .tc := ⟨.hbm, 1084, rfl⟩
abbrev main_cst_146 : Ref sig .tc := ⟨.hbm, 1085, rfl⟩
abbrev main_v554 : Ref sig .tc := ⟨.hbm, 1086, rfl⟩
abbrev main_v555 : Ref sig .tc := ⟨.hbm, 1087, rfl⟩
abbrev main_v556 : Ref sig .tc := ⟨.hbm, 1088, rfl⟩
abbrev main_cst_147 : Ref sig .tc := ⟨.hbm, 1089, rfl⟩
abbrev main_v557 : Ref sig .tc := ⟨.hbm, 1090, rfl⟩
abbrev main_v558 : Ref sig .tc := ⟨.hbm, 1091, rfl⟩
abbrev main_v559 : Ref sig .tc := ⟨.hbm, 1092, rfl⟩
abbrev main_v560 : Ref sig .tc := ⟨.hbm, 1093, rfl⟩
abbrev main_v561 : Ref sig .tc := ⟨.hbm, 1094, rfl⟩
abbrev main_v562 : Ref sig .tc := ⟨.hbm, 1095, rfl⟩
abbrev main_v563 : Ref sig .tc := ⟨.hbm, 1096, rfl⟩
abbrev main_v564 : Ref sig .tc := ⟨.hbm, 1097, rfl⟩
abbrev main_v565 : Ref sig .tc := ⟨.hbm, 1098, rfl⟩
abbrev main_v566 : Ref sig .tc := ⟨.hbm, 1099, rfl⟩
abbrev main_v567 : Ref sig .tc := ⟨.hbm, 1100, rfl⟩
abbrev main_v568 : Ref sig .tc := ⟨.hbm, 1101, rfl⟩
abbrev main_cst_148 : Ref sig .tc := ⟨.hbm, 1102, rfl⟩
abbrev main_v569 : Ref sig .tc := ⟨.hbm, 1103, rfl⟩
abbrev main_v570 : Ref sig .tc := ⟨.hbm, 1104, rfl⟩
abbrev main_v571 : Ref sig .tc := ⟨.hbm, 1105, rfl⟩
abbrev main_v572 : Ref sig .tc := ⟨.hbm, 1106, rfl⟩
abbrev main_v573 : Ref sig .tc := ⟨.hbm, 1107, rfl⟩
abbrev main_v574 : Ref sig .tc := ⟨.hbm, 1108, rfl⟩
abbrev main_v575 : Ref sig .tc := ⟨.hbm, 1109, rfl⟩
abbrev main_v576 : Ref sig .tc := ⟨.hbm, 1110, rfl⟩
abbrev main_cst_149 : Ref sig .tc := ⟨.hbm, 1111, rfl⟩
abbrev main_v577 : Ref sig .tc := ⟨.hbm, 1112, rfl⟩
abbrev main_v578 : Ref sig .tc := ⟨.hbm, 1113, rfl⟩
abbrev main_cst_150 : Ref sig .tc := ⟨.hbm, 1114, rfl⟩
abbrev main_v579 : Ref sig .tc := ⟨.hbm, 1115, rfl⟩
abbrev main_v580 : Ref sig .tc := ⟨.hbm, 1116, rfl⟩
abbrev main_v581 : Ref sig .tc := ⟨.hbm, 1117, rfl⟩
abbrev main_v582 : Ref sig .tc := ⟨.hbm, 1118, rfl⟩
abbrev main_cst_151 : Ref sig .tc := ⟨.hbm, 1119, rfl⟩
abbrev main_v583 : Ref sig .tc := ⟨.hbm, 1120, rfl⟩
abbrev main_v584 : Ref sig .tc := ⟨.hbm, 1121, rfl⟩
abbrev main_cst_152 : Ref sig .tc := ⟨.hbm, 1122, rfl⟩
abbrev main_v585 : Ref sig .tc := ⟨.hbm, 1123, rfl⟩
abbrev main_v586 : Ref sig .tc := ⟨.hbm, 1124, rfl⟩
abbrev main_v587 : Ref sig .tc := ⟨.hbm, 1125, rfl⟩
abbrev main_v588 : Ref sig .tc := ⟨.hbm, 1126, rfl⟩
abbrev main_v589 : Ref sig .tc := ⟨.hbm, 1127, rfl⟩
abbrev main_v590 : Ref sig .tc := ⟨.hbm, 1128, rfl⟩
abbrev main_cst_153 : Ref sig .tc := ⟨.hbm, 1129, rfl⟩
abbrev main_v591 : Ref sig .tc := ⟨.hbm, 1130, rfl⟩
abbrev main_v592 : Ref sig .tc := ⟨.hbm, 1131, rfl⟩
abbrev main_cst_154 : Ref sig .tc := ⟨.hbm, 1132, rfl⟩
abbrev main_v593 : Ref sig .tc := ⟨.hbm, 1133, rfl⟩
abbrev main_v594 : Ref sig .tc := ⟨.hbm, 1134, rfl⟩
abbrev main_v595 : Ref sig .tc := ⟨.hbm, 1135, rfl⟩
abbrev main_v596 : Ref sig .tc := ⟨.hbm, 1136, rfl⟩
abbrev main_c_155 : Ref sig .tc := ⟨.hbm, 1137, rfl⟩
abbrev main_v597 : Ref sig .tc := ⟨.hbm, 1138, rfl⟩
abbrev main_v598 : Ref sig .tc := ⟨.hbm, 1139, rfl⟩
abbrev main_c_156 : Ref sig .tc := ⟨.hbm, 1140, rfl⟩
abbrev main_v599 : Ref sig .tc := ⟨.hbm, 1141, rfl⟩
abbrev main_v600 : Ref sig .tc := ⟨.hbm, 1142, rfl⟩
abbrev main_v601 : Ref sig .tc := ⟨.hbm, 1143, rfl⟩
abbrev main_v602 : Ref sig .tc := ⟨.hbm, 1144, rfl⟩
abbrev main_c_157 : Ref sig .tc := ⟨.hbm, 1145, rfl⟩
abbrev main_v603 : Ref sig .tc := ⟨.hbm, 1146, rfl⟩
abbrev main_v604 : Ref sig .tc := ⟨.hbm, 1147, rfl⟩
abbrev main_c_158 : Ref sig .tc := ⟨.hbm, 1148, rfl⟩
abbrev main_v605 : Ref sig .tc := ⟨.hbm, 1149, rfl⟩
abbrev main_v606 : Ref sig .tc := ⟨.hbm, 1150, rfl⟩
abbrev main_v607 : Ref sig .tc := ⟨.hbm, 1151, rfl⟩
abbrev main_c_159 : Ref sig .tc := ⟨.hbm, 1152, rfl⟩
abbrev main_v608 : Ref sig .tc := ⟨.hbm, 1153, rfl⟩
abbrev main_v609 : Ref sig .tc := ⟨.hbm, 1154, rfl⟩
abbrev main_v610 : Ref sig .tc := ⟨.hbm, 1155, rfl⟩
abbrev main_c_160 : Ref sig .tc := ⟨.hbm, 1156, rfl⟩
abbrev main_v611 : Ref sig .tc := ⟨.hbm, 1157, rfl⟩
abbrev main_v612 : Ref sig .tc := ⟨.hbm, 1158, rfl⟩
abbrev main_v613 : Ref sig .tc := ⟨.hbm, 1159, rfl⟩
abbrev main_c_161 : Ref sig .tc := ⟨.hbm, 1160, rfl⟩
abbrev main_c_162 : Ref sig .tc := ⟨.hbm, 1161, rfl⟩
abbrev main_call36_v0 : Ref sig .tc := ⟨.hbm, 1162, rfl⟩
abbrev main_call36_v1 : Ref sig .tc := ⟨.hbm, 1163, rfl⟩
abbrev main_call36_v2 : Ref sig .tc := ⟨.hbm, 1164, rfl⟩
abbrev main_call36_v3 : Ref sig .tc := ⟨.hbm, 1165, rfl⟩
abbrev main_call36_v4 : Ref sig .tc := ⟨.hbm, 1166, rfl⟩
abbrev main_v614 : Ref sig .tc := ⟨.hbm, 1167, rfl⟩
abbrev main_c_163 : Ref sig .tc := ⟨.hbm, 1168, rfl⟩
abbrev main_c_164 : Ref sig .tc := ⟨.hbm, 1169, rfl⟩
abbrev main_call37_v0 : Ref sig .tc := ⟨.hbm, 1170, rfl⟩
abbrev main_call37_v1 : Ref sig .tc := ⟨.hbm, 1171, rfl⟩
abbrev main_call37_v2 : Ref sig .tc := ⟨.hbm, 1172, rfl⟩
abbrev main_call37_v3 : Ref sig .tc := ⟨.hbm, 1173, rfl⟩
abbrev main_call37_v4 : Ref sig .tc := ⟨.hbm, 1174, rfl⟩
abbrev main_v615 : Ref sig .tc := ⟨.hbm, 1175, rfl⟩
abbrev main_c_165 : Ref sig .tc := ⟨.hbm, 1176, rfl⟩
abbrev main_v616 : Ref sig .tc := ⟨.hbm, 1177, rfl⟩
abbrev main_v617 : Ref sig .tc := ⟨.hbm, 1178, rfl⟩
abbrev main_v618 : Ref sig .tc := ⟨.hbm, 1179, rfl⟩
abbrev main_v619 : Ref sig .tc := ⟨.hbm, 1180, rfl⟩
abbrev main_v620 : Ref sig .tc := ⟨.hbm, 1181, rfl⟩
abbrev main_v621 : Ref sig .tc := ⟨.hbm, 1182, rfl⟩
abbrev main_v622 : Ref sig .tc := ⟨.hbm, 1183, rfl⟩
abbrev main_call38_c : Ref sig .tc := ⟨.hbm, 1184, rfl⟩
abbrev main_call38_v0 : Ref sig .tc := ⟨.hbm, 1185, rfl⟩
abbrev main_call38_v1 : Ref sig .tc := ⟨.hbm, 1186, rfl⟩
abbrev main_call38_c_0 : Ref sig .tc := ⟨.hbm, 1187, rfl⟩
abbrev main_call38_v2 : Ref sig .tc := ⟨.hbm, 1188, rfl⟩
abbrev main_call38_v3 : Ref sig .tc := ⟨.hbm, 1189, rfl⟩
abbrev main_call38_v4 : Ref sig .tc := ⟨.hbm, 1190, rfl⟩
abbrev main_call38_v5 : Ref sig .tc := ⟨.hbm, 1191, rfl⟩
abbrev main_call38_c_1 : Ref sig .tc := ⟨.hbm, 1192, rfl⟩
abbrev main_call38_c_2 : Ref sig .tc := ⟨.hbm, 1193, rfl⟩
abbrev main_call38_v6 : Ref sig .tc := ⟨.hbm, 1194, rfl⟩
abbrev main_call38_v7 : Ref sig .tc := ⟨.hbm, 1195, rfl⟩
abbrev main_call38_v8 : Ref sig .tc := ⟨.hbm, 1196, rfl⟩
abbrev main_call38_v9 : Ref sig .tc := ⟨.hbm, 1197, rfl⟩
abbrev main_call38_v10 : Ref sig .tc := ⟨.hbm, 1198, rfl⟩
abbrev main_call38_v11 : Ref sig .tc := ⟨.hbm, 1199, rfl⟩
abbrev main_call38_c_3 : Ref sig .tc := ⟨.hbm, 1200, rfl⟩
abbrev main_call38_v12 : Ref sig .tc := ⟨.hbm, 1201, rfl⟩
abbrev main_call38_v13 : Ref sig .tc := ⟨.hbm, 1202, rfl⟩
abbrev main_call38_cst : Ref sig .tc := ⟨.hbm, 1203, rfl⟩
abbrev main_call38_v14 : Ref sig .tc := ⟨.hbm, 1204, rfl⟩
abbrev main_v623 : Ref sig .tc := ⟨.hbm, 1205, rfl⟩
abbrev main_v624 : Ref sig .tc := ⟨.hbm, 1206, rfl⟩
abbrev main_v625 : Ref sig .tc := ⟨.hbm, 1207, rfl⟩
abbrev main_v626 : Ref sig .tc := ⟨.hbm, 1208, rfl⟩
abbrev main_v627 : Ref sig .tc := ⟨.hbm, 1209, rfl⟩
abbrev main_v628 : Ref sig .tc := ⟨.hbm, 1210, rfl⟩
abbrev main_v629 : Ref sig .tc := ⟨.hbm, 1211, rfl⟩
abbrev main_c_166 : Ref sig .tc := ⟨.hbm, 1212, rfl⟩
abbrev main_v630 : Ref sig .tc := ⟨.hbm, 1213, rfl⟩
abbrev main_v631 : Ref sig .tc := ⟨.hbm, 1214, rfl⟩
abbrev main_c_167 : Ref sig .tc := ⟨.hbm, 1215, rfl⟩
abbrev main_v632 : Ref sig .tc := ⟨.hbm, 1216, rfl⟩
abbrev main_v633 : Ref sig .tc := ⟨.hbm, 1217, rfl⟩
abbrev main_v634 : Ref sig .tc := ⟨.hbm, 1218, rfl⟩
abbrev main_c_168 : Ref sig .tc := ⟨.hbm, 1219, rfl⟩
abbrev main_v635 : Ref sig .tc := ⟨.hbm, 1220, rfl⟩
abbrev main_v636 : Ref sig .tc := ⟨.hbm, 1221, rfl⟩
abbrev main_v637 : Ref sig .tc := ⟨.hbm, 1222, rfl⟩
abbrev main_c_169 : Ref sig .tc := ⟨.hbm, 1223, rfl⟩
abbrev main_v638 : Ref sig .tc := ⟨.hbm, 1224, rfl⟩
abbrev main_v639 : Ref sig .tc := ⟨.hbm, 1225, rfl⟩
abbrev main_v640 : Ref sig .tc := ⟨.hbm, 1226, rfl⟩
abbrev main_c_170 : Ref sig .tc := ⟨.hbm, 1227, rfl⟩
abbrev main_c_171 : Ref sig .tc := ⟨.hbm, 1228, rfl⟩
abbrev main_call39_v0 : Ref sig .tc := ⟨.hbm, 1229, rfl⟩
abbrev main_call39_v1 : Ref sig .tc := ⟨.hbm, 1230, rfl⟩
abbrev main_call39_v2 : Ref sig .tc := ⟨.hbm, 1231, rfl⟩
abbrev main_call39_v3 : Ref sig .tc := ⟨.hbm, 1232, rfl⟩
abbrev main_call39_v4 : Ref sig .tc := ⟨.hbm, 1233, rfl⟩
abbrev main_v641 : Ref sig .tc := ⟨.hbm, 1234, rfl⟩
abbrev main_c_172 : Ref sig .tc := ⟨.hbm, 1235, rfl⟩
abbrev main_c_173 : Ref sig .tc := ⟨.hbm, 1236, rfl⟩
abbrev main_call40_v0 : Ref sig .tc := ⟨.hbm, 1237, rfl⟩
abbrev main_call40_v1 : Ref sig .tc := ⟨.hbm, 1238, rfl⟩
abbrev main_call40_v2 : Ref sig .tc := ⟨.hbm, 1239, rfl⟩
abbrev main_call40_v3 : Ref sig .tc := ⟨.hbm, 1240, rfl⟩
abbrev main_call40_v4 : Ref sig .tc := ⟨.hbm, 1241, rfl⟩
abbrev main_v642 : Ref sig .tc := ⟨.hbm, 1242, rfl⟩
abbrev main_c_174 : Ref sig .tc := ⟨.hbm, 1243, rfl⟩
abbrev main_v643 : Ref sig .tc := ⟨.hbm, 1244, rfl⟩
abbrev main_v644 : Ref sig .tc := ⟨.hbm, 1245, rfl⟩
abbrev main_v645 : Ref sig .tc := ⟨.hbm, 1246, rfl⟩
abbrev main_v646 : Ref sig .tc := ⟨.hbm, 1247, rfl⟩
abbrev main_v647 : Ref sig .tc := ⟨.hbm, 1248, rfl⟩
abbrev main_v648 : Ref sig .tc := ⟨.hbm, 1249, rfl⟩
abbrev main_v649 : Ref sig .tc := ⟨.hbm, 1250, rfl⟩
abbrev main_call41_c : Ref sig .tc := ⟨.hbm, 1251, rfl⟩
abbrev main_call41_v0 : Ref sig .tc := ⟨.hbm, 1252, rfl⟩
abbrev main_call41_v1 : Ref sig .tc := ⟨.hbm, 1253, rfl⟩
abbrev main_call41_c_0 : Ref sig .tc := ⟨.hbm, 1254, rfl⟩
abbrev main_call41_v2 : Ref sig .tc := ⟨.hbm, 1255, rfl⟩
abbrev main_call41_v3 : Ref sig .tc := ⟨.hbm, 1256, rfl⟩
abbrev main_call41_v4 : Ref sig .tc := ⟨.hbm, 1257, rfl⟩
abbrev main_call41_v5 : Ref sig .tc := ⟨.hbm, 1258, rfl⟩
abbrev main_call41_c_1 : Ref sig .tc := ⟨.hbm, 1259, rfl⟩
abbrev main_call41_c_2 : Ref sig .tc := ⟨.hbm, 1260, rfl⟩
abbrev main_call41_v6 : Ref sig .tc := ⟨.hbm, 1261, rfl⟩
abbrev main_call41_v7 : Ref sig .tc := ⟨.hbm, 1262, rfl⟩
abbrev main_call41_v8 : Ref sig .tc := ⟨.hbm, 1263, rfl⟩
abbrev main_call41_v9 : Ref sig .tc := ⟨.hbm, 1264, rfl⟩
abbrev main_call41_v10 : Ref sig .tc := ⟨.hbm, 1265, rfl⟩
abbrev main_call41_v11 : Ref sig .tc := ⟨.hbm, 1266, rfl⟩
abbrev main_call41_c_3 : Ref sig .tc := ⟨.hbm, 1267, rfl⟩
abbrev main_call41_v12 : Ref sig .tc := ⟨.hbm, 1268, rfl⟩
abbrev main_call41_v13 : Ref sig .tc := ⟨.hbm, 1269, rfl⟩
abbrev main_call41_cst : Ref sig .tc := ⟨.hbm, 1270, rfl⟩
abbrev main_call41_v14 : Ref sig .tc := ⟨.hbm, 1271, rfl⟩
abbrev main_v650 : Ref sig .tc := ⟨.hbm, 1272, rfl⟩
abbrev main_v651 : Ref sig .tc := ⟨.hbm, 1273, rfl⟩
abbrev main_v652 : Ref sig .tc := ⟨.hbm, 1274, rfl⟩
abbrev main_v653 : Ref sig .tc := ⟨.hbm, 1275, rfl⟩
abbrev main_v654 : Ref sig .tc := ⟨.hbm, 1276, rfl⟩
abbrev main_v655 : Ref sig .tc := ⟨.hbm, 1277, rfl⟩
abbrev main_v656 : Ref sig .tc := ⟨.hbm, 1278, rfl⟩
abbrev main_c_175 : Ref sig .tc := ⟨.hbm, 1279, rfl⟩
abbrev main_v657 : Ref sig .tc := ⟨.hbm, 1280, rfl⟩
abbrev main_v658 : Ref sig .tc := ⟨.hbm, 1281, rfl⟩
abbrev main_c_176 : Ref sig .tc := ⟨.hbm, 1282, rfl⟩
abbrev main_v659 : Ref sig .tc := ⟨.hbm, 1283, rfl⟩
abbrev main_v660 : Ref sig .tc := ⟨.hbm, 1284, rfl⟩
abbrev main_v661 : Ref sig .tc := ⟨.hbm, 1285, rfl⟩
abbrev main_c_177 : Ref sig .tc := ⟨.hbm, 1286, rfl⟩
abbrev main_v662 : Ref sig .tc := ⟨.hbm, 1287, rfl⟩
abbrev main_v663 : Ref sig .tc := ⟨.hbm, 1288, rfl⟩
abbrev main_v664 : Ref sig .tc := ⟨.hbm, 1289, rfl⟩
abbrev main_c_178 : Ref sig .tc := ⟨.hbm, 1290, rfl⟩
abbrev main_v665 : Ref sig .tc := ⟨.hbm, 1291, rfl⟩
abbrev main_v666 : Ref sig .tc := ⟨.hbm, 1292, rfl⟩
abbrev main_v667 : Ref sig .tc := ⟨.hbm, 1293, rfl⟩
abbrev main_c_179 : Ref sig .tc := ⟨.hbm, 1294, rfl⟩
abbrev main_c_180 : Ref sig .tc := ⟨.hbm, 1295, rfl⟩
abbrev main_call42_v0 : Ref sig .tc := ⟨.hbm, 1296, rfl⟩
abbrev main_call42_v1 : Ref sig .tc := ⟨.hbm, 1297, rfl⟩
abbrev main_call42_v2 : Ref sig .tc := ⟨.hbm, 1298, rfl⟩
abbrev main_call42_v3 : Ref sig .tc := ⟨.hbm, 1299, rfl⟩
abbrev main_call42_v4 : Ref sig .tc := ⟨.hbm, 1300, rfl⟩
abbrev main_v668 : Ref sig .tc := ⟨.hbm, 1301, rfl⟩
abbrev main_c_181 : Ref sig .tc := ⟨.hbm, 1302, rfl⟩
abbrev main_c_182 : Ref sig .tc := ⟨.hbm, 1303, rfl⟩
abbrev main_call43_v0 : Ref sig .tc := ⟨.hbm, 1304, rfl⟩
abbrev main_call43_v1 : Ref sig .tc := ⟨.hbm, 1305, rfl⟩
abbrev main_call43_v2 : Ref sig .tc := ⟨.hbm, 1306, rfl⟩
abbrev main_call43_v3 : Ref sig .tc := ⟨.hbm, 1307, rfl⟩
abbrev main_call43_v4 : Ref sig .tc := ⟨.hbm, 1308, rfl⟩
abbrev main_v669 : Ref sig .tc := ⟨.hbm, 1309, rfl⟩
abbrev main_c_183 : Ref sig .tc := ⟨.hbm, 1310, rfl⟩
abbrev main_v670 : Ref sig .tc := ⟨.hbm, 1311, rfl⟩
abbrev main_v671 : Ref sig .tc := ⟨.hbm, 1312, rfl⟩
abbrev main_v672 : Ref sig .tc := ⟨.hbm, 1313, rfl⟩
abbrev main_v673 : Ref sig .tc := ⟨.hbm, 1314, rfl⟩
abbrev main_v674 : Ref sig .tc := ⟨.hbm, 1315, rfl⟩
abbrev main_v675 : Ref sig .tc := ⟨.hbm, 1316, rfl⟩
abbrev main_v676 : Ref sig .tc := ⟨.hbm, 1317, rfl⟩
abbrev main_call44_c : Ref sig .tc := ⟨.hbm, 1318, rfl⟩
abbrev main_call44_v0 : Ref sig .tc := ⟨.hbm, 1319, rfl⟩
abbrev main_call44_v1 : Ref sig .tc := ⟨.hbm, 1320, rfl⟩
abbrev main_call44_c_0 : Ref sig .tc := ⟨.hbm, 1321, rfl⟩
abbrev main_call44_v2 : Ref sig .tc := ⟨.hbm, 1322, rfl⟩
abbrev main_call44_v3 : Ref sig .tc := ⟨.hbm, 1323, rfl⟩
abbrev main_call44_v4 : Ref sig .tc := ⟨.hbm, 1324, rfl⟩
abbrev main_call44_v5 : Ref sig .tc := ⟨.hbm, 1325, rfl⟩
abbrev main_call44_c_1 : Ref sig .tc := ⟨.hbm, 1326, rfl⟩
abbrev main_call44_c_2 : Ref sig .tc := ⟨.hbm, 1327, rfl⟩
abbrev main_call44_v6 : Ref sig .tc := ⟨.hbm, 1328, rfl⟩
abbrev main_call44_v7 : Ref sig .tc := ⟨.hbm, 1329, rfl⟩
abbrev main_call44_v8 : Ref sig .tc := ⟨.hbm, 1330, rfl⟩
abbrev main_call44_v9 : Ref sig .tc := ⟨.hbm, 1331, rfl⟩
abbrev main_call44_v10 : Ref sig .tc := ⟨.hbm, 1332, rfl⟩
abbrev main_call44_v11 : Ref sig .tc := ⟨.hbm, 1333, rfl⟩
abbrev main_call44_c_3 : Ref sig .tc := ⟨.hbm, 1334, rfl⟩
abbrev main_call44_v12 : Ref sig .tc := ⟨.hbm, 1335, rfl⟩
abbrev main_call44_v13 : Ref sig .tc := ⟨.hbm, 1336, rfl⟩
abbrev main_call44_cst : Ref sig .tc := ⟨.hbm, 1337, rfl⟩
abbrev main_call44_v14 : Ref sig .tc := ⟨.hbm, 1338, rfl⟩
abbrev main_v677 : Ref sig .tc := ⟨.hbm, 1339, rfl⟩
abbrev main_v678 : Ref sig .tc := ⟨.hbm, 1340, rfl⟩
abbrev main_v679 : Ref sig .tc := ⟨.hbm, 1341, rfl⟩
abbrev main_v680 : Ref sig .tc := ⟨.hbm, 1342, rfl⟩
abbrev main_v681 : Ref sig .tc := ⟨.hbm, 1343, rfl⟩
abbrev main_v682 : Ref sig .tc := ⟨.hbm, 1344, rfl⟩
abbrev main_v683 : Ref sig .tc := ⟨.hbm, 1345, rfl⟩
abbrev main_c_184 : Ref sig .tc := ⟨.hbm, 1346, rfl⟩
abbrev main_v684 : Ref sig .tc := ⟨.hbm, 1347, rfl⟩
abbrev main_v685 : Ref sig .tc := ⟨.hbm, 1348, rfl⟩
abbrev main_c_185 : Ref sig .tc := ⟨.hbm, 1349, rfl⟩
abbrev main_v686 : Ref sig .tc := ⟨.hbm, 1350, rfl⟩
abbrev main_v687 : Ref sig .tc := ⟨.hbm, 1351, rfl⟩
abbrev main_v688 : Ref sig .tc := ⟨.hbm, 1352, rfl⟩
abbrev main_c_186 : Ref sig .tc := ⟨.hbm, 1353, rfl⟩
abbrev main_v689 : Ref sig .tc := ⟨.hbm, 1354, rfl⟩
abbrev main_v690 : Ref sig .tc := ⟨.hbm, 1355, rfl⟩
abbrev main_v691 : Ref sig .tc := ⟨.hbm, 1356, rfl⟩
abbrev main_c_187 : Ref sig .tc := ⟨.hbm, 1357, rfl⟩
abbrev main_v692 : Ref sig .tc := ⟨.hbm, 1358, rfl⟩
abbrev main_v693 : Ref sig .tc := ⟨.hbm, 1359, rfl⟩
abbrev main_v694 : Ref sig .tc := ⟨.hbm, 1360, rfl⟩
abbrev main_c_188 : Ref sig .tc := ⟨.hbm, 1361, rfl⟩
abbrev main_c_189 : Ref sig .tc := ⟨.hbm, 1362, rfl⟩
abbrev main_call45_v0 : Ref sig .tc := ⟨.hbm, 1363, rfl⟩
abbrev main_call45_v1 : Ref sig .tc := ⟨.hbm, 1364, rfl⟩
abbrev main_call45_v2 : Ref sig .tc := ⟨.hbm, 1365, rfl⟩
abbrev main_call45_v3 : Ref sig .tc := ⟨.hbm, 1366, rfl⟩
abbrev main_call45_v4 : Ref sig .tc := ⟨.hbm, 1367, rfl⟩
abbrev main_v695 : Ref sig .tc := ⟨.hbm, 1368, rfl⟩
abbrev main_c_190 : Ref sig .tc := ⟨.hbm, 1369, rfl⟩
abbrev main_c_191 : Ref sig .tc := ⟨.hbm, 1370, rfl⟩
abbrev main_call46_v0 : Ref sig .tc := ⟨.hbm, 1371, rfl⟩
abbrev main_call46_v1 : Ref sig .tc := ⟨.hbm, 1372, rfl⟩
abbrev main_call46_v2 : Ref sig .tc := ⟨.hbm, 1373, rfl⟩
abbrev main_call46_v3 : Ref sig .tc := ⟨.hbm, 1374, rfl⟩
abbrev main_call46_v4 : Ref sig .tc := ⟨.hbm, 1375, rfl⟩
abbrev main_v696 : Ref sig .tc := ⟨.hbm, 1376, rfl⟩
abbrev main_c_192 : Ref sig .tc := ⟨.hbm, 1377, rfl⟩
abbrev main_v697 : Ref sig .tc := ⟨.hbm, 1378, rfl⟩
abbrev main_v698 : Ref sig .tc := ⟨.hbm, 1379, rfl⟩
abbrev main_v699 : Ref sig .tc := ⟨.hbm, 1380, rfl⟩
abbrev main_v700 : Ref sig .tc := ⟨.hbm, 1381, rfl⟩
abbrev main_v701 : Ref sig .tc := ⟨.hbm, 1382, rfl⟩
abbrev main_v702 : Ref sig .tc := ⟨.hbm, 1383, rfl⟩
abbrev main_v703 : Ref sig .tc := ⟨.hbm, 1384, rfl⟩
abbrev main_call47_c : Ref sig .tc := ⟨.hbm, 1385, rfl⟩
abbrev main_call47_v0 : Ref sig .tc := ⟨.hbm, 1386, rfl⟩
abbrev main_call47_v1 : Ref sig .tc := ⟨.hbm, 1387, rfl⟩
abbrev main_call47_c_0 : Ref sig .tc := ⟨.hbm, 1388, rfl⟩
abbrev main_call47_v2 : Ref sig .tc := ⟨.hbm, 1389, rfl⟩
abbrev main_call47_v3 : Ref sig .tc := ⟨.hbm, 1390, rfl⟩
abbrev main_call47_v4 : Ref sig .tc := ⟨.hbm, 1391, rfl⟩
abbrev main_call47_v5 : Ref sig .tc := ⟨.hbm, 1392, rfl⟩
abbrev main_call47_c_1 : Ref sig .tc := ⟨.hbm, 1393, rfl⟩
abbrev main_call47_c_2 : Ref sig .tc := ⟨.hbm, 1394, rfl⟩
abbrev main_call47_v6 : Ref sig .tc := ⟨.hbm, 1395, rfl⟩
abbrev main_call47_v7 : Ref sig .tc := ⟨.hbm, 1396, rfl⟩
abbrev main_call47_v8 : Ref sig .tc := ⟨.hbm, 1397, rfl⟩
abbrev main_call47_v9 : Ref sig .tc := ⟨.hbm, 1398, rfl⟩
abbrev main_call47_v10 : Ref sig .tc := ⟨.hbm, 1399, rfl⟩
abbrev main_call47_v11 : Ref sig .tc := ⟨.hbm, 1400, rfl⟩
abbrev main_call47_c_3 : Ref sig .tc := ⟨.hbm, 1401, rfl⟩
abbrev main_call47_v12 : Ref sig .tc := ⟨.hbm, 1402, rfl⟩
abbrev main_call47_v13 : Ref sig .tc := ⟨.hbm, 1403, rfl⟩
abbrev main_call47_cst : Ref sig .tc := ⟨.hbm, 1404, rfl⟩
abbrev main_call47_v14 : Ref sig .tc := ⟨.hbm, 1405, rfl⟩
abbrev main_v704 : Ref sig .tc := ⟨.hbm, 1406, rfl⟩
abbrev main_v705 : Ref sig .tc := ⟨.hbm, 1407, rfl⟩
abbrev main_v706 : Ref sig .tc := ⟨.hbm, 1408, rfl⟩
abbrev main_v707 : Ref sig .tc := ⟨.hbm, 1409, rfl⟩
abbrev main_v708 : Ref sig .tc := ⟨.hbm, 1410, rfl⟩
abbrev main_v709 : Ref sig .tc := ⟨.hbm, 1411, rfl⟩
abbrev main_v710 : Ref sig .tc := ⟨.hbm, 1412, rfl⟩
abbrev main_v711 : Ref sig .tc := ⟨.hbm, 1413, rfl⟩
abbrev main_v712 : Ref sig .tc := ⟨.hbm, 1414, rfl⟩
abbrev main_v713 : Ref sig .tc := ⟨.hbm, 1415, rfl⟩
abbrev main_v714 : Ref sig .tc := ⟨.hbm, 1416, rfl⟩
abbrev main_v715 : Ref sig .tc := ⟨.hbm, 1417, rfl⟩
abbrev main_v716 : Ref sig .tc := ⟨.hbm, 1418, rfl⟩
abbrev main_v717 : Ref sig .tc := ⟨.hbm, 1419, rfl⟩
abbrev main_v718 : Ref sig .tc := ⟨.hbm, 1420, rfl⟩
abbrev main_v719 : Ref sig .tc := ⟨.hbm, 1421, rfl⟩
abbrev main_v720 : Ref sig .tc := ⟨.hbm, 1422, rfl⟩
abbrev main_v721 : Ref sig .tc := ⟨.hbm, 1423, rfl⟩
abbrev main_v722 : Ref sig .tc := ⟨.hbm, 1424, rfl⟩
abbrev main_v723 : Ref sig .tc := ⟨.hbm, 1425, rfl⟩
abbrev main_v724 : Ref sig .tc := ⟨.hbm, 1426, rfl⟩
abbrev main_v725 : Ref sig .tc := ⟨.hbm, 1427, rfl⟩
abbrev main_v726 : Ref sig .tc := ⟨.hbm, 1428, rfl⟩
abbrev main_v727 : Ref sig .tc := ⟨.hbm, 1429, rfl⟩
abbrev main_v728 : Ref sig .tc := ⟨.hbm, 1430, rfl⟩
abbrev main_v729 : Ref sig .tc := ⟨.hbm, 1431, rfl⟩
abbrev main_cst_193 : Ref sig .tc := ⟨.hbm, 1432, rfl⟩
abbrev main_v730 : Ref sig .tc := ⟨.hbm, 1433, rfl⟩
abbrev main_v731 : Ref sig .tc := ⟨.hbm, 1434, rfl⟩
abbrev main_cst_194 : Ref sig .tc := ⟨.hbm, 1435, rfl⟩
abbrev main_v732 : Ref sig .tc := ⟨.hbm, 1436, rfl⟩
abbrev main_v733 : Ref sig .tc := ⟨.hbm, 1437, rfl⟩
abbrev main_v734 : Ref sig .tc := ⟨.hbm, 1438, rfl⟩
abbrev main_cst_195 : Ref sig .tc := ⟨.hbm, 1439, rfl⟩
abbrev main_v735 : Ref sig .tc := ⟨.hbm, 1440, rfl⟩
abbrev main_v736 : Ref sig .tc := ⟨.hbm, 1441, rfl⟩
abbrev main_v737 : Ref sig .tc := ⟨.hbm, 1442, rfl⟩
abbrev main_cst_196 : Ref sig .tc := ⟨.hbm, 1443, rfl⟩
abbrev main_v738 : Ref sig .tc := ⟨.hbm, 1444, rfl⟩
abbrev main_v739 : Ref sig .tc := ⟨.hbm, 1445, rfl⟩
abbrev main_v740 : Ref sig .tc := ⟨.hbm, 1446, rfl⟩
abbrev main_v741 : Ref sig .tc := ⟨.hbm, 1447, rfl⟩
abbrev main_v742 : Ref sig .tc := ⟨.hbm, 1448, rfl⟩
abbrev main_v743 : Ref sig .tc := ⟨.hbm, 1449, rfl⟩
abbrev main_v744 : Ref sig .tc := ⟨.hbm, 1450, rfl⟩
abbrev main_v745 : Ref sig .tc := ⟨.hbm, 1451, rfl⟩
abbrev main_v746 : Ref sig .tc := ⟨.hbm, 1452, rfl⟩
abbrev main_v747 : Ref sig .tc := ⟨.hbm, 1453, rfl⟩
abbrev main_v748 : Ref sig .tc := ⟨.hbm, 1454, rfl⟩
abbrev main_v749 : Ref sig .tc := ⟨.hbm, 1455, rfl⟩
abbrev main_cst_197 : Ref sig .tc := ⟨.hbm, 1456, rfl⟩
abbrev main_v750 : Ref sig .tc := ⟨.hbm, 1457, rfl⟩
abbrev main_v751 : Ref sig .tc := ⟨.hbm, 1458, rfl⟩
abbrev main_v752 : Ref sig .tc := ⟨.hbm, 1459, rfl⟩
abbrev main_v753 : Ref sig .tc := ⟨.hbm, 1460, rfl⟩
abbrev main_v754 : Ref sig .tc := ⟨.hbm, 1461, rfl⟩
abbrev main_v755 : Ref sig .tc := ⟨.hbm, 1462, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2176x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2176x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2176x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2176x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2176x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2176x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== ReferenceIdeal.lean ====
abbrev S2x5440x256 : Shape := ⟨3, ![2, 5440, 256]⟩
abbrev S2x5440x4x2 : Shape := ⟨4, ![2, 5440, 4, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S4x2 : Shape := ⟨2, ![4, 2]⟩
abbrev S2x5440x8x32 : Shape := ⟨4, ![2, 5440, 8, 32]⟩
abbrev S2x5440x8x4x4x2 : Shape := ⟨6, ![2, 5440, 8, 4, 4, 2]⟩
abbrev S2x5440x128 : Shape := ⟨3, ![2, 5440, 128]⟩
abbrev S2x5440x8x16 : Shape := ⟨4, ![2, 5440, 8, 16]⟩
abbrev S1x1x1x4x1x2 : Shape := ⟨6, ![1, 1, 1, 4, 1, 2]⟩
abbrev S_ : Shape := ⟨0, ![]⟩
abbrev S2x5440x8 : Shape := ⟨3, ![2, 5440, 8]⟩
abbrev S2x5440x8x1 : Shape := ⟨4, ![2, 5440, 8, 1]⟩
abbrev S2x5440x8x4x4 : Shape := ⟨5, ![2, 5440, 8, 4, 4]⟩
abbrev S2x4096x8x32 : Shape := ⟨4, ![2, 4096, 8, 32]⟩
abbrev S2x64x64x8x32 : Shape := ⟨5, ![2, 64, 64, 8, 32]⟩
abbrev S2x5440x8x1x4x2 : Shape := ⟨6, ![2, 5440, 8, 1, 4, 2]⟩
abbrev S2x5440x8x4x2 : Shape := ⟨5, ![2, 5440, 8, 4, 2]⟩
abbrev S2x5440x8x4x1 : Shape := ⟨5, ![2, 5440, 8, 4, 1]⟩
abbrev S2x5440x8x4 : Shape := ⟨4, ![2, 5440, 8, 4]⟩
abbrev S2x8x64x64x32 : Shape := ⟨5, ![2, 8, 64, 64, 32]⟩
abbrev S16x4096x32 : Shape := ⟨3, ![16, 4096, 32]⟩
abbrev S2x8x5440x4 : Shape := ⟨4, ![2, 8, 5440, 4]⟩
abbrev S16x21760 : Shape := ⟨2, ![16, 21760]⟩
abbrev S16x21760x1 : Shape := ⟨3, ![16, 21760, 1]⟩
abbrev S16x21760x32 : Shape := ⟨3, ![16, 21760, 32]⟩
abbrev S16x21760x32x1 : Shape := ⟨4, ![16, 21760, 32, 1]⟩
abbrev S1 : Shape := ⟨1, ![1]⟩
abbrev S1x1x1x1 : Shape := ⟨4, ![1, 1, 1, 1]⟩
abbrev S2x8x5440x4x32 : Shape := ⟨5, ![2, 8, 5440, 4, 32]⟩
abbrev S2x5440x8x4x32 : Shape := ⟨5, ![2, 5440, 8, 4, 32]⟩
abbrev S2x5440x8x1x4 : Shape := ⟨5, ![2, 5440, 8, 1, 4]⟩
abbrev S2x1024x8x32 : Shape := ⟨4, ![2, 1024, 8, 32]⟩
abbrev S2x32x32x8x32 : Shape := ⟨5, ![2, 32, 32, 8, 32]⟩
abbrev S2x8x32x32x32 : Shape := ⟨5, ![2, 8, 32, 32, 32]⟩
abbrev S16x1024x32 : Shape := ⟨3, ![16, 1024, 32]⟩
abbrev S2x256x8x32 : Shape := ⟨4, ![2, 256, 8, 32]⟩
abbrev S2x16x16x8x32 : Shape := ⟨5, ![2, 16, 16, 8, 32]⟩
abbrev S2x8x16x16x32 : Shape := ⟨5, ![2, 8, 16, 16, 32]⟩
abbrev S16x256x32 : Shape := ⟨3, ![16, 256, 32]⟩
abbrev S2x64x8x32 : Shape := ⟨4, ![2, 64, 8, 32]⟩
abbrev S2x8x8x8x32 : Shape := ⟨5, ![2, 8, 8, 8, 32]⟩
abbrev S16x64x32 : Shape := ⟨3, ![16, 64, 32]⟩

abbrev nBuf : Space → Nat
  | .hbm => 1463
  | .vmem => 0
  | .smem => 0
  | _ => 0

abbrev hbmTy0_0 (i : Nat) : BufTy := match i % 128 with
  | 0 => ⟨S2x5440x256, .f32⟩
  | 1 => ⟨S2x5440x4x2, .f32⟩
  | 2 => ⟨S2x5440x256, .f32⟩
  | 3 => ⟨S256x256, .f32⟩
  | 4 => ⟨S256, .f32⟩
  | 5 => ⟨S256x128, .f32⟩
  | 6 => ⟨S128, .f32⟩
  | 7 => ⟨S256x256, .f32⟩
  | 8 => ⟨S256, .f32⟩
  | 9 => ⟨S256x256, .f32⟩
  | 10 => ⟨S256, .f32⟩
  | 11 => ⟨S4x2, .f32⟩
  | 12 => ⟨S2x5440x256, .f32⟩
  | 13 => ⟨S2x5440x256, .f32⟩
  | 14 => ⟨S2x5440x256, .f32⟩
  | 15 => ⟨S2x5440x8x32, .f32⟩
  | 16 => ⟨S2x5440x256, .f32⟩
  | 17 => ⟨S2x5440x256, .f32⟩
  | 18 => ⟨S2x5440x256, .f32⟩
  | 19 => ⟨S2x5440x8x4x4x2, .f32⟩
  | 20 => ⟨S2x5440x128, .f32⟩
  | 21 => ⟨S2x5440x128, .f32⟩
  | 22 => ⟨S2x5440x128, .f32⟩
  | 23 => ⟨S2x5440x8x16, .f32⟩
  | 24 => ⟨S1x1x1x4x1x2, .f32⟩
  | 25 => ⟨S2x5440x8x4x4x2, .f32⟩
  | 26 => ⟨S2x5440x8x4x4x2, .f32⟩
  | 27 => ⟨S2x5440x8x4x4x2, .f32⟩
  | 28 => ⟨S2x5440x8x4x4x2, .f32⟩
  | 29 => ⟨S_, .f32⟩
  | 30 => ⟨S2x5440x8, .f32⟩
  | 31 => ⟨S2x5440x8x1, .f32⟩
  | 32 => ⟨S2x5440x8x16, .f32⟩
  | 33 => ⟨S2x5440x8x16, .f32⟩
  | 34 => ⟨S2x5440x8x16, .f32⟩
  | 35 => ⟨S_, .f32⟩
  | 36 => ⟨S2x5440x8, .f32⟩
  | 37 => ⟨S2x5440x8x1, .f32⟩
  | 38 => ⟨S2x5440x8x16, .f32⟩
  | 39 => ⟨S2x5440x8x16, .f32⟩
  | 40 => ⟨S2x5440x8x4x4, .f32⟩
  | 41 => ⟨S_, .f32⟩
  | 42 => ⟨S2x5440x8x32, .f32⟩
  | 43 => ⟨S2x4096x8x32, .f32⟩
  | 44 => ⟨S2x64x64x8x32, .f32⟩
  | 45 => ⟨S2x5440x8x1x4x2, .f32⟩
  | 46 => ⟨S2x5440x8x4x2, .f32⟩
  | 47 => ⟨S2x5440x8x4x1, .f32⟩
  | 48 => ⟨S2x5440x8x4, .f32⟩
  | 49 => ⟨S_, .f32⟩
  | 50 => ⟨S2x5440x8x4, .f32⟩
  | 51 => ⟨S2x5440x8x4, .f32⟩
  | 52 => ⟨S_, .f32⟩
  | 53 => ⟨S2x5440x8x4, .f32⟩
  | 54 => ⟨S2x5440x8x4, .f32⟩
  | 55 => ⟨S2x5440x8x4x1, .f32⟩
  | 56 => ⟨S2x5440x8x4, .f32⟩
  | 57 => ⟨S_, .f32⟩
  | 58 => ⟨S2x5440x8x4, .f32⟩
  | 59 => ⟨S2x5440x8x4, .f32⟩
  | 60 => ⟨S_, .f32⟩
  | 61 => ⟨S2x5440x8x4, .f32⟩
  | 62 => ⟨S2x5440x8x4, .f32⟩
  | 63 => ⟨S2x5440x8x4, .f32⟩
  | 64 => ⟨S2x5440x8x4, .f32⟩
  | 65 => ⟨S2x5440x8x4, .f32⟩
  | 66 => ⟨S2x5440x8x4, .f32⟩
  | 67 => ⟨S_, .f32⟩
  | 68 => ⟨S2x5440x8x4, .f32⟩
  | 69 => ⟨S2x5440x8x4, .f32⟩
  | 70 => ⟨S_, .f32⟩
  | 71 => ⟨S2x5440x8x4, .f32⟩
  | 72 => ⟨S2x5440x8x4, .f32⟩
  | 73 => ⟨S2x5440x8x4, .i32⟩
  | 74 => ⟨S2x5440x8x4, .i32⟩
  | 75 => ⟨S_, .i32⟩
  | 76 => ⟨S2x5440x8x4, .i32⟩
  | 77 => ⟨S2x5440x8x4, .i32⟩
  | 78 => ⟨S_, .i32⟩
  | 79 => ⟨S2x5440x8x4, .i32⟩
  | 80 => ⟨S2x5440x8x4, .i32⟩
  | 81 => ⟨S2x8x64x64x32, .f32⟩
  | 82 => ⟨S16x4096x32, .f32⟩
  | 83 => ⟨S_, .i32⟩
  | 84 => ⟨S2x5440x8x4, .i32⟩
  | 85 => ⟨S2x5440x8x4, .i1⟩
  | 86 => ⟨S_, .i32⟩
  | 87 => ⟨S2x5440x8x4, .i32⟩
  | 88 => ⟨S2x5440x8x4, .i1⟩
  | 89 => ⟨S2x5440x8x4, .i1⟩
  | 90 => ⟨S_, .i32⟩
  | 91 => ⟨S2x5440x8x4, .i32⟩
  | 92 => ⟨S2x5440x8x4, .i1⟩
  | 93 => ⟨S2x5440x8x4, .i1⟩
  | 94 => ⟨S_, .i32⟩
  | 95 => ⟨S2x5440x8x4, .i32⟩
  | 96 => ⟨S2x5440x8x4, .i1⟩
  | 97 => ⟨S2x5440x8x4, .i1⟩
  | 98 => ⟨S_, .i32⟩
  | 99 => ⟨S_, .i32⟩
  | 100 => ⟨S_, .i32⟩
  | 101 => ⟨S2x5440x8x4, .i32⟩
  | 102 => ⟨S2x5440x8x4, .i32⟩
  | 103 => ⟨S_, .i32⟩
  | 104 => ⟨S2x5440x8x4, .i32⟩
  | 105 => ⟨S2x5440x8x4, .i32⟩
  | 106 => ⟨S_, .i32⟩
  | 107 => ⟨S_, .i32⟩
  | 108 => ⟨S_, .i32⟩
  | 109 => ⟨S2x5440x8x4, .i32⟩
  | 110 => ⟨S2x5440x8x4, .i32⟩
  | 111 => ⟨S_, .i32⟩
  | 112 => ⟨S2x5440x8x4, .i32⟩
  | 113 => ⟨S2x5440x8x4, .i32⟩
  | 114 => ⟨S_, .i32⟩
  | 115 => ⟨S2x5440x8x4, .i32⟩
  | 116 => ⟨S2x5440x8x4, .i32⟩
  | 117 => ⟨S2x5440x8x4, .i32⟩
  | 118 => ⟨S2x8x5440x4, .i32⟩
  | 119 => ⟨S16x21760, .i32⟩
  | 120 => ⟨S16x21760x1, .i32⟩
  | 121 => ⟨S16x21760x32, .i32⟩
  | 122 => ⟨S_, .i32⟩
  | 123 => ⟨S16x21760x32, .i32⟩
  | 124 => ⟨S16x21760x32, .i1⟩
  | 125 => ⟨S_, .i32⟩
  | 126 => ⟨S16x21760x32, .i32⟩
  | 127 => ⟨S16x21760x32, .i32⟩
  | _ => ⟨S2x5440x256, .f32⟩

abbrev hbmTy0_1 (i : Nat) : BufTy := match i % 128 with
  | 0 => ⟨S16x21760x32, .i32⟩
  | 1 => ⟨S16x21760x32x1, .i32⟩
  | 2 => ⟨S1, .i32⟩
  | 3 => ⟨S_, .i32⟩
  | 4 => ⟨S16x21760x32x1, .i32⟩
  | 5 => ⟨S16x21760x32x1, .i1⟩
  | 6 => ⟨S1x1x1x1, .i32⟩
  | 7 => ⟨S16x21760x32x1, .i32⟩
  | 8 => ⟨S16x21760x32x1, .i1⟩
  | 9 => ⟨S16x21760x32x1, .i1⟩
  | 10 => ⟨S_, .i1⟩
  | 11 => ⟨S16x21760x32, .i1⟩
  | 12 => ⟨S16x21760x32, .f32⟩
  | 13 => ⟨S_, .f32⟩
  | 14 => ⟨S16x21760x32, .f32⟩
  | 15 => ⟨S16x21760x32, .f32⟩
  | 16 => ⟨S2x8x5440x4x32, .f32⟩
  | 17 => ⟨S2x5440x8x4x32, .f32⟩
  | 18 => ⟨S2x5440x8x4, .f32⟩
  | 19 => ⟨S2x5440x8x4x1, .f32⟩
  | 20 => ⟨S2x5440x8x4x32, .f32⟩
  | 21 => ⟨S2x5440x8x4x32, .f32⟩
  | 22 => ⟨S_, .i32⟩
  | 23 => ⟨S2x5440x8x4, .i32⟩
  | 24 => ⟨S2x5440x8x4, .i1⟩
  | 25 => ⟨S_, .i32⟩
  | 26 => ⟨S2x5440x8x4, .i32⟩
  | 27 => ⟨S2x5440x8x4, .i1⟩
  | 28 => ⟨S2x5440x8x4, .i1⟩
  | 29 => ⟨S_, .i32⟩
  | 30 => ⟨S2x5440x8x4, .i32⟩
  | 31 => ⟨S2x5440x8x4, .i1⟩
  | 32 => ⟨S2x5440x8x4, .i1⟩
  | 33 => ⟨S_, .i32⟩
  | 34 => ⟨S2x5440x8x4, .i32⟩
  | 35 => ⟨S2x5440x8x4, .i1⟩
  | 36 => ⟨S2x5440x8x4, .i1⟩
  | 37 => ⟨S_, .i32⟩
  | 38 => ⟨S_, .i32⟩
  | 39 => ⟨S_, .i32⟩
  | 40 => ⟨S2x5440x8x4, .i32⟩
  | 41 => ⟨S2x5440x8x4, .i32⟩
  | 42 => ⟨S_, .i32⟩
  | 43 => ⟨S2x5440x8x4, .i32⟩
  | 44 => ⟨S2x5440x8x4, .i32⟩
  | 45 => ⟨S_, .i32⟩
  | 46 => ⟨S_, .i32⟩
  | 47 => ⟨S_, .i32⟩
  | 48 => ⟨S2x5440x8x4, .i32⟩
  | 49 => ⟨S2x5440x8x4, .i32⟩
  | 50 => ⟨S_, .i32⟩
  | 51 => ⟨S2x5440x8x4, .i32⟩
  | 52 => ⟨S2x5440x8x4, .i32⟩
  | 53 => ⟨S_, .i32⟩
  | 54 => ⟨S2x5440x8x4, .i32⟩
  | 55 => ⟨S2x5440x8x4, .i32⟩
  | 56 => ⟨S2x5440x8x4, .i32⟩
  | 57 => ⟨S2x8x5440x4, .i32⟩
  | 58 => ⟨S16x21760, .i32⟩
  | 59 => ⟨S16x21760x1, .i32⟩
  | 60 => ⟨S16x21760x32, .i32⟩
  | 61 => ⟨S_, .i32⟩
  | 62 => ⟨S16x21760x32, .i32⟩
  | 63 => ⟨S16x21760x32, .i1⟩
  | 64 => ⟨S_, .i32⟩
  | 65 => ⟨S16x21760x32, .i32⟩
  | 66 => ⟨S16x21760x32, .i32⟩
  | 67 => ⟨S16x21760x32, .i32⟩
  | 68 => ⟨S16x21760x32x1, .i32⟩
  | 69 => ⟨S1, .i32⟩
  | 70 => ⟨S_, .i32⟩
  | 71 => ⟨S16x21760x32x1, .i32⟩
  | 72 => ⟨S16x21760x32x1, .i1⟩
  | 73 => ⟨S1x1x1x1, .i32⟩
  | 74 => ⟨S16x21760x32x1, .i32⟩
  | 75 => ⟨S16x21760x32x1, .i1⟩
  | 76 => ⟨S16x21760x32x1, .i1⟩
  | 77 => ⟨S_, .i1⟩
  | 78 => ⟨S16x21760x32, .i1⟩
  | 79 => ⟨S16x21760x32, .f32⟩
  | 80 => ⟨S_, .f32⟩
  | 81 => ⟨S16x21760x32, .f32⟩
  | 82 => ⟨S16x21760x32, .f32⟩
  | 83 => ⟨S2x8x5440x4x32, .f32⟩
  | 84 => ⟨S2x5440x8x4x32, .f32⟩
  | 85 => ⟨S2x5440x8x4, .f32⟩
  | 86 => ⟨S2x5440x8x4x1, .f32⟩
  | 87 => ⟨S2x5440x8x4x32, .f32⟩
  | 88 => ⟨S2x5440x8x4x32, .f32⟩
  | 89 => ⟨S_, .i32⟩
  | 90 => ⟨S2x5440x8x4, .i32⟩
  | 91 => ⟨S2x5440x8x4, .i1⟩
  | 92 => ⟨S_, .i32⟩
  | 93 => ⟨S2x5440x8x4, .i32⟩
  | 94 => ⟨S2x5440x8x4, .i1⟩
  | 95 => ⟨S2x5440x8x4, .i1⟩
  | 96 => ⟨S_, .i32⟩
  | 97 => ⟨S2x5440x8x4, .i32⟩
  | 98 => ⟨S2x5440x8x4, .i1⟩
  | 99 => ⟨S2x5440x8x4, .i1⟩
  | 100 => ⟨S_, .i32⟩
  | 101 => ⟨S2x5440x8x4, .i32⟩
  | 102 => ⟨S2x5440x8x4, .i1⟩
  | 103 => ⟨S2x5440x8x4, .i1⟩
  | 104 => ⟨S_, .i32⟩
  | 105 => ⟨S_, .i32⟩
  | 106 => ⟨S_, .i32⟩
  | 107 => ⟨S2x5440x8x4, .i32⟩
  | 108 => ⟨S2x5440x8x4, .i32⟩
  | 109 => ⟨S_, .i32⟩
  | 110 => ⟨S2x5440x8x4, .i32⟩
  | 111 => ⟨S2x5440x8x4, .i32⟩
  | 112 => ⟨S_, .i32⟩
  | 113 => ⟨S_, .i32⟩
  | 114 => ⟨S_, .i32⟩
  | 115 => ⟨S2x5440x8x4, .i32⟩
  | 116 => ⟨S2x5440x8x4, .i32⟩
  | 117 => ⟨S_, .i32⟩
  | 118 => ⟨S2x5440x8x4, .i32⟩
  | 119 => ⟨S2x5440x8x4, .i32⟩
  | 120 => ⟨S_, .i32⟩
  | 121 => ⟨S2x5440x8x4, .i32⟩
  | 122 => ⟨S2x5440x8x4, .i32⟩
  | 123 => ⟨S2x5440x8x4, .i32⟩
  | 124 => ⟨S2x8x5440x4, .i32⟩
  | 125 => ⟨S16x21760, .i32⟩
  | 126 => ⟨S16x21760x1, .i32⟩
  | 127 => ⟨S16x21760x32, .i32⟩
  | _ => ⟨S2x5440x256, .f32⟩

abbrev hbmTy0_2 (i : Nat) : BufTy := match i % 128 with
  | 0 => ⟨S_, .i32⟩
  | 1 => ⟨S16x21760x32, .i32⟩
  | 2 => ⟨S16x21760x32, .i1⟩
  | 3 => ⟨S_, .i32⟩
  | 4 => ⟨S16x21760x32, .i32⟩
  | 5 => ⟨S16x21760x32, .i32⟩
  | 6 => ⟨S16x21760x32, .i32⟩
  | 7 => ⟨S16x21760x32x1, .i32⟩
  | 8 => ⟨S1, .i32⟩
  | 9 => ⟨S_, .i32⟩
  | 10 => ⟨S16x21760x32x1, .i32⟩
  | 11 => ⟨S16x21760x32x1, .i1⟩
  | 12 => ⟨S1x1x1x1, .i32⟩
  | 13 => ⟨S16x21760x32x1, .i32⟩
  | 14 => ⟨S16x21760x32x1, .i1⟩
  | 15 => ⟨S16x21760x32x1, .i1⟩
  | 16 => ⟨S_, .i1⟩
  | 17 => ⟨S16x21760x32, .i1⟩
  | 18 => ⟨S16x21760x32, .f32⟩
  | 19 => ⟨S_, .f32⟩
  | 20 => ⟨S16x21760x32, .f32⟩
  | 21 => ⟨S16x21760x32, .f32⟩
  | 22 => ⟨S2x8x5440x4x32, .f32⟩
  | 23 => ⟨S2x5440x8x4x32, .f32⟩
  | 24 => ⟨S2x5440x8x4, .f32⟩
  | 25 => ⟨S2x5440x8x4x1, .f32⟩
  | 26 => ⟨S2x5440x8x4x32, .f32⟩
  | 27 => ⟨S2x5440x8x4x32, .f32⟩
  | 28 => ⟨S_, .i32⟩
  | 29 => ⟨S2x5440x8x4, .i32⟩
  | 30 => ⟨S2x5440x8x4, .i1⟩
  | 31 => ⟨S_, .i32⟩
  | 32 => ⟨S2x5440x8x4, .i32⟩
  | 33 => ⟨S2x5440x8x4, .i1⟩
  | 34 => ⟨S2x5440x8x4, .i1⟩
  | 35 => ⟨S_, .i32⟩
  | 36 => ⟨S2x5440x8x4, .i32⟩
  | 37 => ⟨S2x5440x8x4, .i1⟩
  | 38 => ⟨S2x5440x8x4, .i1⟩
  | 39 => ⟨S_, .i32⟩
  | 40 => ⟨S2x5440x8x4, .i32⟩
  | 41 => ⟨S2x5440x8x4, .i1⟩
  | 42 => ⟨S2x5440x8x4, .i1⟩
  | 43 => ⟨S_, .i32⟩
  | 44 => ⟨S_, .i32⟩
  | 45 => ⟨S_, .i32⟩
  | 46 => ⟨S2x5440x8x4, .i32⟩
  | 47 => ⟨S2x5440x8x4, .i32⟩
  | 48 => ⟨S_, .i32⟩
  | 49 => ⟨S2x5440x8x4, .i32⟩
  | 50 => ⟨S2x5440x8x4, .i32⟩
  | 51 => ⟨S_, .i32⟩
  | 52 => ⟨S_, .i32⟩
  | 53 => ⟨S_, .i32⟩
  | 54 => ⟨S2x5440x8x4, .i32⟩
  | 55 => ⟨S2x5440x8x4, .i32⟩
  | 56 => ⟨S_, .i32⟩
  | 57 => ⟨S2x5440x8x4, .i32⟩
  | 58 => ⟨S2x5440x8x4, .i32⟩
  | 59 => ⟨S_, .i32⟩
  | 60 => ⟨S2x5440x8x4, .i32⟩
  | 61 => ⟨S2x5440x8x4, .i32⟩
  | 62 => ⟨S2x5440x8x4, .i32⟩
  | 63 => ⟨S2x8x5440x4, .i32⟩
  | 64 => ⟨S16x21760, .i32⟩
  | 65 => ⟨S16x21760x1, .i32⟩
  | 66 => ⟨S16x21760x32, .i32⟩
  | 67 => ⟨S_, .i32⟩
  | 68 => ⟨S16x21760x32, .i32⟩
  | 69 => ⟨S16x21760x32, .i1⟩
  | 70 => ⟨S_, .i32⟩
  | 71 => ⟨S16x21760x32, .i32⟩
  | 72 => ⟨S16x21760x32, .i32⟩
  | 73 => ⟨S16x21760x32, .i32⟩
  | 74 => ⟨S16x21760x32x1, .i32⟩
  | 75 => ⟨S1, .i32⟩
  | 76 => ⟨S_, .i32⟩
  | 77 => ⟨S16x21760x32x1, .i32⟩
  | 78 => ⟨S16x21760x32x1, .i1⟩
  | 79 => ⟨S1x1x1x1, .i32⟩
  | 80 => ⟨S16x21760x32x1, .i32⟩
  | 81 => ⟨S16x21760x32x1, .i1⟩
  | 82 => ⟨S16x21760x32x1, .i1⟩
  | 83 => ⟨S_, .i1⟩
  | 84 => ⟨S16x21760x32, .i1⟩
  | 85 => ⟨S16x21760x32, .f32⟩
  | 86 => ⟨S_, .f32⟩
  | 87 => ⟨S16x21760x32, .f32⟩
  | 88 => ⟨S16x21760x32, .f32⟩
  | 89 => ⟨S2x8x5440x4x32, .f32⟩
  | 90 => ⟨S2x5440x8x4x32, .f32⟩
  | 91 => ⟨S2x5440x8x4, .f32⟩
  | 92 => ⟨S2x5440x8x4x1, .f32⟩
  | 93 => ⟨S2x5440x8x4x32, .f32⟩
  | 94 => ⟨S2x5440x8x4x32, .f32⟩
  | 95 => ⟨S2x5440x8x4, .f32⟩
  | 96 => ⟨S2x5440x8x4x1, .f32⟩
  | 97 => ⟨S2x5440x8x4x32, .f32⟩
  | 98 => ⟨S2x5440x8x4x32, .f32⟩
  | 99 => ⟨S2x5440x8x4, .f32⟩
  | 100 => ⟨S2x5440x8x4x1, .f32⟩
  | 101 => ⟨S2x5440x8x4x32, .f32⟩
  | 102 => ⟨S2x5440x8x4x32, .f32⟩
  | 103 => ⟨S2x5440x8x4x32, .f32⟩
  | 104 => ⟨S2x5440x8x4, .f32⟩
  | 105 => ⟨S2x5440x8x4x1, .f32⟩
  | 106 => ⟨S2x5440x8x4x32, .f32⟩
  | 107 => ⟨S2x5440x8x4x32, .f32⟩
  | 108 => ⟨S2x5440x8x4x32, .f32⟩
  | 109 => ⟨S2x5440x8x4, .f32⟩
  | 110 => ⟨S2x5440x8x4x1, .f32⟩
  | 111 => ⟨S2x5440x8x4x32, .f32⟩
  | 112 => ⟨S2x5440x8x4x32, .f32⟩
  | 113 => ⟨S2x5440x8x4x32, .f32⟩
  | 114 => ⟨S_, .f32⟩
  | 115 => ⟨S2x5440x8x4, .f32⟩
  | 116 => ⟨S2x5440x8x4, .i1⟩
  | 117 => ⟨S_, .f32⟩
  | 118 => ⟨S2x5440x8x4, .f32⟩
  | 119 => ⟨S2x5440x8x4, .i1⟩
  | 120 => ⟨S2x5440x8x4, .i1⟩
  | 121 => ⟨S_, .f32⟩
  | 122 => ⟨S2x5440x8x4, .f32⟩
  | 123 => ⟨S2x5440x8x4, .i1⟩
  | 124 => ⟨S2x5440x8x4, .i1⟩
  | 125 => ⟨S_, .f32⟩
  | 126 => ⟨S2x5440x8x4, .f32⟩
  | 127 => ⟨S2x5440x8x4, .i1⟩
  | _ => ⟨S2x5440x256, .f32⟩

abbrev hbmTy0_3 (i : Nat) : BufTy := match i % 128 with
  | 0 => ⟨S2x5440x8x4, .i1⟩
  | 1 => ⟨S2x5440x8x4, .f32⟩
  | 2 => ⟨S2x5440x8x4x1, .f32⟩
  | 3 => ⟨S2x5440x8x4x32, .f32⟩
  | 4 => ⟨S2x5440x8x4x32, .f32⟩
  | 5 => ⟨S2x5440x8x1x4, .f32⟩
  | 6 => ⟨S2x5440x8x4, .f32⟩
  | 7 => ⟨S2x5440x8x4x1, .f32⟩
  | 8 => ⟨S2x5440x8x4x32, .f32⟩
  | 9 => ⟨S2x5440x8x4x32, .f32⟩
  | 10 => ⟨S_, .f32⟩
  | 11 => ⟨S2x5440x8x32, .f32⟩
  | 12 => ⟨S2x5440x8x32, .f32⟩
  | 13 => ⟨S2x1024x8x32, .f32⟩
  | 14 => ⟨S2x32x32x8x32, .f32⟩
  | 15 => ⟨S2x5440x8x1x4x2, .f32⟩
  | 16 => ⟨S2x5440x8x4x2, .f32⟩
  | 17 => ⟨S2x5440x8x4x1, .f32⟩
  | 18 => ⟨S2x5440x8x4, .f32⟩
  | 19 => ⟨S_, .f32⟩
  | 20 => ⟨S2x5440x8x4, .f32⟩
  | 21 => ⟨S2x5440x8x4, .f32⟩
  | 22 => ⟨S_, .f32⟩
  | 23 => ⟨S2x5440x8x4, .f32⟩
  | 24 => ⟨S2x5440x8x4, .f32⟩
  | 25 => ⟨S2x5440x8x4x1, .f32⟩
  | 26 => ⟨S2x5440x8x4, .f32⟩
  | 27 => ⟨S_, .f32⟩
  | 28 => ⟨S2x5440x8x4, .f32⟩
  | 29 => ⟨S2x5440x8x4, .f32⟩
  | 30 => ⟨S_, .f32⟩
  | 31 => ⟨S2x5440x8x4, .f32⟩
  | 32 => ⟨S2x5440x8x4, .f32⟩
  | 33 => ⟨S2x5440x8x4, .f32⟩
  | 34 => ⟨S2x5440x8x4, .f32⟩
  | 35 => ⟨S2x5440x8x4, .f32⟩
  | 36 => ⟨S2x5440x8x4, .f32⟩
  | 37 => ⟨S_, .f32⟩
  | 38 => ⟨S2x5440x8x4, .f32⟩
  | 39 => ⟨S2x5440x8x4, .f32⟩
  | 40 => ⟨S_, .f32⟩
  | 41 => ⟨S2x5440x8x4, .f32⟩
  | 42 => ⟨S2x5440x8x4, .f32⟩
  | 43 => ⟨S2x5440x8x4, .i32⟩
  | 44 => ⟨S2x5440x8x4, .i32⟩
  | 45 => ⟨S_, .i32⟩
  | 46 => ⟨S2x5440x8x4, .i32⟩
  | 47 => ⟨S2x5440x8x4, .i32⟩
  | 48 => ⟨S_, .i32⟩
  | 49 => ⟨S2x5440x8x4, .i32⟩
  | 50 => ⟨S2x5440x8x4, .i32⟩
  | 51 => ⟨S2x8x32x32x32, .f32⟩
  | 52 => ⟨S16x1024x32, .f32⟩
  | 53 => ⟨S_, .i32⟩
  | 54 => ⟨S2x5440x8x4, .i32⟩
  | 55 => ⟨S2x5440x8x4, .i1⟩
  | 56 => ⟨S_, .i32⟩
  | 57 => ⟨S2x5440x8x4, .i32⟩
  | 58 => ⟨S2x5440x8x4, .i1⟩
  | 59 => ⟨S2x5440x8x4, .i1⟩
  | 60 => ⟨S_, .i32⟩
  | 61 => ⟨S2x5440x8x4, .i32⟩
  | 62 => ⟨S2x5440x8x4, .i1⟩
  | 63 => ⟨S2x5440x8x4, .i1⟩
  | 64 => ⟨S_, .i32⟩
  | 65 => ⟨S2x5440x8x4, .i32⟩
  | 66 => ⟨S2x5440x8x4, .i1⟩
  | 67 => ⟨S2x5440x8x4, .i1⟩
  | 68 => ⟨S_, .i32⟩
  | 69 => ⟨S_, .i32⟩
  | 70 => ⟨S_, .i32⟩
  | 71 => ⟨S2x5440x8x4, .i32⟩
  | 72 => ⟨S2x5440x8x4, .i32⟩
  | 73 => ⟨S_, .i32⟩
  | 74 => ⟨S2x5440x8x4, .i32⟩
  | 75 => ⟨S2x5440x8x4, .i32⟩
  | 76 => ⟨S_, .i32⟩
  | 77 => ⟨S_, .i32⟩
  | 78 => ⟨S_, .i32⟩
  | 79 => ⟨S2x5440x8x4, .i32⟩
  | 80 => ⟨S2x5440x8x4, .i32⟩
  | 81 => ⟨S_, .i32⟩
  | 82 => ⟨S2x5440x8x4, .i32⟩
  | 83 => ⟨S2x5440x8x4, .i32⟩
  | 84 => ⟨S_, .i32⟩
  | 85 => ⟨S2x5440x8x4, .i32⟩
  | 86 => ⟨S2x5440x8x4, .i32⟩
  | 87 => ⟨S2x5440x8x4, .i32⟩
  | 88 => ⟨S2x8x5440x4, .i32⟩
  | 89 => ⟨S16x21760, .i32⟩
  | 90 => ⟨S16x21760x1, .i32⟩
  | 91 => ⟨S16x21760x32, .i32⟩
  | 92 => ⟨S_, .i32⟩
  | 93 => ⟨S16x21760x32, .i32⟩
  | 94 => ⟨S16x21760x32, .i1⟩
  | 95 => ⟨S_, .i32⟩
  | 96 => ⟨S16x21760x32, .i32⟩
  | 97 => ⟨S16x21760x32, .i32⟩
  | 98 => ⟨S16x21760x32, .i32⟩
  | 99 => ⟨S16x21760x32x1, .i32⟩
  | 100 => ⟨S1, .i32⟩
  | 101 => ⟨S_, .i32⟩
  | 102 => ⟨S16x21760x32x1, .i32⟩
  | 103 => ⟨S16x21760x32x1, .i1⟩
  | 104 => ⟨S1x1x1x1, .i32⟩
  | 105 => ⟨S16x21760x32x1, .i32⟩
  | 106 => ⟨S16x21760x32x1, .i1⟩
  | 107 => ⟨S16x21760x32x1, .i1⟩
  | 108 => ⟨S_, .i1⟩
  | 109 => ⟨S16x21760x32, .i1⟩
  | 110 => ⟨S16x21760x32, .f32⟩
  | 111 => ⟨S_, .f32⟩
  | 112 => ⟨S16x21760x32, .f32⟩
  | 113 => ⟨S16x21760x32, .f32⟩
  | 114 => ⟨S2x8x5440x4x32, .f32⟩
  | 115 => ⟨S2x5440x8x4x32, .f32⟩
  | 116 => ⟨S2x5440x8x4, .f32⟩
  | 117 => ⟨S2x5440x8x4x1, .f32⟩
  | 118 => ⟨S2x5440x8x4x32, .f32⟩
  | 119 => ⟨S2x5440x8x4x32, .f32⟩
  | 120 => ⟨S_, .i32⟩
  | 121 => ⟨S2x5440x8x4, .i32⟩
  | 122 => ⟨S2x5440x8x4, .i1⟩
  | 123 => ⟨S_, .i32⟩
  | 124 => ⟨S2x5440x8x4, .i32⟩
  | 125 => ⟨S2x5440x8x4, .i1⟩
  | 126 => ⟨S2x5440x8x4, .i1⟩
  | 127 => ⟨S_, .i32⟩
  | _ => ⟨S2x5440x256, .f32⟩

abbrev hbmTy0_4 (i : Nat) : BufTy := match i % 128 with
  | 0 => ⟨S2x5440x8x4, .i32⟩
  | 1 => ⟨S2x5440x8x4, .i1⟩
  | 2 => ⟨S2x5440x8x4, .i1⟩
  | 3 => ⟨S_, .i32⟩
  | 4 => ⟨S2x5440x8x4, .i32⟩
  | 5 => ⟨S2x5440x8x4, .i1⟩
  | 6 => ⟨S2x5440x8x4, .i1⟩
  | 7 => ⟨S_, .i32⟩
  | 8 => ⟨S_, .i32⟩
  | 9 => ⟨S_, .i32⟩
  | 10 => ⟨S2x5440x8x4, .i32⟩
  | 11 => ⟨S2x5440x8x4, .i32⟩
  | 12 => ⟨S_, .i32⟩
  | 13 => ⟨S2x5440x8x4, .i32⟩
  | 14 => ⟨S2x5440x8x4, .i32⟩
  | 15 => ⟨S_, .i32⟩
  | 16 => ⟨S_, .i32⟩
  | 17 => ⟨S_, .i32⟩
  | 18 => ⟨S2x5440x8x4, .i32⟩
  | 19 => ⟨S2x5440x8x4, .i32⟩
  | 20 => ⟨S_, .i32⟩
  | 21 => ⟨S2x5440x8x4, .i32⟩
  | 22 => ⟨S2x5440x8x4, .i32⟩
  | 23 => ⟨S_, .i32⟩
  | 24 => ⟨S2x5440x8x4, .i32⟩
  | 25 => ⟨S2x5440x8x4, .i32⟩
  | 26 => ⟨S2x5440x8x4, .i32⟩
  | 27 => ⟨S2x8x5440x4, .i32⟩
  | 28 => ⟨S16x21760, .i32⟩
  | 29 => ⟨S16x21760x1, .i32⟩
  | 30 => ⟨S16x21760x32, .i32⟩
  | 31 => ⟨S_, .i32⟩
  | 32 => ⟨S16x21760x32, .i32⟩
  | 33 => ⟨S16x21760x32, .i1⟩
  | 34 => ⟨S_, .i32⟩
  | 35 => ⟨S16x21760x32, .i32⟩
  | 36 => ⟨S16x21760x32, .i32⟩
  | 37 => ⟨S16x21760x32, .i32⟩
  | 38 => ⟨S16x21760x32x1, .i32⟩
  | 39 => ⟨S1, .i32⟩
  | 40 => ⟨S_, .i32⟩
  | 41 => ⟨S16x21760x32x1, .i32⟩
  | 42 => ⟨S16x21760x32x1, .i1⟩
  | 43 => ⟨S1x1x1x1, .i32⟩
  | 44 => ⟨S16x21760x32x1, .i32⟩
  | 45 => ⟨S16x21760x32x1, .i1⟩
  | 46 => ⟨S16x21760x32x1, .i1⟩
  | 47 => ⟨S_, .i1⟩
  | 48 => ⟨S16x21760x32, .i1⟩
  | 49 => ⟨S16x21760x32, .f32⟩
  | 50 => ⟨S_, .f32⟩
  | 51 => ⟨S16x21760x32, .f32⟩
  | 52 => ⟨S16x21760x32, .f32⟩
  | 53 => ⟨S2x8x5440x4x32, .f32⟩
  | 54 => ⟨S2x5440x8x4x32, .f32⟩
  | 55 => ⟨S2x5440x8x4, .f32⟩
  | 56 => ⟨S2x5440x8x4x1, .f32⟩
  | 57 => ⟨S2x5440x8x4x32, .f32⟩
  | 58 => ⟨S2x5440x8x4x32, .f32⟩
  | 59 => ⟨S_, .i32⟩
  | 60 => ⟨S2x5440x8x4, .i32⟩
  | 61 => ⟨S2x5440x8x4, .i1⟩
  | 62 => ⟨S_, .i32⟩
  | 63 => ⟨S2x5440x8x4, .i32⟩
  | 64 => ⟨S2x5440x8x4, .i1⟩
  | 65 => ⟨S2x5440x8x4, .i1⟩
  | 66 => ⟨S_, .i32⟩
  | 67 => ⟨S2x5440x8x4, .i32⟩
  | 68 => ⟨S2x5440x8x4, .i1⟩
  | 69 => ⟨S2x5440x8x4, .i1⟩
  | 70 => ⟨S_, .i32⟩
  | 71 => ⟨S2x5440x8x4, .i32⟩
  | 72 => ⟨S2x5440x8x4, .i1⟩
  | 73 => ⟨S2x5440x8x4, .i1⟩
  | 74 => ⟨S_, .i32⟩
  | 75 => ⟨S_, .i32⟩
  | 76 => ⟨S_, .i32⟩
  | 77 => ⟨S2x5440x8x4, .i32⟩
  | 78 => ⟨S2x5440x8x4, .i32⟩
  | 79 => ⟨S_, .i32⟩
  | 80 => ⟨S2x5440x8x4, .i32⟩
  | 81 => ⟨S2x5440x8x4, .i32⟩
  | 82 => ⟨S_, .i32⟩
  | 83 => ⟨S_, .i32⟩
  | 84 => ⟨S_, .i32⟩
  | 85 => ⟨S2x5440x8x4, .i32⟩
  | 86 => ⟨S2x5440x8x4, .i32⟩
  | 87 => ⟨S_, .i32⟩
  | 88 => ⟨S2x5440x8x4, .i32⟩
  | 89 => ⟨S2x5440x8x4, .i32⟩
  | 90 => ⟨S_, .i32⟩
  | 91 => ⟨S2x5440x8x4, .i32⟩
  | 92 => ⟨S2x5440x8x4, .i32⟩
  | 93 => ⟨S2x5440x8x4, .i32⟩
  | 94 => ⟨S2x8x5440x4, .i32⟩
  | 95 => ⟨S16x21760, .i32⟩
  | 96 => ⟨S16x21760x1, .i32⟩
  | 97 => ⟨S16x21760x32, .i32⟩
  | 98 => ⟨S_, .i32⟩
  | 99 => ⟨S16x21760x32, .i32⟩
  | 100 => ⟨S16x21760x32, .i1⟩
  | 101 => ⟨S_, .i32⟩
  | 102 => ⟨S16x21760x32, .i32⟩
  | 103 => ⟨S16x21760x32, .i32⟩
  | 104 => ⟨S16x21760x32, .i32⟩
  | 105 => ⟨S16x21760x32x1, .i32⟩
  | 106 => ⟨S1, .i32⟩
  | 107 => ⟨S_, .i32⟩
  | 108 => ⟨S16x21760x32x1, .i32⟩
  | 109 => ⟨S16x21760x32x1, .i1⟩
  | 110 => ⟨S1x1x1x1, .i32⟩
  | 111 => ⟨S16x21760x32x1, .i32⟩
  | 112 => ⟨S16x21760x32x1, .i1⟩
  | 113 => ⟨S16x21760x32x1, .i1⟩
  | 114 => ⟨S_, .i1⟩
  | 115 => ⟨S16x21760x32, .i1⟩
  | 116 => ⟨S16x21760x32, .f32⟩
  | 117 => ⟨S_, .f32⟩
  | 118 => ⟨S16x21760x32, .f32⟩
  | 119 => ⟨S16x21760x32, .f32⟩
  | 120 => ⟨S2x8x5440x4x32, .f32⟩
  | 121 => ⟨S2x5440x8x4x32, .f32⟩
  | 122 => ⟨S2x5440x8x4, .f32⟩
  | 123 => ⟨S2x5440x8x4x1, .f32⟩
  | 124 => ⟨S2x5440x8x4x32, .f32⟩
  | 125 => ⟨S2x5440x8x4x32, .f32⟩
  | 126 => ⟨S_, .i32⟩
  | 127 => ⟨S2x5440x8x4, .i32⟩
  | _ => ⟨S2x5440x256, .f32⟩

abbrev hbmTy0_5 (i : Nat) : BufTy := match i % 128 with
  | 0 => ⟨S2x5440x8x4, .i1⟩
  | 1 => ⟨S_, .i32⟩
  | 2 => ⟨S2x5440x8x4, .i32⟩
  | 3 => ⟨S2x5440x8x4, .i1⟩
  | 4 => ⟨S2x5440x8x4, .i1⟩
  | 5 => ⟨S_, .i32⟩
  | 6 => ⟨S2x5440x8x4, .i32⟩
  | 7 => ⟨S2x5440x8x4, .i1⟩
  | 8 => ⟨S2x5440x8x4, .i1⟩
  | 9 => ⟨S_, .i32⟩
  | 10 => ⟨S2x5440x8x4, .i32⟩
  | 11 => ⟨S2x5440x8x4, .i1⟩
  | 12 => ⟨S2x5440x8x4, .i1⟩
  | 13 => ⟨S_, .i32⟩
  | 14 => ⟨S_, .i32⟩
  | 15 => ⟨S_, .i32⟩
  | 16 => ⟨S2x5440x8x4, .i32⟩
  | 17 => ⟨S2x5440x8x4, .i32⟩
  | 18 => ⟨S_, .i32⟩
  | 19 => ⟨S2x5440x8x4, .i32⟩
  | 20 => ⟨S2x5440x8x4, .i32⟩
  | 21 => ⟨S_, .i32⟩
  | 22 => ⟨S_, .i32⟩
  | 23 => ⟨S_, .i32⟩
  | 24 => ⟨S2x5440x8x4, .i32⟩
  | 25 => ⟨S2x5440x8x4, .i32⟩
  | 26 => ⟨S_, .i32⟩
  | 27 => ⟨S2x5440x8x4, .i32⟩
  | 28 => ⟨S2x5440x8x4, .i32⟩
  | 29 => ⟨S_, .i32⟩
  | 30 => ⟨S2x5440x8x4, .i32⟩
  | 31 => ⟨S2x5440x8x4, .i32⟩
  | 32 => ⟨S2x5440x8x4, .i32⟩
  | 33 => ⟨S2x8x5440x4, .i32⟩
  | 34 => ⟨S16x21760, .i32⟩
  | 35 => ⟨S16x21760x1, .i32⟩
  | 36 => ⟨S16x21760x32, .i32⟩
  | 37 => ⟨S_, .i32⟩
  | 38 => ⟨S16x21760x32, .i32⟩
  | 39 => ⟨S16x21760x32, .i1⟩
  | 40 => ⟨S_, .i32⟩
  | 41 => ⟨S16x21760x32, .i32⟩
  | 42 => ⟨S16x21760x32, .i32⟩
  | 43 => ⟨S16x21760x32, .i32⟩
  | 44 => ⟨S16x21760x32x1, .i32⟩
  | 45 => ⟨S1, .i32⟩
  | 46 => ⟨S_, .i32⟩
  | 47 => ⟨S16x21760x32x1, .i32⟩
  | 48 => ⟨S16x21760x32x1, .i1⟩
  | 49 => ⟨S1x1x1x1, .i32⟩
  | 50 => ⟨S16x21760x32x1, .i32⟩
  | 51 => ⟨S16x21760x32x1, .i1⟩
  | 52 => ⟨S16x21760x32x1, .i1⟩
  | 53 => ⟨S_, .i1⟩
  | 54 => ⟨S16x21760x32, .i1⟩
  | 55 => ⟨S16x21760x32, .f32⟩
  | 56 => ⟨S_, .f32⟩
  | 57 => ⟨S16x21760x32, .f32⟩
  | 58 => ⟨S16x21760x32, .f32⟩
  | 59 => ⟨S2x8x5440x4x32, .f32⟩
  | 60 => ⟨S2x5440x8x4x32, .f32⟩
  | 61 => ⟨S2x5440x8x4, .f32⟩
  | 62 => ⟨S2x5440x8x4x1, .f32⟩
  | 63 => ⟨S2x5440x8x4x32, .f32⟩
  | 64 => ⟨S2x5440x8x4x32, .f32⟩
  | 65 => ⟨S2x5440x8x4, .f32⟩
  | 66 => ⟨S2x5440x8x4x1, .f32⟩
  | 67 => ⟨S2x5440x8x4x32, .f32⟩
  | 68 => ⟨S2x5440x8x4x32, .f32⟩
  | 69 => ⟨S2x5440x8x4, .f32⟩
  | 70 => ⟨S2x5440x8x4x1, .f32⟩
  | 71 => ⟨S2x5440x8x4x32, .f32⟩
  | 72 => ⟨S2x5440x8x4x32, .f32⟩
  | 73 => ⟨S2x5440x8x4x32, .f32⟩
  | 74 => ⟨S2x5440x8x4, .f32⟩
  | 75 => ⟨S2x5440x8x4x1, .f32⟩
  | 76 => ⟨S2x5440x8x4x32, .f32⟩
  | 77 => ⟨S2x5440x8x4x32, .f32⟩
  | 78 => ⟨S2x5440x8x4x32, .f32⟩
  | 79 => ⟨S2x5440x8x4, .f32⟩
  | 80 => ⟨S2x5440x8x4x1, .f32⟩
  | 81 => ⟨S2x5440x8x4x32, .f32⟩
  | 82 => ⟨S2x5440x8x4x32, .f32⟩
  | 83 => ⟨S2x5440x8x4x32, .f32⟩
  | 84 => ⟨S_, .f32⟩
  | 85 => ⟨S2x5440x8x4, .f32⟩
  | 86 => ⟨S2x5440x8x4, .i1⟩
  | 87 => ⟨S_, .f32⟩
  | 88 => ⟨S2x5440x8x4, .f32⟩
  | 89 => ⟨S2x5440x8x4, .i1⟩
  | 90 => ⟨S2x5440x8x4, .i1⟩
  | 91 => ⟨S_, .f32⟩
  | 92 => ⟨S2x5440x8x4, .f32⟩
  | 93 => ⟨S2x5440x8x4, .i1⟩
  | 94 => ⟨S2x5440x8x4, .i1⟩
  | 95 => ⟨S_, .f32⟩
  | 96 => ⟨S2x5440x8x4, .f32⟩
  | 97 => ⟨S2x5440x8x4, .i1⟩
  | 98 => ⟨S2x5440x8x4, .i1⟩
  | 99 => ⟨S2x5440x8x4, .f32⟩
  | 100 => ⟨S2x5440x8x4x1, .f32⟩
  | 101 => ⟨S2x5440x8x4x32, .f32⟩
  | 102 => ⟨S2x5440x8x4x32, .f32⟩
  | 103 => ⟨S2x5440x8x1x4, .f32⟩
  | 104 => ⟨S2x5440x8x4, .f32⟩
  | 105 => ⟨S2x5440x8x4x1, .f32⟩
  | 106 => ⟨S2x5440x8x4x32, .f32⟩
  | 107 => ⟨S2x5440x8x4x32, .f32⟩
  | 108 => ⟨S_, .f32⟩
  | 109 => ⟨S2x5440x8x32, .f32⟩
  | 110 => ⟨S2x5440x8x32, .f32⟩
  | 111 => ⟨S2x256x8x32, .f32⟩
  | 112 => ⟨S2x16x16x8x32, .f32⟩
  | 113 => ⟨S2x5440x8x1x4x2, .f32⟩
  | 114 => ⟨S2x5440x8x4x2, .f32⟩
  | 115 => ⟨S2x5440x8x4x1, .f32⟩
  | 116 => ⟨S2x5440x8x4, .f32⟩
  | 117 => ⟨S_, .f32⟩
  | 118 => ⟨S2x5440x8x4, .f32⟩
  | 119 => ⟨S2x5440x8x4, .f32⟩
  | 120 => ⟨S_, .f32⟩
  | 121 => ⟨S2x5440x8x4, .f32⟩
  | 122 => ⟨S2x5440x8x4, .f32⟩
  | 123 => ⟨S2x5440x8x4x1, .f32⟩
  | 124 => ⟨S2x5440x8x4, .f32⟩
  | 125 => ⟨S_, .f32⟩
  | 126 => ⟨S2x5440x8x4, .f32⟩
  | 127 => ⟨S2x5440x8x4, .f32⟩
  | _ => ⟨S2x5440x256, .f32⟩

abbrev hbmTy0_6 (i : Nat) : BufTy := match i % 128 with
  | 0 => ⟨S_, .f32⟩
  | 1 => ⟨S2x5440x8x4, .f32⟩
  | 2 => ⟨S2x5440x8x4, .f32⟩
  | 3 => ⟨S2x5440x8x4, .f32⟩
  | 4 => ⟨S2x5440x8x4, .f32⟩
  | 5 => ⟨S2x5440x8x4, .f32⟩
  | 6 => ⟨S2x5440x8x4, .f32⟩
  | 7 => ⟨S_, .f32⟩
  | 8 => ⟨S2x5440x8x4, .f32⟩
  | 9 => ⟨S2x5440x8x4, .f32⟩
  | 10 => ⟨S_, .f32⟩
  | 11 => ⟨S2x5440x8x4, .f32⟩
  | 12 => ⟨S2x5440x8x4, .f32⟩
  | 13 => ⟨S2x5440x8x4, .i32⟩
  | 14 => ⟨S2x5440x8x4, .i32⟩
  | 15 => ⟨S_, .i32⟩
  | 16 => ⟨S2x5440x8x4, .i32⟩
  | 17 => ⟨S2x5440x8x4, .i32⟩
  | 18 => ⟨S_, .i32⟩
  | 19 => ⟨S2x5440x8x4, .i32⟩
  | 20 => ⟨S2x5440x8x4, .i32⟩
  | 21 => ⟨S2x8x16x16x32, .f32⟩
  | 22 => ⟨S16x256x32, .f32⟩
  | 23 => ⟨S_, .i32⟩
  | 24 => ⟨S2x5440x8x4, .i32⟩
  | 25 => ⟨S2x5440x8x4, .i1⟩
  | 26 => ⟨S_, .i32⟩
  | 27 => ⟨S2x5440x8x4, .i32⟩
  | 28 => ⟨S2x5440x8x4, .i1⟩
  | 29 => ⟨S2x5440x8x4, .i1⟩
  | 30 => ⟨S_, .i32⟩
  | 31 => ⟨S2x5440x8x4, .i32⟩
  | 32 => ⟨S2x5440x8x4, .i1⟩
  | 33 => ⟨S2x5440x8x4, .i1⟩
  | 34 => ⟨S_, .i32⟩
  | 35 => ⟨S2x5440x8x4, .i32⟩
  | 36 => ⟨S2x5440x8x4, .i1⟩
  | 37 => ⟨S2x5440x8x4, .i1⟩
  | 38 => ⟨S_, .i32⟩
  | 39 => ⟨S_, .i32⟩
  | 40 => ⟨S_, .i32⟩
  | 41 => ⟨S2x5440x8x4, .i32⟩
  | 42 => ⟨S2x5440x8x4, .i32⟩
  | 43 => ⟨S_, .i32⟩
  | 44 => ⟨S2x5440x8x4, .i32⟩
  | 45 => ⟨S2x5440x8x4, .i32⟩
  | 46 => ⟨S_, .i32⟩
  | 47 => ⟨S_, .i32⟩
  | 48 => ⟨S_, .i32⟩
  | 49 => ⟨S2x5440x8x4, .i32⟩
  | 50 => ⟨S2x5440x8x4, .i32⟩
  | 51 => ⟨S_, .i32⟩
  | 52 => ⟨S2x5440x8x4, .i32⟩
  | 53 => ⟨S2x5440x8x4, .i32⟩
  | 54 => ⟨S_, .i32⟩
  | 55 => ⟨S2x5440x8x4, .i32⟩
  | 56 => ⟨S2x5440x8x4, .i32⟩
  | 57 => ⟨S2x5440x8x4, .i32⟩
  | 58 => ⟨S2x8x5440x4, .i32⟩
  | 59 => ⟨S16x21760, .i32⟩
  | 60 => ⟨S16x21760x1, .i32⟩
  | 61 => ⟨S16x21760x32, .i32⟩
  | 62 => ⟨S_, .i32⟩
  | 63 => ⟨S16x21760x32, .i32⟩
  | 64 => ⟨S16x21760x32, .i1⟩
  | 65 => ⟨S_, .i32⟩
  | 66 => ⟨S16x21760x32, .i32⟩
  | 67 => ⟨S16x21760x32, .i32⟩
  | 68 => ⟨S16x21760x32, .i32⟩
  | 69 => ⟨S16x21760x32x1, .i32⟩
  | 70 => ⟨S1, .i32⟩
  | 71 => ⟨S_, .i32⟩
  | 72 => ⟨S16x21760x32x1, .i32⟩
  | 73 => ⟨S16x21760x32x1, .i1⟩
  | 74 => ⟨S1x1x1x1, .i32⟩
  | 75 => ⟨S16x21760x32x1, .i32⟩
  | 76 => ⟨S16x21760x32x1, .i1⟩
  | 77 => ⟨S16x21760x32x1, .i1⟩
  | 78 => ⟨S_, .i1⟩
  | 79 => ⟨S16x21760x32, .i1⟩
  | 80 => ⟨S16x21760x32, .f32⟩
  | 81 => ⟨S_, .f32⟩
  | 82 => ⟨S16x21760x32, .f32⟩
  | 83 => ⟨S16x21760x32, .f32⟩
  | 84 => ⟨S2x8x5440x4x32, .f32⟩
  | 85 => ⟨S2x5440x8x4x32, .f32⟩
  | 86 => ⟨S2x5440x8x4, .f32⟩
  | 87 => ⟨S2x5440x8x4x1, .f32⟩
  | 88 => ⟨S2x5440x8x4x32, .f32⟩
  | 89 => ⟨S2x5440x8x4x32, .f32⟩
  | 90 => ⟨S_, .i32⟩
  | 91 => ⟨S2x5440x8x4, .i32⟩
  | 92 => ⟨S2x5440x8x4, .i1⟩
  | 93 => ⟨S_, .i32⟩
  | 94 => ⟨S2x5440x8x4, .i32⟩
  | 95 => ⟨S2x5440x8x4, .i1⟩
  | 96 => ⟨S2x5440x8x4, .i1⟩
  | 97 => ⟨S_, .i32⟩
  | 98 => ⟨S2x5440x8x4, .i32⟩
  | 99 => ⟨S2x5440x8x4, .i1⟩
  | 100 => ⟨S2x5440x8x4, .i1⟩
  | 101 => ⟨S_, .i32⟩
  | 102 => ⟨S2x5440x8x4, .i32⟩
  | 103 => ⟨S2x5440x8x4, .i1⟩
  | 104 => ⟨S2x5440x8x4, .i1⟩
  | 105 => ⟨S_, .i32⟩
  | 106 => ⟨S_, .i32⟩
  | 107 => ⟨S_, .i32⟩
  | 108 => ⟨S2x5440x8x4, .i32⟩
  | 109 => ⟨S2x5440x8x4, .i32⟩
  | 110 => ⟨S_, .i32⟩
  | 111 => ⟨S2x5440x8x4, .i32⟩
  | 112 => ⟨S2x5440x8x4, .i32⟩
  | 113 => ⟨S_, .i32⟩
  | 114 => ⟨S_, .i32⟩
  | 115 => ⟨S_, .i32⟩
  | 116 => ⟨S2x5440x8x4, .i32⟩
  | 117 => ⟨S2x5440x8x4, .i32⟩
  | 118 => ⟨S_, .i32⟩
  | 119 => ⟨S2x5440x8x4, .i32⟩
  | 120 => ⟨S2x5440x8x4, .i32⟩
  | 121 => ⟨S_, .i32⟩
  | 122 => ⟨S2x5440x8x4, .i32⟩
  | 123 => ⟨S2x5440x8x4, .i32⟩
  | 124 => ⟨S2x5440x8x4, .i32⟩
  | 125 => ⟨S2x8x5440x4, .i32⟩
  | 126 => ⟨S16x21760, .i32⟩
  | 127 => ⟨S16x21760x1, .i32⟩
  | _ => ⟨S2x5440x256, .f32⟩

abbrev hbmTy0_7 (i : Nat) : BufTy := match i % 128 with
  | 0 => ⟨S16x21760x32, .i32⟩
  | 1 => ⟨S_, .i32⟩
  | 2 => ⟨S16x21760x32, .i32⟩
  | 3 => ⟨S16x21760x32, .i1⟩
  | 4 => ⟨S_, .i32⟩
  | 5 => ⟨S16x21760x32, .i32⟩
  | 6 => ⟨S16x21760x32, .i32⟩
  | 7 => ⟨S16x21760x32, .i32⟩
  | 8 => ⟨S16x21760x32x1, .i32⟩
  | 9 => ⟨S1, .i32⟩
  | 10 => ⟨S_, .i32⟩
  | 11 => ⟨S16x21760x32x1, .i32⟩
  | 12 => ⟨S16x21760x32x1, .i1⟩
  | 13 => ⟨S1x1x1x1, .i32⟩
  | 14 => ⟨S16x21760x32x1, .i32⟩
  | 15 => ⟨S16x21760x32x1, .i1⟩
  | 16 => ⟨S16x21760x32x1, .i1⟩
  | 17 => ⟨S_, .i1⟩
  | 18 => ⟨S16x21760x32, .i1⟩
  | 19 => ⟨S16x21760x32, .f32⟩
  | 20 => ⟨S_, .f32⟩
  | 21 => ⟨S16x21760x32, .f32⟩
  | 22 => ⟨S16x21760x32, .f32⟩
  | 23 => ⟨S2x8x5440x4x32, .f32⟩
  | 24 => ⟨S2x5440x8x4x32, .f32⟩
  | 25 => ⟨S2x5440x8x4, .f32⟩
  | 26 => ⟨S2x5440x8x4x1, .f32⟩
  | 27 => ⟨S2x5440x8x4x32, .f32⟩
  | 28 => ⟨S2x5440x8x4x32, .f32⟩
  | 29 => ⟨S_, .i32⟩
  | 30 => ⟨S2x5440x8x4, .i32⟩
  | 31 => ⟨S2x5440x8x4, .i1⟩
  | 32 => ⟨S_, .i32⟩
  | 33 => ⟨S2x5440x8x4, .i32⟩
  | 34 => ⟨S2x5440x8x4, .i1⟩
  | 35 => ⟨S2x5440x8x4, .i1⟩
  | 36 => ⟨S_, .i32⟩
  | 37 => ⟨S2x5440x8x4, .i32⟩
  | 38 => ⟨S2x5440x8x4, .i1⟩
  | 39 => ⟨S2x5440x8x4, .i1⟩
  | 40 => ⟨S_, .i32⟩
  | 41 => ⟨S2x5440x8x4, .i32⟩
  | 42 => ⟨S2x5440x8x4, .i1⟩
  | 43 => ⟨S2x5440x8x4, .i1⟩
  | 44 => ⟨S_, .i32⟩
  | 45 => ⟨S_, .i32⟩
  | 46 => ⟨S_, .i32⟩
  | 47 => ⟨S2x5440x8x4, .i32⟩
  | 48 => ⟨S2x5440x8x4, .i32⟩
  | 49 => ⟨S_, .i32⟩
  | 50 => ⟨S2x5440x8x4, .i32⟩
  | 51 => ⟨S2x5440x8x4, .i32⟩
  | 52 => ⟨S_, .i32⟩
  | 53 => ⟨S_, .i32⟩
  | 54 => ⟨S_, .i32⟩
  | 55 => ⟨S2x5440x8x4, .i32⟩
  | 56 => ⟨S2x5440x8x4, .i32⟩
  | 57 => ⟨S_, .i32⟩
  | 58 => ⟨S2x5440x8x4, .i32⟩
  | 59 => ⟨S2x5440x8x4, .i32⟩
  | 60 => ⟨S_, .i32⟩
  | 61 => ⟨S2x5440x8x4, .i32⟩
  | 62 => ⟨S2x5440x8x4, .i32⟩
  | 63 => ⟨S2x5440x8x4, .i32⟩
  | 64 => ⟨S2x8x5440x4, .i32⟩
  | 65 => ⟨S16x21760, .i32⟩
  | 66 => ⟨S16x21760x1, .i32⟩
  | 67 => ⟨S16x21760x32, .i32⟩
  | 68 => ⟨S_, .i32⟩
  | 69 => ⟨S16x21760x32, .i32⟩
  | 70 => ⟨S16x21760x32, .i1⟩
  | 71 => ⟨S_, .i32⟩
  | 72 => ⟨S16x21760x32, .i32⟩
  | 73 => ⟨S16x21760x32, .i32⟩
  | 74 => ⟨S16x21760x32, .i32⟩
  | 75 => ⟨S16x21760x32x1, .i32⟩
  | 76 => ⟨S1, .i32⟩
  | 77 => ⟨S_, .i32⟩
  | 78 => ⟨S16x21760x32x1, .i32⟩
  | 79 => ⟨S16x21760x32x1, .i1⟩
  | 80 => ⟨S1x1x1x1, .i32⟩
  | 81 => ⟨S16x21760x32x1, .i32⟩
  | 82 => ⟨S16x21760x32x1, .i1⟩
  | 83 => ⟨S16x21760x32x1, .i1⟩
  | 84 => ⟨S_, .i1⟩
  | 85 => ⟨S16x21760x32, .i1⟩
  | 86 => ⟨S16x21760x32, .f32⟩
  | 87 => ⟨S_, .f32⟩
  | 88 => ⟨S16x21760x32, .f32⟩
  | 89 => ⟨S16x21760x32, .f32⟩
  | 90 => ⟨S2x8x5440x4x32, .f32⟩
  | 91 => ⟨S2x5440x8x4x32, .f32⟩
  | 92 => ⟨S2x5440x8x4, .f32⟩
  | 93 => ⟨S2x5440x8x4x1, .f32⟩
  | 94 => ⟨S2x5440x8x4x32, .f32⟩
  | 95 => ⟨S2x5440x8x4x32, .f32⟩
  | 96 => ⟨S_, .i32⟩
  | 97 => ⟨S2x5440x8x4, .i32⟩
  | 98 => ⟨S2x5440x8x4, .i1⟩
  | 99 => ⟨S_, .i32⟩
  | 100 => ⟨S2x5440x8x4, .i32⟩
  | 101 => ⟨S2x5440x8x4, .i1⟩
  | 102 => ⟨S2x5440x8x4, .i1⟩
  | 103 => ⟨S_, .i32⟩
  | 104 => ⟨S2x5440x8x4, .i32⟩
  | 105 => ⟨S2x5440x8x4, .i1⟩
  | 106 => ⟨S2x5440x8x4, .i1⟩
  | 107 => ⟨S_, .i32⟩
  | 108 => ⟨S2x5440x8x4, .i32⟩
  | 109 => ⟨S2x5440x8x4, .i1⟩
  | 110 => ⟨S2x5440x8x4, .i1⟩
  | 111 => ⟨S_, .i32⟩
  | 112 => ⟨S_, .i32⟩
  | 113 => ⟨S_, .i32⟩
  | 114 => ⟨S2x5440x8x4, .i32⟩
  | 115 => ⟨S2x5440x8x4, .i32⟩
  | 116 => ⟨S_, .i32⟩
  | 117 => ⟨S2x5440x8x4, .i32⟩
  | 118 => ⟨S2x5440x8x4, .i32⟩
  | 119 => ⟨S_, .i32⟩
  | 120 => ⟨S_, .i32⟩
  | 121 => ⟨S_, .i32⟩
  | 122 => ⟨S2x5440x8x4, .i32⟩
  | 123 => ⟨S2x5440x8x4, .i32⟩
  | 124 => ⟨S_, .i32⟩
  | 125 => ⟨S2x5440x8x4, .i32⟩
  | 126 => ⟨S2x5440x8x4, .i32⟩
  | 127 => ⟨S_, .i32⟩
  | _ => ⟨S2x5440x256, .f32⟩

abbrev hbmTy0_8 (i : Nat) : BufTy := match i % 128 with
  | 0 => ⟨S2x5440x8x4, .i32⟩
  | 1 => ⟨S2x5440x8x4, .i32⟩
  | 2 => ⟨S2x5440x8x4, .i32⟩
  | 3 => ⟨S2x8x5440x4, .i32⟩
  | 4 => ⟨S16x21760, .i32⟩
  | 5 => ⟨S16x21760x1, .i32⟩
  | 6 => ⟨S16x21760x32, .i32⟩
  | 7 => ⟨S_, .i32⟩
  | 8 => ⟨S16x21760x32, .i32⟩
  | 9 => ⟨S16x21760x32, .i1⟩
  | 10 => ⟨S_, .i32⟩
  | 11 => ⟨S16x21760x32, .i32⟩
  | 12 => ⟨S16x21760x32, .i32⟩
  | 13 => ⟨S16x21760x32, .i32⟩
  | 14 => ⟨S16x21760x32x1, .i32⟩
  | 15 => ⟨S1, .i32⟩
  | 16 => ⟨S_, .i32⟩
  | 17 => ⟨S16x21760x32x1, .i32⟩
  | 18 => ⟨S16x21760x32x1, .i1⟩
  | 19 => ⟨S1x1x1x1, .i32⟩
  | 20 => ⟨S16x21760x32x1, .i32⟩
  | 21 => ⟨S16x21760x32x1, .i1⟩
  | 22 => ⟨S16x21760x32x1, .i1⟩
  | 23 => ⟨S_, .i1⟩
  | 24 => ⟨S16x21760x32, .i1⟩
  | 25 => ⟨S16x21760x32, .f32⟩
  | 26 => ⟨S_, .f32⟩
  | 27 => ⟨S16x21760x32, .f32⟩
  | 28 => ⟨S16x21760x32, .f32⟩
  | 29 => ⟨S2x8x5440x4x32, .f32⟩
  | 30 => ⟨S2x5440x8x4x32, .f32⟩
  | 31 => ⟨S2x5440x8x4, .f32⟩
  | 32 => ⟨S2x5440x8x4x1, .f32⟩
  | 33 => ⟨S2x5440x8x4x32, .f32⟩
  | 34 => ⟨S2x5440x8x4x32, .f32⟩
  | 35 => ⟨S2x5440x8x4, .f32⟩
  | 36 => ⟨S2x5440x8x4x1, .f32⟩
  | 37 => ⟨S2x5440x8x4x32, .f32⟩
  | 38 => ⟨S2x5440x8x4x32, .f32⟩
  | 39 => ⟨S2x5440x8x4, .f32⟩
  | 40 => ⟨S2x5440x8x4x1, .f32⟩
  | 41 => ⟨S2x5440x8x4x32, .f32⟩
  | 42 => ⟨S2x5440x8x4x32, .f32⟩
  | 43 => ⟨S2x5440x8x4x32, .f32⟩
  | 44 => ⟨S2x5440x8x4, .f32⟩
  | 45 => ⟨S2x5440x8x4x1, .f32⟩
  | 46 => ⟨S2x5440x8x4x32, .f32⟩
  | 47 => ⟨S2x5440x8x4x32, .f32⟩
  | 48 => ⟨S2x5440x8x4x32, .f32⟩
  | 49 => ⟨S2x5440x8x4, .f32⟩
  | 50 => ⟨S2x5440x8x4x1, .f32⟩
  | 51 => ⟨S2x5440x8x4x32, .f32⟩
  | 52 => ⟨S2x5440x8x4x32, .f32⟩
  | 53 => ⟨S2x5440x8x4x32, .f32⟩
  | 54 => ⟨S_, .f32⟩
  | 55 => ⟨S2x5440x8x4, .f32⟩
  | 56 => ⟨S2x5440x8x4, .i1⟩
  | 57 => ⟨S_, .f32⟩
  | 58 => ⟨S2x5440x8x4, .f32⟩
  | 59 => ⟨S2x5440x8x4, .i1⟩
  | 60 => ⟨S2x5440x8x4, .i1⟩
  | 61 => ⟨S_, .f32⟩
  | 62 => ⟨S2x5440x8x4, .f32⟩
  | 63 => ⟨S2x5440x8x4, .i1⟩
  | 64 => ⟨S2x5440x8x4, .i1⟩
  | 65 => ⟨S_, .f32⟩
  | 66 => ⟨S2x5440x8x4, .f32⟩
  | 67 => ⟨S2x5440x8x4, .i1⟩
  | 68 => ⟨S2x5440x8x4, .i1⟩
  | 69 => ⟨S2x5440x8x4, .f32⟩
  | 70 => ⟨S2x5440x8x4x1, .f32⟩
  | 71 => ⟨S2x5440x8x4x32, .f32⟩
  | 72 => ⟨S2x5440x8x4x32, .f32⟩
  | 73 => ⟨S2x5440x8x1x4, .f32⟩
  | 74 => ⟨S2x5440x8x4, .f32⟩
  | 75 => ⟨S2x5440x8x4x1, .f32⟩
  | 76 => ⟨S2x5440x8x4x32, .f32⟩
  | 77 => ⟨S2x5440x8x4x32, .f32⟩
  | 78 => ⟨S_, .f32⟩
  | 79 => ⟨S2x5440x8x32, .f32⟩
  | 80 => ⟨S2x5440x8x32, .f32⟩
  | 81 => ⟨S2x64x8x32, .f32⟩
  | 82 => ⟨S2x8x8x8x32, .f32⟩
  | 83 => ⟨S2x5440x8x1x4x2, .f32⟩
  | 84 => ⟨S2x5440x8x4x2, .f32⟩
  | 85 => ⟨S2x5440x8x4x1, .f32⟩
  | 86 => ⟨S2x5440x8x4, .f32⟩
  | 87 => ⟨S_, .f32⟩
  | 88 => ⟨S2x5440x8x4, .f32⟩
  | 89 => ⟨S2x5440x8x4, .f32⟩
  | 90 => ⟨S_, .f32⟩
  | 91 => ⟨S2x5440x8x4, .f32⟩
  | 92 => ⟨S2x5440x8x4, .f32⟩
  | 93 => ⟨S2x5440x8x4x1, .f32⟩
  | 94 => ⟨S2x5440x8x4, .f32⟩
  | 95 => ⟨S_, .f32⟩
  | 96 => ⟨S2x5440x8x4, .f32⟩
  | 97 => ⟨S2x5440x8x4, .f32⟩
  | 98 => ⟨S_, .f32⟩
  | 99 => ⟨S2x5440x8x4, .f32⟩
  | 100 => ⟨S2x5440x8x4, .f32⟩
  | 101 => ⟨S2x5440x8x4, .f32⟩
  | 102 => ⟨S2x5440x8x4, .f32⟩
  | 103 => ⟨S2x5440x8x4, .f32⟩
  | 104 => ⟨S2x5440x8x4, .f32⟩
  | 105 => ⟨S_, .f32⟩
  | 106 => ⟨S2x5440x8x4, .f32⟩
  | 107 => ⟨S2x5440x8x4, .f32⟩
  | 108 => ⟨S_, .f32⟩
  | 109 => ⟨S2x5440x8x4, .f32⟩
  | 110 => ⟨S2x5440x8x4, .f32⟩
  | 111 => ⟨S2x5440x8x4, .i32⟩
  | 112 => ⟨S2x5440x8x4, .i32⟩
  | 113 => ⟨S_, .i32⟩
  | 114 => ⟨S2x5440x8x4, .i32⟩
  | 115 => ⟨S2x5440x8x4, .i32⟩
  | 116 => ⟨S_, .i32⟩
  | 117 => ⟨S2x5440x8x4, .i32⟩
  | 118 => ⟨S2x5440x8x4, .i32⟩
  | 119 => ⟨S2x8x8x8x32, .f32⟩
  | 120 => ⟨S16x64x32, .f32⟩
  | 121 => ⟨S_, .i32⟩
  | 122 => ⟨S2x5440x8x4, .i32⟩
  | 123 => ⟨S2x5440x8x4, .i1⟩
  | 124 => ⟨S_, .i32⟩
  | 125 => ⟨S2x5440x8x4, .i32⟩
  | 126 => ⟨S2x5440x8x4, .i1⟩
  | 127 => ⟨S2x5440x8x4, .i1⟩
  | _ => ⟨S2x5440x256, .f32⟩

abbrev hbmTy0_9 (i : Nat) : BufTy := match i % 128 with
  | 0 => ⟨S_, .i32⟩
  | 1 => ⟨S2x5440x8x4, .i32⟩
  | 2 => ⟨S2x5440x8x4, .i1⟩
  | 3 => ⟨S2x5440x8x4, .i1⟩
  | 4 => ⟨S_, .i32⟩
  | 5 => ⟨S2x5440x8x4, .i32⟩
  | 6 => ⟨S2x5440x8x4, .i1⟩
  | 7 => ⟨S2x5440x8x4, .i1⟩
  | 8 => ⟨S_, .i32⟩
  | 9 => ⟨S_, .i32⟩
  | 10 => ⟨S_, .i32⟩
  | 11 => ⟨S2x5440x8x4, .i32⟩
  | 12 => ⟨S2x5440x8x4, .i32⟩
  | 13 => ⟨S_, .i32⟩
  | 14 => ⟨S2x5440x8x4, .i32⟩
  | 15 => ⟨S2x5440x8x4, .i32⟩
  | 16 => ⟨S_, .i32⟩
  | 17 => ⟨S_, .i32⟩
  | 18 => ⟨S_, .i32⟩
  | 19 => ⟨S2x5440x8x4, .i32⟩
  | 20 => ⟨S2x5440x8x4, .i32⟩
  | 21 => ⟨S_, .i32⟩
  | 22 => ⟨S2x5440x8x4, .i32⟩
  | 23 => ⟨S2x5440x8x4, .i32⟩
  | 24 => ⟨S_, .i32⟩
  | 25 => ⟨S2x5440x8x4, .i32⟩
  | 26 => ⟨S2x5440x8x4, .i32⟩
  | 27 => ⟨S2x5440x8x4, .i32⟩
  | 28 => ⟨S2x8x5440x4, .i32⟩
  | 29 => ⟨S16x21760, .i32⟩
  | 30 => ⟨S16x21760x1, .i32⟩
  | 31 => ⟨S16x21760x32, .i32⟩
  | 32 => ⟨S_, .i32⟩
  | 33 => ⟨S16x21760x32, .i32⟩
  | 34 => ⟨S16x21760x32, .i1⟩
  | 35 => ⟨S_, .i32⟩
  | 36 => ⟨S16x21760x32, .i32⟩
  | 37 => ⟨S16x21760x32, .i32⟩
  | 38 => ⟨S16x21760x32, .i32⟩
  | 39 => ⟨S16x21760x32x1, .i32⟩
  | 40 => ⟨S1, .i32⟩
  | 41 => ⟨S_, .i32⟩
  | 42 => ⟨S16x21760x32x1, .i32⟩
  | 43 => ⟨S16x21760x32x1, .i1⟩
  | 44 => ⟨S1x1x1x1, .i32⟩
  | 45 => ⟨S16x21760x32x1, .i32⟩
  | 46 => ⟨S16x21760x32x1, .i1⟩
  | 47 => ⟨S16x21760x32x1, .i1⟩
  | 48 => ⟨S_, .i1⟩
  | 49 => ⟨S16x21760x32, .i1⟩
  | 50 => ⟨S16x21760x32, .f32⟩
  | 51 => ⟨S_, .f32⟩
  | 52 => ⟨S16x21760x32, .f32⟩
  | 53 => ⟨S16x21760x32, .f32⟩
  | 54 => ⟨S2x8x5440x4x32, .f32⟩
  | 55 => ⟨S2x5440x8x4x32, .f32⟩
  | 56 => ⟨S2x5440x8x4, .f32⟩
  | 57 => ⟨S2x5440x8x4x1, .f32⟩
  | 58 => ⟨S2x5440x8x4x32, .f32⟩
  | 59 => ⟨S2x5440x8x4x32, .f32⟩
  | 60 => ⟨S_, .i32⟩
  | 61 => ⟨S2x5440x8x4, .i32⟩
  | 62 => ⟨S2x5440x8x4, .i1⟩
  | 63 => ⟨S_, .i32⟩
  | 64 => ⟨S2x5440x8x4, .i32⟩
  | 65 => ⟨S2x5440x8x4, .i1⟩
  | 66 => ⟨S2x5440x8x4, .i1⟩
  | 67 => ⟨S_, .i32⟩
  | 68 => ⟨S2x5440x8x4, .i32⟩
  | 69 => ⟨S2x5440x8x4, .i1⟩
  | 70 => ⟨S2x5440x8x4, .i1⟩
  | 71 => ⟨S_, .i32⟩
  | 72 => ⟨S2x5440x8x4, .i32⟩
  | 73 => ⟨S2x5440x8x4, .i1⟩
  | 74 => ⟨S2x5440x8x4, .i1⟩
  | 75 => ⟨S_, .i32⟩
  | 76 => ⟨S_, .i32⟩
  | 77 => ⟨S_, .i32⟩
  | 78 => ⟨S2x5440x8x4, .i32⟩
  | 79 => ⟨S2x5440x8x4, .i32⟩
  | 80 => ⟨S_, .i32⟩
  | 81 => ⟨S2x5440x8x4, .i32⟩
  | 82 => ⟨S2x5440x8x4, .i32⟩
  | 83 => ⟨S_, .i32⟩
  | 84 => ⟨S_, .i32⟩
  | 85 => ⟨S_, .i32⟩
  | 86 => ⟨S2x5440x8x4, .i32⟩
  | 87 => ⟨S2x5440x8x4, .i32⟩
  | 88 => ⟨S_, .i32⟩
  | 89 => ⟨S2x5440x8x4, .i32⟩
  | 90 => ⟨S2x5440x8x4, .i32⟩
  | 91 => ⟨S_, .i32⟩
  | 92 => ⟨S2x5440x8x4, .i32⟩
  | 93 => ⟨S2x5440x8x4, .i32⟩
  | 94 => ⟨S2x5440x8x4, .i32⟩
  | 95 => ⟨S2x8x5440x4, .i32⟩
  | 96 => ⟨S16x21760, .i32⟩
  | 97 => ⟨S16x21760x1, .i32⟩
  | 98 => ⟨S16x21760x32, .i32⟩
  | 99 => ⟨S_, .i32⟩
  | 100 => ⟨S16x21760x32, .i32⟩
  | 101 => ⟨S16x21760x32, .i1⟩
  | 102 => ⟨S_, .i32⟩
  | 103 => ⟨S16x21760x32, .i32⟩
  | 104 => ⟨S16x21760x32, .i32⟩
  | 105 => ⟨S16x21760x32, .i32⟩
  | 106 => ⟨S16x21760x32x1, .i32⟩
  | 107 => ⟨S1, .i32⟩
  | 108 => ⟨S_, .i32⟩
  | 109 => ⟨S16x21760x32x1, .i32⟩
  | 110 => ⟨S16x21760x32x1, .i1⟩
  | 111 => ⟨S1x1x1x1, .i32⟩
  | 112 => ⟨S16x21760x32x1, .i32⟩
  | 113 => ⟨S16x21760x32x1, .i1⟩
  | 114 => ⟨S16x21760x32x1, .i1⟩
  | 115 => ⟨S_, .i1⟩
  | 116 => ⟨S16x21760x32, .i1⟩
  | 117 => ⟨S16x21760x32, .f32⟩
  | 118 => ⟨S_, .f32⟩
  | 119 => ⟨S16x21760x32, .f32⟩
  | 120 => ⟨S16x21760x32, .f32⟩
  | 121 => ⟨S2x8x5440x4x32, .f32⟩
  | 122 => ⟨S2x5440x8x4x32, .f32⟩
  | 123 => ⟨S2x5440x8x4, .f32⟩
  | 124 => ⟨S2x5440x8x4x1, .f32⟩
  | 125 => ⟨S2x5440x8x4x32, .f32⟩
  | 126 => ⟨S2x5440x8x4x32, .f32⟩
  | 127 => ⟨S_, .i32⟩
  | _ => ⟨S2x5440x256, .f32⟩

abbrev hbmTy0_10 (i : Nat) : BufTy := match i % 128 with
  | 0 => ⟨S2x5440x8x4, .i32⟩
  | 1 => ⟨S2x5440x8x4, .i1⟩
  | 2 => ⟨S_, .i32⟩
  | 3 => ⟨S2x5440x8x4, .i32⟩
  | 4 => ⟨S2x5440x8x4, .i1⟩
  | 5 => ⟨S2x5440x8x4, .i1⟩
  | 6 => ⟨S_, .i32⟩
  | 7 => ⟨S2x5440x8x4, .i32⟩
  | 8 => ⟨S2x5440x8x4, .i1⟩
  | 9 => ⟨S2x5440x8x4, .i1⟩
  | 10 => ⟨S_, .i32⟩
  | 11 => ⟨S2x5440x8x4, .i32⟩
  | 12 => ⟨S2x5440x8x4, .i1⟩
  | 13 => ⟨S2x5440x8x4, .i1⟩
  | 14 => ⟨S_, .i32⟩
  | 15 => ⟨S_, .i32⟩
  | 16 => ⟨S_, .i32⟩
  | 17 => ⟨S2x5440x8x4, .i32⟩
  | 18 => ⟨S2x5440x8x4, .i32⟩
  | 19 => ⟨S_, .i32⟩
  | 20 => ⟨S2x5440x8x4, .i32⟩
  | 21 => ⟨S2x5440x8x4, .i32⟩
  | 22 => ⟨S_, .i32⟩
  | 23 => ⟨S_, .i32⟩
  | 24 => ⟨S_, .i32⟩
  | 25 => ⟨S2x5440x8x4, .i32⟩
  | 26 => ⟨S2x5440x8x4, .i32⟩
  | 27 => ⟨S_, .i32⟩
  | 28 => ⟨S2x5440x8x4, .i32⟩
  | 29 => ⟨S2x5440x8x4, .i32⟩
  | 30 => ⟨S_, .i32⟩
  | 31 => ⟨S2x5440x8x4, .i32⟩
  | 32 => ⟨S2x5440x8x4, .i32⟩
  | 33 => ⟨S2x5440x8x4, .i32⟩
  | 34 => ⟨S2x8x5440x4, .i32⟩
  | 35 => ⟨S16x21760, .i32⟩
  | 36 => ⟨S16x21760x1, .i32⟩
  | 37 => ⟨S16x21760x32, .i32⟩
  | 38 => ⟨S_, .i32⟩
  | 39 => ⟨S16x21760x32, .i32⟩
  | 40 => ⟨S16x21760x32, .i1⟩
  | 41 => ⟨S_, .i32⟩
  | 42 => ⟨S16x21760x32, .i32⟩
  | 43 => ⟨S16x21760x32, .i32⟩
  | 44 => ⟨S16x21760x32, .i32⟩
  | 45 => ⟨S16x21760x32x1, .i32⟩
  | 46 => ⟨S1, .i32⟩
  | 47 => ⟨S_, .i32⟩
  | 48 => ⟨S16x21760x32x1, .i32⟩
  | 49 => ⟨S16x21760x32x1, .i1⟩
  | 50 => ⟨S1x1x1x1, .i32⟩
  | 51 => ⟨S16x21760x32x1, .i32⟩
  | 52 => ⟨S16x21760x32x1, .i1⟩
  | 53 => ⟨S16x21760x32x1, .i1⟩
  | 54 => ⟨S_, .i1⟩
  | 55 => ⟨S16x21760x32, .i1⟩
  | 56 => ⟨S16x21760x32, .f32⟩
  | 57 => ⟨S_, .f32⟩
  | 58 => ⟨S16x21760x32, .f32⟩
  | 59 => ⟨S16x21760x32, .f32⟩
  | 60 => ⟨S2x8x5440x4x32, .f32⟩
  | 61 => ⟨S2x5440x8x4x32, .f32⟩
  | 62 => ⟨S2x5440x8x4, .f32⟩
  | 63 => ⟨S2x5440x8x4x1, .f32⟩
  | 64 => ⟨S2x5440x8x4x32, .f32⟩
  | 65 => ⟨S2x5440x8x4x32, .f32⟩
  | 66 => ⟨S_, .i32⟩
  | 67 => ⟨S2x5440x8x4, .i32⟩
  | 68 => ⟨S2x5440x8x4, .i1⟩
  | 69 => ⟨S_, .i32⟩
  | 70 => ⟨S2x5440x8x4, .i32⟩
  | 71 => ⟨S2x5440x8x4, .i1⟩
  | 72 => ⟨S2x5440x8x4, .i1⟩
  | 73 => ⟨S_, .i32⟩
  | 74 => ⟨S2x5440x8x4, .i32⟩
  | 75 => ⟨S2x5440x8x4, .i1⟩
  | 76 => ⟨S2x5440x8x4, .i1⟩
  | 77 => ⟨S_, .i32⟩
  | 78 => ⟨S2x5440x8x4, .i32⟩
  | 79 => ⟨S2x5440x8x4, .i1⟩
  | 80 => ⟨S2x5440x8x4, .i1⟩
  | 81 => ⟨S_, .i32⟩
  | 82 => ⟨S_, .i32⟩
  | 83 => ⟨S_, .i32⟩
  | 84 => ⟨S2x5440x8x4, .i32⟩
  | 85 => ⟨S2x5440x8x4, .i32⟩
  | 86 => ⟨S_, .i32⟩
  | 87 => ⟨S2x5440x8x4, .i32⟩
  | 88 => ⟨S2x5440x8x4, .i32⟩
  | 89 => ⟨S_, .i32⟩
  | 90 => ⟨S_, .i32⟩
  | 91 => ⟨S_, .i32⟩
  | 92 => ⟨S2x5440x8x4, .i32⟩
  | 93 => ⟨S2x5440x8x4, .i32⟩
  | 94 => ⟨S_, .i32⟩
  | 95 => ⟨S2x5440x8x4, .i32⟩
  | 96 => ⟨S2x5440x8x4, .i32⟩
  | 97 => ⟨S_, .i32⟩
  | 98 => ⟨S2x5440x8x4, .i32⟩
  | 99 => ⟨S2x5440x8x4, .i32⟩
  | 100 => ⟨S2x5440x8x4, .i32⟩
  | 101 => ⟨S2x8x5440x4, .i32⟩
  | 102 => ⟨S16x21760, .i32⟩
  | 103 => ⟨S16x21760x1, .i32⟩
  | 104 => ⟨S16x21760x32, .i32⟩
  | 105 => ⟨S_, .i32⟩
  | 106 => ⟨S16x21760x32, .i32⟩
  | 107 => ⟨S16x21760x32, .i1⟩
  | 108 => ⟨S_, .i32⟩
  | 109 => ⟨S16x21760x32, .i32⟩
  | 110 => ⟨S16x21760x32, .i32⟩
  | 111 => ⟨S16x21760x32, .i32⟩
  | 112 => ⟨S16x21760x32x1, .i32⟩
  | 113 => ⟨S1, .i32⟩
  | 114 => ⟨S_, .i32⟩
  | 115 => ⟨S16x21760x32x1, .i32⟩
  | 116 => ⟨S16x21760x32x1, .i1⟩
  | 117 => ⟨S1x1x1x1, .i32⟩
  | 118 => ⟨S16x21760x32x1, .i32⟩
  | 119 => ⟨S16x21760x32x1, .i1⟩
  | 120 => ⟨S16x21760x32x1, .i1⟩
  | 121 => ⟨S_, .i1⟩
  | 122 => ⟨S16x21760x32, .i1⟩
  | 123 => ⟨S16x21760x32, .f32⟩
  | 124 => ⟨S_, .f32⟩
  | 125 => ⟨S16x21760x32, .f32⟩
  | 126 => ⟨S16x21760x32, .f32⟩
  | 127 => ⟨S2x8x5440x4x32, .f32⟩
  | _ => ⟨S2x5440x256, .f32⟩

abbrev hbmTy0_11 (i : Nat) : BufTy := match i % 128 with
  | 0 => ⟨S2x5440x8x4x32, .f32⟩
  | 1 => ⟨S2x5440x8x4, .f32⟩
  | 2 => ⟨S2x5440x8x4x1, .f32⟩
  | 3 => ⟨S2x5440x8x4x32, .f32⟩
  | 4 => ⟨S2x5440x8x4x32, .f32⟩
  | 5 => ⟨S2x5440x8x4, .f32⟩
  | 6 => ⟨S2x5440x8x4x1, .f32⟩
  | 7 => ⟨S2x5440x8x4x32, .f32⟩
  | 8 => ⟨S2x5440x8x4x32, .f32⟩
  | 9 => ⟨S2x5440x8x4, .f32⟩
  | 10 => ⟨S2x5440x8x4x1, .f32⟩
  | 11 => ⟨S2x5440x8x4x32, .f32⟩
  | 12 => ⟨S2x5440x8x4x32, .f32⟩
  | 13 => ⟨S2x5440x8x4x32, .f32⟩
  | 14 => ⟨S2x5440x8x4, .f32⟩
  | 15 => ⟨S2x5440x8x4x1, .f32⟩
  | 16 => ⟨S2x5440x8x4x32, .f32⟩
  | 17 => ⟨S2x5440x8x4x32, .f32⟩
  | 18 => ⟨S2x5440x8x4x32, .f32⟩
  | 19 => ⟨S2x5440x8x4, .f32⟩
  | 20 => ⟨S2x5440x8x4x1, .f32⟩
  | 21 => ⟨S2x5440x8x4x32, .f32⟩
  | 22 => ⟨S2x5440x8x4x32, .f32⟩
  | 23 => ⟨S2x5440x8x4x32, .f32⟩
  | 24 => ⟨S_, .f32⟩
  | 25 => ⟨S2x5440x8x4, .f32⟩
  | 26 => ⟨S2x5440x8x4, .i1⟩
  | 27 => ⟨S_, .f32⟩
  | 28 => ⟨S2x5440x8x4, .f32⟩
  | 29 => ⟨S2x5440x8x4, .i1⟩
  | 30 => ⟨S2x5440x8x4, .i1⟩
  | 31 => ⟨S_, .f32⟩
  | 32 => ⟨S2x5440x8x4, .f32⟩
  | 33 => ⟨S2x5440x8x4, .i1⟩
  | 34 => ⟨S2x5440x8x4, .i1⟩
  | 35 => ⟨S_, .f32⟩
  | 36 => ⟨S2x5440x8x4, .f32⟩
  | 37 => ⟨S2x5440x8x4, .i1⟩
  | 38 => ⟨S2x5440x8x4, .i1⟩
  | 39 => ⟨S2x5440x8x4, .f32⟩
  | 40 => ⟨S2x5440x8x4x1, .f32⟩
  | 41 => ⟨S2x5440x8x4x32, .f32⟩
  | 42 => ⟨S2x5440x8x4x32, .f32⟩
  | 43 => ⟨S2x5440x8x1x4, .f32⟩
  | 44 => ⟨S2x5440x8x4, .f32⟩
  | 45 => ⟨S2x5440x8x4x1, .f32⟩
  | 46 => ⟨S2x5440x8x4x32, .f32⟩
  | 47 => ⟨S2x5440x8x4x32, .f32⟩
  | 48 => ⟨S_, .f32⟩
  | 49 => ⟨S2x5440x8x32, .f32⟩
  | 50 => ⟨S2x5440x8x32, .f32⟩
  | 51 => ⟨S2x5440x256, .f32⟩
  | 52 => ⟨S2x5440x256, .f32⟩
  | 53 => ⟨S2x5440x256, .f32⟩
  | 54 => ⟨S2x5440x256, .f32⟩
  | _ => ⟨S2x5440x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S2x5440x256, .f32⟩

abbrev bufTy : (tb : Table) → Fin (tcTables nBuf tb) → BufTy
  | .hbm, ⟨i, _⟩ => hbmTy i
  | _, _ => ⟨S2x5440x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_14 : Ref sig .tc := ⟨.hbm, 98, rfl⟩
abbrev main_c_15 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_v71 : Ref sig .tc := ⟨.hbm, 105, rfl⟩
abbrev main_c_16 : Ref sig .tc := ⟨.hbm, 106, rfl⟩
abbrev main_c_17 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_v72 : Ref sig .tc := ⟨.hbm, 113, rfl⟩
abbrev main_c_18 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_call2_c : Ref sig .tc := ⟨.hbm, 122, rfl⟩
abbrev main_call2_v0 : Ref sig .tc := ⟨.hbm, 123, rfl⟩
abbrev main_call2_v1 : Ref sig .tc := ⟨.hbm, 124, rfl⟩
abbrev main_call2_c_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_c_1 : Ref sig .tc := ⟨.hbm, 130, rfl⟩
abbrev main_call2_c_2 : Ref sig .tc := ⟨.hbm, 131, rfl⟩
abbrev main_call2_v6 : Ref sig .tc := ⟨.hbm, 132, rfl⟩
abbrev main_call2_v7 : Ref sig .tc := ⟨.hbm, 133, rfl⟩
abbrev main_call2_v8 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_c_3 : Ref sig .tc := ⟨.hbm, 138, rfl⟩
abbrev main_call2_v12 : Ref sig .tc := ⟨.hbm, 139, rfl⟩
abbrev main_call2_v13 : Ref sig .tc := ⟨.hbm, 140, rfl⟩
abbrev main_call2_cst : Ref sig .tc := ⟨.hbm, 141, rfl⟩
abbrev main_call2_v14 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_c_19 : Ref sig .tc := ⟨.hbm, 150, rfl⟩
abbrev main_v87 : Ref sig .tc := ⟨.hbm, 151, rfl⟩
abbrev main_v88 : Ref sig .tc := ⟨.hbm, 152, rfl⟩
abbrev main_c_20 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_c_21 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_c_22 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_c_23 : Ref sig .tc := ⟨.hbm, 165, rfl⟩
abbrev main_c_24 : Ref sig .tc := ⟨.hbm, 166, rfl⟩
abbrev main_call3_v0 : Ref sig .tc := ⟨.hbm, 167, rfl⟩
abbrev main_call3_v1 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_v98 : Ref sig .tc := ⟨.hbm, 172, rfl⟩
abbrev main_c_25 : Ref sig .tc := ⟨.hbm, 173, rfl⟩
abbrev main_c_26 : Ref sig .tc := ⟨.hbm, 174, rfl⟩
abbrev main_call4_v0 : Ref sig .tc := ⟨.hbm, 175, rfl⟩
abbrev main_call4_v1 : Ref sig .tc := ⟨.hbm, 176, rfl⟩
abbrev main_call4_v2 : Ref sig .tc := ⟨.hbm, 177, rfl⟩
abbrev main_call4_v3 : Ref sig .tc := ⟨.hbm, 178, rfl⟩
abbrev main_call4_v4 : Ref sig .tc := ⟨.hbm, 179, rfl⟩
abbrev main_v99 : Ref sig .tc := ⟨.hbm, 180, rfl⟩
abbrev main_c_27 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_call5_c : Ref sig .tc := ⟨.hbm, 189, rfl⟩
abbrev main_call5_v0 : Ref sig .tc := ⟨.hbm, 190, rfl⟩
abbrev main_call5_v1 : Ref sig .tc := ⟨.hbm, 191, rfl⟩
abbrev main_call5_c_0 : Ref sig .tc := ⟨.hbm, 192, rfl⟩
abbrev main_call5_v2 : Ref sig .tc := ⟨.hbm, 193, rfl⟩
abbrev main_call5_v3 : Ref sig .tc := ⟨.hbm, 194, rfl⟩
abbrev main_call5_v4 : Ref sig .tc := ⟨.hbm, 195, rfl⟩
abbrev main_call5_v5 : Ref sig .tc := ⟨.hbm, 196, rfl⟩
abbrev main_call5_c_1 : Ref sig .tc := ⟨.hbm, 197, rfl⟩
abbrev main_call5_c_2 : Ref sig .tc := ⟨.hbm, 198, rfl⟩
abbrev main_call5_v6 : Ref sig .tc := ⟨.hbm, 199, rfl⟩
abbrev main_call5_v7 : Ref sig .tc := ⟨.hbm, 200, rfl⟩
abbrev main_call5_v8 : Ref sig .tc := ⟨.hbm, 201, rfl⟩
abbrev main_call5_v9 : Ref sig .tc := ⟨.hbm, 202, rfl⟩
abbrev main_call5_v10 : Ref sig .tc := ⟨.hbm, 203, rfl⟩
abbrev main_call5_v11 : Ref sig .tc := ⟨.hbm, 204, rfl⟩
abbrev main_call5_c_3 : Ref sig .tc := ⟨.hbm, 205, rfl⟩
abbrev main_call5_v12 : Ref sig .tc := ⟨.hbm, 206, rfl⟩
abbrev main_call5_v13 : Ref sig .tc := ⟨.hbm, 207, rfl⟩
abbrev main_call5_cst : Ref sig .tc := ⟨.hbm, 208, rfl⟩
abbrev main_call5_v14 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_c_28 : Ref sig .tc := ⟨.hbm, 217, rfl⟩
abbrev main_v114 : Ref sig .tc := ⟨.hbm, 218, rfl⟩
abbrev main_v115 : Ref sig .tc := ⟨.hbm, 219, rfl⟩
abbrev main_c_29 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_c_30 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_c_31 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_c_32 : Ref sig .tc := ⟨.hbm, 232, rfl⟩
abbrev main_c_33 : Ref sig .tc := ⟨.hbm, 233, rfl⟩
abbrev main_call6_v0 : Ref sig .tc := ⟨.hbm, 234, rfl⟩
abbrev main_call6_v1 : Ref sig .tc := ⟨.hbm, 235, rfl⟩
abbrev main_call6_v2 : Ref sig .tc := ⟨.hbm, 236, rfl⟩
abbrev main_call6_v3 : Ref sig .tc := ⟨.hbm, 237, rfl⟩
abbrev main_call6_v4 : Ref sig .tc := ⟨.hbm, 238, rfl⟩
abbrev main_v125 : Ref sig .tc := ⟨.hbm, 239, rfl⟩
abbrev main_c_34 : Ref sig .tc := ⟨.hbm, 240, rfl⟩
abbrev main_c_35 : Ref sig .tc := ⟨.hbm, 241, rfl⟩
abbrev main_call7_v0 : Ref sig .tc := ⟨.hbm, 242, rfl⟩
abbrev main_call7_v1 : Ref sig .tc := ⟨.hbm, 243, rfl⟩
abbrev main_call7_v2 : Ref sig .tc := ⟨.hbm, 244, rfl⟩
abbrev main_call7_v3 : Ref sig .tc := ⟨.hbm, 245, rfl⟩
abbrev main_call7_v4 : Ref sig .tc := ⟨.hbm, 246, rfl⟩
abbrev main_v126 : Ref sig .tc := ⟨.hbm, 247, rfl⟩
abbrev main_c_36 : Ref sig .tc := ⟨.hbm, 248, rfl⟩
abbrev main_v127 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_v133 : Ref sig .tc := ⟨.hbm, 255, rfl⟩
abbrev main_call8_c : Ref sig .tc := ⟨.hbm, 256, rfl⟩
abbrev main_call8_v0 : Ref sig .tc := ⟨.hbm, 257, rfl⟩
abbrev main_call8_v1 : Ref sig .tc := ⟨.hbm, 258, rfl⟩
abbrev main_call8_c_0 : Ref sig .tc := ⟨.hbm, 259, rfl⟩
abbrev main_call8_v2 : Ref sig .tc := ⟨.hbm, 260, rfl⟩
abbrev main_call8_v3 : Ref sig .tc := ⟨.hbm, 261, rfl⟩
abbrev main_call8_v4 : Ref sig .tc := ⟨.hbm, 262, rfl⟩
abbrev main_call8_v5 : Ref sig .tc := ⟨.hbm, 263, rfl⟩
abbrev main_call8_c_1 : Ref sig .tc := ⟨.hbm, 264, rfl⟩
abbrev main_call8_c_2 : Ref sig .tc := ⟨.hbm, 265, rfl⟩
abbrev main_call8_v6 : Ref sig .tc := ⟨.hbm, 266, rfl⟩
abbrev main_call8_v7 : Ref sig .tc := ⟨.hbm, 267, rfl⟩
abbrev main_call8_v8 : Ref sig .tc := ⟨.hbm, 268, rfl⟩
abbrev main_call8_v9 : Ref sig .tc := ⟨.hbm, 269, rfl⟩
abbrev main_call8_v10 : Ref sig .tc := ⟨.hbm, 270, rfl⟩
abbrev main_call8_v11 : Ref sig .tc := ⟨.hbm, 271, rfl⟩
abbrev main_call8_c_3 : Ref sig .tc := ⟨.hbm, 272, rfl⟩
abbrev main_call8_v12 : Ref sig .tc := ⟨.hbm, 273, rfl⟩
abbrev main_call8_v13 : Ref sig .tc := ⟨.hbm, 274, rfl⟩
abbrev main_call8_cst : Ref sig .tc := ⟨.hbm, 275, rfl⟩
abbrev main_call8_v14 : Ref sig .tc := ⟨.hbm, 276, rfl⟩
abbrev main_v134 : Ref sig .tc := ⟨.hbm, 277, rfl⟩
abbrev main_v135 : Ref sig .tc := ⟨.hbm, 278, rfl⟩
abbrev main_v136 : Ref sig .tc := ⟨.hbm, 279, rfl⟩
abbrev main_v137 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_c_37 : Ref sig .tc := ⟨.hbm, 284, rfl⟩
abbrev main_v141 : Ref sig .tc := ⟨.hbm, 285, rfl⟩
abbrev main_v142 : Ref sig .tc := ⟨.hbm, 286, rfl⟩
abbrev main_c_38 : Ref sig .tc := ⟨.hbm, 287, rfl⟩
abbrev main_v143 : Ref sig .tc := ⟨.hbm, 288, rfl⟩
abbrev main_v144 : Ref sig .tc := ⟨.hbm, 289, rfl⟩
abbrev main_v145 : Ref sig .tc := ⟨.hbm, 290, rfl⟩
abbrev main_c_39 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_c_40 : Ref sig .tc := ⟨.hbm, 295, rfl⟩
abbrev main_v149 : Ref sig .tc := ⟨.hbm, 296, rfl⟩
abbrev main_v150 : Ref sig .tc := ⟨.hbm, 297, rfl⟩
abbrev main_v151 : Ref sig .tc := ⟨.hbm, 298, rfl⟩
abbrev main_c_41 : Ref sig .tc := ⟨.hbm, 299, rfl⟩
abbrev main_c_42 : Ref sig .tc := ⟨.hbm, 300, rfl⟩
abbrev main_call9_v0 : Ref sig .tc := ⟨.hbm, 301, rfl⟩
abbrev main_call9_v1 : Ref sig .tc := ⟨.hbm, 302, rfl⟩
abbrev main_call9_v2 : Ref sig .tc := ⟨.hbm, 303, rfl⟩
abbrev main_call9_v3 : Ref sig .tc := ⟨.hbm, 304, rfl⟩
abbrev main_call9_v4 : Ref sig .tc := ⟨.hbm, 305, rfl⟩
abbrev main_v152 : Ref sig .tc := ⟨.hbm, 306, rfl⟩
abbrev main_c_43 : Ref sig .tc := ⟨.hbm, 307, rfl⟩
abbrev main_c_44 : Ref sig .tc := ⟨.hbm, 308, rfl⟩
abbrev main_call10_v0 : Ref sig .tc := ⟨.hbm, 309, rfl⟩
abbrev main_call10_v1 : Ref sig .tc := ⟨.hbm, 310, rfl⟩
abbrev main_call10_v2 : Ref sig .tc := ⟨.hbm, 311, rfl⟩
abbrev main_call10_v3 : Ref sig .tc := ⟨.hbm, 312, rfl⟩
abbrev main_call10_v4 : Ref sig .tc := ⟨.hbm, 313, rfl⟩
abbrev main_v153 : Ref sig .tc := ⟨.hbm, 314, rfl⟩
abbrev main_c_45 : Ref sig .tc := ⟨.hbm, 315, rfl⟩
abbrev main_v154 : Ref sig .tc := ⟨.hbm, 316, rfl⟩
abbrev main_v155 : Ref sig .tc := ⟨.hbm, 317, rfl⟩
abbrev main_v156 : Ref sig .tc := ⟨.hbm, 318, rfl⟩
abbrev main_v157 : Ref sig .tc := ⟨.hbm, 319, rfl⟩
abbrev main_v158 : Ref sig .tc := ⟨.hbm, 320, rfl⟩
abbrev main_v159 : Ref sig .tc := ⟨.hbm, 321, rfl⟩
abbrev main_v160 : Ref sig .tc := ⟨.hbm, 322, rfl⟩
abbrev main_call11_c : Ref sig .tc := ⟨.hbm, 323, rfl⟩
abbrev main_call11_v0 : Ref sig .tc := ⟨.hbm, 324, rfl⟩
abbrev main_call11_v1 : Ref sig .tc := ⟨.hbm, 325, rfl⟩
abbrev main_call11_c_0 : Ref sig .tc := ⟨.hbm, 326, rfl⟩
abbrev main_call11_v2 : Ref sig .tc := ⟨.hbm, 327, rfl⟩
abbrev main_call11_v3 : Ref sig .tc := ⟨.hbm, 328, rfl⟩
abbrev main_call11_v4 : Ref sig .tc := ⟨.hbm, 329, rfl⟩
abbrev main_call11_v5 : Ref sig .tc := ⟨.hbm, 330, rfl⟩
abbrev main_call11_c_1 : Ref sig .tc := ⟨.hbm, 331, rfl⟩
abbrev main_call11_c_2 : Ref sig .tc := ⟨.hbm, 332, rfl⟩
abbrev main_call11_v6 : Ref sig .tc := ⟨.hbm, 333, rfl⟩
abbrev main_call11_v7 : Ref sig .tc := ⟨.hbm, 334, rfl⟩
abbrev main_call11_v8 : Ref sig .tc := ⟨.hbm, 335, rfl⟩
abbrev main_call11_v9 : Ref sig .tc := ⟨.hbm, 336, rfl⟩
abbrev main_call11_v10 : Ref sig .tc := ⟨.hbm, 337, rfl⟩
abbrev main_call11_v11 : Ref sig .tc := ⟨.hbm, 338, rfl⟩
abbrev main_call11_c_3 : Ref sig .tc := ⟨.hbm, 339, rfl⟩
abbrev main_call11_v12 : Ref sig .tc := ⟨.hbm, 340, rfl⟩
abbrev main_call11_v13 : Ref sig .tc := ⟨.hbm, 341, rfl⟩
abbrev main_call11_cst : Ref sig .tc := ⟨.hbm, 342, rfl⟩
abbrev main_call11_v14 : Ref sig .tc := ⟨.hbm, 343, rfl⟩
abbrev main_v161 : Ref sig .tc := ⟨.hbm, 344, rfl⟩
abbrev main_v162 : Ref sig .tc := ⟨.hbm, 345, rfl⟩
abbrev main_v163 : Ref sig .tc := ⟨.hbm, 346, rfl⟩
abbrev main_v164 : Ref sig .tc := ⟨.hbm, 347, rfl⟩
abbrev main_v165 : Ref sig .tc := ⟨.hbm, 348, rfl⟩
abbrev main_v166 : Ref sig .tc := ⟨.hbm, 349, rfl⟩
abbrev main_v167 : Ref sig .tc := ⟨.hbm, 350, rfl⟩
abbrev main_v168 : Ref sig .tc := ⟨.hbm, 351, rfl⟩
abbrev main_v169 : Ref sig .tc := ⟨.hbm, 352, rfl⟩
abbrev main_v170 : Ref sig .tc := ⟨.hbm, 353, rfl⟩
abbrev main_v171 : Ref sig .tc := ⟨.hbm, 354, rfl⟩
abbrev main_v172 : Ref sig .tc := ⟨.hbm, 355, rfl⟩
abbrev main_v173 : Ref sig .tc := ⟨.hbm, 356, rfl⟩
abbrev main_v174 : Ref sig .tc := ⟨.hbm, 357, rfl⟩
abbrev main_v175 : Ref sig .tc := ⟨.hbm, 358, rfl⟩
abbrev main_v176 : Ref sig .tc := ⟨.hbm, 359, rfl⟩
abbrev main_v177 : Ref sig .tc := ⟨.hbm, 360, rfl⟩
abbrev main_v178 : Ref sig .tc := ⟨.hbm, 361, rfl⟩
abbrev main_v179 : Ref sig .tc := ⟨.hbm, 362, rfl⟩
abbrev main_v180 : Ref sig .tc := ⟨.hbm, 363, rfl⟩
abbrev main_v181 : Ref sig .tc := ⟨.hbm, 364, rfl⟩
abbrev main_v182 : Ref sig .tc := ⟨.hbm, 365, rfl⟩
abbrev main_v183 : Ref sig .tc := ⟨.hbm, 366, rfl⟩
abbrev main_v184 : Ref sig .tc := ⟨.hbm, 367, rfl⟩
abbrev main_v185 : Ref sig .tc := ⟨.hbm, 368, rfl⟩
abbrev main_v186 : Ref sig .tc := ⟨.hbm, 369, rfl⟩
abbrev main_cst_46 : Ref sig .tc := ⟨.hbm, 370, rfl⟩
abbrev main_v187 : Ref sig .tc := ⟨.hbm, 371, rfl⟩
abbrev main_v188 : Ref sig .tc := ⟨.hbm, 372, rfl⟩
abbrev main_cst_47 : Ref sig .tc := ⟨.hbm, 373, rfl⟩
abbrev main_v189 : Ref sig .tc := ⟨.hbm, 374, rfl⟩
abbrev main_v190 : Ref sig .tc := ⟨.hbm, 375, rfl⟩
abbrev main_v191 : Ref sig .tc := ⟨.hbm, 376, rfl⟩
abbrev main_cst_48 : Ref sig .tc := ⟨.hbm, 377, rfl⟩
abbrev main_v192 : Ref sig .tc := ⟨.hbm, 378, rfl⟩
abbrev main_v193 : Ref sig .tc := ⟨.hbm, 379, rfl⟩
abbrev main_v194 : Ref sig .tc := ⟨.hbm, 380, rfl⟩
abbrev main_cst_49 : Ref sig .tc := ⟨.hbm, 381, rfl⟩
abbrev main_v195 : Ref sig .tc := ⟨.hbm, 382, rfl⟩
abbrev main_v196 : Ref sig .tc := ⟨.hbm, 383, rfl⟩
abbrev main_v197 : Ref sig .tc := ⟨.hbm, 384, rfl⟩
abbrev main_v198 : Ref sig .tc := ⟨.hbm, 385, rfl⟩
abbrev main_v199 : Ref sig .tc := ⟨.hbm, 386, rfl⟩
abbrev main_v200 : Ref sig .tc := ⟨.hbm, 387, rfl⟩
abbrev main_v201 : Ref sig .tc := ⟨.hbm, 388, rfl⟩
abbrev main_v202 : Ref sig .tc := ⟨.hbm, 389, rfl⟩
abbrev main_v203 : Ref sig .tc := ⟨.hbm, 390, rfl⟩
abbrev main_v204 : Ref sig .tc := ⟨.hbm, 391, rfl⟩
abbrev main_v205 : Ref sig .tc := ⟨.hbm, 392, rfl⟩
abbrev main_v206 : Ref sig .tc := ⟨.hbm, 393, rfl⟩
abbrev main_cst_50 : Ref sig .tc := ⟨.hbm, 394, rfl⟩
abbrev main_v207 : Ref sig .tc := ⟨.hbm, 395, rfl⟩
abbrev main_v208 : Ref sig .tc := ⟨.hbm, 396, rfl⟩
abbrev main_v209 : Ref sig .tc := ⟨.hbm, 397, rfl⟩
abbrev main_v210 : Ref sig .tc := ⟨.hbm, 398, rfl⟩
abbrev main_v211 : Ref sig .tc := ⟨.hbm, 399, rfl⟩
abbrev main_v212 : Ref sig .tc := ⟨.hbm, 400, rfl⟩
abbrev main_v213 : Ref sig .tc := ⟨.hbm, 401, rfl⟩
abbrev main_v214 : Ref sig .tc := ⟨.hbm, 402, rfl⟩
abbrev main_cst_51 : Ref sig .tc := ⟨.hbm, 403, rfl⟩
abbrev main_v215 : Ref sig .tc := ⟨.hbm, 404, rfl⟩
abbrev main_v216 : Ref sig .tc := ⟨.hbm, 405, rfl⟩
abbrev main_cst_52 : Ref sig .tc := ⟨.hbm, 406, rfl⟩
abbrev main_v217 : Ref sig .tc := ⟨.hbm, 407, rfl⟩
abbrev main_v218 : Ref sig .tc := ⟨.hbm, 408, rfl⟩
abbrev main_v219 : Ref sig .tc := ⟨.hbm, 409, rfl⟩
abbrev main_v220 : Ref sig .tc := ⟨.hbm, 410, rfl⟩
abbrev main_cst_53 : Ref sig .tc := ⟨.hbm, 411, rfl⟩
abbrev main_v221 : Ref sig .tc := ⟨.hbm, 412, rfl⟩
abbrev main_v222 : Ref sig .tc := ⟨.hbm, 413, rfl⟩
abbrev main_cst_54 : Ref sig .tc := ⟨.hbm, 414, rfl⟩
abbrev main_v223 : Ref sig .tc := ⟨.hbm, 415, rfl⟩
abbrev main_v224 : Ref sig .tc := ⟨.hbm, 416, rfl⟩
abbrev main_v225 : Ref sig .tc := ⟨.hbm, 417, rfl⟩
abbrev main_v226 : Ref sig .tc := ⟨.hbm, 418, rfl⟩
abbrev main_v227 : Ref sig .tc := ⟨.hbm, 419, rfl⟩
abbrev main_v228 : Ref sig .tc := ⟨.hbm, 420, rfl⟩
abbrev main_cst_55 : Ref sig .tc := ⟨.hbm, 421, rfl⟩
abbrev main_v229 : Ref sig .tc := ⟨.hbm, 422, rfl⟩
abbrev main_v230 : Ref sig .tc := ⟨.hbm, 423, rfl⟩
abbrev main_cst_56 : Ref sig .tc := ⟨.hbm, 424, rfl⟩
abbrev main_v231 : Ref sig .tc := ⟨.hbm, 425, rfl⟩
abbrev main_v232 : Ref sig .tc := ⟨.hbm, 426, rfl⟩
abbrev main_v233 : Ref sig .tc := ⟨.hbm, 427, rfl⟩
abbrev main_v234 : Ref sig .tc := ⟨.hbm, 428, rfl⟩
abbrev main_c_57 : Ref sig .tc := ⟨.hbm, 429, rfl⟩
abbrev main_v235 : Ref sig .tc := ⟨.hbm, 430, rfl⟩
abbrev main_v236 : Ref sig .tc := ⟨.hbm, 431, rfl⟩
abbrev main_c_58 : Ref sig .tc := ⟨.hbm, 432, rfl⟩
abbrev main_v237 : Ref sig .tc := ⟨.hbm, 433, rfl⟩
abbrev main_v238 : Ref sig .tc := ⟨.hbm, 434, rfl⟩
abbrev main_v239 : Ref sig .tc := ⟨.hbm, 435, rfl⟩
abbrev main_v240 : Ref sig .tc := ⟨.hbm, 436, rfl⟩
abbrev main_c_59 : Ref sig .tc := ⟨.hbm, 437, rfl⟩
abbrev main_v241 : Ref sig .tc := ⟨.hbm, 438, rfl⟩
abbrev main_v242 : Ref sig .tc := ⟨.hbm, 439, rfl⟩
abbrev main_c_60 : Ref sig .tc := ⟨.hbm, 440, rfl⟩
abbrev main_v243 : Ref sig .tc := ⟨.hbm, 441, rfl⟩
abbrev main_v244 : Ref sig .tc := ⟨.hbm, 442, rfl⟩
abbrev main_v245 : Ref sig .tc := ⟨.hbm, 443, rfl⟩
abbrev main_c_61 : Ref sig .tc := ⟨.hbm, 444, rfl⟩
abbrev main_v246 : Ref sig .tc := ⟨.hbm, 445, rfl⟩
abbrev main_v247 : Ref sig .tc := ⟨.hbm, 446, rfl⟩
abbrev main_v248 : Ref sig .tc := ⟨.hbm, 447, rfl⟩
abbrev main_c_62 : Ref sig .tc := ⟨.hbm, 448, rfl⟩
abbrev main_v249 : Ref sig .tc := ⟨.hbm, 449, rfl⟩
abbrev main_v250 : Ref sig .tc := ⟨.hbm, 450, rfl⟩
abbrev main_v251 : Ref sig .tc := ⟨.hbm, 451, rfl⟩
abbrev main_c_63 : Ref sig .tc := ⟨.hbm, 452, rfl⟩
abbrev main_c_64 : Ref sig .tc := ⟨.hbm, 453, rfl⟩
abbrev main_call12_v0 : Ref sig .tc := ⟨.hbm, 454, rfl⟩
abbrev main_call12_v1 : Ref sig .tc := ⟨.hbm, 455, rfl⟩
abbrev main_call12_v2 : Ref sig .tc := ⟨.hbm, 456, rfl⟩
abbrev main_call12_v3 : Ref sig .tc := ⟨.hbm, 457, rfl⟩
abbrev main_call12_v4 : Ref sig .tc := ⟨.hbm, 458, rfl⟩
abbrev main_v252 : Ref sig .tc := ⟨.hbm, 459, rfl⟩
abbrev main_c_65 : Ref sig .tc := ⟨.hbm, 460, rfl⟩
abbrev main_c_66 : Ref sig .tc := ⟨.hbm, 461, rfl⟩
abbrev main_call13_v0 : Ref sig .tc := ⟨.hbm, 462, rfl⟩
abbrev main_call13_v1 : Ref sig .tc := ⟨.hbm, 463, rfl⟩
abbrev main_call13_v2 : Ref sig .tc := ⟨.hbm, 464, rfl⟩
abbrev main_call13_v3 : Ref sig .tc := ⟨.hbm, 465, rfl⟩
abbrev main_call13_v4 : Ref sig .tc := ⟨.hbm, 466, rfl⟩
abbrev main_v253 : Ref sig .tc := ⟨.hbm, 467, rfl⟩
abbrev main_c_67 : Ref sig .tc := ⟨.hbm, 468, rfl⟩
abbrev main_v254 : Ref sig .tc := ⟨.hbm, 469, rfl⟩
abbrev main_v255 : Ref sig .tc := ⟨.hbm, 470, rfl⟩
abbrev main_v256 : Ref sig .tc := ⟨.hbm, 471, rfl⟩
abbrev main_v257 : Ref sig .tc := ⟨.hbm, 472, rfl⟩
abbrev main_v258 : Ref sig .tc := ⟨.hbm, 473, rfl⟩
abbrev main_v259 : Ref sig .tc := ⟨.hbm, 474, rfl⟩
abbrev main_v260 : Ref sig .tc := ⟨.hbm, 475, rfl⟩
abbrev main_call14_c : Ref sig .tc := ⟨.hbm, 476, rfl⟩
abbrev main_call14_v0 : Ref sig .tc := ⟨.hbm, 477, rfl⟩
abbrev main_call14_v1 : Ref sig .tc := ⟨.hbm, 478, rfl⟩
abbrev main_call14_c_0 : Ref sig .tc := ⟨.hbm, 479, rfl⟩
abbrev main_call14_v2 : Ref sig .tc := ⟨.hbm, 480, rfl⟩
abbrev main_call14_v3 : Ref sig .tc := ⟨.hbm, 481, rfl⟩
abbrev main_call14_v4 : Ref sig .tc := ⟨.hbm, 482, rfl⟩
abbrev main_call14_v5 : Ref sig .tc := ⟨.hbm, 483, rfl⟩
abbrev main_call14_c_1 : Ref sig .tc := ⟨.hbm, 484, rfl⟩
abbrev main_call14_c_2 : Ref sig .tc := ⟨.hbm, 485, rfl⟩
abbrev main_call14_v6 : Ref sig .tc := ⟨.hbm, 486, rfl⟩
abbrev main_call14_v7 : Ref sig .tc := ⟨.hbm, 487, rfl⟩
abbrev main_call14_v8 : Ref sig .tc := ⟨.hbm, 488, rfl⟩
abbrev main_call14_v9 : Ref sig .tc := ⟨.hbm, 489, rfl⟩
abbrev main_call14_v10 : Ref sig .tc := ⟨.hbm, 490, rfl⟩
abbrev main_call14_v11 : Ref sig .tc := ⟨.hbm, 491, rfl⟩
abbrev main_call14_c_3 : Ref sig .tc := ⟨.hbm, 492, rfl⟩
abbrev main_call14_v12 : Ref sig .tc := ⟨.hbm, 493, rfl⟩
abbrev main_call14_v13 : Ref sig .tc := ⟨.hbm, 494, rfl⟩
abbrev main_call14_cst : Ref sig .tc := ⟨.hbm, 495, rfl⟩
abbrev main_call14_v14 : Ref sig .tc := ⟨.hbm, 496, rfl⟩
abbrev main_v261 : Ref sig .tc := ⟨.hbm, 497, rfl⟩
abbrev main_v262 : Ref sig .tc := ⟨.hbm, 498, rfl⟩
abbrev main_v263 : Ref sig .tc := ⟨.hbm, 499, rfl⟩
abbrev main_v264 : Ref sig .tc := ⟨.hbm, 500, rfl⟩
abbrev main_v265 : Ref sig .tc := ⟨.hbm, 501, rfl⟩
abbrev main_v266 : Ref sig .tc := ⟨.hbm, 502, rfl⟩
abbrev main_v267 : Ref sig .tc := ⟨.hbm, 503, rfl⟩
abbrev main_c_68 : Ref sig .tc := ⟨.hbm, 504, rfl⟩
abbrev main_v268 : Ref sig .tc := ⟨.hbm, 505, rfl⟩
abbrev main_v269 : Ref sig .tc := ⟨.hbm, 506, rfl⟩
abbrev main_c_69 : Ref sig .tc := ⟨.hbm, 507, rfl⟩
abbrev main_v270 : Ref sig .tc := ⟨.hbm, 508, rfl⟩
abbrev main_v271 : Ref sig .tc := ⟨.hbm, 509, rfl⟩
abbrev main_v272 : Ref sig .tc := ⟨.hbm, 510, rfl⟩
abbrev main_c_70 : Ref sig .tc := ⟨.hbm, 511, rfl⟩
abbrev main_v273 : Ref sig .tc := ⟨.hbm, 512, rfl⟩
abbrev main_v274 : Ref sig .tc := ⟨.hbm, 513, rfl⟩
abbrev main_v275 : Ref sig .tc := ⟨.hbm, 514, rfl⟩
abbrev main_c_71 : Ref sig .tc := ⟨.hbm, 515, rfl⟩
abbrev main_v276 : Ref sig .tc := ⟨.hbm, 516, rfl⟩
abbrev main_v277 : Ref sig .tc := ⟨.hbm, 517, rfl⟩
abbrev main_v278 : Ref sig .tc := ⟨.hbm, 518, rfl⟩
abbrev main_c_72 : Ref sig .tc := ⟨.hbm, 519, rfl⟩
abbrev main_c_73 : Ref sig .tc := ⟨.hbm, 520, rfl⟩
abbrev main_call15_v0 : Ref sig .tc := ⟨.hbm, 521, rfl⟩
abbrev main_call15_v1 : Ref sig .tc := ⟨.hbm, 522, rfl⟩
abbrev main_call15_v2 : Ref sig .tc := ⟨.hbm, 523, rfl⟩
abbrev main_call15_v3 : Ref sig .tc := ⟨.hbm, 524, rfl⟩
abbrev main_call15_v4 : Ref sig .tc := ⟨.hbm, 525, rfl⟩
abbrev main_v279 : Ref sig .tc := ⟨.hbm, 526, rfl⟩
abbrev main_c_74 : Ref sig .tc := ⟨.hbm, 527, rfl⟩
abbrev main_c_75 : Ref sig .tc := ⟨.hbm, 528, rfl⟩
abbrev main_call16_v0 : Ref sig .tc := ⟨.hbm, 529, rfl⟩
abbrev main_call16_v1 : Ref sig .tc := ⟨.hbm, 530, rfl⟩
abbrev main_call16_v2 : Ref sig .tc := ⟨.hbm, 531, rfl⟩
abbrev main_call16_v3 : Ref sig .tc := ⟨.hbm, 532, rfl⟩
abbrev main_call16_v4 : Ref sig .tc := ⟨.hbm, 533, rfl⟩
abbrev main_v280 : Ref sig .tc := ⟨.hbm, 534, rfl⟩
abbrev main_c_76 : Ref sig .tc := ⟨.hbm, 535, rfl⟩
abbrev main_v281 : Ref sig .tc := ⟨.hbm, 536, rfl⟩
abbrev main_v282 : Ref sig .tc := ⟨.hbm, 537, rfl⟩
abbrev main_v283 : Ref sig .tc := ⟨.hbm, 538, rfl⟩
abbrev main_v284 : Ref sig .tc := ⟨.hbm, 539, rfl⟩
abbrev main_v285 : Ref sig .tc := ⟨.hbm, 540, rfl⟩
abbrev main_v286 : Ref sig .tc := ⟨.hbm, 541, rfl⟩
abbrev main_v287 : Ref sig .tc := ⟨.hbm, 542, rfl⟩
abbrev main_call17_c : Ref sig .tc := ⟨.hbm, 543, rfl⟩
abbrev main_call17_v0 : Ref sig .tc := ⟨.hbm, 544, rfl⟩
abbrev main_call17_v1 : Ref sig .tc := ⟨.hbm, 545, rfl⟩
abbrev main_call17_c_0 : Ref sig .tc := ⟨.hbm, 546, rfl⟩
abbrev main_call17_v2 : Ref sig .tc := ⟨.hbm, 547, rfl⟩
abbrev main_call17_v3 : Ref sig .tc := ⟨.hbm, 548, rfl⟩
abbrev main_call17_v4 : Ref sig .tc := ⟨.hbm, 549, rfl⟩
abbrev main_call17_v5 : Ref sig .tc := ⟨.hbm, 550, rfl⟩
abbrev main_call17_c_1 : Ref sig .tc := ⟨.hbm, 551, rfl⟩
abbrev main_call17_c_2 : Ref sig .tc := ⟨.hbm, 552, rfl⟩
abbrev main_call17_v6 : Ref sig .tc := ⟨.hbm, 553, rfl⟩
abbrev main_call17_v7 : Ref sig .tc := ⟨.hbm, 554, rfl⟩
abbrev main_call17_v8 : Ref sig .tc := ⟨.hbm, 555, rfl⟩
abbrev main_call17_v9 : Ref sig .tc := ⟨.hbm, 556, rfl⟩
abbrev main_call17_v10 : Ref sig .tc := ⟨.hbm, 557, rfl⟩
abbrev main_call17_v11 : Ref sig .tc := ⟨.hbm, 558, rfl⟩
abbrev main_call17_c_3 : Ref sig .tc := ⟨.hbm, 559, rfl⟩
abbrev main_call17_v12 : Ref sig .tc := ⟨.hbm, 560, rfl⟩
abbrev main_call17_v13 : Ref sig .tc := ⟨.hbm, 561, rfl⟩
abbrev main_call17_cst : Ref sig .tc := ⟨.hbm, 562, rfl⟩
abbrev main_call17_v14 : Ref sig .tc := ⟨.hbm, 563, rfl⟩
abbrev main_v288 : Ref sig .tc := ⟨.hbm, 564, rfl⟩
abbrev main_v289 : Ref sig .tc := ⟨.hbm, 565, rfl⟩
abbrev main_v290 : Ref sig .tc := ⟨.hbm, 566, rfl⟩
abbrev main_v291 : Ref sig .tc := ⟨.hbm, 567, rfl⟩
abbrev main_v292 : Ref sig .tc := ⟨.hbm, 568, rfl⟩
abbrev main_v293 : Ref sig .tc := ⟨.hbm, 569, rfl⟩
abbrev main_v294 : Ref sig .tc := ⟨.hbm, 570, rfl⟩
abbrev main_c_77 : Ref sig .tc := ⟨.hbm, 571, rfl⟩
abbrev main_v295 : Ref sig .tc := ⟨.hbm, 572, rfl⟩
abbrev main_v296 : Ref sig .tc := ⟨.hbm, 573, rfl⟩
abbrev main_c_78 : Ref sig .tc := ⟨.hbm, 574, rfl⟩
abbrev main_v297 : Ref sig .tc := ⟨.hbm, 575, rfl⟩
abbrev main_v298 : Ref sig .tc := ⟨.hbm, 576, rfl⟩
abbrev main_v299 : Ref sig .tc := ⟨.hbm, 577, rfl⟩
abbrev main_c_79 : Ref sig .tc := ⟨.hbm, 578, rfl⟩
abbrev main_v300 : Ref sig .tc := ⟨.hbm, 579, rfl⟩
abbrev main_v301 : Ref sig .tc := ⟨.hbm, 580, rfl⟩
abbrev main_v302 : Ref sig .tc := ⟨.hbm, 581, rfl⟩
abbrev main_c_80 : Ref sig .tc := ⟨.hbm, 582, rfl⟩
abbrev main_v303 : Ref sig .tc := ⟨.hbm, 583, rfl⟩
abbrev main_v304 : Ref sig .tc := ⟨.hbm, 584, rfl⟩
abbrev main_v305 : Ref sig .tc := ⟨.hbm, 585, rfl⟩
abbrev main_c_81 : Ref sig .tc := ⟨.hbm, 586, rfl⟩
abbrev main_c_82 : Ref sig .tc := ⟨.hbm, 587, rfl⟩
abbrev main_call18_v0 : Ref sig .tc := ⟨.hbm, 588, rfl⟩
abbrev main_call18_v1 : Ref sig .tc := ⟨.hbm, 589, rfl⟩
abbrev main_call18_v2 : Ref sig .tc := ⟨.hbm, 590, rfl⟩
abbrev main_call18_v3 : Ref sig .tc := ⟨.hbm, 591, rfl⟩
abbrev main_call18_v4 : Ref sig .tc := ⟨.hbm, 592, rfl⟩
abbrev main_v306 : Ref sig .tc := ⟨.hbm, 593, rfl⟩
abbrev main_c_83 : Ref sig .tc := ⟨.hbm, 594, rfl⟩
abbrev main_c_84 : Ref sig .tc := ⟨.hbm, 595, rfl⟩
abbrev main_call19_v0 : Ref sig .tc := ⟨.hbm, 596, rfl⟩
abbrev main_call19_v1 : Ref sig .tc := ⟨.hbm, 597, rfl⟩
abbrev main_call19_v2 : Ref sig .tc := ⟨.hbm, 598, rfl⟩
abbrev main_call19_v3 : Ref sig .tc := ⟨.hbm, 599, rfl⟩
abbrev main_call19_v4 : Ref sig .tc := ⟨.hbm, 600, rfl⟩
abbrev main_v307 : Ref sig .tc := ⟨.hbm, 601, rfl⟩
abbrev main_c_85 : Ref sig .tc := ⟨.hbm, 602, rfl⟩
abbrev main_v308 : Ref sig .tc := ⟨.hbm, 603, rfl⟩
abbrev main_v309 : Ref sig .tc := ⟨.hbm, 604, rfl⟩
abbrev main_v310 : Ref sig .tc := ⟨.hbm, 605, rfl⟩
abbrev main_v311 : Ref sig .tc := ⟨.hbm, 606, rfl⟩
abbrev main_v312 : Ref sig .tc := ⟨.hbm, 607, rfl⟩
abbrev main_v313 : Ref sig .tc := ⟨.hbm, 608, rfl⟩
abbrev main_v314 : Ref sig .tc := ⟨.hbm, 609, rfl⟩
abbrev main_call20_c : Ref sig .tc := ⟨.hbm, 610, rfl⟩
abbrev main_call20_v0 : Ref sig .tc := ⟨.hbm, 611, rfl⟩
abbrev main_call20_v1 : Ref sig .tc := ⟨.hbm, 612, rfl⟩
abbrev main_call20_c_0 : Ref sig .tc := ⟨.hbm, 613, rfl⟩
abbrev main_call20_v2 : Ref sig .tc := ⟨.hbm, 614, rfl⟩
abbrev main_call20_v3 : Ref sig .tc := ⟨.hbm, 615, rfl⟩
abbrev main_call20_v4 : Ref sig .tc := ⟨.hbm, 616, rfl⟩
abbrev main_call20_v5 : Ref sig .tc := ⟨.hbm, 617, rfl⟩
abbrev main_call20_c_1 : Ref sig .tc := ⟨.hbm, 618, rfl⟩
abbrev main_call20_c_2 : Ref sig .tc := ⟨.hbm, 619, rfl⟩
abbrev main_call20_v6 : Ref sig .tc := ⟨.hbm, 620, rfl⟩
abbrev main_call20_v7 : Ref sig .tc := ⟨.hbm, 621, rfl⟩
abbrev main_call20_v8 : Ref sig .tc := ⟨.hbm, 622, rfl⟩
abbrev main_call20_v9 : Ref sig .tc := ⟨.hbm, 623, rfl⟩
abbrev main_call20_v10 : Ref sig .tc := ⟨.hbm, 624, rfl⟩
abbrev main_call20_v11 : Ref sig .tc := ⟨.hbm, 625, rfl⟩
abbrev main_call20_c_3 : Ref sig .tc := ⟨.hbm, 626, rfl⟩
abbrev main_call20_v12 : Ref sig .tc := ⟨.hbm, 627, rfl⟩
abbrev main_call20_v13 : Ref sig .tc := ⟨.hbm, 628, rfl⟩
abbrev main_call20_cst : Ref sig .tc := ⟨.hbm, 629, rfl⟩
abbrev main_call20_v14 : Ref sig .tc := ⟨.hbm, 630, rfl⟩
abbrev main_v315 : Ref sig .tc := ⟨.hbm, 631, rfl⟩
abbrev main_v316 : Ref sig .tc := ⟨.hbm, 632, rfl⟩
abbrev main_v317 : Ref sig .tc := ⟨.hbm, 633, rfl⟩
abbrev main_v318 : Ref sig .tc := ⟨.hbm, 634, rfl⟩
abbrev main_v319 : Ref sig .tc := ⟨.hbm, 635, rfl⟩
abbrev main_v320 : Ref sig .tc := ⟨.hbm, 636, rfl⟩
abbrev main_v321 : Ref sig .tc := ⟨.hbm, 637, rfl⟩
abbrev main_c_86 : Ref sig .tc := ⟨.hbm, 638, rfl⟩
abbrev main_v322 : Ref sig .tc := ⟨.hbm, 639, rfl⟩
abbrev main_v323 : Ref sig .tc := ⟨.hbm, 640, rfl⟩
abbrev main_c_87 : Ref sig .tc := ⟨.hbm, 641, rfl⟩
abbrev main_v324 : Ref sig .tc := ⟨.hbm, 642, rfl⟩
abbrev main_v325 : Ref sig .tc := ⟨.hbm, 643, rfl⟩
abbrev main_v326 : Ref sig .tc := ⟨.hbm, 644, rfl⟩
abbrev main_c_88 : Ref sig .tc := ⟨.hbm, 645, rfl⟩
abbrev main_v327 : Ref sig .tc := ⟨.hbm, 646, rfl⟩
abbrev main_v328 : Ref sig .tc := ⟨.hbm, 647, rfl⟩
abbrev main_v329 : Ref sig .tc := ⟨.hbm, 648, rfl⟩
abbrev main_c_89 : Ref sig .tc := ⟨.hbm, 649, rfl⟩
abbrev main_v330 : Ref sig .tc := ⟨.hbm, 650, rfl⟩
abbrev main_v331 : Ref sig .tc := ⟨.hbm, 651, rfl⟩
abbrev main_v332 : Ref sig .tc := ⟨.hbm, 652, rfl⟩
abbrev main_c_90 : Ref sig .tc := ⟨.hbm, 653, rfl⟩
abbrev main_c_91 : Ref sig .tc := ⟨.hbm, 654, rfl⟩
abbrev main_call21_v0 : Ref sig .tc := ⟨.hbm, 655, rfl⟩
abbrev main_call21_v1 : Ref sig .tc := ⟨.hbm, 656, rfl⟩
abbrev main_call21_v2 : Ref sig .tc := ⟨.hbm, 657, rfl⟩
abbrev main_call21_v3 : Ref sig .tc := ⟨.hbm, 658, rfl⟩
abbrev main_call21_v4 : Ref sig .tc := ⟨.hbm, 659, rfl⟩
abbrev main_v333 : Ref sig .tc := ⟨.hbm, 660, rfl⟩
abbrev main_c_92 : Ref sig .tc := ⟨.hbm, 661, rfl⟩
abbrev main_c_93 : Ref sig .tc := ⟨.hbm, 662, rfl⟩
abbrev main_call22_v0 : Ref sig .tc := ⟨.hbm, 663, rfl⟩
abbrev main_call22_v1 : Ref sig .tc := ⟨.hbm, 664, rfl⟩
abbrev main_call22_v2 : Ref sig .tc := ⟨.hbm, 665, rfl⟩
abbrev main_call22_v3 : Ref sig .tc := ⟨.hbm, 666, rfl⟩
abbrev main_call22_v4 : Ref sig .tc := ⟨.hbm, 667, rfl⟩
abbrev main_v334 : Ref sig .tc := ⟨.hbm, 668, rfl⟩
abbrev main_c_94 : Ref sig .tc := ⟨.hbm, 669, rfl⟩
abbrev main_v335 : Ref sig .tc := ⟨.hbm, 670, rfl⟩
abbrev main_v336 : Ref sig .tc := ⟨.hbm, 671, rfl⟩
abbrev main_v337 : Ref sig .tc := ⟨.hbm, 672, rfl⟩
abbrev main_v338 : Ref sig .tc := ⟨.hbm, 673, rfl⟩
abbrev main_v339 : Ref sig .tc := ⟨.hbm, 674, rfl⟩
abbrev main_v340 : Ref sig .tc := ⟨.hbm, 675, rfl⟩
abbrev main_v341 : Ref sig .tc := ⟨.hbm, 676, rfl⟩
abbrev main_call23_c : Ref sig .tc := ⟨.hbm, 677, rfl⟩
abbrev main_call23_v0 : Ref sig .tc := ⟨.hbm, 678, rfl⟩
abbrev main_call23_v1 : Ref sig .tc := ⟨.hbm, 679, rfl⟩
abbrev main_call23_c_0 : Ref sig .tc := ⟨.hbm, 680, rfl⟩
abbrev main_call23_v2 : Ref sig .tc := ⟨.hbm, 681, rfl⟩
abbrev main_call23_v3 : Ref sig .tc := ⟨.hbm, 682, rfl⟩
abbrev main_call23_v4 : Ref sig .tc := ⟨.hbm, 683, rfl⟩
abbrev main_call23_v5 : Ref sig .tc := ⟨.hbm, 684, rfl⟩
abbrev main_call23_c_1 : Ref sig .tc := ⟨.hbm, 685, rfl⟩
abbrev main_call23_c_2 : Ref sig .tc := ⟨.hbm, 686, rfl⟩
abbrev main_call23_v6 : Ref sig .tc := ⟨.hbm, 687, rfl⟩
abbrev main_call23_v7 : Ref sig .tc := ⟨.hbm, 688, rfl⟩
abbrev main_call23_v8 : Ref sig .tc := ⟨.hbm, 689, rfl⟩
abbrev main_call23_v9 : Ref sig .tc := ⟨.hbm, 690, rfl⟩
abbrev main_call23_v10 : Ref sig .tc := ⟨.hbm, 691, rfl⟩
abbrev main_call23_v11 : Ref sig .tc := ⟨.hbm, 692, rfl⟩
abbrev main_call23_c_3 : Ref sig .tc := ⟨.hbm, 693, rfl⟩
abbrev main_call23_v12 : Ref sig .tc := ⟨.hbm, 694, rfl⟩
abbrev main_call23_v13 : Ref sig .tc := ⟨.hbm, 695, rfl⟩
abbrev main_call23_cst : Ref sig .tc := ⟨.hbm, 696, rfl⟩
abbrev main_call23_v14 : Ref sig .tc := ⟨.hbm, 697, rfl⟩
abbrev main_v342 : Ref sig .tc := ⟨.hbm, 698, rfl⟩
abbrev main_v343 : Ref sig .tc := ⟨.hbm, 699, rfl⟩
abbrev main_v344 : Ref sig .tc := ⟨.hbm, 700, rfl⟩
abbrev main_v345 : Ref sig .tc := ⟨.hbm, 701, rfl⟩
abbrev main_v346 : Ref sig .tc := ⟨.hbm, 702, rfl⟩
abbrev main_v347 : Ref sig .tc := ⟨.hbm, 703, rfl⟩
abbrev main_v348 : Ref sig .tc := ⟨.hbm, 704, rfl⟩
abbrev main_v349 : Ref sig .tc := ⟨.hbm, 705, rfl⟩
abbrev main_v350 : Ref sig .tc := ⟨.hbm, 706, rfl⟩
abbrev main_v351 : Ref sig .tc := ⟨.hbm, 707, rfl⟩
abbrev main_v352 : Ref sig .tc := ⟨.hbm, 708, rfl⟩
abbrev main_v353 : Ref sig .tc := ⟨.hbm, 709, rfl⟩
abbrev main_v354 : Ref sig .tc := ⟨.hbm, 710, rfl⟩
abbrev main_v355 : Ref sig .tc := ⟨.hbm, 711, rfl⟩
abbrev main_v356 : Ref sig .tc := ⟨.hbm, 712, rfl⟩
abbrev main_v357 : Ref sig .tc := ⟨.hbm, 713, rfl⟩
abbrev main_v358 : Ref sig .tc := ⟨.hbm, 714, rfl⟩
abbrev main_v359 : Ref sig .tc := ⟨.hbm, 715, rfl⟩
abbrev main_v360 : Ref sig .tc := ⟨.hbm, 716, rfl⟩
abbrev main_v361 : Ref sig .tc := ⟨.hbm, 717, rfl⟩
abbrev main_v362 : Ref sig .tc := ⟨.hbm, 718, rfl⟩
abbrev main_v363 : Ref sig .tc := ⟨.hbm, 719, rfl⟩
abbrev main_v364 : Ref sig .tc := ⟨.hbm, 720, rfl⟩
abbrev main_v365 : Ref sig .tc := ⟨.hbm, 721, rfl⟩
abbrev main_v366 : Ref sig .tc := ⟨.hbm, 722, rfl⟩
abbrev main_v367 : Ref sig .tc := ⟨.hbm, 723, rfl⟩
abbrev main_cst_95 : Ref sig .tc := ⟨.hbm, 724, rfl⟩
abbrev main_v368 : Ref sig .tc := ⟨.hbm, 725, rfl⟩
abbrev main_v369 : Ref sig .tc := ⟨.hbm, 726, rfl⟩
abbrev main_cst_96 : Ref sig .tc := ⟨.hbm, 727, rfl⟩
abbrev main_v370 : Ref sig .tc := ⟨.hbm, 728, rfl⟩
abbrev main_v371 : Ref sig .tc := ⟨.hbm, 729, rfl⟩
abbrev main_v372 : Ref sig .tc := ⟨.hbm, 730, rfl⟩
abbrev main_cst_97 : Ref sig .tc := ⟨.hbm, 731, rfl⟩
abbrev main_v373 : Ref sig .tc := ⟨.hbm, 732, rfl⟩
abbrev main_v374 : Ref sig .tc := ⟨.hbm, 733, rfl⟩
abbrev main_v375 : Ref sig .tc := ⟨.hbm, 734, rfl⟩
abbrev main_cst_98 : Ref sig .tc := ⟨.hbm, 735, rfl⟩
abbrev main_v376 : Ref sig .tc := ⟨.hbm, 736, rfl⟩
abbrev main_v377 : Ref sig .tc := ⟨.hbm, 737, rfl⟩
abbrev main_v378 : Ref sig .tc := ⟨.hbm, 738, rfl⟩
abbrev main_v379 : Ref sig .tc := ⟨.hbm, 739, rfl⟩
abbrev main_v380 : Ref sig .tc := ⟨.hbm, 740, rfl⟩
abbrev main_v381 : Ref sig .tc := ⟨.hbm, 741, rfl⟩
abbrev main_v382 : Ref sig .tc := ⟨.hbm, 742, rfl⟩
abbrev main_v383 : Ref sig .tc := ⟨.hbm, 743, rfl⟩
abbrev main_v384 : Ref sig .tc := ⟨.hbm, 744, rfl⟩
abbrev main_v385 : Ref sig .tc := ⟨.hbm, 745, rfl⟩
abbrev main_v386 : Ref sig .tc := ⟨.hbm, 746, rfl⟩
abbrev main_v387 : Ref sig .tc := ⟨.hbm, 747, rfl⟩
abbrev main_cst_99 : Ref sig .tc := ⟨.hbm, 748, rfl⟩
abbrev main_v388 : Ref sig .tc := ⟨.hbm, 749, rfl⟩
abbrev main_v389 : Ref sig .tc := ⟨.hbm, 750, rfl⟩
abbrev main_v390 : Ref sig .tc := ⟨.hbm, 751, rfl⟩
abbrev main_v391 : Ref sig .tc := ⟨.hbm, 752, rfl⟩
abbrev main_v392 : Ref sig .tc := ⟨.hbm, 753, rfl⟩
abbrev main_v393 : Ref sig .tc := ⟨.hbm, 754, rfl⟩
abbrev main_v394 : Ref sig .tc := ⟨.hbm, 755, rfl⟩
abbrev main_v395 : Ref sig .tc := ⟨.hbm, 756, rfl⟩
abbrev main_cst_100 : Ref sig .tc := ⟨.hbm, 757, rfl⟩
abbrev main_v396 : Ref sig .tc := ⟨.hbm, 758, rfl⟩
abbrev main_v397 : Ref sig .tc := ⟨.hbm, 759, rfl⟩
abbrev main_cst_101 : Ref sig .tc := ⟨.hbm, 760, rfl⟩
abbrev main_v398 : Ref sig .tc := ⟨.hbm, 761, rfl⟩
abbrev main_v399 : Ref sig .tc := ⟨.hbm, 762, rfl⟩
abbrev main_v400 : Ref sig .tc := ⟨.hbm, 763, rfl⟩
abbrev main_v401 : Ref sig .tc := ⟨.hbm, 764, rfl⟩
abbrev main_cst_102 : Ref sig .tc := ⟨.hbm, 765, rfl⟩
abbrev main_v402 : Ref sig .tc := ⟨.hbm, 766, rfl⟩
abbrev main_v403 : Ref sig .tc := ⟨.hbm, 767, rfl⟩
abbrev main_cst_103 : Ref sig .tc := ⟨.hbm, 768, rfl⟩
abbrev main_v404 : Ref sig .tc := ⟨.hbm, 769, rfl⟩
abbrev main_v405 : Ref sig .tc := ⟨.hbm, 770, rfl⟩
abbrev main_v406 : Ref sig .tc := ⟨.hbm, 771, rfl⟩
abbrev main_v407 : Ref sig .tc := ⟨.hbm, 772, rfl⟩
abbrev main_v408 : Ref sig .tc := ⟨.hbm, 773, rfl⟩
abbrev main_v409 : Ref sig .tc := ⟨.hbm, 774, rfl⟩
abbrev main_cst_104 : Ref sig .tc := ⟨.hbm, 775, rfl⟩
abbrev main_v410 : Ref sig .tc := ⟨.hbm, 776, rfl⟩
abbrev main_v411 : Ref sig .tc := ⟨.hbm, 777, rfl⟩
abbrev main_cst_105 : Ref sig .tc := ⟨.hbm, 778, rfl⟩
abbrev main_v412 : Ref sig .tc := ⟨.hbm, 779, rfl⟩
abbrev main_v413 : Ref sig .tc := ⟨.hbm, 780, rfl⟩
abbrev main_v414 : Ref sig .tc := ⟨.hbm, 781, rfl⟩
abbrev main_v415 : Ref sig .tc := ⟨.hbm, 782, rfl⟩
abbrev main_c_106 : Ref sig .tc := ⟨.hbm, 783, rfl⟩
abbrev main_v416 : Ref sig .tc := ⟨.hbm, 784, rfl⟩
abbrev main_v417 : Ref sig .tc := ⟨.hbm, 785, rfl⟩
abbrev main_c_107 : Ref sig .tc := ⟨.hbm, 786, rfl⟩
abbrev main_v418 : Ref sig .tc := ⟨.hbm, 787, rfl⟩
abbrev main_v419 : Ref sig .tc := ⟨.hbm, 788, rfl⟩
abbrev main_v420 : Ref sig .tc := ⟨.hbm, 789, rfl⟩
abbrev main_v421 : Ref sig .tc := ⟨.hbm, 790, rfl⟩
abbrev main_c_108 : Ref sig .tc := ⟨.hbm, 791, rfl⟩
abbrev main_v422 : Ref sig .tc := ⟨.hbm, 792, rfl⟩
abbrev main_v423 : Ref sig .tc := ⟨.hbm, 793, rfl⟩
abbrev main_c_109 : Ref sig .tc := ⟨.hbm, 794, rfl⟩
abbrev main_v424 : Ref sig .tc := ⟨.hbm, 795, rfl⟩
abbrev main_v425 : Ref sig .tc := ⟨.hbm, 796, rfl⟩
abbrev main_v426 : Ref sig .tc := ⟨.hbm, 797, rfl⟩
abbrev main_c_110 : Ref sig .tc := ⟨.hbm, 798, rfl⟩
abbrev main_v427 : Ref sig .tc := ⟨.hbm, 799, rfl⟩
abbrev main_v428 : Ref sig .tc := ⟨.hbm, 800, rfl⟩
abbrev main_v429 : Ref sig .tc := ⟨.hbm, 801, rfl⟩
abbrev main_c_111 : Ref sig .tc := ⟨.hbm, 802, rfl⟩
abbrev main_v430 : Ref sig .tc := ⟨.hbm, 803, rfl⟩
abbrev main_v431 : Ref sig .tc := ⟨.hbm, 804, rfl⟩
abbrev main_v432 : Ref sig .tc := ⟨.hbm, 805, rfl⟩
abbrev main_c_112 : Ref sig .tc := ⟨.hbm, 806, rfl⟩
abbrev main_c_113 : Ref sig .tc := ⟨.hbm, 807, rfl⟩
abbrev main_call24_v0 : Ref sig .tc := ⟨.hbm, 808, rfl⟩
abbrev main_call24_v1 : Ref sig .tc := ⟨.hbm, 809, rfl⟩
abbrev main_call24_v2 : Ref sig .tc := ⟨.hbm, 810, rfl⟩
abbrev main_call24_v3 : Ref sig .tc := ⟨.hbm, 811, rfl⟩
abbrev main_call24_v4 : Ref sig .tc := ⟨.hbm, 812, rfl⟩
abbrev main_v433 : Ref sig .tc := ⟨.hbm, 813, rfl⟩
abbrev main_c_114 : Ref sig .tc := ⟨.hbm, 814, rfl⟩
abbrev main_c_115 : Ref sig .tc := ⟨.hbm, 815, rfl⟩
abbrev main_call25_v0 : Ref sig .tc := ⟨.hbm, 816, rfl⟩
abbrev main_call25_v1 : Ref sig .tc := ⟨.hbm, 817, rfl⟩
abbrev main_call25_v2 : Ref sig .tc := ⟨.hbm, 818, rfl⟩
abbrev main_call25_v3 : Ref sig .tc := ⟨.hbm, 819, rfl⟩
abbrev main_call25_v4 : Ref sig .tc := ⟨.hbm, 820, rfl⟩
abbrev main_v434 : Ref sig .tc := ⟨.hbm, 821, rfl⟩
abbrev main_c_116 : Ref sig .tc := ⟨.hbm, 822, rfl⟩
abbrev main_v435 : Ref sig .tc := ⟨.hbm, 823, rfl⟩
abbrev main_v436 : Ref sig .tc := ⟨.hbm, 824, rfl⟩
abbrev main_v437 : Ref sig .tc := ⟨.hbm, 825, rfl⟩
abbrev main_v438 : Ref sig .tc := ⟨.hbm, 826, rfl⟩
abbrev main_v439 : Ref sig .tc := ⟨.hbm, 827, rfl⟩
abbrev main_v440 : Ref sig .tc := ⟨.hbm, 828, rfl⟩
abbrev main_v441 : Ref sig .tc := ⟨.hbm, 829, rfl⟩
abbrev main_call26_c : Ref sig .tc := ⟨.hbm, 830, rfl⟩
abbrev main_call26_v0 : Ref sig .tc := ⟨.hbm, 831, rfl⟩
abbrev main_call26_v1 : Ref sig .tc := ⟨.hbm, 832, rfl⟩
abbrev main_call26_c_0 : Ref sig .tc := ⟨.hbm, 833, rfl⟩
abbrev main_call26_v2 : Ref sig .tc := ⟨.hbm, 834, rfl⟩
abbrev main_call26_v3 : Ref sig .tc := ⟨.hbm, 835, rfl⟩
abbrev main_call26_v4 : Ref sig .tc := ⟨.hbm, 836, rfl⟩
abbrev main_call26_v5 : Ref sig .tc := ⟨.hbm, 837, rfl⟩
abbrev main_call26_c_1 : Ref sig .tc := ⟨.hbm, 838, rfl⟩
abbrev main_call26_c_2 : Ref sig .tc := ⟨.hbm, 839, rfl⟩
abbrev main_call26_v6 : Ref sig .tc := ⟨.hbm, 840, rfl⟩
abbrev main_call26_v7 : Ref sig .tc := ⟨.hbm, 841, rfl⟩
abbrev main_call26_v8 : Ref sig .tc := ⟨.hbm, 842, rfl⟩
abbrev main_call26_v9 : Ref sig .tc := ⟨.hbm, 843, rfl⟩
abbrev main_call26_v10 : Ref sig .tc := ⟨.hbm, 844, rfl⟩
abbrev main_call26_v11 : Ref sig .tc := ⟨.hbm, 845, rfl⟩
abbrev main_call26_c_3 : Ref sig .tc := ⟨.hbm, 846, rfl⟩
abbrev main_call26_v12 : Ref sig .tc := ⟨.hbm, 847, rfl⟩
abbrev main_call26_v13 : Ref sig .tc := ⟨.hbm, 848, rfl⟩
abbrev main_call26_cst : Ref sig .tc := ⟨.hbm, 849, rfl⟩
abbrev main_call26_v14 : Ref sig .tc := ⟨.hbm, 850, rfl⟩
abbrev main_v442 : Ref sig .tc := ⟨.hbm, 851, rfl⟩
abbrev main_v443 : Ref sig .tc := ⟨.hbm, 852, rfl⟩
abbrev main_v444 : Ref sig .tc := ⟨.hbm, 853, rfl⟩
abbrev main_v445 : Ref sig .tc := ⟨.hbm, 854, rfl⟩
abbrev main_v446 : Ref sig .tc := ⟨.hbm, 855, rfl⟩
abbrev main_v447 : Ref sig .tc := ⟨.hbm, 856, rfl⟩
abbrev main_v448 : Ref sig .tc := ⟨.hbm, 857, rfl⟩
abbrev main_c_117 : Ref sig .tc := ⟨.hbm, 858, rfl⟩
abbrev main_v449 : Ref sig .tc := ⟨.hbm, 859, rfl⟩
abbrev main_v450 : Ref sig .tc := ⟨.hbm, 860, rfl⟩
abbrev main_c_118 : Ref sig .tc := ⟨.hbm, 861, rfl⟩
abbrev main_v451 : Ref sig .tc := ⟨.hbm, 862, rfl⟩
abbrev main_v452 : Ref sig .tc := ⟨.hbm, 863, rfl⟩
abbrev main_v453 : Ref sig .tc := ⟨.hbm, 864, rfl⟩
abbrev main_c_119 : Ref sig .tc := ⟨.hbm, 865, rfl⟩
abbrev main_v454 : Ref sig .tc := ⟨.hbm, 866, rfl⟩
abbrev main_v455 : Ref sig .tc := ⟨.hbm, 867, rfl⟩
abbrev main_v456 : Ref sig .tc := ⟨.hbm, 868, rfl⟩
abbrev main_c_120 : Ref sig .tc := ⟨.hbm, 869, rfl⟩
abbrev main_v457 : Ref sig .tc := ⟨.hbm, 870, rfl⟩
abbrev main_v458 : Ref sig .tc := ⟨.hbm, 871, rfl⟩
abbrev main_v459 : Ref sig .tc := ⟨.hbm, 872, rfl⟩
abbrev main_c_121 : Ref sig .tc := ⟨.hbm, 873, rfl⟩
abbrev main_c_122 : Ref sig .tc := ⟨.hbm, 874, rfl⟩
abbrev main_call27_v0 : Ref sig .tc := ⟨.hbm, 875, rfl⟩
abbrev main_call27_v1 : Ref sig .tc := ⟨.hbm, 876, rfl⟩
abbrev main_call27_v2 : Ref sig .tc := ⟨.hbm, 877, rfl⟩
abbrev main_call27_v3 : Ref sig .tc := ⟨.hbm, 878, rfl⟩
abbrev main_call27_v4 : Ref sig .tc := ⟨.hbm, 879, rfl⟩
abbrev main_v460 : Ref sig .tc := ⟨.hbm, 880, rfl⟩
abbrev main_c_123 : Ref sig .tc := ⟨.hbm, 881, rfl⟩
abbrev main_c_124 : Ref sig .tc := ⟨.hbm, 882, rfl⟩
abbrev main_call28_v0 : Ref sig .tc := ⟨.hbm, 883, rfl⟩
abbrev main_call28_v1 : Ref sig .tc := ⟨.hbm, 884, rfl⟩
abbrev main_call28_v2 : Ref sig .tc := ⟨.hbm, 885, rfl⟩
abbrev main_call28_v3 : Ref sig .tc := ⟨.hbm, 886, rfl⟩
abbrev main_call28_v4 : Ref sig .tc := ⟨.hbm, 887, rfl⟩
abbrev main_v461 : Ref sig .tc := ⟨.hbm, 888, rfl⟩
abbrev main_c_125 : Ref sig .tc := ⟨.hbm, 889, rfl⟩
abbrev main_v462 : Ref sig .tc := ⟨.hbm, 890, rfl⟩
abbrev main_v463 : Ref sig .tc := ⟨.hbm, 891, rfl⟩
abbrev main_v464 : Ref sig .tc := ⟨.hbm, 892, rfl⟩
abbrev main_v465 : Ref sig .tc := ⟨.hbm, 893, rfl⟩
abbrev main_v466 : Ref sig .tc := ⟨.hbm, 894, rfl⟩
abbrev main_v467 : Ref sig .tc := ⟨.hbm, 895, rfl⟩
abbrev main_v468 : Ref sig .tc := ⟨.hbm, 896, rfl⟩
abbrev main_call29_c : Ref sig .tc := ⟨.hbm, 897, rfl⟩
abbrev main_call29_v0 : Ref sig .tc := ⟨.hbm, 898, rfl⟩
abbrev main_call29_v1 : Ref sig .tc := ⟨.hbm, 899, rfl⟩
abbrev main_call29_c_0 : Ref sig .tc := ⟨.hbm, 900, rfl⟩
abbrev main_call29_v2 : Ref sig .tc := ⟨.hbm, 901, rfl⟩
abbrev main_call29_v3 : Ref sig .tc := ⟨.hbm, 902, rfl⟩
abbrev main_call29_v4 : Ref sig .tc := ⟨.hbm, 903, rfl⟩
abbrev main_call29_v5 : Ref sig .tc := ⟨.hbm, 904, rfl⟩
abbrev main_call29_c_1 : Ref sig .tc := ⟨.hbm, 905, rfl⟩
abbrev main_call29_c_2 : Ref sig .tc := ⟨.hbm, 906, rfl⟩
abbrev main_call29_v6 : Ref sig .tc := ⟨.hbm, 907, rfl⟩
abbrev main_call29_v7 : Ref sig .tc := ⟨.hbm, 908, rfl⟩
abbrev main_call29_v8 : Ref sig .tc := ⟨.hbm, 909, rfl⟩
abbrev main_call29_v9 : Ref sig .tc := ⟨.hbm, 910, rfl⟩
abbrev main_call29_v10 : Ref sig .tc := ⟨.hbm, 911, rfl⟩
abbrev main_call29_v11 : Ref sig .tc := ⟨.hbm, 912, rfl⟩
abbrev main_call29_c_3 : Ref sig .tc := ⟨.hbm, 913, rfl⟩
abbrev main_call29_v12 : Ref sig .tc := ⟨.hbm, 914, rfl⟩
abbrev main_call29_v13 : Ref sig .tc := ⟨.hbm, 915, rfl⟩
abbrev main_call29_cst : Ref sig .tc := ⟨.hbm, 916, rfl⟩
abbrev main_call29_v14 : Ref sig .tc := ⟨.hbm, 917, rfl⟩
abbrev main_v469 : Ref sig .tc := ⟨.hbm, 918, rfl⟩
abbrev main_v470 : Ref sig .tc := ⟨.hbm, 919, rfl⟩
abbrev main_v471 : Ref sig .tc := ⟨.hbm, 920, rfl⟩
abbrev main_v472 : Ref sig .tc := ⟨.hbm, 921, rfl⟩
abbrev main_v473 : Ref sig .tc := ⟨.hbm, 922, rfl⟩
abbrev main_v474 : Ref sig .tc := ⟨.hbm, 923, rfl⟩
abbrev main_v475 : Ref sig .tc := ⟨.hbm, 924, rfl⟩
abbrev main_c_126 : Ref sig .tc := ⟨.hbm, 925, rfl⟩
abbrev main_v476 : Ref sig .tc := ⟨.hbm, 926, rfl⟩
abbrev main_v477 : Ref sig .tc := ⟨.hbm, 927, rfl⟩
abbrev main_c_127 : Ref sig .tc := ⟨.hbm, 928, rfl⟩
abbrev main_v478 : Ref sig .tc := ⟨.hbm, 929, rfl⟩
abbrev main_v479 : Ref sig .tc := ⟨.hbm, 930, rfl⟩
abbrev main_v480 : Ref sig .tc := ⟨.hbm, 931, rfl⟩
abbrev main_c_128 : Ref sig .tc := ⟨.hbm, 932, rfl⟩
abbrev main_v481 : Ref sig .tc := ⟨.hbm, 933, rfl⟩
abbrev main_v482 : Ref sig .tc := ⟨.hbm, 934, rfl⟩
abbrev main_v483 : Ref sig .tc := ⟨.hbm, 935, rfl⟩
abbrev main_c_129 : Ref sig .tc := ⟨.hbm, 936, rfl⟩
abbrev main_v484 : Ref sig .tc := ⟨.hbm, 937, rfl⟩
abbrev main_v485 : Ref sig .tc := ⟨.hbm, 938, rfl⟩
abbrev main_v486 : Ref sig .tc := ⟨.hbm, 939, rfl⟩
abbrev main_c_130 : Ref sig .tc := ⟨.hbm, 940, rfl⟩
abbrev main_c_131 : Ref sig .tc := ⟨.hbm, 941, rfl⟩
abbrev main_call30_v0 : Ref sig .tc := ⟨.hbm, 942, rfl⟩
abbrev main_call30_v1 : Ref sig .tc := ⟨.hbm, 943, rfl⟩
abbrev main_call30_v2 : Ref sig .tc := ⟨.hbm, 944, rfl⟩
abbrev main_call30_v3 : Ref sig .tc := ⟨.hbm, 945, rfl⟩
abbrev main_call30_v4 : Ref sig .tc := ⟨.hbm, 946, rfl⟩
abbrev main_v487 : Ref sig .tc := ⟨.hbm, 947, rfl⟩
abbrev main_c_132 : Ref sig .tc := ⟨.hbm, 948, rfl⟩
abbrev main_c_133 : Ref sig .tc := ⟨.hbm, 949, rfl⟩
abbrev main_call31_v0 : Ref sig .tc := ⟨.hbm, 950, rfl⟩
abbrev main_call31_v1 : Ref sig .tc := ⟨.hbm, 951, rfl⟩
abbrev main_call31_v2 : Ref sig .tc := ⟨.hbm, 952, rfl⟩
abbrev main_call31_v3 : Ref sig .tc := ⟨.hbm, 953, rfl⟩
abbrev main_call31_v4 : Ref sig .tc := ⟨.hbm, 954, rfl⟩
abbrev main_v488 : Ref sig .tc := ⟨.hbm, 955, rfl⟩
abbrev main_c_134 : Ref sig .tc := ⟨.hbm, 956, rfl⟩
abbrev main_v489 : Ref sig .tc := ⟨.hbm, 957, rfl⟩
abbrev main_v490 : Ref sig .tc := ⟨.hbm, 958, rfl⟩
abbrev main_v491 : Ref sig .tc := ⟨.hbm, 959, rfl⟩
abbrev main_v492 : Ref sig .tc := ⟨.hbm, 960, rfl⟩
abbrev main_v493 : Ref sig .tc := ⟨.hbm, 961, rfl⟩
abbrev main_v494 : Ref sig .tc := ⟨.hbm, 962, rfl⟩
abbrev main_v495 : Ref sig .tc := ⟨.hbm, 963, rfl⟩
abbrev main_call32_c : Ref sig .tc := ⟨.hbm, 964, rfl⟩
abbrev main_call32_v0 : Ref sig .tc := ⟨.hbm, 965, rfl⟩
abbrev main_call32_v1 : Ref sig .tc := ⟨.hbm, 966, rfl⟩
abbrev main_call32_c_0 : Ref sig .tc := ⟨.hbm, 967, rfl⟩
abbrev main_call32_v2 : Ref sig .tc := ⟨.hbm, 968, rfl⟩
abbrev main_call32_v3 : Ref sig .tc := ⟨.hbm, 969, rfl⟩
abbrev main_call32_v4 : Ref sig .tc := ⟨.hbm, 970, rfl⟩
abbrev main_call32_v5 : Ref sig .tc := ⟨.hbm, 971, rfl⟩
abbrev main_call32_c_1 : Ref sig .tc := ⟨.hbm, 972, rfl⟩
abbrev main_call32_c_2 : Ref sig .tc := ⟨.hbm, 973, rfl⟩
abbrev main_call32_v6 : Ref sig .tc := ⟨.hbm, 974, rfl⟩
abbrev main_call32_v7 : Ref sig .tc := ⟨.hbm, 975, rfl⟩
abbrev main_call32_v8 : Ref sig .tc := ⟨.hbm, 976, rfl⟩
abbrev main_call32_v9 : Ref sig .tc := ⟨.hbm, 977, rfl⟩
abbrev main_call32_v10 : Ref sig .tc := ⟨.hbm, 978, rfl⟩
abbrev main_call32_v11 : Ref sig .tc := ⟨.hbm, 979, rfl⟩
abbrev main_call32_c_3 : Ref sig .tc := ⟨.hbm, 980, rfl⟩
abbrev main_call32_v12 : Ref sig .tc := ⟨.hbm, 981, rfl⟩
abbrev main_call32_v13 : Ref sig .tc := ⟨.hbm, 982, rfl⟩
abbrev main_call32_cst : Ref sig .tc := ⟨.hbm, 983, rfl⟩
abbrev main_call32_v14 : Ref sig .tc := ⟨.hbm, 984, rfl⟩
abbrev main_v496 : Ref sig .tc := ⟨.hbm, 985, rfl⟩
abbrev main_v497 : Ref sig .tc := ⟨.hbm, 986, rfl⟩
abbrev main_v498 : Ref sig .tc := ⟨.hbm, 987, rfl⟩
abbrev main_v499 : Ref sig .tc := ⟨.hbm, 988, rfl⟩
abbrev main_v500 : Ref sig .tc := ⟨.hbm, 989, rfl⟩
abbrev main_v501 : Ref sig .tc := ⟨.hbm, 990, rfl⟩
abbrev main_v502 : Ref sig .tc := ⟨.hbm, 991, rfl⟩
abbrev main_c_135 : Ref sig .tc := ⟨.hbm, 992, rfl⟩
abbrev main_v503 : Ref sig .tc := ⟨.hbm, 993, rfl⟩
abbrev main_v504 : Ref sig .tc := ⟨.hbm, 994, rfl⟩
abbrev main_c_136 : Ref sig .tc := ⟨.hbm, 995, rfl⟩
abbrev main_v505 : Ref sig .tc := ⟨.hbm, 996, rfl⟩
abbrev main_v506 : Ref sig .tc := ⟨.hbm, 997, rfl⟩
abbrev main_v507 : Ref sig .tc := ⟨.hbm, 998, rfl⟩
abbrev main_c_137 : Ref sig .tc := ⟨.hbm, 999, rfl⟩
abbrev main_v508 : Ref sig .tc := ⟨.hbm, 1000, rfl⟩
abbrev main_v509 : Ref sig .tc := ⟨.hbm, 1001, rfl⟩
abbrev main_v510 : Ref sig .tc := ⟨.hbm, 1002, rfl⟩
abbrev main_c_138 : Ref sig .tc := ⟨.hbm, 1003, rfl⟩
abbrev main_v511 : Ref sig .tc := ⟨.hbm, 1004, rfl⟩
abbrev main_v512 : Ref sig .tc := ⟨.hbm, 1005, rfl⟩
abbrev main_v513 : Ref sig .tc := ⟨.hbm, 1006, rfl⟩
abbrev main_c_139 : Ref sig .tc := ⟨.hbm, 1007, rfl⟩
abbrev main_c_140 : Ref sig .tc := ⟨.hbm, 1008, rfl⟩
abbrev main_call33_v0 : Ref sig .tc := ⟨.hbm, 1009, rfl⟩
abbrev main_call33_v1 : Ref sig .tc := ⟨.hbm, 1010, rfl⟩
abbrev main_call33_v2 : Ref sig .tc := ⟨.hbm, 1011, rfl⟩
abbrev main_call33_v3 : Ref sig .tc := ⟨.hbm, 1012, rfl⟩
abbrev main_call33_v4 : Ref sig .tc := ⟨.hbm, 1013, rfl⟩
abbrev main_v514 : Ref sig .tc := ⟨.hbm, 1014, rfl⟩
abbrev main_c_141 : Ref sig .tc := ⟨.hbm, 1015, rfl⟩
abbrev main_c_142 : Ref sig .tc := ⟨.hbm, 1016, rfl⟩
abbrev main_call34_v0 : Ref sig .tc := ⟨.hbm, 1017, rfl⟩
abbrev main_call34_v1 : Ref sig .tc := ⟨.hbm, 1018, rfl⟩
abbrev main_call34_v2 : Ref sig .tc := ⟨.hbm, 1019, rfl⟩
abbrev main_call34_v3 : Ref sig .tc := ⟨.hbm, 1020, rfl⟩
abbrev main_call34_v4 : Ref sig .tc := ⟨.hbm, 1021, rfl⟩
abbrev main_v515 : Ref sig .tc := ⟨.hbm, 1022, rfl⟩
abbrev main_c_143 : Ref sig .tc := ⟨.hbm, 1023, rfl⟩
abbrev main_v516 : Ref sig .tc := ⟨.hbm, 1024, rfl⟩
abbrev main_v517 : Ref sig .tc := ⟨.hbm, 1025, rfl⟩
abbrev main_v518 : Ref sig .tc := ⟨.hbm, 1026, rfl⟩
abbrev main_v519 : Ref sig .tc := ⟨.hbm, 1027, rfl⟩
abbrev main_v520 : Ref sig .tc := ⟨.hbm, 1028, rfl⟩
abbrev main_v521 : Ref sig .tc := ⟨.hbm, 1029, rfl⟩
abbrev main_v522 : Ref sig .tc := ⟨.hbm, 1030, rfl⟩
abbrev main_call35_c : Ref sig .tc := ⟨.hbm, 1031, rfl⟩
abbrev main_call35_v0 : Ref sig .tc := ⟨.hbm, 1032, rfl⟩
abbrev main_call35_v1 : Ref sig .tc := ⟨.hbm, 1033, rfl⟩
abbrev main_call35_c_0 : Ref sig .tc := ⟨.hbm, 1034, rfl⟩
abbrev main_call35_v2 : Ref sig .tc := ⟨.hbm, 1035, rfl⟩
abbrev main_call35_v3 : Ref sig .tc := ⟨.hbm, 1036, rfl⟩
abbrev main_call35_v4 : Ref sig .tc := ⟨.hbm, 1037, rfl⟩
abbrev main_call35_v5 : Ref sig .tc := ⟨.hbm, 1038, rfl⟩
abbrev main_call35_c_1 : Ref sig .tc := ⟨.hbm, 1039, rfl⟩
abbrev main_call35_c_2 : Ref sig .tc := ⟨.hbm, 1040, rfl⟩
abbrev main_call35_v6 : Ref sig .tc := ⟨.hbm, 1041, rfl⟩
abbrev main_call35_v7 : Ref sig .tc := ⟨.hbm, 1042, rfl⟩
abbrev main_call35_v8 : Ref sig .tc := ⟨.hbm, 1043, rfl⟩
abbrev main_call35_v9 : Ref sig .tc := ⟨.hbm, 1044, rfl⟩
abbrev main_call35_v10 : Ref sig .tc := ⟨.hbm, 1045, rfl⟩
abbrev main_call35_v11 : Ref sig .tc := ⟨.hbm, 1046, rfl⟩
abbrev main_call35_c_3 : Ref sig .tc := ⟨.hbm, 1047, rfl⟩
abbrev main_call35_v12 : Ref sig .tc := ⟨.hbm, 1048, rfl⟩
abbrev main_call35_v13 : Ref sig .tc := ⟨.hbm, 1049, rfl⟩
abbrev main_call35_cst : Ref sig .tc := ⟨.hbm, 1050, rfl⟩
abbrev main_call35_v14 : Ref sig .tc := ⟨.hbm, 1051, rfl⟩
abbrev main_v523 : Ref sig .tc := ⟨.hbm, 1052, rfl⟩
abbrev main_v524 : Ref sig .tc := ⟨.hbm, 1053, rfl⟩
abbrev main_v525 : Ref sig .tc := ⟨.hbm, 1054, rfl⟩
abbrev main_v526 : Ref sig .tc := ⟨.hbm, 1055, rfl⟩
abbrev main_v527 : Ref sig .tc := ⟨.hbm, 1056, rfl⟩
abbrev main_v528 : Ref sig .tc := ⟨.hbm, 1057, rfl⟩
abbrev main_v529 : Ref sig .tc := ⟨.hbm, 1058, rfl⟩
abbrev main_v530 : Ref sig .tc := ⟨.hbm, 1059, rfl⟩
abbrev main_v531 : Ref sig .tc := ⟨.hbm, 1060, rfl⟩
abbrev main_v532 : Ref sig .tc := ⟨.hbm, 1061, rfl⟩
abbrev main_v533 : Ref sig .tc := ⟨.hbm, 1062, rfl⟩
abbrev main_v534 : Ref sig .tc := ⟨.hbm, 1063, rfl⟩
abbrev main_v535 : Ref sig .tc := ⟨.hbm, 1064, rfl⟩
abbrev main_v536 : Ref sig .tc := ⟨.hbm, 1065, rfl⟩
abbrev main_v537 : Ref sig .tc := ⟨.hbm, 1066, rfl⟩
abbrev main_v538 : Ref sig .tc := ⟨.hbm, 1067, rfl⟩
abbrev main_v539 : Ref sig .tc := ⟨.hbm, 1068, rfl⟩
abbrev main_v540 : Ref sig .tc := ⟨.hbm, 1069, rfl⟩
abbrev main_v541 : Ref sig .tc := ⟨.hbm, 1070, rfl⟩
abbrev main_v542 : Ref sig .tc := ⟨.hbm, 1071, rfl⟩
abbrev main_v543 : Ref sig .tc := ⟨.hbm, 1072, rfl⟩
abbrev main_v544 : Ref sig .tc := ⟨.hbm, 1073, rfl⟩
abbrev main_v545 : Ref sig .tc := ⟨.hbm, 1074, rfl⟩
abbrev main_v546 : Ref sig .tc := ⟨.hbm, 1075, rfl⟩
abbrev main_v547 : Ref sig .tc := ⟨.hbm, 1076, rfl⟩
abbrev main_v548 : Ref sig .tc := ⟨.hbm, 1077, rfl⟩
abbrev main_cst_144 : Ref sig .tc := ⟨.hbm, 1078, rfl⟩
abbrev main_v549 : Ref sig .tc := ⟨.hbm, 1079, rfl⟩
abbrev main_v550 : Ref sig .tc := ⟨.hbm, 1080, rfl⟩
abbrev main_cst_145 : Ref sig .tc := ⟨.hbm, 1081, rfl⟩
abbrev main_v551 : Ref sig .tc := ⟨.hbm, 1082, rfl⟩
abbrev main_v552 : Ref sig .tc := ⟨.hbm, 1083, rfl⟩
abbrev main_v553 : Ref sig .tc := ⟨.hbm, 1084, rfl⟩
abbrev main_cst_146 : Ref sig .tc := ⟨.hbm, 1085, rfl⟩
abbrev main_v554 : Ref sig .tc := ⟨.hbm, 1086, rfl⟩
abbrev main_v555 : Ref sig .tc := ⟨.hbm, 1087, rfl⟩
abbrev main_v556 : Ref sig .tc := ⟨.hbm, 1088, rfl⟩
abbrev main_cst_147 : Ref sig .tc := ⟨.hbm, 1089, rfl⟩
abbrev main_v557 : Ref sig .tc := ⟨.hbm, 1090, rfl⟩
abbrev main_v558 : Ref sig .tc := ⟨.hbm, 1091, rfl⟩
abbrev main_v559 : Ref sig .tc := ⟨.hbm, 1092, rfl⟩
abbrev main_v560 : Ref sig .tc := ⟨.hbm, 1093, rfl⟩
abbrev main_v561 : Ref sig .tc := ⟨.hbm, 1094, rfl⟩
abbrev main_v562 : Ref sig .tc := ⟨.hbm, 1095, rfl⟩
abbrev main_v563 : Ref sig .tc := ⟨.hbm, 1096, rfl⟩
abbrev main_v564 : Ref sig .tc := ⟨.hbm, 1097, rfl⟩
abbrev main_v565 : Ref sig .tc := ⟨.hbm, 1098, rfl⟩
abbrev main_v566 : Ref sig .tc := ⟨.hbm, 1099, rfl⟩
abbrev main_v567 : Ref sig .tc := ⟨.hbm, 1100, rfl⟩
abbrev main_v568 : Ref sig .tc := ⟨.hbm, 1101, rfl⟩
abbrev main_cst_148 : Ref sig .tc := ⟨.hbm, 1102, rfl⟩
abbrev main_v569 : Ref sig .tc := ⟨.hbm, 1103, rfl⟩
abbrev main_v570 : Ref sig .tc := ⟨.hbm, 1104, rfl⟩
abbrev main_v571 : Ref sig .tc := ⟨.hbm, 1105, rfl⟩
abbrev main_v572 : Ref sig .tc := ⟨.hbm, 1106, rfl⟩
abbrev main_v573 : Ref sig .tc := ⟨.hbm, 1107, rfl⟩
abbrev main_v574 : Ref sig .tc := ⟨.hbm, 1108, rfl⟩
abbrev main_v575 : Ref sig .tc := ⟨.hbm, 1109, rfl⟩
abbrev main_v576 : Ref sig .tc := ⟨.hbm, 1110, rfl⟩
abbrev main_cst_149 : Ref sig .tc := ⟨.hbm, 1111, rfl⟩
abbrev main_v577 : Ref sig .tc := ⟨.hbm, 1112, rfl⟩
abbrev main_v578 : Ref sig .tc := ⟨.hbm, 1113, rfl⟩
abbrev main_cst_150 : Ref sig .tc := ⟨.hbm, 1114, rfl⟩
abbrev main_v579 : Ref sig .tc := ⟨.hbm, 1115, rfl⟩
abbrev main_v580 : Ref sig .tc := ⟨.hbm, 1116, rfl⟩
abbrev main_v581 : Ref sig .tc := ⟨.hbm, 1117, rfl⟩
abbrev main_v582 : Ref sig .tc := ⟨.hbm, 1118, rfl⟩
abbrev main_cst_151 : Ref sig .tc := ⟨.hbm, 1119, rfl⟩
abbrev main_v583 : Ref sig .tc := ⟨.hbm, 1120, rfl⟩
abbrev main_v584 : Ref sig .tc := ⟨.hbm, 1121, rfl⟩
abbrev main_cst_152 : Ref sig .tc := ⟨.hbm, 1122, rfl⟩
abbrev main_v585 : Ref sig .tc := ⟨.hbm, 1123, rfl⟩
abbrev main_v586 : Ref sig .tc := ⟨.hbm, 1124, rfl⟩
abbrev main_v587 : Ref sig .tc := ⟨.hbm, 1125, rfl⟩
abbrev main_v588 : Ref sig .tc := ⟨.hbm, 1126, rfl⟩
abbrev main_v589 : Ref sig .tc := ⟨.hbm, 1127, rfl⟩
abbrev main_v590 : Ref sig .tc := ⟨.hbm, 1128, rfl⟩
abbrev main_cst_153 : Ref sig .tc := ⟨.hbm, 1129, rfl⟩
abbrev main_v591 : Ref sig .tc := ⟨.hbm, 1130, rfl⟩
abbrev main_v592 : Ref sig .tc := ⟨.hbm, 1131, rfl⟩
abbrev main_cst_154 : Ref sig .tc := ⟨.hbm, 1132, rfl⟩
abbrev main_v593 : Ref sig .tc := ⟨.hbm, 1133, rfl⟩
abbrev main_v594 : Ref sig .tc := ⟨.hbm, 1134, rfl⟩
abbrev main_v595 : Ref sig .tc := ⟨.hbm, 1135, rfl⟩
abbrev main_v596 : Ref sig .tc := ⟨.hbm, 1136, rfl⟩
abbrev main_c_155 : Ref sig .tc := ⟨.hbm, 1137, rfl⟩
abbrev main_v597 : Ref sig .tc := ⟨.hbm, 1138, rfl⟩
abbrev main_v598 : Ref sig .tc := ⟨.hbm, 1139, rfl⟩
abbrev main_c_156 : Ref sig .tc := ⟨.hbm, 1140, rfl⟩
abbrev main_v599 : Ref sig .tc := ⟨.hbm, 1141, rfl⟩
abbrev main_v600 : Ref sig .tc := ⟨.hbm, 1142, rfl⟩
abbrev main_v601 : Ref sig .tc := ⟨.hbm, 1143, rfl⟩
abbrev main_v602 : Ref sig .tc := ⟨.hbm, 1144, rfl⟩
abbrev main_c_157 : Ref sig .tc := ⟨.hbm, 1145, rfl⟩
abbrev main_v603 : Ref sig .tc := ⟨.hbm, 1146, rfl⟩
abbrev main_v604 : Ref sig .tc := ⟨.hbm, 1147, rfl⟩
abbrev main_c_158 : Ref sig .tc := ⟨.hbm, 1148, rfl⟩
abbrev main_v605 : Ref sig .tc := ⟨.hbm, 1149, rfl⟩
abbrev main_v606 : Ref sig .tc := ⟨.hbm, 1150, rfl⟩
abbrev main_v607 : Ref sig .tc := ⟨.hbm, 1151, rfl⟩
abbrev main_c_159 : Ref sig .tc := ⟨.hbm, 1152, rfl⟩
abbrev main_v608 : Ref sig .tc := ⟨.hbm, 1153, rfl⟩
abbrev main_v609 : Ref sig .tc := ⟨.hbm, 1154, rfl⟩
abbrev main_v610 : Ref sig .tc := ⟨.hbm, 1155, rfl⟩
abbrev main_c_160 : Ref sig .tc := ⟨.hbm, 1156, rfl⟩
abbrev main_v611 : Ref sig .tc := ⟨.hbm, 1157, rfl⟩
abbrev main_v612 : Ref sig .tc := ⟨.hbm, 1158, rfl⟩
abbrev main_v613 : Ref sig .tc := ⟨.hbm, 1159, rfl⟩
abbrev main_c_161 : Ref sig .tc := ⟨.hbm, 1160, rfl⟩
abbrev main_c_162 : Ref sig .tc := ⟨.hbm, 1161, rfl⟩
abbrev main_call36_v0 : Ref sig .tc := ⟨.hbm, 1162, rfl⟩
abbrev main_call36_v1 : Ref sig .tc := ⟨.hbm, 1163, rfl⟩
abbrev main_call36_v2 : Ref sig .tc := ⟨.hbm, 1164, rfl⟩
abbrev main_call36_v3 : Ref sig .tc := ⟨.hbm, 1165, rfl⟩
abbrev main_call36_v4 : Ref sig .tc := ⟨.hbm, 1166, rfl⟩
abbrev main_v614 : Ref sig .tc := ⟨.hbm, 1167, rfl⟩
abbrev main_c_163 : Ref sig .tc := ⟨.hbm, 1168, rfl⟩
abbrev main_c_164 : Ref sig .tc := ⟨.hbm, 1169, rfl⟩
abbrev main_call37_v0 : Ref sig .tc := ⟨.hbm, 1170, rfl⟩
abbrev main_call37_v1 : Ref sig .tc := ⟨.hbm, 1171, rfl⟩
abbrev main_call37_v2 : Ref sig .tc := ⟨.hbm, 1172, rfl⟩
abbrev main_call37_v3 : Ref sig .tc := ⟨.hbm, 1173, rfl⟩
abbrev main_call37_v4 : Ref sig .tc := ⟨.hbm, 1174, rfl⟩
abbrev main_v615 : Ref sig .tc := ⟨.hbm, 1175, rfl⟩
abbrev main_c_165 : Ref sig .tc := ⟨.hbm, 1176, rfl⟩
abbrev main_v616 : Ref sig .tc := ⟨.hbm, 1177, rfl⟩
abbrev main_v617 : Ref sig .tc := ⟨.hbm, 1178, rfl⟩
abbrev main_v618 : Ref sig .tc := ⟨.hbm, 1179, rfl⟩
abbrev main_v619 : Ref sig .tc := ⟨.hbm, 1180, rfl⟩
abbrev main_v620 : Ref sig .tc := ⟨.hbm, 1181, rfl⟩
abbrev main_v621 : Ref sig .tc := ⟨.hbm, 1182, rfl⟩
abbrev main_v622 : Ref sig .tc := ⟨.hbm, 1183, rfl⟩
abbrev main_call38_c : Ref sig .tc := ⟨.hbm, 1184, rfl⟩
abbrev main_call38_v0 : Ref sig .tc := ⟨.hbm, 1185, rfl⟩
abbrev main_call38_v1 : Ref sig .tc := ⟨.hbm, 1186, rfl⟩
abbrev main_call38_c_0 : Ref sig .tc := ⟨.hbm, 1187, rfl⟩
abbrev main_call38_v2 : Ref sig .tc := ⟨.hbm, 1188, rfl⟩
abbrev main_call38_v3 : Ref sig .tc := ⟨.hbm, 1189, rfl⟩
abbrev main_call38_v4 : Ref sig .tc := ⟨.hbm, 1190, rfl⟩
abbrev main_call38_v5 : Ref sig .tc := ⟨.hbm, 1191, rfl⟩
abbrev main_call38_c_1 : Ref sig .tc := ⟨.hbm, 1192, rfl⟩
abbrev main_call38_c_2 : Ref sig .tc := ⟨.hbm, 1193, rfl⟩
abbrev main_call38_v6 : Ref sig .tc := ⟨.hbm, 1194, rfl⟩
abbrev main_call38_v7 : Ref sig .tc := ⟨.hbm, 1195, rfl⟩
abbrev main_call38_v8 : Ref sig .tc := ⟨.hbm, 1196, rfl⟩
abbrev main_call38_v9 : Ref sig .tc := ⟨.hbm, 1197, rfl⟩
abbrev main_call38_v10 : Ref sig .tc := ⟨.hbm, 1198, rfl⟩
abbrev main_call38_v11 : Ref sig .tc := ⟨.hbm, 1199, rfl⟩
abbrev main_call38_c_3 : Ref sig .tc := ⟨.hbm, 1200, rfl⟩
abbrev main_call38_v12 : Ref sig .tc := ⟨.hbm, 1201, rfl⟩
abbrev main_call38_v13 : Ref sig .tc := ⟨.hbm, 1202, rfl⟩
abbrev main_call38_cst : Ref sig .tc := ⟨.hbm, 1203, rfl⟩
abbrev main_call38_v14 : Ref sig .tc := ⟨.hbm, 1204, rfl⟩
abbrev main_v623 : Ref sig .tc := ⟨.hbm, 1205, rfl⟩
abbrev main_v624 : Ref sig .tc := ⟨.hbm, 1206, rfl⟩
abbrev main_v625 : Ref sig .tc := ⟨.hbm, 1207, rfl⟩
abbrev main_v626 : Ref sig .tc := ⟨.hbm, 1208, rfl⟩
abbrev main_v627 : Ref sig .tc := ⟨.hbm, 1209, rfl⟩
abbrev main_v628 : Ref sig .tc := ⟨.hbm, 1210, rfl⟩
abbrev main_v629 : Ref sig .tc := ⟨.hbm, 1211, rfl⟩
abbrev main_c_166 : Ref sig .tc := ⟨.hbm, 1212, rfl⟩
abbrev main_v630 : Ref sig .tc := ⟨.hbm, 1213, rfl⟩
abbrev main_v631 : Ref sig .tc := ⟨.hbm, 1214, rfl⟩
abbrev main_c_167 : Ref sig .tc := ⟨.hbm, 1215, rfl⟩
abbrev main_v632 : Ref sig .tc := ⟨.hbm, 1216, rfl⟩
abbrev main_v633 : Ref sig .tc := ⟨.hbm, 1217, rfl⟩
abbrev main_v634 : Ref sig .tc := ⟨.hbm, 1218, rfl⟩
abbrev main_c_168 : Ref sig .tc := ⟨.hbm, 1219, rfl⟩
abbrev main_v635 : Ref sig .tc := ⟨.hbm, 1220, rfl⟩
abbrev main_v636 : Ref sig .tc := ⟨.hbm, 1221, rfl⟩
abbrev main_v637 : Ref sig .tc := ⟨.hbm, 1222, rfl⟩
abbrev main_c_169 : Ref sig .tc := ⟨.hbm, 1223, rfl⟩
abbrev main_v638 : Ref sig .tc := ⟨.hbm, 1224, rfl⟩
abbrev main_v639 : Ref sig .tc := ⟨.hbm, 1225, rfl⟩
abbrev main_v640 : Ref sig .tc := ⟨.hbm, 1226, rfl⟩
abbrev main_c_170 : Ref sig .tc := ⟨.hbm, 1227, rfl⟩
abbrev main_c_171 : Ref sig .tc := ⟨.hbm, 1228, rfl⟩
abbrev main_call39_v0 : Ref sig .tc := ⟨.hbm, 1229, rfl⟩
abbrev main_call39_v1 : Ref sig .tc := ⟨.hbm, 1230, rfl⟩
abbrev main_call39_v2 : Ref sig .tc := ⟨.hbm, 1231, rfl⟩
abbrev main_call39_v3 : Ref sig .tc := ⟨.hbm, 1232, rfl⟩
abbrev main_call39_v4 : Ref sig .tc := ⟨.hbm, 1233, rfl⟩
abbrev main_v641 : Ref sig .tc := ⟨.hbm, 1234, rfl⟩
abbrev main_c_172 : Ref sig .tc := ⟨.hbm, 1235, rfl⟩
abbrev main_c_173 : Ref sig .tc := ⟨.hbm, 1236, rfl⟩
abbrev main_call40_v0 : Ref sig .tc := ⟨.hbm, 1237, rfl⟩
abbrev main_call40_v1 : Ref sig .tc := ⟨.hbm, 1238, rfl⟩
abbrev main_call40_v2 : Ref sig .tc := ⟨.hbm, 1239, rfl⟩
abbrev main_call40_v3 : Ref sig .tc := ⟨.hbm, 1240, rfl⟩
abbrev main_call40_v4 : Ref sig .tc := ⟨.hbm, 1241, rfl⟩
abbrev main_v642 : Ref sig .tc := ⟨.hbm, 1242, rfl⟩
abbrev main_c_174 : Ref sig .tc := ⟨.hbm, 1243, rfl⟩
abbrev main_v643 : Ref sig .tc := ⟨.hbm, 1244, rfl⟩
abbrev main_v644 : Ref sig .tc := ⟨.hbm, 1245, rfl⟩
abbrev main_v645 : Ref sig .tc := ⟨.hbm, 1246, rfl⟩
abbrev main_v646 : Ref sig .tc := ⟨.hbm, 1247, rfl⟩
abbrev main_v647 : Ref sig .tc := ⟨.hbm, 1248, rfl⟩
abbrev main_v648 : Ref sig .tc := ⟨.hbm, 1249, rfl⟩
abbrev main_v649 : Ref sig .tc := ⟨.hbm, 1250, rfl⟩
abbrev main_call41_c : Ref sig .tc := ⟨.hbm, 1251, rfl⟩
abbrev main_call41_v0 : Ref sig .tc := ⟨.hbm, 1252, rfl⟩
abbrev main_call41_v1 : Ref sig .tc := ⟨.hbm, 1253, rfl⟩
abbrev main_call41_c_0 : Ref sig .tc := ⟨.hbm, 1254, rfl⟩
abbrev main_call41_v2 : Ref sig .tc := ⟨.hbm, 1255, rfl⟩
abbrev main_call41_v3 : Ref sig .tc := ⟨.hbm, 1256, rfl⟩
abbrev main_call41_v4 : Ref sig .tc := ⟨.hbm, 1257, rfl⟩
abbrev main_call41_v5 : Ref sig .tc := ⟨.hbm, 1258, rfl⟩
abbrev main_call41_c_1 : Ref sig .tc := ⟨.hbm, 1259, rfl⟩
abbrev main_call41_c_2 : Ref sig .tc := ⟨.hbm, 1260, rfl⟩
abbrev main_call41_v6 : Ref sig .tc := ⟨.hbm, 1261, rfl⟩
abbrev main_call41_v7 : Ref sig .tc := ⟨.hbm, 1262, rfl⟩
abbrev main_call41_v8 : Ref sig .tc := ⟨.hbm, 1263, rfl⟩
abbrev main_call41_v9 : Ref sig .tc := ⟨.hbm, 1264, rfl⟩
abbrev main_call41_v10 : Ref sig .tc := ⟨.hbm, 1265, rfl⟩
abbrev main_call41_v11 : Ref sig .tc := ⟨.hbm, 1266, rfl⟩
abbrev main_call41_c_3 : Ref sig .tc := ⟨.hbm, 1267, rfl⟩
abbrev main_call41_v12 : Ref sig .tc := ⟨.hbm, 1268, rfl⟩
abbrev main_call41_v13 : Ref sig .tc := ⟨.hbm, 1269, rfl⟩
abbrev main_call41_cst : Ref sig .tc := ⟨.hbm, 1270, rfl⟩
abbrev main_call41_v14 : Ref sig .tc := ⟨.hbm, 1271, rfl⟩
abbrev main_v650 : Ref sig .tc := ⟨.hbm, 1272, rfl⟩
abbrev main_v651 : Ref sig .tc := ⟨.hbm, 1273, rfl⟩
abbrev main_v652 : Ref sig .tc := ⟨.hbm, 1274, rfl⟩
abbrev main_v653 : Ref sig .tc := ⟨.hbm, 1275, rfl⟩
abbrev main_v654 : Ref sig .tc := ⟨.hbm, 1276, rfl⟩
abbrev main_v655 : Ref sig .tc := ⟨.hbm, 1277, rfl⟩
abbrev main_v656 : Ref sig .tc := ⟨.hbm, 1278, rfl⟩
abbrev main_c_175 : Ref sig .tc := ⟨.hbm, 1279, rfl⟩
abbrev main_v657 : Ref sig .tc := ⟨.hbm, 1280, rfl⟩
abbrev main_v658 : Ref sig .tc := ⟨.hbm, 1281, rfl⟩
abbrev main_c_176 : Ref sig .tc := ⟨.hbm, 1282, rfl⟩
abbrev main_v659 : Ref sig .tc := ⟨.hbm, 1283, rfl⟩
abbrev main_v660 : Ref sig .tc := ⟨.hbm, 1284, rfl⟩
abbrev main_v661 : Ref sig .tc := ⟨.hbm, 1285, rfl⟩
abbrev main_c_177 : Ref sig .tc := ⟨.hbm, 1286, rfl⟩
abbrev main_v662 : Ref sig .tc := ⟨.hbm, 1287, rfl⟩
abbrev main_v663 : Ref sig .tc := ⟨.hbm, 1288, rfl⟩
abbrev main_v664 : Ref sig .tc := ⟨.hbm, 1289, rfl⟩
abbrev main_c_178 : Ref sig .tc := ⟨.hbm, 1290, rfl⟩
abbrev main_v665 : Ref sig .tc := ⟨.hbm, 1291, rfl⟩
abbrev main_v666 : Ref sig .tc := ⟨.hbm, 1292, rfl⟩
abbrev main_v667 : Ref sig .tc := ⟨.hbm, 1293, rfl⟩
abbrev main_c_179 : Ref sig .tc := ⟨.hbm, 1294, rfl⟩
abbrev main_c_180 : Ref sig .tc := ⟨.hbm, 1295, rfl⟩
abbrev main_call42_v0 : Ref sig .tc := ⟨.hbm, 1296, rfl⟩
abbrev main_call42_v1 : Ref sig .tc := ⟨.hbm, 1297, rfl⟩
abbrev main_call42_v2 : Ref sig .tc := ⟨.hbm, 1298, rfl⟩
abbrev main_call42_v3 : Ref sig .tc := ⟨.hbm, 1299, rfl⟩
abbrev main_call42_v4 : Ref sig .tc := ⟨.hbm, 1300, rfl⟩
abbrev main_v668 : Ref sig .tc := ⟨.hbm, 1301, rfl⟩
abbrev main_c_181 : Ref sig .tc := ⟨.hbm, 1302, rfl⟩
abbrev main_c_182 : Ref sig .tc := ⟨.hbm, 1303, rfl⟩
abbrev main_call43_v0 : Ref sig .tc := ⟨.hbm, 1304, rfl⟩
abbrev main_call43_v1 : Ref sig .tc := ⟨.hbm, 1305, rfl⟩
abbrev main_call43_v2 : Ref sig .tc := ⟨.hbm, 1306, rfl⟩
abbrev main_call43_v3 : Ref sig .tc := ⟨.hbm, 1307, rfl⟩
abbrev main_call43_v4 : Ref sig .tc := ⟨.hbm, 1308, rfl⟩
abbrev main_v669 : Ref sig .tc := ⟨.hbm, 1309, rfl⟩
abbrev main_c_183 : Ref sig .tc := ⟨.hbm, 1310, rfl⟩
abbrev main_v670 : Ref sig .tc := ⟨.hbm, 1311, rfl⟩
abbrev main_v671 : Ref sig .tc := ⟨.hbm, 1312, rfl⟩
abbrev main_v672 : Ref sig .tc := ⟨.hbm, 1313, rfl⟩
abbrev main_v673 : Ref sig .tc := ⟨.hbm, 1314, rfl⟩
abbrev main_v674 : Ref sig .tc := ⟨.hbm, 1315, rfl⟩
abbrev main_v675 : Ref sig .tc := ⟨.hbm, 1316, rfl⟩
abbrev main_v676 : Ref sig .tc := ⟨.hbm, 1317, rfl⟩
abbrev main_call44_c : Ref sig .tc := ⟨.hbm, 1318, rfl⟩
abbrev main_call44_v0 : Ref sig .tc := ⟨.hbm, 1319, rfl⟩
abbrev main_call44_v1 : Ref sig .tc := ⟨.hbm, 1320, rfl⟩
abbrev main_call44_c_0 : Ref sig .tc := ⟨.hbm, 1321, rfl⟩
abbrev main_call44_v2 : Ref sig .tc := ⟨.hbm, 1322, rfl⟩
abbrev main_call44_v3 : Ref sig .tc := ⟨.hbm, 1323, rfl⟩
abbrev main_call44_v4 : Ref sig .tc := ⟨.hbm, 1324, rfl⟩
abbrev main_call44_v5 : Ref sig .tc := ⟨.hbm, 1325, rfl⟩
abbrev main_call44_c_1 : Ref sig .tc := ⟨.hbm, 1326, rfl⟩
abbrev main_call44_c_2 : Ref sig .tc := ⟨.hbm, 1327, rfl⟩
abbrev main_call44_v6 : Ref sig .tc := ⟨.hbm, 1328, rfl⟩
abbrev main_call44_v7 : Ref sig .tc := ⟨.hbm, 1329, rfl⟩
abbrev main_call44_v8 : Ref sig .tc := ⟨.hbm, 1330, rfl⟩
abbrev main_call44_v9 : Ref sig .tc := ⟨.hbm, 1331, rfl⟩
abbrev main_call44_v10 : Ref sig .tc := ⟨.hbm, 1332, rfl⟩
abbrev main_call44_v11 : Ref sig .tc := ⟨.hbm, 1333, rfl⟩
abbrev main_call44_c_3 : Ref sig .tc := ⟨.hbm, 1334, rfl⟩
abbrev main_call44_v12 : Ref sig .tc := ⟨.hbm, 1335, rfl⟩
abbrev main_call44_v13 : Ref sig .tc := ⟨.hbm, 1336, rfl⟩
abbrev main_call44_cst : Ref sig .tc := ⟨.hbm, 1337, rfl⟩
abbrev main_call44_v14 : Ref sig .tc := ⟨.hbm, 1338, rfl⟩
abbrev main_v677 : Ref sig .tc := ⟨.hbm, 1339, rfl⟩
abbrev main_v678 : Ref sig .tc := ⟨.hbm, 1340, rfl⟩
abbrev main_v679 : Ref sig .tc := ⟨.hbm, 1341, rfl⟩
abbrev main_v680 : Ref sig .tc := ⟨.hbm, 1342, rfl⟩
abbrev main_v681 : Ref sig .tc := ⟨.hbm, 1343, rfl⟩
abbrev main_v682 : Ref sig .tc := ⟨.hbm, 1344, rfl⟩
abbrev main_v683 : Ref sig .tc := ⟨.hbm, 1345, rfl⟩
abbrev main_c_184 : Ref sig .tc := ⟨.hbm, 1346, rfl⟩
abbrev main_v684 : Ref sig .tc := ⟨.hbm, 1347, rfl⟩
abbrev main_v685 : Ref sig .tc := ⟨.hbm, 1348, rfl⟩
abbrev main_c_185 : Ref sig .tc := ⟨.hbm, 1349, rfl⟩
abbrev main_v686 : Ref sig .tc := ⟨.hbm, 1350, rfl⟩
abbrev main_v687 : Ref sig .tc := ⟨.hbm, 1351, rfl⟩
abbrev main_v688 : Ref sig .tc := ⟨.hbm, 1352, rfl⟩
abbrev main_c_186 : Ref sig .tc := ⟨.hbm, 1353, rfl⟩
abbrev main_v689 : Ref sig .tc := ⟨.hbm, 1354, rfl⟩
abbrev main_v690 : Ref sig .tc := ⟨.hbm, 1355, rfl⟩
abbrev main_v691 : Ref sig .tc := ⟨.hbm, 1356, rfl⟩
abbrev main_c_187 : Ref sig .tc := ⟨.hbm, 1357, rfl⟩
abbrev main_v692 : Ref sig .tc := ⟨.hbm, 1358, rfl⟩
abbrev main_v693 : Ref sig .tc := ⟨.hbm, 1359, rfl⟩
abbrev main_v694 : Ref sig .tc := ⟨.hbm, 1360, rfl⟩
abbrev main_c_188 : Ref sig .tc := ⟨.hbm, 1361, rfl⟩
abbrev main_c_189 : Ref sig .tc := ⟨.hbm, 1362, rfl⟩
abbrev main_call45_v0 : Ref sig .tc := ⟨.hbm, 1363, rfl⟩
abbrev main_call45_v1 : Ref sig .tc := ⟨.hbm, 1364, rfl⟩
abbrev main_call45_v2 : Ref sig .tc := ⟨.hbm, 1365, rfl⟩
abbrev main_call45_v3 : Ref sig .tc := ⟨.hbm, 1366, rfl⟩
abbrev main_call45_v4 : Ref sig .tc := ⟨.hbm, 1367, rfl⟩
abbrev main_v695 : Ref sig .tc := ⟨.hbm, 1368, rfl⟩
abbrev main_c_190 : Ref sig .tc := ⟨.hbm, 1369, rfl⟩
abbrev main_c_191 : Ref sig .tc := ⟨.hbm, 1370, rfl⟩
abbrev main_call46_v0 : Ref sig .tc := ⟨.hbm, 1371, rfl⟩
abbrev main_call46_v1 : Ref sig .tc := ⟨.hbm, 1372, rfl⟩
abbrev main_call46_v2 : Ref sig .tc := ⟨.hbm, 1373, rfl⟩
abbrev main_call46_v3 : Ref sig .tc := ⟨.hbm, 1374, rfl⟩
abbrev main_call46_v4 : Ref sig .tc := ⟨.hbm, 1375, rfl⟩
abbrev main_v696 : Ref sig .tc := ⟨.hbm, 1376, rfl⟩
abbrev main_c_192 : Ref sig .tc := ⟨.hbm, 1377, rfl⟩
abbrev main_v697 : Ref sig .tc := ⟨.hbm, 1378, rfl⟩
abbrev main_v698 : Ref sig .tc := ⟨.hbm, 1379, rfl⟩
abbrev main_v699 : Ref sig .tc := ⟨.hbm, 1380, rfl⟩
abbrev main_v700 : Ref sig .tc := ⟨.hbm, 1381, rfl⟩
abbrev main_v701 : Ref sig .tc := ⟨.hbm, 1382, rfl⟩
abbrev main_v702 : Ref sig .tc := ⟨.hbm, 1383, rfl⟩
abbrev main_v703 : Ref sig .tc := ⟨.hbm, 1384, rfl⟩
abbrev main_call47_c : Ref sig .tc := ⟨.hbm, 1385, rfl⟩
abbrev main_call47_v0 : Ref sig .tc := ⟨.hbm, 1386, rfl⟩
abbrev main_call47_v1 : Ref sig .tc := ⟨.hbm, 1387, rfl⟩
abbrev main_call47_c_0 : Ref sig .tc := ⟨.hbm, 1388, rfl⟩
abbrev main_call47_v2 : Ref sig .tc := ⟨.hbm, 1389, rfl⟩
abbrev main_call47_v3 : Ref sig .tc := ⟨.hbm, 1390, rfl⟩
abbrev main_call47_v4 : Ref sig .tc := ⟨.hbm, 1391, rfl⟩
abbrev main_call47_v5 : Ref sig .tc := ⟨.hbm, 1392, rfl⟩
abbrev main_call47_c_1 : Ref sig .tc := ⟨.hbm, 1393, rfl⟩
abbrev main_call47_c_2 : Ref sig .tc := ⟨.hbm, 1394, rfl⟩
abbrev main_call47_v6 : Ref sig .tc := ⟨.hbm, 1395, rfl⟩
abbrev main_call47_v7 : Ref sig .tc := ⟨.hbm, 1396, rfl⟩
abbrev main_call47_v8 : Ref sig .tc := ⟨.hbm, 1397, rfl⟩
abbrev main_call47_v9 : Ref sig .tc := ⟨.hbm, 1398, rfl⟩
abbrev main_call47_v10 : Ref sig .tc := ⟨.hbm, 1399, rfl⟩
abbrev main_call47_v11 : Ref sig .tc := ⟨.hbm, 1400, rfl⟩
abbrev main_call47_c_3 : Ref sig .tc := ⟨.hbm, 1401, rfl⟩
abbrev main_call47_v12 : Ref sig .tc := ⟨.hbm, 1402, rfl⟩
abbrev main_call47_v13 : Ref sig .tc := ⟨.hbm, 1403, rfl⟩
abbrev main_call47_cst : Ref sig .tc := ⟨.hbm, 1404, rfl⟩
abbrev main_call47_v14 : Ref sig .tc := ⟨.hbm, 1405, rfl⟩
abbrev main_v704 : Ref sig .tc := ⟨.hbm, 1406, rfl⟩
abbrev main_v705 : Ref sig .tc := ⟨.hbm, 1407, rfl⟩
abbrev main_v706 : Ref sig .tc := ⟨.hbm, 1408, rfl⟩
abbrev main_v707 : Ref sig .tc := ⟨.hbm, 1409, rfl⟩
abbrev main_v708 : Ref sig .tc := ⟨.hbm, 1410, rfl⟩
abbrev main_v709 : Ref sig .tc := ⟨.hbm, 1411, rfl⟩
abbrev main_v710 : Ref sig .tc := ⟨.hbm, 1412, rfl⟩
abbrev main_v711 : Ref sig .tc := ⟨.hbm, 1413, rfl⟩
abbrev main_v712 : Ref sig .tc := ⟨.hbm, 1414, rfl⟩
abbrev main_v713 : Ref sig .tc := ⟨.hbm, 1415, rfl⟩
abbrev main_v714 : Ref sig .tc := ⟨.hbm, 1416, rfl⟩
abbrev main_v715 : Ref sig .tc := ⟨.hbm, 1417, rfl⟩
abbrev main_v716 : Ref sig .tc := ⟨.hbm, 1418, rfl⟩
abbrev main_v717 : Ref sig .tc := ⟨.hbm, 1419, rfl⟩
abbrev main_v718 : Ref sig .tc := ⟨.hbm, 1420, rfl⟩
abbrev main_v719 : Ref sig .tc := ⟨.hbm, 1421, rfl⟩
abbrev main_v720 : Ref sig .tc := ⟨.hbm, 1422, rfl⟩
abbrev main_v721 : Ref sig .tc := ⟨.hbm, 1423, rfl⟩
abbrev main_v722 : Ref sig .tc := ⟨.hbm, 1424, rfl⟩
abbrev main_v723 : Ref sig .tc := ⟨.hbm, 1425, rfl⟩
abbrev main_v724 : Ref sig .tc := ⟨.hbm, 1426, rfl⟩
abbrev main_v725 : Ref sig .tc := ⟨.hbm, 1427, rfl⟩
abbrev main_v726 : Ref sig .tc := ⟨.hbm, 1428, rfl⟩
abbrev main_v727 : Ref sig .tc := ⟨.hbm, 1429, rfl⟩
abbrev main_v728 : Ref sig .tc := ⟨.hbm, 1430, rfl⟩
abbrev main_v729 : Ref sig .tc := ⟨.hbm, 1431, rfl⟩
abbrev main_cst_193 : Ref sig .tc := ⟨.hbm, 1432, rfl⟩
abbrev main_v730 : Ref sig .tc := ⟨.hbm, 1433, rfl⟩
abbrev main_v731 : Ref sig .tc := ⟨.hbm, 1434, rfl⟩
abbrev main_cst_194 : Ref sig .tc := ⟨.hbm, 1435, rfl⟩
abbrev main_v732 : Ref sig .tc := ⟨.hbm, 1436, rfl⟩
abbrev main_v733 : Ref sig .tc := ⟨.hbm, 1437, rfl⟩
abbrev main_v734 : Ref sig .tc := ⟨.hbm, 1438, rfl⟩
abbrev main_cst_195 : Ref sig .tc := ⟨.hbm, 1439, rfl⟩
abbrev main_v735 : Ref sig .tc := ⟨.hbm, 1440, rfl⟩
abbrev main_v736 : Ref sig .tc := ⟨.hbm, 1441, rfl⟩
abbrev main_v737 : Ref sig .tc := ⟨.hbm, 1442, rfl⟩
abbrev main_cst_196 : Ref sig .tc := ⟨.hbm, 1443, rfl⟩
abbrev main_v738 : Ref sig .tc := ⟨.hbm, 1444, rfl⟩
abbrev main_v739 : Ref sig .tc := ⟨.hbm, 1445, rfl⟩
abbrev main_v740 : Ref sig .tc := ⟨.hbm, 1446, rfl⟩
abbrev main_v741 : Ref sig .tc := ⟨.hbm, 1447, rfl⟩
abbrev main_v742 : Ref sig .tc := ⟨.hbm, 1448, rfl⟩
abbrev main_v743 : Ref sig .tc := ⟨.hbm, 1449, rfl⟩
abbrev main_v744 : Ref sig .tc := ⟨.hbm, 1450, rfl⟩
abbrev main_v745 : Ref sig .tc := ⟨.hbm, 1451, rfl⟩
abbrev main_v746 : Ref sig .tc := ⟨.hbm, 1452, rfl⟩
abbrev main_v747 : Ref sig .tc := ⟨.hbm, 1453, rfl⟩
abbrev main_v748 : Ref sig .tc := ⟨.hbm, 1454, rfl⟩
abbrev main_v749 : Ref sig .tc := ⟨.hbm, 1455, rfl⟩
abbrev main_cst_197 : Ref sig .tc := ⟨.hbm, 1456, rfl⟩
abbrev main_v750 : Ref sig .tc := ⟨.hbm, 1457, rfl⟩
abbrev main_v751 : Ref sig .tc := ⟨.hbm, 1458, rfl⟩
abbrev main_v752 : Ref sig .tc := ⟨.hbm, 1459, rfl⟩
abbrev main_v753 : Ref sig .tc := ⟨.hbm, 1460, rfl⟩
abbrev main_v754 : Ref sig .tc := ⟨.hbm, 1461, rfl⟩
abbrev main_v755 : Ref sig .tc := ⟨.hbm, 1462, rfl⟩

abbrev nD : Nat := 1
abbrev τ : Topo := Topo.v7x

variable {F : FTy → Type} [FloatOps F]
-- ==== Calls.lean ====
abbrev S2x5440x256 : Shape := ⟨3, ![2, 5440, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S10880x256 : Shape := ⟨2, ![10880, 256]⟩
abbrev S1x256 : Shape := ⟨2, ![1, 256]⟩
abbrev S2176x256 : Shape := ⟨2, ![2176, 256]⟩
abbrev S1x128 : Shape := ⟨2, ![1, 128]⟩
abbrev S10880x128 : Shape := ⟨2, ![10880, 128]⟩
abbrev S2176x128 : Shape := ⟨2, ![2176, 128]⟩
abbrev S2x5440x128 : Shape := ⟨3, ![2, 5440, 128]⟩

abbrev nBuf : Space → Nat
  | .hbm => 26
  | .vmem => 24
  | .smem => 0
  | _ => 0

abbrev bufTy : (tb : Table) → Fin (tcTables nBuf tb) → BufTy
  | .hbm, ⟨0, _⟩ => ⟨S2x5440x256, .f32⟩
  | .hbm, ⟨1, _⟩ => ⟨S2x5440x256, .f32⟩
  | .hbm, ⟨2, _⟩ => ⟨S2x5440x256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S10880x256, .f32⟩
  | .hbm, ⟨12, _⟩ => ⟨S10880x256, .f32⟩
  | .hbm, ⟨13, _⟩ => ⟨S1x256, .f32⟩
  | .hbm, ⟨14, _⟩ => ⟨S10880x256, .f32⟩
  | .hbm, ⟨15, _⟩ => ⟨S1x256, .f32⟩
  | .hbm, ⟨16, _⟩ => ⟨S10880x256, .f32⟩
  | .hbm, ⟨17, _⟩ => ⟨S1x128, .f32⟩
  | .hbm, ⟨18, _⟩ => ⟨S10880x128, .f32⟩
  | .hbm, ⟨19, _⟩ => ⟨S10880x256, .f32⟩
  | .hbm, ⟨20, _⟩ => ⟨S1x256, .f32⟩
  | .hbm, ⟨21, _⟩ => ⟨S10880x256, .f32⟩
  | .hbm, ⟨22, _⟩ => ⟨S2x5440x256, .f32⟩
  | .hbm, ⟨23, _⟩ => ⟨S2x5440x256, .f32⟩
  | .hbm, ⟨24, _⟩ => ⟨S2x5440x128, .f32⟩
  | .hbm, ⟨25, _⟩ => ⟨S2x5440x256, .f32⟩
  | .local _ .vmem, ⟨0, _⟩ => ⟨S2176x256, .f32⟩
  | .local _ .vmem, ⟨1, _⟩ => ⟨S2176x256, .f32⟩
  | .local _ .vmem, ⟨2, _⟩ => ⟨S256x256, .f32⟩
  | .local _ .vmem, ⟨3, _⟩ => ⟨S1x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | .local _ .vmem, ⟨7, _⟩ => ⟨S2176x256, .f32⟩
  | .local _ .vmem, ⟨8, _⟩ => ⟨S256x256, .f32⟩
  | .local _ .vmem, ⟨9, _⟩ => ⟨S1x256, .f32⟩
  | .local _ .vmem, ⟨10, _⟩ => ⟨S2176x256, .f32⟩
  | .local _ .vmem, ⟨11, _⟩ => ⟨S2176x256, .f32⟩
  | .local _ .vmem, ⟨12, _⟩ => ⟨S2176x256, .f32⟩
  | .local _ .vmem, ⟨13, _⟩ => ⟨S2176x256, .f32⟩
  | .local _ .vmem, ⟨14, _⟩ => ⟨S256x128, .f32⟩
  | .local _ .vmem, ⟨15, _⟩ => ⟨S1x128, .f32⟩
  | .local _ .vmem, ⟨16, _⟩ => ⟨S2176x128, .f32⟩
  | .local _ .vmem, ⟨17, _⟩ => ⟨S2176x128, .f32⟩
  | .local _ .vmem, ⟨18, _⟩ => ⟨S2176x256, .f32⟩
  | .local _ .vmem, ⟨19, _⟩ => ⟨S2176x256, .f32⟩
  | .local _ .vmem, ⟨20, _⟩ => ⟨S256x256, .f32⟩
  | .local _ .vmem, ⟨21, _⟩ => ⟨S1x256, .f32⟩
  | .local _ .vmem, ⟨22, _⟩ => ⟨S2176x256, .f32⟩
  | .local _ .vmem, ⟨23, _⟩ => ⟨S2176x256, .f32⟩
  | _, _ => ⟨S2x5440x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2176x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2176x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2176x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2176x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2176x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2176x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== LinearIdeal.lean ====
abbrev S2x5440x256 : Shape := ⟨3, ![2, 5440, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S2x5440x128 : Shape := ⟨3, ![2, 5440, 128]⟩

abbrev nBuf : Space → Nat
  | .hbm => 23
  | .vmem => 0
  | .smem => 0
  | _ => 0

abbrev bufTy : (tb : Table) → Fin (tcTables nBuf tb) → BufTy
  | .hbm, ⟨0, _⟩ => ⟨S2x5440x256, .f32⟩
  | .hbm, ⟨1, _⟩ => ⟨S2x5440x256, .f32⟩
  | .hbm, ⟨2, _⟩ => ⟨S2x5440x256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S2x5440x256, .f32⟩
  | .hbm, ⟨12, _⟩ => ⟨S2x5440x256, .f32⟩
  | .hbm, ⟨13, _⟩ => ⟨S2x5440x256, .f32⟩
  | .hbm, ⟨14, _⟩ => ⟨S2x5440x256, .f32⟩
  | .hbm, ⟨15, _⟩ => ⟨S2x5440x256, .f32⟩
  | .hbm, ⟨16, _⟩ => ⟨S2x5440x256, .f32⟩
  | .hbm, ⟨17, _⟩ => ⟨S2x5440x128, .f32⟩
  | .hbm, ⟨18, _⟩ => ⟨S2x5440x128, .f32⟩
  | .hbm, ⟨19, _⟩ => ⟨S2x5440x128, .f32⟩
  | .hbm, ⟨20, _⟩ => ⟨S2x5440x256, .f32⟩
  | .hbm, ⟨21, _⟩ => ⟨S2x5440x256, .f32⟩
  | .hbm, ⟨22, _⟩ => ⟨S2x5440x256, .f32⟩
  | _, _ => ⟨S2x5440x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.Dense.lean ====
module

public import proofs.«01_k».proof.Proof.Gen.ReferenceIdeal
public import Idealize.ShloMosaic.PureOps.Ideal
public import Idealize.ShloMosaic.Lib.Pipeline.ValueKit
public import Idealize.ShloMosaic.Lib.Pointwise

@[expose] public section

/-!
# A matrix product with a bias, on rows laid end to end

The kernel multiplies all 2 × 5440 rows at once, as one matrix of 10880 rows, and adds the bias as a one-row matrix. The
reference multiplies along the last axis of the three-axis array, and broadcasts the bias. Read back in three axes, the
kernel's product is the reference's.
-/

noncomputable section

namespace Cert.Dense

open Idealize.ShloMosaic Cert.ReferenceIdeal Cert.ReferenceIdeal.Gen

/-- Row `i` of `x` times column `j` of `w`, plus entry `j` of the bias row. -/
def prod {n : Nat} (x : FVec Ideal ⟨2, ![10880, 256]⟩ .f32) (w : FVec Ideal ⟨2, ![256, n]⟩ .f32) (b : FVec Ideal ⟨2, ![1, n]⟩ .f32) :
    FVec Ideal ⟨2, ![10880, n]⟩ .f32 :=
  fun j => (∑ k : Fin 256, x (ix2 (j 0) k) * w (ix2 k (j 1))) + b (ix2 0 (j 1))

/-- The product of 256 columns, in three axes, is the reference's. -/
theorem prod_256 (x : FVec Ideal S2x5440x256 .f32) (w : FVec Ideal S256x256 .f32) (b : FVec Ideal S256 .f32)
    (h₁ : S2x5440x256.ShapeCasts ⟨2, ![10880, 256]⟩) (h₂ : S256.ShapeCasts ⟨2, ![1, 256]⟩)
    (h₃ : (⟨2, ![10880, 256]⟩ : Shape).ShapeCasts S2x5440x256) :
    shapeCast S2x5440x256 (prod (shapeCast _ x h₁) w (shapeCast _ b h₂)) h₃ =
      addf (F := Ideal) (Host.dotGeneral dot_S2x5440x256_S256x256_S2x5440x256_2_0_01_1_n_n none x w)
        (broadcastInDim S2x5440x256 ![2] bcast_S256_S2x5440x256_2 b) := by
  funext j
  pointwise [prod]

/-- The product of 128 columns, in three axes, is the reference's. -/
theorem prod_128 (x : FVec Ideal S2x5440x256 .f32) (w : FVec Ideal S256x128 .f32) (b : FVec Ideal S128 .f32)
    (h₁ : S2x5440x256.ShapeCasts ⟨2, ![10880, 256]⟩) (h₂ : S128.ShapeCasts ⟨2, ![1, 128]⟩)
    (h₃ : (⟨2, ![10880, 128]⟩ : Shape).ShapeCasts S2x5440x128) :
    shapeCast S2x5440x128 (prod (shapeCast _ x h₁) w (shapeCast _ b h₂)) h₃ =
      addf (F := Ideal) (Host.dotGeneral dot_S2x5440x256_S256x128_S2x5440x128_2_0_01_1_n_n none x w)
        (broadcastInDim S2x5440x128 ![2] bcast_S128_S2x5440x128_2 b) := by
  funext j
  pointwise [prod]

/-- An array reshaped twice is reshaped once. -/
theorem shapeCast_trans {α : Type} {s t u : Shape} (v : s.Idx → α) (h : s.ShapeCasts t) (h' : t.ShapeCasts u)
    (h'' : s.ShapeCasts u) : shapeCast u (shapeCast t v h) h' = shapeCast u v h'' := by
  funext i
  simp only [shapeCast, Shape.reshapeEquiv, Equiv.trans_apply]
  rw [Equiv.apply_symm_apply]
  rfl

end Cert.Dense
-- ==== Proof.Product0.lean ====
module

public import proofs.«01_k».proof.Proof.Gen.KernelIdeal.Frame.Region0
public import proofs.«01_k».proof.Proof.Dense

@[expose] public section

set_option maxRecDepth 16384

/-!
# The first product: the values

Each of the region's five points writes 2176 rows of the product; together they write all of it.
-/

noncomputable section

namespace Cert.KernelIdeal.Gen

open Idealize.ShloMosaic Idealize.ShloMosaic.TcCoe

/-- What region 0 leaves in its output array, from what the arrays hold when it is entered. -/
theorem arr0 (V : (c : Dev nD) → (b : Ref sig .tc) → Buf (Elt Ideal) ((c : Thread nD τ).loc b)) (c : Dev nD) :
    (dat0 V c).arrAt 3 cfg0.N = Dense.prod (V c main_v1) (V c main_arg7) (V c main_v2) := by
  refine (dat0 V c).arrAt_eq_of_covers 3 _ (by decide +kernel) fun t hf y => ?_
  blk_simp
  rw [after0_3]
  frame_out
  pointwise [k0_pay1, Dense.prod]
  have e0 : ∀ t : Fin cfg0.N, win0_0.index t = ![(grid0.coords t 0).val, 0] := by decide +kernel
  have e1 : ∀ t : Fin cfg0.N, win0_1.index t = ![0, 0] := by decide +kernel
  have e2 : ∀ t : Fin cfg0.N, win0_2.index t = ![0, 0] := by decide +kernel
  have e3 : ∀ t : Fin cfg0.N, win0_3.index t = ![(grid0.coords t 0).val, 0] := by decide +kernel
  blk_simp [iblk0]
  refine congrArg₂ (· + ·) (Finset.sum_congr rfl fun k _ => congrArg₂ (· * ·) ?_ ?_) ?_
  · congr 1; blk_ext [e0, e3]
  · congr 1; blk_ext [e1, e3]
  · congr 1; blk_ext [e2, e3]

end Cert.KernelIdeal.Gen
-- ==== Proof.Product1.lean ====
module

public import proofs.«01_k».proof.Proof.Gen.KernelIdeal.Frame.Region1
public import proofs.«01_k».proof.Proof.Dense

@[expose] public section

set_option maxRecDepth 16384

/-!
# The second product: the sampling offsets

Each of the region's five points writes 2176 rows of the product; together they write all of it.
-/

noncomputable section

namespace Cert.KernelIdeal.Gen

open Idealize.ShloMosaic Idealize.ShloMosaic.TcCoe

/-- What region 1 leaves in its output array, from what the arrays hold when it is entered. -/
theorem arr1 (V : (c : Dev nD) → (b : Ref sig .tc) → Buf (Elt Ideal) ((c : Thread nD τ).loc b)) (c : Dev nD) :
    (dat1 V c).arrAt 3 cfg1.N = Dense.prod (V c main_v0) (V c main_arg3) (V c main_v5) := by
  refine (dat1 V c).arrAt_eq_of_covers 3 _ (by decide +kernel) fun t hf y => ?_
  blk_simp
  rw [after1_3]
  frame_out
  pointwise [k1_pay1, Dense.prod]
  have e0 : ∀ t : Fin cfg1.N, win1_0.index t = ![(grid1.coords t 0).val, 0] := by decide +kernel
  have e1 : ∀ t : Fin cfg1.N, win1_1.index t = ![0, 0] := by decide +kernel
  have e2 : ∀ t : Fin cfg1.N, win1_2.index t = ![0, 0] := by decide +kernel
  have e3 : ∀ t : Fin cfg1.N, win1_3.index t = ![(grid1.coords t 0).val, 0] := by decide +kernel
  blk_simp [iblk1]
  refine congrArg₂ (· + ·) (Finset.sum_congr rfl fun k _ => congrArg₂ (· * ·) ?_ ?_) ?_
  · congr 1; blk_ext [e0, e3]
  · congr 1; blk_ext [e1, e3]
  · congr 1; blk_ext [e2, e3]

end Cert.KernelIdeal.Gen
-- ==== Proof.Product2.lean ====
module

public import proofs.«01_k».proof.Proof.Gen.KernelIdeal.Frame.Region2
public import proofs.«01_k».proof.Proof.Dense

@[expose] public section

set_option maxRecDepth 16384

/-!
# The third product: the attention logits

Each of the region's five points writes 2176 rows of the product; together they write all of it.
-/

noncomputable section

namespace Cert.KernelIdeal.Gen

open Idealize.ShloMosaic Idealize.ShloMosaic.TcCoe

/-- What region 2 leaves in its output array, from what the arrays hold when it is entered. -/
theorem arr2 (V : (c : Dev nD) → (b : Ref sig .tc) → Buf (Elt Ideal) ((c : Thread nD τ).loc b)) (c : Dev nD) :
    (dat2 V c).arrAt 3 cfg2.N = Dense.prod (V c main_v0) (V c main_arg5) (V c main_v8) := by
  refine (dat2 V c).arrAt_eq_of_covers 3 _ (by decide +kernel) fun t hf y => ?_
  blk_simp
  rw [after2_3]
  frame_out
  pointwise [k2_pay1, Dense.prod]
  have e0 : ∀ t : Fin cfg2.N, win2_0.index t = ![(grid2.coords t 0).val, 0] := by decide +kernel
  have e1 : ∀ t : Fin cfg2.N, win2_1.index t = ![0, 0] := by decide +kernel
  have e2 : ∀ t : Fin cfg2.N, win2_2.index t = ![0, 0] := by decide +kernel
  have e3 : ∀ t : Fin cfg2.N, win2_3.index t = ![(grid2.coords t 0).val, 0] := by decide +kernel
  blk_simp [iblk2]
  refine congrArg₂ (· + ·) (Finset.sum_congr rfl fun k _ => congrArg₂ (· * ·) ?_ ?_) ?_
  · congr 1; blk_ext [e0, e3]
  · congr 1; blk_ext [e1, e3]
  · congr 1; blk_ext [e2, e3]

end Cert.KernelIdeal.Gen
-- ==== Proof.Entry.lean ====
module

public import proofs.«01_k».proof.Proof.Product0
public import proofs.«01_k».proof.Proof.Product1
public import proofs.«01_k».proof.Proof.Product2
public import proofs.«01_k».proof.Proof.Gen.KernelIdeal.Frame.Fold0

@[expose] public section

set_option maxRecDepth 16384

/-!
# The three projections, when the sampling begins

What the kernel's program has computed before the stretch of host operations that samples: the values, the sampling offsets and
the attention logits, each a product of an argument's rows, in the axes the sampling uses.
-/

noncomputable section

namespace Cert.KernelIdeal.Gen

open Idealize.ShloMosaic Idealize.ShloMosaic.TcCoe Idealize.ShloMosaic.StableHlo

variable (m : (ℓ : Loc nD τ sig) → Buf (Elt Ideal) ℓ) (ρ : Dev nD → PrngReg) (c : Dev nD)

/-- The values, by head. -/
theorem values_at_entry : W6 m ρ c (Proc.devRef .tc main_v4) =
    shapeCast S2x5440x8x32 (Dense.prod (shapeCast S10880x256 (m ((c : Thread nD τ).loc main_arg2)) shapeCasts_S2x5440x256_S10880x256)
      (m ((c : Thread nD τ).loc main_arg7)) (shapeCast S1x256 (m ((c : Thread nD τ).loc main_arg8)) shapeCasts_S256_S1x256))
      shapeCasts_S10880x256_S2x5440x8x32 := by
  have x : V1 m ρ c main_v1 = shapeCast S10880x256 (m ((c : Thread nD τ).loc main_arg2)) shapeCasts_S2x5440x256_S10880x256 := by
    show StableHlo.after hostOps0 (W0 m ρ c) (Proc.devRef .tc main_v1) = _
    after_results
    rfl
  have b : V1 m ρ c main_v2 = shapeCast S1x256 (m ((c : Thread nD τ).loc main_arg8)) shapeCasts_S256_S1x256 := by
    show StableHlo.after hostOps0 (W0 m ρ c) (Proc.devRef .tc main_v2) = _
    after_results
    rfl
  have y : W2 m ρ c (Proc.devRef .tc main_v3) = _ := (W2_arr m ρ c 3).trans (arr0 (V1 m ρ) c)
  rw [x, b, show V1 m ρ c main_arg7 = _ from W1_args m ρ c main_arg7 (by decide)] at y
  rw [W6_of m ρ c main_v4 (by decide), W5_of m ρ c main_v4 (by decide), W4_of m ρ c main_v4 (by decide)]
  show StableHlo.after hostOps1 (W2 m ρ c) (Proc.devRef .tc main_v4) = _
  after_results
  rw [y]
  rfl

/-- The queries, one row each, are there from the first stretch on. -/
theorem queries_at_entry : V1 m ρ c main_v0 =
    shapeCast S10880x256 (m ((c : Thread nD τ).loc main_arg0)) shapeCasts_S2x5440x256_S10880x256 := by
  show StableHlo.after hostOps0 (W0 m ρ c) (Proc.devRef .tc main_v0) = _
  after_results
  rfl

/-- The sampling offsets, by head, level, point and coordinate. -/
theorem offsets_at_entry : W6 m ρ c (Proc.devRef .tc main_v7) =
    shapeCast S2x5440x8x4x4x2 (Dense.prod (shapeCast S10880x256 (m ((c : Thread nD τ).loc main_arg0)) shapeCasts_S2x5440x256_S10880x256)
      (m ((c : Thread nD τ).loc main_arg3)) (shapeCast S1x256 (m ((c : Thread nD τ).loc main_arg4)) shapeCasts_S256_S1x256))
      shapeCasts_S10880x256_S2x5440x8x4x4x2 := by
  have x : V3 m ρ c main_v0 = _ :=
    (W3_of m ρ c main_v0 (by decide)).trans ((W2_of m ρ c main_v0 (by decide)).trans (queries_at_entry m ρ c))
  have b : V3 m ρ c main_v5 = shapeCast S1x256 (m ((c : Thread nD τ).loc main_arg4)) shapeCasts_S256_S1x256 := by
    rw [← W2_args m ρ c main_arg4 (by decide)]
    show StableHlo.after hostOps1 (W2 m ρ c) (Proc.devRef .tc main_v5) = _
    after_results
    rfl
  have y : W4 m ρ c (Proc.devRef .tc main_v6) = _ := (W4_arr m ρ c 3).trans (arr1 (V3 m ρ) c)
  rw [x, b, show V3 m ρ c main_arg3 = _ from W3_args m ρ c main_arg3 (by decide)] at y
  rw [W6_of m ρ c main_v7 (by decide)]
  show StableHlo.after hostOps2 (W4 m ρ c) (Proc.devRef .tc main_v7) = _
  after_results
  rw [y]
  rfl

/-- The attention logits, as one matrix of all rows. -/
theorem logits_at_entry : W6 m ρ c (Proc.devRef .tc main_v9) =
    Dense.prod (shapeCast S10880x256 (m ((c : Thread nD τ).loc main_arg0)) shapeCasts_S2x5440x256_S10880x256)
      (m ((c : Thread nD τ).loc main_arg5)) (shapeCast S1x128 (m ((c : Thread nD τ).loc main_arg6)) shapeCasts_S128_S1x128) := by
  have x : V5 m ρ c main_v0 = _ :=
    (W5_of m ρ c main_v0 (by decide)).trans ((W4_of m ρ c main_v0 (by decide)).trans
      ((W3_of m ρ c main_v0 (by decide)).trans ((W2_of m ρ c main_v0 (by decide)).trans (queries_at_entry m ρ c))))
  have b : V5 m ρ c main_v8 = shapeCast S1x128 (m ((c : Thread nD τ).loc main_arg6)) shapeCasts_S128_S1x128 := by
    rw [← W4_args m ρ c main_arg6 (by decide)]
    show StableHlo.after hostOps2 (W4 m ρ c) (Proc.devRef .tc main_v8) = _
    after_results
    rfl
  have y : W6 m ρ c (Proc.devRef .tc main_v9) = _ := (W6_arr m ρ c 3).trans (arr2 (V5 m ρ) c)
  rw [x, b, show V5 m ρ c main_arg5 = _ from W5_args m ρ c main_arg5 (by decide)] at y
  exact y

end Cert.KernelIdeal.Gen
-- ==== Proof.Sim.lean ====
module

public import Idealize.ShloMosaic.Lib.StableHlo.Run

@[expose] public section

/-!
# Two straight lines of host operations, run side by side

The kernel's program and the reference apply the same host operations between their matrix products, each on its own buffers.
This module says what it means for two valuations to agree on the buffers written so far, and shows that one
operation on each side, the same function of buffers that agree, keeps them in agreement. A list of such pairs then keeps
them in agreement by induction, whatever the operations are.
-/

namespace Cert.Sim

open Idealize.ShloMosaic Idealize.ShloMosaic.TcCoe Idealize.ShloMosaic.StableHlo

variable {τ τ' : Topo} {s s' : RefSig} {Val : EltTy → Type}

/-- Buffer number `i` of the first program holds what buffer number `j` of the second does, once both programs have written
    their buffers below `n`: from number 28 on the numbers are the same, and two buffers written before that are paired by
    hand. -/
def pairs (n i j : Nat) : Bool :=
  (Nat.ble 28 i && Nat.blt i n && Nat.beq j i) || (Nat.beq i 16 && Nat.beq j 15) || (Nat.beq i 22 && Nat.beq j 23)

/-- The pairing, for two references: both in device memory, their numbers paired. -/
def rel (n : Nat) (a : Ref s .tc) (b : Ref s' .tc) : Prop :=
  a.space = .hbm ∧ b.space = .hbm ∧ pairs n a.idx.val b.idx.val = true

/-- The buffers the operations of step `n` write. -/
def out (n : Nat) (a : Ref s .tc) (b : Ref s' .tc) : Prop :=
  a.space = .hbm ∧ b.space = .hbm ∧ (Nat.beq a.idx.val n && Nat.beq b.idx.val n && Nat.ble 28 n) = true

/-- Two valuations agree on every pair of buffers. -/
def Agree (n : Nat) (V : Valuation τ s Val) (V' : Valuation τ' s' Val) : Prop :=
  ∀ a b, rel n a b → HEq (V (Proc.devRef .tc a)) (V' (Proc.devRef .tc b))

/-- One operation on each side keeps the agreement, and adds the two buffers written to it. -/
def Step (n : Nat) (op : HloOp τ s Val) (op' : HloOp τ' s' Val) : Prop :=
  ∀ V V', Agree n V V' → Agree (n + 1) (op.result V) (op'.result V')

/-- Two lists of operations, step by step. -/
def Steps : Nat → List (HloOp τ s Val) → List (HloOp τ' s' Val) → Prop
  | _, [], [] => True
  | n, a :: ks, b :: rs => Step n a b ∧ Steps (n + 1) ks rs
  | _, _, _ => False

theorem Steps.nil (n : Nat) : Steps n ([] : List (HloOp τ s Val)) ([] : List (HloOp τ' s' Val)) := trivial

theorem Steps.cons {n : Nat} {a : HloOp τ s Val} {b : HloOp τ' s' Val} {ks rs} (h : Step n a b) (t : Steps (n + 1) ks rs) :
    Steps n (a :: ks) (b :: rs) := ⟨h, t⟩

/-- Steps on two lists, then on two more. -/
theorem Steps.append : ∀ {n : Nat} {ks as₂ : List (HloOp τ s Val)} {rs bs₂ : List (HloOp τ' s' Val)},
    Steps n ks rs → Steps (n + ks.length) as₂ bs₂ → Steps n (ks ++ as₂) (rs ++ bs₂)
  | _, [], _, [], _, _, h => by simpa using h
  | n, a :: ks, _, b :: rs, _, h, h' => by
    refine ⟨h.1, Steps.append h.2 ?_⟩
    rw [List.length_cons] at h'
    rw [Nat.add_assoc, Nat.add_comm 1]
    exact h'

/-- Two lists that step together keep the agreement from their first step to their last. -/
theorem Steps.after : ∀ {n : Nat} {ks : List (HloOp τ s Val)} {rs : List (HloOp τ' s' Val)}, Steps n ks rs →
    ∀ {V : Valuation τ s Val} {V' : Valuation τ' s' Val}, Agree n V V' →
      Agree (n + ks.length) (StableHlo.after ks V) (StableHlo.after rs V')
  | _, [], [], _, _, _, h => h
  | n, a :: ks, b :: rs, hs, V, V', h => by
    have := Steps.after hs.2 (hs.1 V V' h)
    rw [List.length_cons, Nat.add_comm ks.length, ← Nat.add_assoc]
    exact this

/-- A reference is known by its memory space and its number there. -/
theorem ref_eq {a b : Ref s .tc} (h : a.space = b.space) (hi : a.idx.val = b.idx.val) : a = b := by
  obtain ⟨sa, ia, na⟩ := a
  obtain ⟨sb, ib, nb⟩ := b
  dsimp only at h hi
  subst h
  have : ia = ib := Fin.ext hi
  subst this
  rfl

/-- The step, from what the two operations leave at the buffers they write and elsewhere. -/
theorem Step.of {n : Nat} {op : HloOp τ s Val} {op' : HloOp τ' s' Val} {y : Ref s .tc} {y' : Ref s' .tc} (ho : out n y y')
    (h : ∀ V V', Agree n V V' → HEq (op.result V (Proc.devRef .tc y)) (op'.result V' (Proc.devRef .tc y')))
    (hw : op.writes = {Proc.devRef .tc y}) (hw' : op'.writes = {Proc.devRef .tc y'}) : Step n op op' := by
  intro V V' hA a b hr
  obtain ⟨hs, hs', hn⟩ := ho
  simp only [Bool.and_eq_true, Nat.beq_eq] at hn
  obtain ⟨⟨hn, hn'⟩, hl⟩ := hn
  have hl := Nat.le_of_ble_eq_true hl
  obtain ⟨ha, hb, hp⟩ := hr
  by_cases e : a.idx.val = n
  · have ea : a = y := ref_eq (ha.trans hs.symm) (e.trans hn.symm)
    have eb : b = y' := by
      refine ref_eq (hb.trans hs'.symm) ?_
      simp only [pairs, Bool.or_eq_true, Bool.and_eq_true, Nat.beq_eq, Nat.ble_eq, Nat.blt_eq] at hp
      omega
    subst ea eb
    exact h V V' hA
  · have ea : a ≠ y := fun h => e (by rw [h]; exact hn)
    have hp' : pairs n a.idx.val b.idx.val = true := by
      simp only [pairs, Bool.or_eq_true, Bool.and_eq_true, Nat.beq_eq, Nat.ble_eq, Nat.blt_eq] at hp ⊢
      omega
    have eb : b ≠ y' := fun h => by
      have h2 : b.idx.val = n := by rw [h]; exact hn'
      simp only [pairs, Bool.or_eq_true, Bool.and_eq_true, Nat.beq_eq, Nat.ble_eq, Nat.blt_eq] at hp
      omega
    rw [result_of_writes_ne op V y a hw ea, result_of_writes_ne op' V' y' b hw' eb]
    exact hA a b ⟨ha, hb, hp'⟩

/-- One function, read at two types that are the same, applied to one argument read at two types that are the same. -/
theorem heq_app {A A' B B' T U : Type} (eA : A = T) (eA' : A' = T) (eB : B = U) (eB' : B' = U) {f : A → B} {f' : A' → B'}
    {g : T → U} (hf : HEq f g) (hf' : HEq f' g) {x : A} {x' : A'} (h : HEq x x') : HEq (f x) (f' x') := by
  subst eA eA' eB eB'; cases hf; cases hf'; cases h; rfl

/-- The same for a function of two arguments. -/
theorem heq_app₂ {A A' B B' C C' T U R : Type} (eA : A = T) (eA' : A' = T) (eB : B = U) (eB' : B' = U) (eC : C = R)
    (eC' : C' = R) {f : A → B → C} {f' : A' → B' → C'} {g : T → U → R} (hf : HEq f g) (hf' : HEq f' g) {x : A} {x' : A'}
    (h : HEq x x') {y : B} {y' : B'} (h' : HEq y y') : HEq (f x y) (f' x' y') := by
  subst eA eA' eB eB' eC eC'; cases hf; cases hf'; cases h; cases h'; rfl

/-- The same for a function of three arguments. -/
theorem heq_app₃ {A A' B B' C C' D D' T U R S : Type} (eA : A = T) (eA' : A' = T) (eB : B = U) (eB' : B' = U) (eC : C = R)
    (eC' : C' = R) (eD : D = S) (eD' : D' = S) {f : A → B → C → D} {f' : A' → B' → C' → D'} {g : T → U → R → S}
    (hf : HEq f g) (hf' : HEq f' g) {x : A} {x' : A'} (h : HEq x x') {y : B} {y' : B'} (h' : HEq y y') {z : C} {z' : C'}
    (h'' : HEq z z') : HEq (f x y z) (f' x' y' z') := by
  subst eA eA' eB eB' eC eC' eD eD'; cases hf; cases hf'; cases h; cases h'; cases h''; rfl

/-- One array reshaped on both sides, the types the same on both. -/
theorem heq_reshape {A A' B B' T U : BufTy} (eA : A = T) (eA' : A' = T) (eB : B = U) (eB' : B' = U) {x : A.Contents Val}
    {x' : A'.Contents Val} (h : HEq x x') (he : A.elt = B.elt) (he' : A'.elt = B'.elt) (hn : A.shape.ShapeCasts B.shape)
    (hn' : A'.shape.ShapeCasts B'.shape) :
    HEq (α := B.Contents Val) (fun i => he ▸ shapeCast B.shape x hn i) (β := B'.Contents Val)
      (fun i => he' ▸ shapeCast B'.shape x' hn' i) := by
  subst eA eA' eB eB'; cases h; rfl

/-- The types of two buffers, both the type `T`. -/
def tys (a : Ref s .tc) (b : Ref s' .tc) (T : BufTy) : Prop := a.ty = T ∧ b.ty = T

section
variable {n : Nat} {S Sx Sa Sb Sc : Shape} {E Ex Ea Eb Ec : EltTy}

/-! The step of each kind of operation. The buffers' places and types are read off by evaluation, and so is the one function
that both operations apply. -/

/-- Two operations without an operand. -/
theorem step_nullary {y : Ref s .tc} {y' : Ref s' .tc} {v : y.ty.Contents Val} {v' : y'.ty.Contents Val} {hy hy'}
    (ho : out n y y' := by exact ⟨rfl, rfl, rfl⟩) (hv : HEq v v' := by exact HEq.rfl) :
    Step n (nullary (τ := τ) y v hy) (nullary (τ := τ') y' v' hy') :=
  Step.of ho (fun V V' _ => by rw [nullary_result, nullary_result]; exact hv) rfl rfl

/-- Two operations with one operand. -/
theorem step_unary {x y : Ref s .tc} {x' y' : Ref s' .tc} {f : x.ty.Contents Val → y.ty.Contents Val}
    {f' : x'.ty.Contents Val → y'.ty.Contents Val} {hx hy hx' hy'} {g : BufTy.Contents Val ⟨Sx, Ex⟩ → BufTy.Contents Val ⟨S, E⟩}
    (hr : rel n x x' := by exact ⟨rfl, rfl, rfl⟩) (ho : out n y y' := by exact ⟨rfl, rfl, rfl⟩)
    (tx : tys x x' ⟨Sx, Ex⟩ := by exact ⟨rfl, rfl⟩) (ty : tys y y' ⟨S, E⟩ := by exact ⟨rfl, rfl⟩)
    (hf : HEq f g := by exact HEq.rfl) (hf' : HEq f' g := by exact HEq.rfl) :
    Step n (unary (τ := τ) x y f hx hy) (unary (τ := τ') x' y' f' hx' hy') :=
  Step.of ho (fun V V' hA => by
    rw [unary_result, unary_result]
    exact heq_app (congrArg (·.Contents Val) tx.1) (congrArg (·.Contents Val) tx.2) (congrArg (·.Contents Val) ty.1)
      (congrArg (·.Contents Val) ty.2) hf hf' (hA x x' hr)) rfl rfl

/-- Two operations with two operands. -/
theorem step_binary {a b y : Ref s .tc} {a' b' y' : Ref s' .tc} {f : a.ty.Contents Val → b.ty.Contents Val → y.ty.Contents Val}
    {f' : a'.ty.Contents Val → b'.ty.Contents Val → y'.ty.Contents Val} {ha hb hy ha' hb' hy'}
    {g : BufTy.Contents Val ⟨Sa, Ea⟩ → BufTy.Contents Val ⟨Sb, Eb⟩ → BufTy.Contents Val ⟨S, E⟩}
    (hr : rel n a a' := by exact ⟨rfl, rfl, rfl⟩) (hr₂ : rel n b b' := by exact ⟨rfl, rfl, rfl⟩)
    (ho : out n y y' := by exact ⟨rfl, rfl, rfl⟩) (ta : tys a a' ⟨Sa, Ea⟩ := by exact ⟨rfl, rfl⟩)
    (tb : tys b b' ⟨Sb, Eb⟩ := by exact ⟨rfl, rfl⟩) (ty : tys y y' ⟨S, E⟩ := by exact ⟨rfl, rfl⟩)
    (hf : HEq f g := by exact HEq.rfl) (hf' : HEq f' g := by exact HEq.rfl) :
    Step n (binary (τ := τ) a b y f ha hb hy) (binary (τ := τ') a' b' y' f' ha' hb' hy') :=
  Step.of ho (fun V V' hA => by
    rw [binary_result, binary_result]
    exact heq_app₂ (congrArg (·.Contents Val) ta.1) (congrArg (·.Contents Val) ta.2) (congrArg (·.Contents Val) tb.1)
      (congrArg (·.Contents Val) tb.2) (congrArg (·.Contents Val) ty.1) (congrArg (·.Contents Val) ty.2) hf hf'
      (hA a a' hr) (hA b b' hr₂)) rfl rfl

/-- Two operations with three operands. -/
theorem step_ternary {c a b y : Ref s .tc} {c' a' b' y' : Ref s' .tc}
    {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    {g : BufTy.Contents Val ⟨Sc, Ec⟩ → BufTy.Contents Val ⟨Sa, Ea⟩ → BufTy.Contents Val ⟨Sb, Eb⟩ → BufTy.Contents Val ⟨S, E⟩}
    (hr₀ : rel n c c' := by exact ⟨rfl, rfl, rfl⟩) (hr : rel n a a' := by exact ⟨rfl, rfl, rfl⟩)
    (hr₂ : rel n b b' := by exact ⟨rfl, rfl, rfl⟩) (ho : out n y y' := by exact ⟨rfl, rfl, rfl⟩)
    (tc : tys c c' ⟨Sc, Ec⟩ := by exact ⟨rfl, rfl⟩) (ta : tys a a' ⟨Sa, Ea⟩ := by exact ⟨rfl, rfl⟩)
    (tb : tys b b' ⟨Sb, Eb⟩ := by exact ⟨rfl, rfl⟩) (ty : tys y y' ⟨S, E⟩ := by exact ⟨rfl, rfl⟩)
    (hf : HEq f g := by exact HEq.rfl) (hf' : HEq f' g := by exact HEq.rfl) :
    Step n (ternary (τ := τ) c a b y f hc ha hb hy) (ternary (τ := τ') c' a' b' y' f' hc' ha' hb' hy') :=
  Step.of ho (fun V V' hA => by
    rw [ternary_result, ternary_result]
    exact heq_app₃ (congrArg (·.Contents Val) tc.1) (congrArg (·.Contents Val) tc.2) (congrArg (·.Contents Val) ta.1)
      (congrArg (·.Contents Val) ta.2) (congrArg (·.Contents Val) tb.1)
      (congrArg (·.Contents Val) tb.2) (congrArg (·.Contents Val) ty.1) (congrArg (·.Contents Val) ty.2) hf hf'
      (hA c c' hr₀) (hA a a' hr) (hA b b' hr₂)) rfl rfl

/-- Two reshapes. -/
theorem step_reshape {x y : Ref s .tc} {x' y' : Ref s' .tc} {he he' hn hn' hx hy hx' hy'}
    (hr : rel n x x' := by exact ⟨rfl, rfl, rfl⟩) (ho : out n y y' := by exact ⟨rfl, rfl, rfl⟩)
    (tx : tys x x' ⟨Sx, Ex⟩ := by exact ⟨rfl, rfl⟩) (ty : tys y y' ⟨S, E⟩ := by exact ⟨rfl, rfl⟩) :
    Step n (reshape (τ := τ) (Val := Val) x y he hn hx hy) (reshape (τ := τ') x' y' he' hn' hx' hy') :=
  Step.of ho (fun V V' hA => by
    rw [reshape_result, reshape_result]
    exact heq_reshape tx.1 tx.2 ty.1 ty.2 (hA x x' hr) he he' hn hn') rfl rfl

end

end Cert.Sim
-- ==== Proof.Start.lean ====
module

public import proofs.«01_k».proof.Proof.Entry
public import proofs.«01_k».proof.Proof.Sim
public import proofs.«01_k».proof.Proof.Gen.ReferenceIdeal.Run

@[expose] public section

set_option maxRecDepth 16384

/-!
# The two programs agree when the sampling begins

The kernel's program has its three projections, and the reference its own; these are equal, and so are the sampling locations
made of them. From here on the two apply the same operations.
-/

noncomputable section

namespace Cert.Start

open Idealize.ShloMosaic Idealize.ShloMosaic.TcCoe Idealize.ShloMosaic.StableHlo Cert.Sim

section pure

open Cert.KernelIdeal Cert.KernelIdeal.Gen

/-- An array of 256 features for every query, projected to 256 columns. -/
def wide (x : FVec Ideal S2x5440x256 .f32) (w : FVec Ideal S256x256 .f32) (b : FVec Ideal S256 .f32) :
    FVec Ideal S2x5440x256 .f32 :=
  addf (F := Ideal) (Host.dotGeneral (φ₁ := .f32) (φ₂ := .f32)
      ReferenceIdeal.dot_S2x5440x256_S256x256_S2x5440x256_2_0_01_1_n_n none x w)
    (broadcastInDim S2x5440x256 ![2] ReferenceIdeal.Gen.bcast_S256_S2x5440x256_2 b)

/-- The same, projected to 128 columns. -/
def narrow (x : FVec Ideal S2x5440x256 .f32) (w : FVec Ideal S256x128 .f32) (b : FVec Ideal S128 .f32) :
    FVec Ideal ReferenceIdeal.S2x5440x128 .f32 :=
  addf (F := Ideal) (Host.dotGeneral (φ₁ := .f32) (φ₂ := .f32)
      ReferenceIdeal.dot_S2x5440x256_S256x128_S2x5440x128_2_0_01_1_n_n none x w)
    (broadcastInDim ReferenceIdeal.S2x5440x128 ![2] ReferenceIdeal.Gen.bcast_S128_S2x5440x128_2 b)

/-- The sides of the four levels, a width and a height for each. -/
def sides : FVec Ideal S4x2 .f32 := fun i => FloatOps.ofBits (F := Ideal) .f32 (lit0 (S4x2.rowMajor i))

/-- The sampling locations: the reference points, and the offsets divided by the levels' sides. -/
def locations (p : FVec Ideal S2x5440x4x2 .f32) (o : FVec Ideal S2x5440x8x4x4x2 .f32) : FVec Ideal S2x5440x8x4x4x2 .f32 :=
  addf (F := Ideal) (broadcastInDim S2x5440x8x4x4x2 ![0, 1, 3, 5] ReferenceIdeal.Gen.bcast_S2x5440x4x2_S2x5440x8x4x4x2_0_1_3_5 p)
    (Host.divf (F := Ideal) o (broadcastInDim S2x5440x8x4x4x2 ![0, 1, 2, 3, 4, 5] bcast_S1x1x1x4x1x2_S2x5440x8x4x4x2_0_1_2_3_4_5
      (broadcastInDim S1x1x1x4x1x2 ![3, 5] bcast_S4x2_S1x1x1x4x1x2_3_5 sides)))

/-- The reference points broadcast in two steps are broadcast in one. -/
theorem points (p : FVec Ideal S2x5440x4x2 .f32) :
    broadcastInDim S2x5440x8x4x4x2 ![0, 1, 2, 3, 4, 5] bcast_S2x5440x1x4x1x2_S2x5440x8x4x4x2_0_1_2_3_4_5
      (broadcastInDim S2x5440x1x4x1x2 ![0, 1, 3, 5] bcast_S2x5440x4x2_S2x5440x1x4x1x2_0_1_3_5 p) =
    broadcastInDim S2x5440x8x4x4x2 ![0, 1, 3, 5] ReferenceIdeal.Gen.bcast_S2x5440x4x2_S2x5440x8x4x4x2_0_1_3_5 p := by
  funext j
  pointwise

end pure

section kernel

open Cert.KernelIdeal Cert.KernelIdeal.Gen

variable (m : (ℓ : Loc nD τ sig) → Buf (Elt Ideal) ℓ) (ρ : Dev nD → PrngReg) (c : Dev nD)

/-- What the kernel's buffers hold once it has the sampling locations. -/
abbrev K : Valuation τ sig (Elt Ideal) := after (hostOps3.take 7) (W6 m ρ c)

/-- The kernel's values. -/
theorem K_values : K m ρ c (Proc.devRef .tc main_v4) =
    shapeCast S2x5440x8x32 (wide (m ((c : Thread nD τ).loc main_arg2)) (m ((c : Thread nD τ).loc main_arg7))
      (m ((c : Thread nD τ).loc main_arg8))) ReferenceIdeal.Gen.shapeCasts_S2x5440x256_S2x5440x8x32 := by
  have e : K m ρ c (Proc.devRef .tc main_v4) = W6 m ρ c (Proc.devRef .tc main_v4) := by
    show after [_, _, _, _, _, _, _] _ _ = _
    after_results
  rw [e, values_at_entry, wide, ← Dense.prod_256 _ _ _ shapeCasts_S2x5440x256_S10880x256 shapeCasts_S256_S1x256
    shapeCasts_S10880x256_S2x5440x256]
  exact (Dense.shapeCast_trans _ _ _ _).symm

/-- The kernel's sampling offsets. -/
theorem offsets : W6 m ρ c (Proc.devRef .tc main_v7) =
    shapeCast S2x5440x8x4x4x2 (wide (m ((c : Thread nD τ).loc main_arg0)) (m ((c : Thread nD τ).loc main_arg3))
      (m ((c : Thread nD τ).loc main_arg4))) ReferenceIdeal.Gen.shapeCasts_S2x5440x256_S2x5440x8x4x4x2 := by
  rw [offsets_at_entry, wide, ← Dense.prod_256 _ _ _ shapeCasts_S2x5440x256_S10880x256 shapeCasts_S256_S1x256
    shapeCasts_S10880x256_S2x5440x256]
  exact (Dense.shapeCast_trans _ _ _ _).symm

/-- The kernel's attention logits. -/
theorem K_logits : K m ρ c (Proc.devRef .tc main_v10) =
    shapeCast S2x5440x8x16 (narrow (m ((c : Thread nD τ).loc main_arg0)) (m ((c : Thread nD τ).loc main_arg5))
      (m ((c : Thread nD τ).loc main_arg6))) ReferenceIdeal.Gen.shapeCasts_S2x5440x128_S2x5440x8x16 := by
  have e : K m ρ c (Proc.devRef .tc main_v10) =
      shapeCast S2x5440x8x16 (W6 m ρ c (Proc.devRef .tc main_v9)) shapeCasts_S10880x128_S2x5440x8x16 := by
    show after [_, _, _, _, _, _, _] _ _ = _
    after_results
    rfl
  rw [e, logits_at_entry, narrow, ← Dense.prod_128 _ _ _ shapeCasts_S2x5440x256_S10880x256 shapeCasts_S128_S1x128
    (by decide)]
  exact (Dense.shapeCast_trans _ _ _ _).symm

/-- The levels' sides are written first and kept. -/
theorem K_sides : W6 m ρ c (Proc.devRef .tc main_cst) = sides := by
  rw [W6_of m ρ c main_cst (by decide), W5_of m ρ c main_cst (by decide), W4_of m ρ c main_cst (by decide),
    W3_of m ρ c main_cst (by decide), W2_of m ρ c main_cst (by decide)]
  show after hostOps0 _ _ = _
  after_results
  rfl

/-- The kernel's sampling locations. -/
theorem K_locations : K m ρ c (Proc.devRef .tc main_v16) =
    locations (m ((c : Thread nD τ).loc main_arg1))
      (shapeCast S2x5440x8x4x4x2 (wide (m ((c : Thread nD τ).loc main_arg0)) (m ((c : Thread nD τ).loc main_arg3))
        (m ((c : Thread nD τ).loc main_arg4))) ReferenceIdeal.Gen.shapeCasts_S2x5440x256_S2x5440x8x4x4x2) := by
  rw [← offsets m ρ c, locations, ← K_sides m ρ c, ← points, ← W6_args m ρ c main_arg1 (by decide)]
  show after [_, _, _, _, _, _, _] _ _ = _
  after_results

end kernel

section reference

open Cert.ReferenceIdeal Cert.ReferenceIdeal.Gen

variable (V : Valuation τ sig (Elt Ideal))

/-- What the reference's buffers hold at the same place. -/
abbrev R : Valuation τ sig (Elt Ideal) := after (Value.ops_part0.take 18) V

/-- The reference's values. -/
theorem R_values : R V (Proc.devRef .tc main_v3) =
    shapeCast S2x5440x8x32 (wide (V (Proc.devRef .tc main_arg2)) (V (Proc.devRef .tc main_arg7)) (V (Proc.devRef .tc main_arg8)))
      shapeCasts_S2x5440x256_S2x5440x8x32 := by
  show after [_, _, _, _, _, _, _, _, _, _, _, _, _, _, _, _, _, _] _ _ = _
  after_results
  rfl

/-- The reference's attention logits. -/
theorem R_logits : R V (Proc.devRef .tc main_v11) =
    shapeCast S2x5440x8x16 (narrow (V (Proc.devRef .tc main_arg0)) (V (Proc.devRef .tc main_arg5)) (V (Proc.devRef .tc main_arg6)))
      shapeCasts_S2x5440x128_S2x5440x8x16 := by
  show after [_, _, _, _, _, _, _, _, _, _, _, _, _, _, _, _, _, _] _ _ = _
  after_results
  rfl

/-- The reference's sampling locations. -/
theorem R_locations : R V (Proc.devRef .tc main_v16) =
    locations (V (Proc.devRef .tc main_arg1))
      (shapeCast S2x5440x8x4x4x2 (wide (V (Proc.devRef .tc main_arg0)) (V (Proc.devRef .tc main_arg3))
        (V (Proc.devRef .tc main_arg4))) shapeCasts_S2x5440x256_S2x5440x8x4x4x2) := by
  show after [_, _, _, _, _, _, _, _, _, _, _, _, _, _, _, _, _, _] _ _ = _
  after_results
  rfl

end reference

/-- Two things, each equal to a value of one type, are equal when the values are. -/
theorem glue {A B T : Type} {a : A} {b : B} {x y : T} (ha : HEq a x) (hb : HEq b y) (h : x = y) : HEq a b :=
  ha.trans ((heq_of_eq h).trans hb.symm)

variable (m : (ℓ : Loc KernelIdeal.nD KernelIdeal.τ KernelIdeal.sig) → Buf (Elt Ideal) ℓ) (ρ : Dev KernelIdeal.nD → PrngReg)
  (c : Dev KernelIdeal.nD) (V : Valuation ReferenceIdeal.τ ReferenceIdeal.sig (Elt Ideal))

/-- Agreement at the beginning, from the three pairs of buffers that the sampling reads. -/
theorem agree_of (values : HEq (K m ρ c (Proc.devRef .tc KernelIdeal.main_v4)) (R V (Proc.devRef .tc ReferenceIdeal.main_v3)))
    (logits : HEq (K m ρ c (Proc.devRef .tc KernelIdeal.main_v10)) (R V (Proc.devRef .tc ReferenceIdeal.main_v11)))
    (locations : HEq (K m ρ c (Proc.devRef .tc KernelIdeal.main_v16)) (R V (Proc.devRef .tc ReferenceIdeal.main_v16))) :
    Agree 29 (K m ρ c) (R V) := by
  rintro a b ⟨ha, hb, hp⟩
  simp only [pairs, Bool.or_eq_true, Bool.and_eq_true, Nat.beq_eq, Nat.ble_eq, Nat.blt_eq] at hp
  rcases hp with (⟨⟨hl, hu⟩, hj⟩ | ⟨hi, hj⟩) | ⟨hi, hj⟩
  · rw [ref_eq (b := KernelIdeal.main_v16) ha (show a.idx.val = 28 by omega),
      ref_eq (b := ReferenceIdeal.main_v16) hb (show b.idx.val = 28 by omega)]
    exact locations
  · rw [ref_eq (b := KernelIdeal.main_v4) ha hi, ref_eq (b := ReferenceIdeal.main_v3) hb hj]
    exact values
  · rw [ref_eq (b := KernelIdeal.main_v10) ha hi, ref_eq (b := ReferenceIdeal.main_v11) hb hj]
    exact logits

/-- From arguments that agree, the values agree. -/
theorem values (h2 : (V (Proc.devRef .tc ReferenceIdeal.main_arg2) : FVec Ideal KernelIdeal.S2x5440x256 .f32) =
      m ((c : Thread KernelIdeal.nD KernelIdeal.τ).loc KernelIdeal.main_arg2))
    (h7 : (V (Proc.devRef .tc ReferenceIdeal.main_arg7) : FVec Ideal KernelIdeal.S256x256 .f32) =
      m ((c : Thread KernelIdeal.nD KernelIdeal.τ).loc KernelIdeal.main_arg7))
    (h8 : (V (Proc.devRef .tc ReferenceIdeal.main_arg8) : FVec Ideal KernelIdeal.S256 .f32) =
      m ((c : Thread KernelIdeal.nD KernelIdeal.τ).loc KernelIdeal.main_arg8)) :
    HEq (K m ρ c (Proc.devRef .tc KernelIdeal.main_v4)) (R V (Proc.devRef .tc ReferenceIdeal.main_v3)) :=
  glue (heq_of_eq (K_values m ρ c)) (heq_of_eq (R_values V))
    (congrArg (fun v => shapeCast KernelIdeal.S2x5440x8x32 v ReferenceIdeal.Gen.shapeCasts_S2x5440x256_S2x5440x8x32)
      ((congr (congrArg₂ wide h2 h7) h8).symm))

/-- From arguments that agree, the attention logits agree. -/
theorem logits (h0 : (V (Proc.devRef .tc ReferenceIdeal.main_arg0) : FVec Ideal KernelIdeal.S2x5440x256 .f32) =
      m ((c : Thread KernelIdeal.nD KernelIdeal.τ).loc KernelIdeal.main_arg0))
    (h5 : (V (Proc.devRef .tc ReferenceIdeal.main_arg5) : FVec Ideal KernelIdeal.S256x128 .f32) =
      m ((c : Thread KernelIdeal.nD KernelIdeal.τ).loc KernelIdeal.main_arg5))
    (h6 : (V (Proc.devRef .tc ReferenceIdeal.main_arg6) : FVec Ideal KernelIdeal.S128 .f32) =
      m ((c : Thread KernelIdeal.nD KernelIdeal.τ).loc KernelIdeal.main_arg6)) :
    HEq (K m ρ c (Proc.devRef .tc KernelIdeal.main_v10)) (R V (Proc.devRef .tc ReferenceIdeal.main_v11)) :=
  glue (heq_of_eq (K_logits m ρ c)) (heq_of_eq (R_logits V))
    (congrArg (fun v => shapeCast KernelIdeal.S2x5440x8x16 v ReferenceIdeal.Gen.shapeCasts_S2x5440x128_S2x5440x8x16)
      ((congr (congrArg₂ narrow h0 h5) h6).symm))

/-- From arguments that agree, the sampling locations agree. -/
theorem locations_eq (h0 : (V (Proc.devRef .tc ReferenceIdeal.main_arg0) : FVec Ideal KernelIdeal.S2x5440x256 .f32) =
      m ((c : Thread KernelIdeal.nD KernelIdeal.τ).loc KernelIdeal.main_arg0))
    (h1 : (V (Proc.devRef .tc ReferenceIdeal.main_arg1) : FVec Ideal KernelIdeal.S2x5440x4x2 .f32) =
      m ((c : Thread KernelIdeal.nD KernelIdeal.τ).loc KernelIdeal.main_arg1))
    (h3 : (V (Proc.devRef .tc ReferenceIdeal.main_arg3) : FVec Ideal KernelIdeal.S256x256 .f32) =
      m ((c : Thread KernelIdeal.nD KernelIdeal.τ).loc KernelIdeal.main_arg3))
    (h4 : (V (Proc.devRef .tc ReferenceIdeal.main_arg4) : FVec Ideal KernelIdeal.S256 .f32) =
      m ((c : Thread KernelIdeal.nD KernelIdeal.τ).loc KernelIdeal.main_arg4)) :
    HEq (K m ρ c (Proc.devRef .tc KernelIdeal.main_v16)) (R V (Proc.devRef .tc ReferenceIdeal.main_v16)) :=
  glue (heq_of_eq (K_locations m ρ c)) (heq_of_eq (R_locations V))
    (congrArg₂ locations h1.symm (congrArg (fun v => shapeCast KernelIdeal.S2x5440x8x4x4x2 v
        ReferenceIdeal.Gen.shapeCasts_S2x5440x256_S2x5440x8x4x4x2) ((congr (congrArg₂ wide h0 h3) h4).symm)))

end Cert.Start
-- ==== Proof.Product3.lean ====
module

public import proofs.«01_k».proof.Proof.Gen.KernelIdeal.Frame.Region3
public import proofs.«01_k».proof.Proof.Dense

@[expose] public section

set_option maxRecDepth 16384
set_option maxHeartbeats 4000000

/-!
# The last product: the output

Each of the region's five points writes 2176 rows of the product; together they write all of it.
-/

noncomputable section

namespace Cert.KernelIdeal.Gen

open Idealize.ShloMosaic Idealize.ShloMosaic.TcCoe

/-- What region 3 leaves in its output array, from what the arrays hold when it is entered. -/
theorem arr3 (V : (c : Dev nD) → (b : Ref sig .tc) → Buf (Elt Ideal) ((c : Thread nD τ).loc b)) (c : Dev nD) :
    (dat3 V c).arrAt 3 cfg3.N = Dense.prod (V c main_v752) (V c main_arg9) (V c main_v753) := by
  refine (dat3 V c).arrAt_eq_of_covers 3 _ (by decide +kernel) fun t hf y => ?_
  blk_simp
  rw [after3_3]
  frame_out
  pointwise [k3_pay1, Dense.prod]
  have e0 : ∀ t : Fin cfg3.N, win3_0.index t = ![(grid3.coords t 0).val, 0] := by decide +kernel
  have e1 : ∀ t : Fin cfg3.N, win3_1.index t = ![0, 0] := by decide +kernel
  have e2 : ∀ t : Fin cfg3.N, win3_2.index t = ![0, 0] := by decide +kernel
  have e3 : ∀ t : Fin cfg3.N, win3_3.index t = ![(grid3.coords t 0).val, 0] := by decide +kernel
  blk_simp [iblk3]
  refine congrArg₂ (· + ·) (Finset.sum_congr rfl fun k _ => congrArg₂ (· * ·) ?_ ?_) ?_
  · congr 1; blk_ext [e0, e3]
  · congr 1; blk_ext [e1, e3]
  · congr 1; blk_ext [e2, e3]

end Cert.KernelIdeal.Gen
-- ==== Proof.Level0Near.lean ====
module

public import proofs.«01_k».proof.Proof.Sim
public import proofs.«01_k».proof.Proof.Gen.KernelIdeal.Launch
public import proofs.«01_k».proof.Proof.Gen.ReferenceIdeal.Run
public import Idealize.ShloMosaic.PureOps.Ideal

@[expose] public section

set_option maxRecDepth 16384
set_option maxHeartbeats 40000000

/-! # The sampling of the first level: the softmax, and its bilinear weights and its first corner -/

noncomputable section

namespace Cert.Sim

open Idealize.ShloMosaic Idealize.ShloMosaic.StableHlo

section
open Cert.KernelIdeal Cert.KernelIdeal.Gen

/-- The kernel's operations for this part. -/
abbrev kernel0 : List (HloOp τ sig (Elt Ideal)) :=
    hostOps3.drop 7 ++ (hostOps3_1 ++ (hostOps3_2 ++ (hostOps3_3 ++ (hostOps3_4 ++ (hostOps3_5)))))

end

section
open Cert.ReferenceIdeal Cert.ReferenceIdeal.Value

/-- The reference's operations for this part. -/
abbrev reference0 : List (HloOp τ sig (Elt Ideal)) :=
    ops_part0.drop 18 ++ (ops_part1_0 ++ (ops_part1_1 ++ (ops_part1_2.take 13)))

end

/-- The two lists step together. -/
theorem steps0 : Steps 29 kernel0 reference0 := by
  repeat (refine Steps.cons ?_ ?_; · first | exact step_nullary | exact step_unary | exact step_binary | exact step_reshape | exact step_ternary)
  exact Steps.nil _

/-- The two parts keep the agreement. -/
theorem keep0 {V V'} (h : Agree 29 V V') : Agree 144 (after kernel0 V) (after reference0 V') :=
  (show 29 + kernel0.length = 144 from rfl) ▸ Steps.after steps0 h

end Cert.Sim
-- ==== Proof.Level0Far.lean ====
module

public import proofs.«01_k».proof.Proof.Sim
public import proofs.«01_k».proof.Proof.Gen.KernelIdeal.Launch
public import proofs.«01_k».proof.Proof.Gen.ReferenceIdeal.Run
public import Idealize.ShloMosaic.PureOps.Ideal

@[expose] public section

set_option maxRecDepth 16384
set_option maxHeartbeats 40000000

/-! # The sampling of the first level: its other three corners -/

noncomputable section

namespace Cert.Sim

open Idealize.ShloMosaic Idealize.ShloMosaic.StableHlo

section
open Cert.KernelIdeal Cert.KernelIdeal.Gen

/-- The kernel's operations for this part. -/
abbrev kernel1 : List (HloOp τ sig (Elt Ideal)) :=
    hostOps3_6 ++ (hostOps3_7 ++ (hostOps3_8 ++ (hostOps3_9 ++ (hostOps3_10 ++ (hostOps3_11 ++ (hostOps3_12 ++
    (hostOps3_13 ++ (hostOps3_14 ++ (hostOps3_15 ++ (hostOps3_16 ++ (hostOps3_17 ++ (hostOps3_18 ++ (hostOps3_19 ++
    (hostOps3_20 ++ (hostOps3_21 ++ (hostOps3_22 ++ (hostOps3_23)))))))))))))))))

end

section
open Cert.ReferenceIdeal Cert.ReferenceIdeal.Value

/-- The reference's operations for this part. -/
abbrev reference1 : List (HloOp τ sig (Elt Ideal)) :=
    ops_part1_2.drop 13 ++ (ops_part1_3 ++ (ops_part2_0 ++ (ops_part2_1 ++ (ops_part2_2 ++ (ops_part2_3 ++ (ops_part2_4
    ++ (ops_part3_0 ++ (ops_part3_1 ++ (ops_part3_2.take 1)))))))))

end

/-- The two lists step together. -/
theorem steps1 : Steps 144 kernel1 reference1 := by
  repeat (refine Steps.cons ?_ ?_; · first | exact step_nullary | exact step_unary | exact step_binary | exact step_reshape | exact step_ternary)
  exact Steps.nil _

/-- The two parts keep the agreement. -/
theorem keep1 {V V'} (h : Agree 144 V V') : Agree 345 (after kernel1 V) (after reference1 V') :=
  (show 144 + kernel1.length = 345 from rfl) ▸ Steps.after steps1 h

end Cert.Sim
-- ==== Proof.Level1Near.lean ====
module

public import proofs.«01_k».proof.Proof.Sim
public import proofs.«01_k».proof.Proof.Gen.KernelIdeal.Launch
public import proofs.«01_k».proof.Proof.Gen.ReferenceIdeal.Run
public import Idealize.ShloMosaic.PureOps.Ideal

@[expose] public section

set_option maxRecDepth 16384
set_option maxHeartbeats 40000000

/-! # The sampling of the second level: its bilinear weights and its first corner -/

noncomputable section

namespace Cert.Sim

open Idealize.ShloMosaic Idealize.ShloMosaic.StableHlo

section
open Cert.KernelIdeal Cert.KernelIdeal.Gen

/-- The kernel's operations for this part. -/
abbrev kernel2 : List (HloOp τ sig (Elt Ideal)) :=
    hostOps3_24 ++ (hostOps3_25 ++ (hostOps3_26 ++ (hostOps3_27 ++ (hostOps3_28 ++ (hostOps3_29)))))

end

section
open Cert.ReferenceIdeal Cert.ReferenceIdeal.Value

/-- The reference's operations for this part. -/
abbrev reference2 : List (HloOp τ sig (Elt Ideal)) :=
    ops_part3_2.drop 1 ++ (ops_part3_3 ++ (ops_part4 ++ (ops_part5_0 ++ (ops_part5_1 ++ (ops_part5_2.take 3)))))

end

/-- The two lists step together. -/
theorem steps2 : Steps 345 kernel2 reference2 := by
  repeat (refine Steps.cons ?_ ?_; · first | exact step_nullary | exact step_unary | exact step_binary | exact step_reshape | exact step_ternary)
  exact Steps.nil _

/-- The two parts keep the agreement. -/
theorem keep2 {V V'} (h : Agree 345 V V') : Agree 498 (after kernel2 V) (after reference2 V') :=
  (show 345 + kernel2.length = 498 from rfl) ▸ Steps.after steps2 h

end Cert.Sim
-- ==== Proof.Level1Far.lean ====
module

public import proofs.«01_k».proof.Proof.Sim
public import proofs.«01_k».proof.Proof.Gen.KernelIdeal.Launch
public import proofs.«01_k».proof.Proof.Gen.ReferenceIdeal.Run
public import Idealize.ShloMosaic.PureOps.Ideal

@[expose] public section

set_option maxRecDepth 16384
set_option maxHeartbeats 40000000

/-! # The sampling of the second level: its other three corners -/

noncomputable section

namespace Cert.Sim

open Idealize.ShloMosaic Idealize.ShloMosaic.StableHlo

section
open Cert.KernelIdeal Cert.KernelIdeal.Gen

/-- The kernel's operations for this part. -/
abbrev kernel3 : List (HloOp τ sig (Elt Ideal)) :=
    hostOps3_30 ++ (hostOps3_31 ++ (hostOps3_32 ++ (hostOps3_33 ++ (hostOps3_34 ++ (hostOps3_35 ++ (hostOps3_36 ++
    (hostOps3_37 ++ (hostOps3_38 ++ (hostOps3_39 ++ (hostOps3_40 ++ (hostOps3_41 ++ (hostOps3_42 ++ (hostOps3_43 ++
    (hostOps3_44 ++ (hostOps3_45 ++ (hostOps3_46 ++ (hostOps3_47)))))))))))))))))

end

section
open Cert.ReferenceIdeal Cert.ReferenceIdeal.Value

/-- The reference's operations for this part. -/
abbrev reference3 : List (HloOp τ sig (Elt Ideal)) :=
    ops_part5_2.drop 3 ++ (ops_part5_3 ++ (ops_part6_0 ++ (ops_part6_1 ++ (ops_part6_2 ++ (ops_part6_3 ++ (ops_part7_0
    ++ (ops_part7_1.take 21)))))))

end

/-- The two lists step together. -/
theorem steps3 : Steps 498 kernel3 reference3 := by
  repeat (refine Steps.cons ?_ ?_; · first | exact step_nullary | exact step_unary | exact step_binary | exact step_reshape | exact step_ternary)
  exact Steps.nil _

/-- The two parts keep the agreement. -/
theorem keep3 {V V'} (h : Agree 498 V V') : Agree 699 (after kernel3 V) (after reference3 V') :=
  (show 498 + kernel3.length = 699 from rfl) ▸ Steps.after steps3 h

end Cert.Sim
-- ==== Proof.Level2Near.lean ====
module

public import proofs.«01_k».proof.Proof.Sim
public import proofs.«01_k».proof.Proof.Gen.KernelIdeal.Launch
public import proofs.«01_k».proof.Proof.Gen.ReferenceIdeal.Run
public import Idealize.ShloMosaic.PureOps.Ideal

@[expose] public section

set_option maxRecDepth 16384
set_option maxHeartbeats 40000000

/-! # The sampling of the third level: its bilinear weights and its first corner -/

noncomputable section

namespace Cert.Sim

open Idealize.ShloMosaic Idealize.ShloMosaic.StableHlo

section
open Cert.KernelIdeal Cert.KernelIdeal.Gen

/-- The kernel's operations for this part. -/
abbrev kernel4 : List (HloOp τ sig (Elt Ideal)) :=
    hostOps3_48 ++ (hostOps3_49 ++ (hostOps3_50 ++ (hostOps3_51 ++ (hostOps3_52 ++ (hostOps3_53)))))

end

section
open Cert.ReferenceIdeal Cert.ReferenceIdeal.Value

/-- The reference's operations for this part. -/
abbrev reference4 : List (HloOp τ sig (Elt Ideal)) :=
    ops_part7_1.drop 21 ++ (ops_part7_2 ++ (ops_part7_3 ++ (ops_part8 ++ (ops_part9_0 ++ (ops_part9_1.take 23)))))

end

/-- The two lists step together. -/
theorem steps4 : Steps 699 kernel4 reference4 := by
  repeat (refine Steps.cons ?_ ?_; · first | exact step_nullary | exact step_unary | exact step_binary | exact step_reshape | exact step_ternary)
  exact Steps.nil _

/-- The two parts keep the agreement. -/
theorem keep4 {V V'} (h : Agree 699 V V') : Agree 852 (after kernel4 V) (after reference4 V') :=
  (show 699 + kernel4.length = 852 from rfl) ▸ Steps.after steps4 h

end Cert.Sim
-- ==== Proof.Level2Far.lean ====
module

public import proofs.«01_k».proof.Proof.Sim
public import proofs.«01_k».proof.Proof.Gen.KernelIdeal.Launch
public import proofs.«01_k».proof.Proof.Gen.ReferenceIdeal.Run
public import Idealize.ShloMosaic.PureOps.Ideal

@[expose] public section

set_option maxRecDepth 16384
set_option maxHeartbeats 40000000

/-! # The sampling of the third level: its other three corners -/

noncomputable section

namespace Cert.Sim

open Idealize.ShloMosaic Idealize.ShloMosaic.StableHlo

section
open Cert.KernelIdeal Cert.KernelIdeal.Gen

/-- The kernel's operations for this part. -/
abbrev kernel5 : List (HloOp τ sig (Elt Ideal)) :=
    hostOps3_54 ++ (hostOps3_55 ++ (hostOps3_56 ++ (hostOps3_57 ++ (hostOps3_58 ++ (hostOps3_59 ++ (hostOps3_60 ++
    (hostOps3_61 ++ (hostOps3_62 ++ (hostOps3_63 ++ (hostOps3_64 ++ (hostOps3_65 ++ (hostOps3_66 ++ (hostOps3_67 ++
    (hostOps3_68 ++ (hostOps3_69 ++ (hostOps3_70 ++ (hostOps3_71)))))))))))))))))

end

section
open Cert.ReferenceIdeal Cert.ReferenceIdeal.Value

/-- The reference's operations for this part. -/
abbrev reference5 : List (HloOp τ sig (Elt Ideal)) :=
    ops_part9_1.drop 23 ++ (ops_part9_2 ++ (ops_part9_3 ++ (ops_part9_4 ++ (ops_part10_0 ++ (ops_part10_1 ++
    (ops_part10_2 ++ (ops_part10_3 ++ (ops_part11_0 ++ (ops_part11_1.take 6)))))))))

end

/-- The two lists step together. -/
theorem steps5 : Steps 852 kernel5 reference5 := by
  repeat (refine Steps.cons ?_ ?_; · first | exact step_nullary | exact step_unary | exact step_binary | exact step_reshape | exact step_ternary)
  exact Steps.nil _

/-- The two parts keep the agreement. -/
theorem keep5 {V V'} (h : Agree 852 V V') : Agree 1053 (after kernel5 V) (after reference5 V') :=
  (show 852 + kernel5.length = 1053 from rfl) ▸ Steps.after steps5 h

end Cert.Sim
-- ==== Proof.Level3Near.lean ====
module

public import proofs.«01_k».proof.Proof.Sim
public import proofs.«01_k».proof.Proof.Gen.KernelIdeal.Launch
public import proofs.«01_k».proof.Proof.Gen.ReferenceIdeal.Run
public import Idealize.ShloMosaic.PureOps.Ideal

@[expose] public section

set_option maxRecDepth 16384
set_option maxHeartbeats 40000000

/-! # The sampling of the last level: its bilinear weights and its first corner -/

noncomputable section

namespace Cert.Sim

open Idealize.ShloMosaic Idealize.ShloMosaic.StableHlo

section
open Cert.KernelIdeal Cert.KernelIdeal.Gen

/-- The kernel's operations for this part. -/
abbrev kernel6 : List (HloOp τ sig (Elt Ideal)) :=
    hostOps3_72 ++ (hostOps3_73 ++ (hostOps3_74 ++ (hostOps3_75 ++ (hostOps3_76 ++ (hostOps3_77)))))

end

section
open Cert.ReferenceIdeal Cert.ReferenceIdeal.Value

/-- The reference's operations for this part. -/
abbrev reference6 : List (HloOp τ sig (Elt Ideal)) :=
    ops_part11_1.drop 6 ++ (ops_part11_2 ++ (ops_part12_0 ++ (ops_part12_1 ++ (ops_part12_2 ++ (ops_part13_0 ++
    (ops_part13_1.take 8))))))

end

/-- The two lists step together. -/
theorem steps6 : Steps 1053 kernel6 reference6 := by
  repeat (refine Steps.cons ?_ ?_; · first | exact step_nullary | exact step_unary | exact step_binary | exact step_reshape | exact step_ternary)
  exact Steps.nil _

/-- The two parts keep the agreement. -/
theorem keep6 {V V'} (h : Agree 1053 V V') : Agree 1206 (after kernel6 V) (after reference6 V') :=
  (show 1053 + kernel6.length = 1206 from rfl) ▸ Steps.after steps6 h

end Cert.Sim
-- ==== Proof.Level3Far.lean ====
module

public import proofs.«01_k».proof.Proof.Sim
public import proofs.«01_k».proof.Proof.Gen.KernelIdeal.Launch
public import proofs.«01_k».proof.Proof.Gen.ReferenceIdeal.Run
public import Idealize.ShloMosaic.PureOps.Ideal

@[expose] public section

set_option maxRecDepth 16384
set_option maxHeartbeats 40000000

/-! # The sampling of the last level: its other three corners, the sum over the corners and the reshape for the last product -/

noncomputable section

namespace Cert.Sim

open Idealize.ShloMosaic Idealize.ShloMosaic.StableHlo

section
open Cert.KernelIdeal Cert.KernelIdeal.Gen

/-- The kernel's operations for this part. -/
abbrev kernel7 : List (HloOp τ sig (Elt Ideal)) :=
    hostOps3_78 ++ (hostOps3_79 ++ (hostOps3_80 ++ (hostOps3_81 ++ (hostOps3_82 ++ (hostOps3_83 ++ (hostOps3_84 ++
    (hostOps3_85 ++ (hostOps3_86 ++ (hostOps3_87 ++ (hostOps3_88 ++ (hostOps3_89 ++ (hostOps3_90 ++ (hostOps3_91 ++
    (hostOps3_92 ++ (hostOps3_93 ++ (hostOps3_94 ++ (hostOps3_95 ++ (hostOps3_96.take 52))))))))))))))))))

end

section
open Cert.ReferenceIdeal Cert.ReferenceIdeal.Value

/-- The reference's operations for this part. -/
abbrev reference7 : List (HloOp τ sig (Elt Ideal)) :=
    ops_part13_1.drop 8 ++ (ops_part13_2 ++ (ops_part13_3 ++ (ops_part14_0 ++ (ops_part14_1 ++ (ops_part14_2 ++
    (ops_part14_3 ++ (ops_part14_4 ++ (ops_part15.take 52))))))))

end

/-- The two lists step together. -/
theorem steps7 : Steps 1206 kernel7 reference7 := by
  repeat (refine Steps.cons ?_ ?_; · first | exact step_nullary | exact step_unary | exact step_binary | exact step_reshape | exact step_ternary)
  exact Steps.nil _

/-- The two parts keep the agreement. -/
theorem keep7 {V V'} (h : Agree 1206 V V') : Agree 1459 (after kernel7 V) (after reference7 V') :=
  (show 1206 + kernel7.length = 1459 from rfl) ▸ Steps.after steps7 h

end Cert.Sim
-- ==== Proof.Final.lean ====
module

public import proofs.«01_k».proof.Proof.Start
public import proofs.«01_k».proof.Proof.Product3
public import proofs.«01_k».proof.Proof.Level0Near
public import proofs.«01_k».proof.Proof.Level0Far
public import proofs.«01_k».proof.Proof.Level1Near
public import proofs.«01_k».proof.Proof.Level1Far
public import proofs.«01_k».proof.Proof.Level2Near
public import proofs.«01_k».proof.Proof.Level2Far
public import proofs.«01_k».proof.Proof.Level3Near
public import proofs.«01_k».proof.Proof.Level3Far

@[expose] public section

set_option maxRecDepth 16384

/-!
# The two programs' results are equal

The sampling of the four levels keeps the two programs in agreement, one part after another. What it leaves is the last product's
operand on both sides, and the two last products are equal.
-/

noncomputable section

namespace Cert.Final

open Idealize.ShloMosaic Idealize.ShloMosaic.TcCoe Idealize.ShloMosaic.StableHlo Cert.Sim Cert.Start

/-- A list of operations, run as its beginning and then its rest. -/
theorem after_take_drop {τ : Topo} {s : RefSig} {Val : EltTy → Type} (L : List (HloOp τ s Val)) (n : Nat) (V : Valuation τ s Val) :
    after (L.drop n) (after (L.take n) V) = after L V := by
  rw [← after_append, List.take_append_drop]

variable (m : (ℓ : Loc KernelIdeal.nD KernelIdeal.τ KernelIdeal.sig) → Buf (Elt Ideal) ℓ) (ρ : Dev KernelIdeal.nD → PrngReg)
  (c : Dev KernelIdeal.nD) (V : Valuation ReferenceIdeal.τ ReferenceIdeal.sig (Elt Ideal))

section kernel

open Cert.KernelIdeal Cert.KernelIdeal.Gen

/-- The kernel's buffers once the sampling is done. -/
def sampledK : Valuation τ sig (Elt Ideal) :=
  after kernel7 (after kernel6 (after kernel5 (after kernel4 (after kernel3 (after kernel2 (after kernel1 (after kernel0 (K m ρ c))))))))

/-- Two reshapes are left before the last product. -/
theorem W103_eq : W103 m ρ c = after (hostOps3_96.drop 52) (sampledK m ρ c) := by
  simp only [sampledK, K, kernel0, kernel1, kernel2, kernel3, kernel4, kernel5, kernel6, kernel7, after_append, after_take_drop]

/-- The last product's rows. -/
theorem K_rows : W103 m ρ c (Proc.devRef .tc main_v752) =
    shapeCast S10880x256 (sampledK m ρ c (Proc.devRef .tc main_v751)) shapeCasts_S2x5440x8x32_S10880x256 := by
  rw [W103_eq]
  show after [_, _] _ _ = _
  after_results
  rfl

/-- The last product's bias. -/
theorem K_bias : W103 m ρ c (Proc.devRef .tc main_v753) =
    shapeCast S1x256 (m ((c : Thread nD τ).loc main_arg10)) shapeCasts_S256_S1x256 := by
  have e : sampledK m ρ c (Proc.devRef .tc main_arg10) = m ((c : Thread nD τ).loc main_arg10) := by
    rw [← W103_args m ρ c main_arg10 (by decide), W103_eq]
    symm
    show after [_, _] _ _ = _
    after_results
  rw [W103_eq, ← e]
  show after [_, _] _ _ = _
  after_results
  rfl

/-- The kernel's result. -/
theorem K_result : W105 m ρ c (Proc.devRef .tc main_v755) =
    wide (shapeCast S2x5440x256 (sampledK m ρ c (Proc.devRef .tc main_v751)) ReferenceIdeal.Gen.shapeCasts_S2x5440x8x32_S2x5440x256)
      (m ((c : Thread nD τ).loc main_arg9)) (m ((c : Thread nD τ).loc main_arg10)) := by
  have y : W104 m ρ c (Proc.devRef .tc main_v754) = _ := (W104_arr m ρ c 3).trans (arr3 (V103 m ρ) c)
  rw [show V103 m ρ c main_v752 = _ from K_rows m ρ c, show V103 m ρ c main_v753 = _ from K_bias m ρ c,
    show V103 m ρ c main_arg9 = _ from W103_args m ρ c main_arg9 (by decide)] at y
  rw [wide, ← Dense.prod_256 _ _ _ shapeCasts_S2x5440x256_S10880x256 shapeCasts_S256_S1x256 shapeCasts_S10880x256_S2x5440x256,
    Dense.shapeCast_trans _ _ _ shapeCasts_S2x5440x8x32_S10880x256, ← y]
  show after hostOps4 (W104 m ρ c) (Proc.devRef .tc main_v755) = _
  after_results
  rfl

end kernel

section reference

open Cert.ReferenceIdeal Cert.ReferenceIdeal.Gen Cert.ReferenceIdeal.Value

/-- The reference's buffers once the sampling is done. -/
def sampledR : Valuation τ sig (Elt Ideal) :=
  after reference7 (after reference6 (after reference5 (after reference4 (after reference3 (after reference2 (after reference1 (after reference0 (R V))))))))

/-- The last product is left. -/
theorem after_ops_eq : after ops V = after (ops_part15.drop 52) (sampledR V) := by
  simp only [ops, ops_part1, ops_part2, ops_part3, ops_part5, ops_part6, ops_part7, ops_part9, ops_part10, ops_part11, ops_part12,
    ops_part13, ops_part14, sampledR, R, reference0, reference1, reference2, reference3, reference4, reference5, reference6,
    reference7, after_append, after_take_drop]

/-- An argument is there when the last product begins, since it is there at the end. -/
theorem sampledR_arg9 : sampledR V (Proc.devRef .tc main_arg9) = V (Proc.devRef .tc main_arg9) := by
  rw [← val16_main_arg9 V, ← after_ops, after_ops_eq]
  symm
  show after [_, _, _, _] _ _ = _
  after_results

theorem sampledR_arg10 : sampledR V (Proc.devRef .tc main_arg10) = V (Proc.devRef .tc main_arg10) := by
  rw [← val16_main_arg10 V, ← after_ops, after_ops_eq]
  symm
  show after [_, _, _, _] _ _ = _
  after_results

/-- The reference's result. -/
theorem R_result : after ops V (Proc.devRef .tc main_v755) =
    wide (shapeCast S2x5440x256 (sampledR V (Proc.devRef .tc main_v751)) shapeCasts_S2x5440x8x32_S2x5440x256)
      (V (Proc.devRef .tc main_arg9)) (V (Proc.devRef .tc main_arg10)) := by
  rw [after_ops_eq, ← sampledR_arg9 V, ← sampledR_arg10 V]
  show after [_, _, _, _] _ _ = _
  after_results
  rfl

end reference

/-- From arguments that agree, the sampled rows are equal. -/
theorem sampled (start : Agree 29 (K m ρ c) (R V)) :
    HEq (sampledK m ρ c (Proc.devRef .tc KernelIdeal.main_v751)) (sampledR V (Proc.devRef .tc ReferenceIdeal.main_v751)) :=
  (keep7 (keep6 (keep5 (keep4 (keep3 (keep2 (keep1 (keep0 start))))))))
    KernelIdeal.main_v751 ReferenceIdeal.main_v751 ⟨rfl, rfl, rfl⟩

/-- The result, as a function of the sampled rows, the last weights and the last bias. -/
def output (x : FVec Ideal KernelIdeal.S2x5440x8x32 .f32) (w : FVec Ideal KernelIdeal.S256x256 .f32)
    (b : FVec Ideal KernelIdeal.S256 .f32) : FVec Ideal KernelIdeal.S2x5440x256 .f32 :=
  wide (shapeCast KernelIdeal.S2x5440x256 x ReferenceIdeal.Gen.shapeCasts_S2x5440x8x32_S2x5440x256) w b

/-- From arguments that agree, the results are equal. -/
theorem result (start : Agree 29 (K m ρ c) (R V))
    (h9 : (V (Proc.devRef .tc ReferenceIdeal.main_arg9) : FVec Ideal KernelIdeal.S256x256 .f32) =
      m ((c : Thread KernelIdeal.nD KernelIdeal.τ).loc KernelIdeal.main_arg9))
    (h10 : (V (Proc.devRef .tc ReferenceIdeal.main_arg10) : FVec Ideal KernelIdeal.S256 .f32) =
      m ((c : Thread KernelIdeal.nD KernelIdeal.τ).loc KernelIdeal.main_arg10)) :
    (after ReferenceIdeal.Value.ops V (Proc.devRef .tc ReferenceIdeal.main_v755) : FVec Ideal KernelIdeal.S2x5440x256 .f32) =
      KernelIdeal.Gen.W105 m ρ c (Proc.devRef .tc KernelIdeal.main_v755) := by
  have s : (sampledR V (Proc.devRef .tc ReferenceIdeal.main_v751) : FVec Ideal KernelIdeal.S2x5440x8x32 .f32) =
      sampledK m ρ c (Proc.devRef .tc KernelIdeal.main_v751) := eq_of_heq (sampled m ρ c V start).symm
  exact (R_result V).trans ((congr (congrArg₂ output s h9) h10).trans (K_result m ρ c).symm)

end Cert.Final
-- ==== Proof.Memory.lean ====
module

public import proofs.«01_k».proof.Proof.Gen.KernelIdeal.Frame

@[expose] public section

set_option maxRecDepth 16384

/-!
# What the kernel's program leaves in memory

The run of the whole program: every buffer ends at the contents that the fold of its stretches and regions gives it.
-/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every execution ends, with every buffer at the last boundary's contents. -/
theorem run_memory : θ_run defs (onTc (τ := τ) (main (F := F))) ⟨m, fun _ => 0, ρ⟩ (fun r =>
    ∀ c : Dev nD, ∀ b ∈ Pipeline.ucRefs τ sig, r.2.mem (((c : Thread nD τ)).1, b) = W105 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := by
      repeat refine ⟨fun _ => .rfl, ?_⟩
      intro c
      dsimp only [Pipeline.Seg.post, hseg, Pipeline.HostSeg.ofOps]
      iintro ⟨Hh, Hp, HO⟩
      isplitl [Hh Hp]
      · isplitl [Hh]; · iexact Hh
        iexact Hp
      iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W105 m ρ c b)
    (hfin := fun c s' => by
      iintro ⟨⟨Hh, -⟩, HSI⟩
      unfold StableHlo.held
      imodintro
      iapply (pointsTo_read_all (Pipeline.ucRefs τ sig) (fun b => (((c : Thread nD τ)).1, b)) (W105 m ρ c) s')
      isplitl [Hh] <;> iassumption)
    (hQ := fun s h _ => h)

end Cert.KernelIdeal.Gen
-- ==== Proof.Equal.lean ====
module

public import proofs.«01_k».proof.Defs
public import proofs.«01_k».proof.Proof.Final
public import proofs.«01_k».proof.Proof.Memory
public import proofs.«01_k».proof.Proof.Gen.ReferenceIdeal.Run

@[expose] public section

set_option maxRecDepth 16384

/-!
# The kernel and the reference end with the same array

Both programs run; the kernel leaves what the reference leaves, as extended reals.
-/

noncomputable section

namespace Cert.Equal

open Idealize.ShloMosaic Idealize.ShloMosaic.TcCoe Idealize.ShloMosaic.StableHlo Idealize.SL.Sem Cert.KernelIdeal
  Cert.KernelIdeal.Gen

/-- The algebraic claim: from memories that agree on the arguments, both programs run and their results are equal. -/
theorem equal : Cert.algebraic_KernelIdeal_ReferenceIdeal := by
  intro m ρ m' ρ' _ h
  refine ⟨fun c => W105 m ρ c (Proc.devRef .tc main_v755), ?_, ?_⟩
  · refine (θ_run defs _ _).mono (fun r hr c => ?_) (run_memory m ρ)
    exact ⟨hr c _ (mem_uc main_v755 (by decide)),
      (hr c _ (mem_uc main_arg0 (by decide))).trans (W105_main_arg0 m ρ c),
      (hr c _ (mem_uc main_arg1 (by decide))).trans (W105_main_arg1 m ρ c),
      (hr c _ (mem_uc main_arg2 (by decide))).trans (W105_main_arg2 m ρ c),
      (hr c _ (mem_uc main_arg3 (by decide))).trans (W105_main_arg3 m ρ c),
      (hr c _ (mem_uc main_arg4 (by decide))).trans (W105_main_arg4 m ρ c),
      (hr c _ (mem_uc main_arg5 (by decide))).trans (W105_main_arg5 m ρ c),
      (hr c _ (mem_uc main_arg6 (by decide))).trans (W105_main_arg6 m ρ c),
      (hr c _ (mem_uc main_arg7 (by decide))).trans (W105_main_arg7 m ρ c),
      (hr c _ (mem_uc main_arg8 (by decide))).trans (W105_main_arg8 m ρ c),
      (hr c _ (mem_uc main_arg9 (by decide))).trans (W105_main_arg9 m ρ c),
      (hr c _ (mem_uc main_arg10 (by decide))).trans (W105_main_arg10 m ρ c)⟩
  · refine (θ_run ReferenceIdeal.defs _ _).mono (fun r hr c => ?_) (ReferenceIdeal.Value.run m' ρ')
    obtain ⟨a0, a1, a2, a3, a4, a5, a6, a7, a8, a9, a10⟩ := h c
    have start := Start.agree_of m ρ c (launchContents m' c) (Start.values m ρ c (launchContents m' c) a2 a7 a8)
      (Start.logits m ρ c (launchContents m' c) a0 a5 a6) (Start.locations_eq m ρ c (launchContents m' c) a0 a1 a3 a4)
    have left := (ReferenceIdeal.Value.val16_main_v755 (launchContents m' c)).symm.trans
      (congrFun (ReferenceIdeal.Value.after_ops (launchContents m' c)) (Proc.devRef .tc ReferenceIdeal.main_v755)).symm
    exact ⟨(hr c).1.trans (left.trans (Final.result m ρ c (launchContents m' c) start a9 a10)), (hr c).2⟩

/-- The reference runs, its arguments end unchanged, and it has no semaphores. -/
theorem reference_quiescent : Cert.quiescent_ReferenceIdeal := fun m ρ _ =>
  (θ_run ReferenceIdeal.defs _ _).mono (fun r hr =>
    ⟨fun c => (hr c).2, Idealize.ShloMosaic.sem_eq_zero_of_no_sems (by decide) r.2⟩) (ReferenceIdeal.Value.run m ρ)

end Cert.Equal
-- ==== Proof.CallsProduct0.lean ====
module

public import proofs.«01_k».proof.Proof.Gen.CallsIdeal.Frame
public import proofs.«01_k».proof.Proof.Dense

@[expose] public section

set_option maxRecDepth 16384

/-!
# The first product: the values

Each of the region's five points writes 2176 rows of the product; together they write all of it.
-/

noncomputable section

namespace Cert.CallsIdeal.Gen

open Idealize.ShloMosaic Idealize.ShloMosaic.TcCoe

/-- What region 0 leaves in its output array, from what the arrays hold when it is entered. -/
theorem arr0 (V : (c : Dev nD) → (b : Ref sig .tc) → Buf (Elt Ideal) ((c : Thread nD τ).loc b)) (c : Dev nD) :
    (dat0 V c).arrAt 3 cfg0.N = Dense.prod (V c main_v1) (V c main_arg7) (V c main_v2) := by
  refine (dat0 V c).arrAt_eq_of_covers 3 _ (by decide +kernel) fun t hf y => ?_
  blk_simp
  rw [after0_3]
  frame_out
  pointwise [k0_pay1, Dense.prod]
  have e0 : ∀ t : Fin cfg0.N, win0_0.index t = ![(grid0.coords t 0).val, 0] := by decide +kernel
  have e1 : ∀ t : Fin cfg0.N, win0_1.index t = ![0, 0] := by decide +kernel
  have e2 : ∀ t : Fin cfg0.N, win0_2.index t = ![0, 0] := by decide +kernel
  have e3 : ∀ t : Fin cfg0.N, win0_3.index t = ![(grid0.coords t 0).val, 0] := by decide +kernel
  blk_simp [iblk0]
  refine congrArg₂ (· + ·) (Finset.sum_congr rfl fun k _ => congrArg₂ (· * ·) ?_ ?_) ?_
  · congr 1; blk_ext [e0, e3]
  · congr 1; blk_ext [e1, e3]
  · congr 1; blk_ext [e2, e3]

end Cert.CallsIdeal.Gen
-- ==== Proof.CallsProduct1.lean ====
module

public import proofs.«01_k».proof.Proof.Gen.CallsIdeal.Frame
public import proofs.«01_k».proof.Proof.Dense

@[expose] public section

set_option maxRecDepth 16384

/-!
# The second product: the sampling offsets

Each of the region's five points writes 2176 rows of the product; together they write all of it.
-/

noncomputable section

namespace Cert.CallsIdeal.Gen

open Idealize.ShloMosaic Idealize.ShloMosaic.TcCoe

/-- What region 1 leaves in its output array, from what the arrays hold when it is entered. -/
theorem arr1 (V : (c : Dev nD) → (b : Ref sig .tc) → Buf (Elt Ideal) ((c : Thread nD τ).loc b)) (c : Dev nD) :
    (dat1 V c).arrAt 3 cfg1.N = Dense.prod (V c main_v0) (V c main_arg3) (V c main_v4) := by
  refine (dat1 V c).arrAt_eq_of_covers 3 _ (by decide +kernel) fun t hf y => ?_
  blk_simp
  rw [after1_3]
  frame_out
  pointwise [k1_pay1, Dense.prod]
  have e0 : ∀ t : Fin cfg1.N, win1_0.index t = ![(grid1.coords t 0).val, 0] := by decide +kernel
  have e1 : ∀ t : Fin cfg1.N, win1_1.index t = ![0, 0] := by decide +kernel
  have e2 : ∀ t : Fin cfg1.N, win1_2.index t = ![0, 0] := by decide +kernel
  have e3 : ∀ t : Fin cfg1.N, win1_3.index t = ![(grid1.coords t 0).val, 0] := by decide +kernel
  blk_simp [iblk1]
  refine congrArg₂ (· + ·) (Finset.sum_congr rfl fun k _ => congrArg₂ (· * ·) ?_ ?_) ?_
  · congr 1; blk_ext [e0, e3]
  · congr 1; blk_ext [e1, e3]
  · congr 1; blk_ext [e2, e3]

end Cert.CallsIdeal.Gen
-- ==== Proof.CallsProduct2.lean ====
module

public import proofs.«01_k».proof.Proof.Gen.CallsIdeal.Frame
public import proofs.«01_k».proof.Proof.Dense

@[expose] public section

set_option maxRecDepth 16384

/-!
# The third product: the attention logits

Each of the region's five points writes 2176 rows of the product; together they write all of it.
-/

noncomputable section

namespace Cert.CallsIdeal.Gen

open Idealize.ShloMosaic Idealize.ShloMosaic.TcCoe

/-- What region 2 leaves in its output array, from what the arrays hold when it is entered. -/
theorem arr2 (V : (c : Dev nD) → (b : Ref sig .tc) → Buf (Elt Ideal) ((c : Thread nD τ).loc b)) (c : Dev nD) :
    (dat2 V c).arrAt 3 cfg2.N = Dense.prod (V c main_v0) (V c main_arg5) (V c main_v6) := by
  refine (dat2 V c).arrAt_eq_of_covers 3 _ (by decide +kernel) fun t hf y => ?_
  blk_simp
  rw [after2_3]
  frame_out
  pointwise [k2_pay1, Dense.prod]
  have e0 : ∀ t : Fin cfg2.N, win2_0.index t = ![(grid2.coords t 0).val, 0] := by decide +kernel
  have e1 : ∀ t : Fin cfg2.N, win2_1.index t = ![0, 0] := by decide +kernel
  have e2 : ∀ t : Fin cfg2.N, win2_2.index t = ![0, 0] := by decide +kernel
  have e3 : ∀ t : Fin cfg2.N, win2_3.index t = ![(grid2.coords t 0).val, 0] := by decide +kernel
  blk_simp [iblk2]
  refine congrArg₂ (· + ·) (Finset.sum_congr rfl fun k _ => congrArg₂ (· * ·) ?_ ?_) ?_
  · congr 1; blk_ext [e0, e3]
  · congr 1; blk_ext [e1, e3]
  · congr 1; blk_ext [e2, e3]

end Cert.CallsIdeal.Gen
-- ==== Proof.CallsProduct3.lean ====
module

public import proofs.«01_k».proof.Proof.Gen.CallsIdeal.Frame
public import proofs.«01_k».proof.Proof.Dense

@[expose] public section

set_option maxRecDepth 16384

/-!
# The last product: the output

Each of the region's five points writes 2176 rows of the product; together they write all of it.
-/

noncomputable section

namespace Cert.CallsIdeal.Gen

open Idealize.ShloMosaic Idealize.ShloMosaic.TcCoe

/-- What region 3 leaves in its output array, from what the arrays hold when it is entered. -/
theorem arr3 (V : (c : Dev nD) → (b : Ref sig .tc) → Buf (Elt Ideal) ((c : Thread nD τ).loc b)) (c : Dev nD) :
    (dat3 V c).arrAt 3 cfg3.N = Dense.prod (V c main_v8) (V c main_arg9) (V c main_v9) := by
  refine (dat3 V c).arrAt_eq_of_covers 3 _ (by decide +kernel) fun t hf y => ?_
  blk_simp
  rw [after3_3]
  frame_out
  pointwise [k3_pay1, Dense.prod]
  have e0 : ∀ t : Fin cfg3.N, win3_0.index t = ![(grid3.coords t 0).val, 0] := by decide +kernel
  have e1 : ∀ t : Fin cfg3.N, win3_1.index t = ![0, 0] := by decide +kernel
  have e2 : ∀ t : Fin cfg3.N, win3_2.index t = ![0, 0] := by decide +kernel
  have e3 : ∀ t : Fin cfg3.N, win3_3.index t = ![(grid3.coords t 0).val, 0] := by decide +kernel
  blk_simp [iblk3]
  refine congrArg₂ (· + ·) (Finset.sum_congr rfl fun k _ => congrArg₂ (· * ·) ?_ ?_) ?_
  · congr 1; blk_ext [e0, e3]
  · congr 1; blk_ext [e1, e3]
  · congr 1; blk_ext [e2, e3]

end Cert.CallsIdeal.Gen
-- ==== Proof.CallsResults.lean ====
module

public import proofs.«01_k».proof.Proof.CallsProduct0
public import proofs.«01_k».proof.Proof.CallsProduct1
public import proofs.«01_k».proof.Proof.CallsProduct2
public import proofs.«01_k».proof.Proof.CallsProduct3

@[expose] public section

set_option maxRecDepth 16384

/-!
# The four results

What the calls' program has in its result arrays at the end: each is a product of an argument's rows with a bias, in three axes.
-/

noncomputable section

namespace Cert.CallsIdeal.Gen

open Idealize.ShloMosaic Idealize.ShloMosaic.TcCoe Idealize.ShloMosaic.StableHlo

variable (m : (ℓ : Loc nD τ sig) → Buf (Elt Ideal) ℓ) (ρ : Dev nD → PrngReg) (c : Dev nD)

/-- The argument's rows, end to end. -/
abbrev rows (x : FVec Ideal S2x5440x256 .f32) : FVec Ideal S10880x256 .f32 := shapeCast S10880x256 x shapeCasts_S2x5440x256_S10880x256

/-- The bias, as a matrix of one row. -/
abbrev row (b : FVec Ideal S256 .f32) : FVec Ideal S1x256 .f32 := shapeCast S1x256 b shapeCasts_S256_S1x256

/-- A product with 256 columns, in three axes. -/
abbrev wide (x : FVec Ideal S2x5440x256 .f32) (w : FVec Ideal S256x256 .f32) (b : FVec Ideal S256 .f32) : FVec Ideal S2x5440x256 .f32 :=
  shapeCast S2x5440x256 (Dense.prod (rows x) w (row b)) shapeCasts_S10880x256_S2x5440x256

/-- A product with 128 columns, in three axes. -/
abbrev narrow (x : FVec Ideal S2x5440x256 .f32) (w : FVec Ideal S256x128 .f32) (b : FVec Ideal S128 .f32) : FVec Ideal S2x5440x128 .f32 :=
  shapeCast S2x5440x128 (Dense.prod (rows x) w (shapeCast S1x128 b shapeCasts_S128_S1x128)) shapeCasts_S10880x128_S2x5440x128

/-- The queries, one row each, are there from the first stretch on. -/
theorem queries : V1 m ρ c main_v0 = rows (m ((c : Thread nD τ).loc main_arg0)) := by
  show after hostOps0 (W0 m ρ c) (Proc.devRef .tc main_v0) = _
  after_results
  rfl

/-- The first call's array, when it has run. -/
theorem values_rows : W2 m ρ c (Proc.devRef .tc main_v3) = Dense.prod (rows (m ((c : Thread nD τ).loc main_arg1)))
    (m ((c : Thread nD τ).loc main_arg7)) (row (m ((c : Thread nD τ).loc main_arg8))) := by
  have x : V1 m ρ c main_v1 = rows (m ((c : Thread nD τ).loc main_arg1)) := by
    show after hostOps0 (W0 m ρ c) (Proc.devRef .tc main_v1) = _
    after_results
    rfl
  have b : V1 m ρ c main_v2 = row (m ((c : Thread nD τ).loc main_arg8)) := by
    show after hostOps0 (W0 m ρ c) (Proc.devRef .tc main_v2) = _
    after_results
    rfl
  have y : W2 m ρ c (Proc.devRef .tc main_v3) = _ := (W2_arr m ρ c 3).trans (arr0 (V1 m ρ) c)
  rw [x, b, show V1 m ρ c main_arg7 = _ from W1_args m ρ c main_arg7 (by decide)] at y
  exact y

/-- The second call's array, when it has run. -/
theorem offsets_rows : W4 m ρ c (Proc.devRef .tc main_v5) = Dense.prod (rows (m ((c : Thread nD τ).loc main_arg0)))
    (m ((c : Thread nD τ).loc main_arg3)) (row (m ((c : Thread nD τ).loc main_arg4))) := by
  have x : V3 m ρ c main_v0 = _ :=
    (W3_of m ρ c main_v0 (by decide)).trans ((W2_of m ρ c main_v0 (by decide)).trans (queries m ρ c))
  have b : V3 m ρ c main_v4 = row (m ((c : Thread nD τ).loc main_arg4)) := by
    rw [← W2_args m ρ c main_arg4 (by decide)]
    show after hostOps1 (W2 m ρ c) (Proc.devRef .tc main_v4) = _
    after_results
    rfl
  have y : W4 m ρ c (Proc.devRef .tc main_v5) = _ := (W4_arr m ρ c 3).trans (arr1 (V3 m ρ) c)
  rw [x, b, show V3 m ρ c main_arg3 = _ from W3_args m ρ c main_arg3 (by decide)] at y
  exact y

/-- The third call's array, when it has run. -/
theorem logits_rows : W6 m ρ c (Proc.devRef .tc main_v7) = Dense.prod (rows (m ((c : Thread nD τ).loc main_arg0)))
    (m ((c : Thread nD τ).loc main_arg5)) (shapeCast S1x128 (m ((c : Thread nD τ).loc main_arg6)) shapeCasts_S128_S1x128) := by
  have x : V5 m ρ c main_v0 = _ :=
    (W5_of m ρ c main_v0 (by decide)).trans ((W4_of m ρ c main_v0 (by decide)).trans
      ((W3_of m ρ c main_v0 (by decide)).trans ((W2_of m ρ c main_v0 (by decide)).trans (queries m ρ c))))
  have b : V5 m ρ c main_v6 = shapeCast S1x128 (m ((c : Thread nD τ).loc main_arg6)) shapeCasts_S128_S1x128 := by
    rw [← W4_args m ρ c main_arg6 (by decide)]
    show after hostOps2 (W4 m ρ c) (Proc.devRef .tc main_v6) = _
    after_results
    rfl
  have y : W6 m ρ c (Proc.devRef .tc main_v7) = _ := (W6_arr m ρ c 3).trans (arr2 (V5 m ρ) c)
  rw [x, b, show V5 m ρ c main_arg5 = _ from W5_args m ρ c main_arg5 (by decide)] at y
  exact y

/-- The last call's array, when it has run. -/
theorem output_rows : W8 m ρ c (Proc.devRef .tc main_v10) = Dense.prod (rows (m ((c : Thread nD τ).loc main_arg2)))
    (m ((c : Thread nD τ).loc main_arg9)) (row (m ((c : Thread nD τ).loc main_arg10))) := by
  have x : V7 m ρ c main_v8 = rows (m ((c : Thread nD τ).loc main_arg2)) := by
    rw [← W6_args m ρ c main_arg2 (by decide)]
    show after hostOps3 (W6 m ρ c) (Proc.devRef .tc main_v8) = _
    after_results
    rfl
  have b : V7 m ρ c main_v9 = row (m ((c : Thread nD τ).loc main_arg10)) := by
    rw [← W6_args m ρ c main_arg10 (by decide)]
    show after hostOps3 (W6 m ρ c) (Proc.devRef .tc main_v9) = _
    after_results
    rfl
  have y : W8 m ρ c (Proc.devRef .tc main_v10) = _ := (W8_arr m ρ c 3).trans (arr3 (V7 m ρ) c)
  rw [x, b, show V7 m ρ c main_arg9 = _ from W7_args m ρ c main_arg9 (by decide)] at y
  exact y

/-- The values. -/
theorem values : W9 m ρ c (Proc.devRef .tc main_v11) = wide (m ((c : Thread nD τ).loc main_arg1))
    (m ((c : Thread nD τ).loc main_arg7)) (m ((c : Thread nD τ).loc main_arg8)) := by
  have h : W8 m ρ c (Proc.devRef .tc main_v3) = _ :=
    (W8_of m ρ c main_v3 (by decide)).trans ((W7_of m ρ c main_v3 (by decide)).trans ((W6_of m ρ c main_v3 (by decide)).trans
      ((W5_of m ρ c main_v3 (by decide)).trans ((W4_of m ρ c main_v3 (by decide)).trans
        ((W3_of m ρ c main_v3 (by decide)).trans (values_rows m ρ c))))))
  show after hostOps4 (W8 m ρ c) (Proc.devRef .tc main_v11) = _
  after_results
  rw [h]
  rfl

/-- The sampling offsets. -/
theorem offsets : W9 m ρ c (Proc.devRef .tc main_v12) = wide (m ((c : Thread nD τ).loc main_arg0))
    (m ((c : Thread nD τ).loc main_arg3)) (m ((c : Thread nD τ).loc main_arg4)) := by
  have h : W8 m ρ c (Proc.devRef .tc main_v5) = _ :=
    (W8_of m ρ c main_v5 (by decide)).trans ((W7_of m ρ c main_v5 (by decide)).trans ((W6_of m ρ c main_v5 (by decide)).trans
      ((W5_of m ρ c main_v5 (by decide)).trans (offsets_rows m ρ c))))
  show after hostOps4 (W8 m ρ c) (Proc.devRef .tc main_v12) = _
  after_results
  rw [h]
  rfl

/-- The attention logits. -/
theorem logits : W9 m ρ c (Proc.devRef .tc main_v13) = narrow (m ((c : Thread nD τ).loc main_arg0))
    (m ((c : Thread nD τ).loc main_arg5)) (m ((c : Thread nD τ).loc main_arg6)) := by
  have h : W8 m ρ c (Proc.devRef .tc main_v7) = _ :=
    (W8_of m ρ c main_v7 (by decide)).trans ((W7_of m ρ c main_v7 (by decide)).trans (logits_rows m ρ c))
  show after hostOps4 (W8 m ρ c) (Proc.devRef .tc main_v13) = _
  after_results
  rw [h]
  rfl

/-- The output. -/
theorem output : W9 m ρ c (Proc.devRef .tc main_v14) = wide (m ((c : Thread nD τ).loc main_arg2))
    (m ((c : Thread nD τ).loc main_arg9)) (m ((c : Thread nD τ).loc main_arg10)) := by
  show after hostOps4 (W8 m ρ c) (Proc.devRef .tc main_v14) = _
  after_results
  rw [output_rows m ρ c]
  rfl

end Cert.CallsIdeal.Gen
-- ==== Proof.CallsMemory.lean ====
module

public import proofs.«01_k».proof.Proof.Gen.CallsIdeal.Frame

@[expose] public section

set_option maxRecDepth 16384

/-!
# What the four calls leave in memory

The run of the whole program: every buffer ends at the contents that the fold of its stretches and regions gives it.
-/

noncomputable section

namespace Cert.CallsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every execution ends, with every buffer at the last boundary's contents. -/
theorem run_memory : θ_run defs (onTc (τ := τ) (main (F := F))) ⟨m, fun _ => 0, ρ⟩ (fun r =>
    ∀ c : Dev nD, ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := by
      repeat refine ⟨fun _ => .rfl, ?_⟩
      intro c
      dsimp only [Pipeline.Seg.post, hseg, Pipeline.HostSeg.ofOps]
      iintro ⟨Hh, Hp, HO⟩
      isplitl [Hh Hp]
      · isplitl [Hh]; · iexact Hh
        iexact Hp
      iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Cert.CallsIdeal.Gen
-- ==== Proof.CallsEqual.lean ====
module

public import proofs.«01_k».proof.Defs
public import proofs.«01_k».proof.Proof.CallsResults
public import proofs.«01_k».proof.Proof.CallsMemory
public import proofs.«01_k».proof.Proof.Gen.LinearIdeal.Run

@[expose] public section

set_option maxRecDepth 16384

/-!
# The calls and the reference end with the same arrays

Both programs run; the four calls leave what the four lines of the reference leave, as extended reals.
-/

noncomputable section

namespace Cert.CallsEqual

open Idealize.ShloMosaic Idealize.ShloMosaic.TcCoe Idealize.SL.Sem Cert.CallsIdeal Cert.CallsIdeal.Gen

/-- The reference's last line of a product with 256 columns, at arguments that are the kernel's. -/
theorem wide_eq {x x' : FVec Ideal S2x5440x256 .f32} {w w' : FVec Ideal S256x256 .f32} {b b' : FVec Ideal S256 .f32}
    (hx : x' = x) (hw : w' = w) (hb : b' = b) :
    addf (F := Ideal) (Host.dotGeneral (φ₁ := .f32) (φ₂ := .f32) LinearIdeal.dot_S2x5440x256_S256x256_S2x5440x256_2_0_01_1_n_n none x' w')
      (broadcastInDim S2x5440x256 ![2] LinearIdeal.Gen.bcast_S256_S2x5440x256_2 b') = wide x w b := by
  subst hx hw hb
  exact (Dense.prod_256 _ _ _ _ _ _).symm

/-- The reference's last line of a product with 128 columns, at arguments that are the kernel's. -/
theorem narrow_eq {x x' : FVec Ideal S2x5440x256 .f32} {w w' : FVec Ideal S256x128 .f32} {b b' : FVec Ideal S128 .f32}
    (hx : x' = x) (hw : w' = w) (hb : b' = b) :
    addf (F := Ideal) (Host.dotGeneral (φ₁ := .f32) (φ₂ := .f32) LinearIdeal.dot_S2x5440x256_S256x128_S2x5440x128_2_0_01_1_n_n none x' w')
      (broadcastInDim S2x5440x128 ![2] LinearIdeal.Gen.bcast_S128_S2x5440x128_2 b') = narrow x w b := by
  subst hx hw hb
  exact (Dense.prod_128 _ _ _ _ _ _).symm

/-- The algebraic claim: from memories that agree on the arguments, both programs run and their four results are equal. -/
theorem equal : Cert.algebraic_CallsIdeal_LinearIdeal := by
  intro m ρ m' ρ' _ h
  refine ⟨fun c => wide (m ((c : Thread nD τ).loc main_arg1)) (m ((c : Thread nD τ).loc main_arg7)) (m ((c : Thread nD τ).loc main_arg8)),
    fun c => wide (m ((c : Thread nD τ).loc main_arg0)) (m ((c : Thread nD τ).loc main_arg3)) (m ((c : Thread nD τ).loc main_arg4)),
    fun c => narrow (m ((c : Thread nD τ).loc main_arg0)) (m ((c : Thread nD τ).loc main_arg5)) (m ((c : Thread nD τ).loc main_arg6)),
    fun c => wide (m ((c : Thread nD τ).loc main_arg2)) (m ((c : Thread nD τ).loc main_arg9)) (m ((c : Thread nD τ).loc main_arg10)), ?_, ?_⟩
  · refine (θ_run defs _ _).mono (fun r hr c => ?_) (run_memory m ρ)
    exact ⟨(hr c _ (mem_uc main_v11 (by decide))).trans (values m ρ c),
      (hr c _ (mem_uc main_v12 (by decide))).trans (offsets m ρ c),
      (hr c _ (mem_uc main_v13 (by decide))).trans (logits m ρ c),
      (hr c _ (mem_uc main_v14 (by decide))).trans (output m ρ c),
      (hr c _ (mem_uc main_arg0 (by decide))).trans (W9_main_arg0 m ρ c),
      (hr c _ (mem_uc main_arg1 (by decide))).trans (W9_main_arg1 m ρ c),
      (hr c _ (mem_uc main_arg2 (by decide))).trans (W9_main_arg2 m ρ c),
      (hr c _ (mem_uc main_arg3 (by decide))).trans (W9_main_arg3 m ρ c),
      (hr c _ (mem_uc main_arg4 (by decide))).trans (W9_main_arg4 m ρ c),
      (hr c _ (mem_uc main_arg5 (by decide))).trans (W9_main_arg5 m ρ c),
      (hr c _ (mem_uc main_arg6 (by decide))).trans (W9_main_arg6 m ρ c),
      (hr c _ (mem_uc main_arg7 (by decide))).trans (W9_main_arg7 m ρ c),
      (hr c _ (mem_uc main_arg8 (by decide))).trans (W9_main_arg8 m ρ c),
      (hr c _ (mem_uc main_arg9 (by decide))).trans (W9_main_arg9 m ρ c),
      (hr c _ (mem_uc main_arg10 (by decide))).trans (W9_main_arg10 m ρ c)⟩
  · refine (θ_run LinearIdeal.defs _ _).mono (fun r hr c => ?_) (LinearIdeal.Value.run m' ρ')
    obtain ⟨a0, a1, a2, a3, a4, a5, a6, a7, a8, a9, a10⟩ := h c
    obtain ⟨r0, r1, r2, r3, unchanged⟩ := hr c
    exact ⟨r0.trans (wide_eq a1 a7 a8), r1.trans (wide_eq a0 a3 a4), r2.trans (narrow_eq a0 a5 a6), r3.trans (wide_eq a2 a9 a10), unchanged⟩

/-- The reference runs, its arguments end unchanged, and it has no semaphores. -/
theorem reference_quiescent : Cert.quiescent_LinearIdeal := fun m ρ _ =>
  (θ_run LinearIdeal.defs _ _).mono (fun r hr =>
    ⟨fun c => (hr c).2.2.2.2, Idealize.ShloMosaic.sem_eq_zero_of_no_sems (by decide) r.2⟩) (LinearIdeal.Value.run m ρ)

end Cert.CallsEqual
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Equal
public import proofs.«01_k».proof.Proof.Gen.Calls
public import proofs.«01_k».proof.Proof.Gen.Calls.Frame
public import proofs.«01_k».proof.Proof.CallsEqual

@[expose] public section

/-!
# The claim

The kernel's program runs and leaves its arguments, at bit vectors and at extended reals; so does the reference; and as extended
reals their results are equal. The same is true of the kernel's four calls, one by one, and the reference's four products.
-/

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Calls.Gen.facts,
    Cert.CallsIdeal.Gen.facts, Cert.LinearIdeal.Gen.facts, fun m ρ _ => Cert.Kernel.Gen.frame m ρ,
    fun m ρ _ => Cert.KernelIdeal.Gen.frame m ρ, Cert.Equal.reference_quiescent, fun m ρ _ => Cert.Calls.Gen.frame m ρ,
    fun m ρ _ => Cert.CallsIdeal.Gen.frame m ρ, Cert.CallsEqual.reference_quiescent, trivial, Cert.Equal.equal, trivial,
    Cert.CallsEqual.equal⟩

end Cert.Proof

end
